-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4DownIdeal (m : (ℓ : Loc Cert.Reference4DownIdeal.nD Cert.Reference4DownIdeal.τ Cert.Reference4DownIdeal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite21 [hPre_finite21 : Cert.Pre_finite21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite21 [hPre_finite21 : Cert.Pre_finite21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4DownIdeal [hReference4DownIdeal : Cert.Reference4DownIdeal.Facts] : Prop :=
  ∀ (m : (ℓ : Loc Cert.Reference4DownIdeal.nD Cert.Reference4DownIdeal.τ Cert.Reference4DownIdeal.sig) → Buf (Elt Ideal) ℓ) (g : Dev Cert.Reference4DownIdeal.nD → PrngReg), Pre_Reference4DownIdeal m →
    θ_run (Cert.Reference4DownIdeal.defs (F := Ideal)) (onTc (τ := Cert.Reference4DownIdeal.τ) (Cert.Reference4DownIdeal.main (F := Ideal))) ⟨m, fun _ => 0, g⟩ (fun r => (∀ c : Dev Cert.Reference4DownIdeal.nD,
      r.2.mem ((c.tc : Thread Cert.Reference4DownIdeal.nD Cert.Reference4DownIdeal.τ).loc Cert.Reference4DownIdeal.main_arg0) = m ((c.tc : Thread Cert.Reference4DownIdeal.nD Cert.Reference4DownIdeal.τ).loc Cert.Reference4DownIdeal.main_arg0)
      ∧ r.2.mem ((c.tc : Thread Cert.Reference4DownIdeal.nD Cert.Reference4DownIdeal.τ).loc Cert.Reference4DownIdeal.main_arg1) = m ((c.tc : Thread Cert.Reference4DownIdeal.nD Cert.Reference4DownIdeal.τ).loc Cert.Reference4DownIdeal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Kernel21Ideal_pre_finite21 [hKernel21Ideal : Cert.Kernel21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite21 m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Reference21Ideal_pre_finite21 [hReference21Ideal : Cert.Reference21Ideal.Facts] [hPre_finite21 : Cert.Pre_finite21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)) (v2 : (c : Dev Cert.KernelIdeal.nD) → Buf (Elt Ideal) ((c.tc : Thread Cert.KernelIdeal.nD Cert.KernelIdeal.τ).loc Cert.KernelIdeal.main_v88_2)) (v3 : (c : Dev Cert.KernelIdeal.nD) → Buf (Elt Ideal) ((c.tc : Thread Cert.KernelIdeal.nD Cert.KernelIdeal.τ).loc Cert.KernelIdeal.main_v88_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_v88_2) = v2 c
          ∧ r.2.mem ((c.tc : Thread Cert.KernelIdeal.nD Cert.KernelIdeal.τ).loc Cert.KernelIdeal.main_v88_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_v197) = v2 c
          ∧ r.2.mem ((c.tc : Thread Cert.ReferenceIdeal.nD Cert.ReferenceIdeal.τ).loc Cert.ReferenceIdeal.main_v198) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def algebraic_Kernel4Ideal_Reference4DownIdeal [hKernel4Ideal : Cert.Kernel4Ideal.Facts] [hReference4DownIdeal : Cert.Reference4DownIdeal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4DownIdeal.nD Cert.Reference4DownIdeal.τ Cert.Reference4DownIdeal.sig) → Buf (Elt Ideal) ℓ) (g' : Dev Cert.Reference4DownIdeal.nD → PrngReg), Pre_Kernel4Ideal m →
    (∀ c : Dev Cert.Kernel4Ideal.nD,
      m' ((c.tc : Thread Cert.Reference4DownIdeal.nD Cert.Reference4DownIdeal.τ).loc Cert.Reference4DownIdeal.main_arg0) = m ((c.tc : Thread Cert.Kernel4Ideal.nD Cert.Kernel4Ideal.τ).loc Cert.Kernel4Ideal.main_arg0)
      ∧ m' ((c.tc : Thread Cert.Reference4DownIdeal.nD Cert.Reference4DownIdeal.τ).loc Cert.Reference4DownIdeal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4DownIdeal.defs (F := Ideal)) (onTc (τ := Cert.Reference4DownIdeal.τ) (Cert.Reference4DownIdeal.main (F := Ideal))) ⟨m', fun _ => 0, g'⟩ (fun r => ∀ c : Dev Cert.Reference4DownIdeal.nD,
          r.2.mem ((c.tc : Thread Cert.Reference4DownIdeal.nD Cert.Reference4DownIdeal.τ).loc Cert.Reference4DownIdeal.main_v6) = v0 c
          ∧ r.2.mem ((c.tc : Thread Cert.Reference4DownIdeal.nD Cert.Reference4DownIdeal.τ).loc Cert.Reference4DownIdeal.main_arg0) = m' ((c.tc : Thread Cert.Reference4DownIdeal.nD Cert.Reference4DownIdeal.τ).loc Cert.Reference4DownIdeal.main_arg0)
          ∧ r.2.mem ((c.tc : Thread Cert.Reference4DownIdeal.nD Cert.Reference4DownIdeal.τ).loc Cert.Reference4DownIdeal.main_arg1) = m' ((c.tc : Thread Cert.Reference4DownIdeal.nD Cert.Reference4DownIdeal.τ).loc Cert.Reference4DownIdeal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v48) = v0 c
          ∧ r.2.mem ((c.tc : Thread Cert.Reference13Ideal.nD Cert.Reference13Ideal.τ).loc Cert.Reference13Ideal.main_v50) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v48) = v0 c
          ∧ r.2.mem ((c.tc : Thread Cert.Reference14Ideal.nD Cert.Reference14Ideal.τ).loc Cert.Reference14Ideal.main_v56) = v1 c
          ∧ r.2.mem ((c.tc : Thread Cert.Reference14Ideal.nD Cert.Reference14Ideal.τ).loc Cert.Reference14Ideal.main_v58) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v51) = v0 c
          ∧ r.2.mem ((c.tc : Thread Cert.Reference15Ideal.nD Cert.Reference15Ideal.τ).loc Cert.Reference15Ideal.main_v78) = v1 c
          ∧ r.2.mem ((c.tc : Thread Cert.Reference15Ideal.nD Cert.Reference15Ideal.τ).loc Cert.Reference15Ideal.main_v80) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg0) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal_pre_finite21 [hKernel21Ideal : Cert.Kernel21Ideal.Facts] [hReference21Ideal : Cert.Reference21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite21 m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v35) = v0 c
          ∧ r.2.mem ((c.tc : Thread Cert.Reference21Ideal.nD Cert.Reference21Ideal.τ).loc Cert.Reference21Ideal.main_v76) = v1 c
          ∧ r.2.mem ((c.tc : Thread Cert.Reference21Ideal.nD Cert.Reference21Ideal.τ).loc Cert.Reference21Ideal.main_v78) = v2 c
          ∧ r.2.mem ((c.tc : Thread Cert.Reference21Ideal.nD Cert.Reference21Ideal.τ).loc Cert.Reference21Ideal.main_v80) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v18) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v21) = v0 c
          ∧ r.2.mem ((c.tc : Thread Cert.Reference23Ideal.nD Cert.Reference23Ideal.τ).loc Cert.Reference23Ideal.main_v2) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v28) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v21)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v21) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v22) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hReference4DownIdeal : Cert.Reference4DownIdeal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite2 : Cert.Pre_finite2.Facts) (hPre_finite21 : Cert.Pre_finite21.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4DownIdeal (hReference4DownIdeal := hReference4DownIdeal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite21 (hKernel21Ideal := hKernel21Ideal) (hPre_finite21 := hPre_finite21)
    ∧ quiescent_Reference21Ideal (hReference21Ideal := hReference21Ideal)
    ∧ quiescent_Reference21Ideal_pre_finite21 (hReference21Ideal := hReference21Ideal) (hPre_finite21 := hPre_finite21)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ algebraic_Kernel4Ideal_Reference4DownIdeal (hKernel4Ideal := hKernel4Ideal) (hReference4DownIdeal := hReference4DownIdeal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite21 (hKernel21Ideal := hKernel21Ideal) (hReference21Ideal := hReference21Ideal) (hPre_finite21 := hPre_finite21)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S8192x5760 : Shape := ⟨2, ![8192, 5760]⟩
abbrev S16x320 : Shape := ⟨2, ![16, 320]⟩
abbrev S8192x1024 : Shape := ⟨2, ![8192, 1024]⟩
abbrev S_ : Shape := ⟨0, ![]⟩

class Facts : Prop where
  bcast_S_S8192x5760 : S_.BroadcastsInDim S8192x5760 (![] : Fin 0 → Fin S8192x5760.rank)
  reducesTo_S8192x5760_S_d0_1 : S8192x5760.ReducesTo [0, 1] S_
  h_S_ : 0 < S_.numel
  bcast_S_S16x320 : S_.BroadcastsInDim S16x320 (![] : Fin 0 → Fin S16x320.rank)
  reducesTo_S16x320_S_d0_1 : S16x320.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x5760 .f32) (main_arg1 : FVec F S16x320 .f32) (main_arg2 : FVec F S8192x1024 .f32) : IVec S_ 1 :=
  let main_v0 : FVec F S8192x5760 .f32 := Host.absf main_arg0
  let main_cst : FVec F S_ .f32 := constant S_ .f32 0x7F800000#32
  let main_v1 : FVec F S8192x5760 .f32 := broadcastInDim S8192x5760 ![] bcast_S_S8192x5760 main_cst
  let main_v2 : IVec S8192x5760 1 := cmpf .olt main_v0 main_v1
  let main_c : IVec S_ 1 := constantI S_ 1 1#1
  let main_v3 : IVec S_ 1 := (fun x v => Host.reduce IntOp.andi x v reducesTo_S8192x5760_S_d0_1 h_S_) main_v2 main_c
  let main_v4 : FVec F S16x320 .f32 := Host.absf main_arg1
  let main_cst_0 : FVec F S_ .f32 := constant S_ .f32 0x7F800000#32
  let main_v5 : FVec F S16x320 .f32 := broadcastInDim S16x320 ![] bcast_S_S16x320 main_cst_0
  let main_v6 : IVec S16x320 1 := cmpf .olt main_v4 main_v5
  let main_c_1 : IVec S_ 1 := constantI S_ 1 1#1
  let main_v7 : IVec S_ 1 := (fun x v => Host.reduce IntOp.andi x v reducesTo_S16x320_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite2.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x2048 .bf16) (main_arg1 : FVec F S5632x2048 .bf16) (main_arg2 : FVec F S8192x5632 .bf16) (main_arg3 : FVec F S8192x5632 .bf16) : IVec S_ 1 :=
  let main_v0 : FVec F S8192x2048 .f32 := (extf .f32 · bitsLt_bf16_f32) main_arg0
  let main_v1 : FVec F S5632x2048 .f32 := (extf .f32 · bitsLt_bf16_f32) main_arg1
  let main_v2 : FVec F S8192x5632 .f32 := (extf .f32 · bitsLt_bf16_f32) main_arg3
  let main_v3 : FVec F S8192x2048 .f32 := Host.absf main_v0
  let main_cst : FVec F S_ .f32 := constant S_ .f32 0x7F800000#32
  let main_v4 : FVec F S8192x2048 .f32 := broadcastInDim S8192x2048 ![] bcast_S_S8192x2048 main_cst
  let main_v5 : IVec S8192x2048 1 := cmpf .olt main_v3 main_v4
  let main_c : IVec S_ 1 := constantI S_ 1 1#1
  let main_v6 : IVec S_ 1 := (fun x v => Host.reduce IntOp.andi x v reducesTo_S8192x2048_S_d0_1 h_S_) main_v5 main_c
  let main_v7 : FVec F S5632x2048 .f32 := Host.absf main_v1
  let main_cst_0 : FVec F S_ .f32 := constant S_ .f32 0x7F800000#32
  let main_v8 : FVec F S5632x2048 .f32 := broadcastInDim S5632x2048 ![] bcast_S_S5632x2048 main_cst_0
  let main_v9 : IVec S5632x2048 1 := cmpf .olt main_v7 main_v8
  let main_c_1 : IVec S_ 1 := constantI S_ 1 1#1
  let main_v10 : IVec S_ 1 := (fun x v => Host.reduce IntOp.andi x v reducesTo_S5632x2048_S_d0_1 h_S_) main_v9 main_c_1
  let main_v11 : IVec S_ 1 := andi main_v6 main_v10
  let main_v12 : FVec F S8192x5632 .f32 := Host.absf main_v2
  let main_cst_2 : FVec F S_ .f32 := constant S_ .f32 0x7F800000#32
  let main_v13 : FVec F S8192x5632 .f32 := broadcastInDim S8192x5632 ![] bcast_S_S8192x5632 main_cst_2
  let main_v14 : IVec S8192x5632 1 := cmpf .olt main_v12 main_v13
  let main_c_3 : IVec S_ 1 := constantI S_ 1 1#1
  let main_v15 : IVec S_ 1 := (fun x v => Host.reduce IntOp.andi x v reducesTo_S8192x5632_S_d0_1 h_S_) main_v14 main_c_3
  let main_v16 : IVec S_ 1 := andi main_v11 main_v15
  main_v16
-- ==== Pre_finite21.lean ====
abbrev S8192x2048 : Shape := ⟨2, ![8192, 2048]⟩
abbrev S8192x1024 : Shape := ⟨2, ![8192, 1024]⟩
abbrev S8192x5760 : Shape := ⟨2, ![8192, 5760]⟩
abbrev S1x1024 : Shape := ⟨2, ![1, 1024]⟩
abbrev S_ : Shape := ⟨0, ![]⟩

class Facts : Prop where
  slices_S8192x2048_S8192x1024_0_1024 : S8192x2048.Slices ![0, 1024] S8192x1024
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x2048 .bf16) (main_arg1 : FVec F S8192x1024 .f32) (main_arg2 : FVec F S8192x1024 .f32) (main_arg3 : FVec F S8192x5760 .f32) (main_arg4 : FVec F S1x1024 .f32) (main_arg5 : FVec F S1x1024 .f32) : IVec S_ 1 :=
  let main_v0 : FVec F S8192x1024 .bf16 := (extractStridedSlice S8192x1024 ![0, 1024] · slices_S8192x2048_S8192x1024_0_1024) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S1x1024 .f32 := Host.absf main_arg5
  let main_cst_0 : FVec F S_ .f32 := constant S_ .f32 0x7F800000#32
  let main_v7 : FVec F S1x1024 .f32 := broadcastInDim S1x1024 ![] bcast_S_S1x1024 main_cst_0
  let main_v8 : IVec S1x1024 1 := cmpf .olt main_v6 main_v7
  let main_c_1 : IVec S_ 1 := constantI S_ 1 1#1
  let main_v9 : IVec S_ 1 := (fun x v => Host.reduce IntOp.andi x v reducesTo_S1x1024_S_d0_1 h_S_) main_v8 main_c_1
  let main_v10 : IVec S_ 1 := andi main_v5 main_v9
  main_v10
-- ==== Kernel.lean ====
abbrev S8192x5760 : Shape := ⟨2, ![8192, 5760]⟩
abbrev S16x320 : Shape := ⟨2, ![16, 320]⟩
abbrev S8192x1024 : Shape := ⟨2, ![8192, 1024]⟩
abbrev S8192x16x64 : Shape := ⟨3, ![8192, 16, 64]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S8x64x16x64 : Shape := ⟨4, ![8, 64, 16, 64]⟩
abbrev S128x64x16x64 : Shape := ⟨4, ![128, 64, 16, 64]⟩
abbrev S136x64x16x64 : Shape := ⟨4, ![136, 64, 16, 64]⟩
abbrev S128x576x16x64 : Shape := ⟨4, ![128, 576, 16, 64]⟩
abbrev S128x16x64x576 : Shape := ⟨4, ![128, 16, 64, 576]⟩
abbrev S1x16x64x576 : Shape := ⟨4, ![1, 16, 64, 576]⟩
abbrev S128 : Shape := ⟨1, ![128]⟩
abbrev S128x1 : Shape := ⟨2, ![128, 1]⟩
abbrev S128x576 : Shape := ⟨2, ![128, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S16x128x64 : Shape := ⟨3, ![16, 128, 64]⟩
abbrev S16x8192 : Shape := ⟨2, ![16, 8192]⟩
abbrev S16x1 : Shape := ⟨2, ![16, 1]⟩
abbrev S16x319 : Shape := ⟨2, ![16, 319]⟩
abbrev S16x639 : Shape := ⟨2, ![16, 639]⟩
abbrev S16x640 : Shape := ⟨2, ![16, 640]⟩
abbrev S1x16x1x640 : Shape := ⟨4, ![1, 16, 1, 640]⟩
abbrev S1x16x65x640 : Shape := ⟨4, ![1, 16, 65, 640]⟩
abbrev S16x41600 : Shape := ⟨2, ![16, 41600]⟩
abbrev S16x41024 : Shape := ⟨2, ![16, 41024]⟩
abbrev S16x64x641 : Shape := ⟨3, ![16, 64, 641]⟩
abbrev S16x64x768 : Shape := ⟨3, ![16, 64, 768]⟩
abbrev S16x256x768 : Shape := ⟨3, ![16, 256, 768]⟩
abbrev S8x2x256x768 : Shape := ⟨4, ![8, 2, 256, 768]⟩
abbrev S8x768x2x256 : Shape := ⟨4, ![8, 768, 2, 256]⟩
abbrev S8x768x512 : Shape := ⟨3, ![8, 768, 512]⟩
abbrev S16x576x64 : Shape := ⟨3, ![16, 576, 64]⟩
abbrev S256x1024 : Shape := ⟨2, ![256, 1024]⟩
abbrev S16x256 : Shape := ⟨2, ![16, 256]⟩
abbrev S768x1024 : Shape := ⟨2, ![768, 1024]⟩
abbrev S768x512 : Shape := ⟨2, ![768, 512]⟩
abbrev S768x1 : Shape := ⟨2, ![768, 1]⟩
abbrev S256x128 : Shape := ⟨2, ![256, 128]⟩
abbrev S512x128 : Shape := ⟨2, ![512, 128]⟩
abbrev S768x128 : Shape := ⟨2, ![768, 128]⟩
abbrev S1x768x512 : Shape := ⟨3, ![1, 768, 512]⟩
abbrev S1x256 : Shape := ⟨2, ![1, 256]⟩
abbrev S1x512 : Shape := ⟨2, ![1, 512]⟩
abbrev S512 : Shape := ⟨1, ![512]⟩
abbrev S576x64 : Shape := ⟨2, ![576, 64]⟩
abbrev S1x576x64 : Shape := ⟨3, ![1, 576, 64]⟩

abbrev nBuf : Space → Nat
  | .hbm => 127
  | .vmem => 31
  | .smem => 0
  | _ => 0

abbrev bufTy : (tb : Table) → Fin (tcTables nBuf tb) → BufTy
  | .hbm, ⟨0, _⟩ => ⟨S8192x5760, .f32⟩
  | .hbm, ⟨1, _⟩ => ⟨S16x320, .f32⟩
  | .hbm, ⟨2, _⟩ => ⟨S8192x1024, .f32⟩
  | .hbm, ⟨3, _⟩ => ⟨S8192x1024, .f32⟩
  | .hbm, ⟨4, _⟩ => ⟨S8192x16x64, .f32⟩
  | .hbm, ⟨5, _⟩ => ⟨S8192x1024, .f32⟩
  | .hbm, ⟨6, _⟩ => ⟨S8192x16x64, .f32⟩
  | .hbm, ⟨7, _⟩ => ⟨S64, .i32⟩
  | .hbm, ⟨8, _⟩ => ⟨S64x1, .i32⟩
  | .hbm, ⟨9, _⟩ => ⟨S_, .i32⟩
  | .hbm, ⟨10, _⟩ => ⟨S64x1, .i32⟩
  | .hbm, ⟨11, _⟩ => ⟨S64x1, .i32⟩
  | .hbm, ⟨12, _⟩ => ⟨S576, .i32⟩
  | .hbm, ⟨13, _⟩ => ⟨S1x576, .i32⟩
  | .hbm, ⟨14, _⟩ => ⟨S64x576, .i32⟩
  | .hbm, ⟨15, _⟩ => ⟨S64x576, .i32⟩
  | .hbm, ⟨16, _⟩ => ⟨S64x576, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S_, .i32⟩
  | .hbm, ⟨29, _⟩ => ⟨S64x576, .i32⟩
  | .hbm, ⟨30, _⟩ => ⟨S64x576, .i1⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S64x576, .i32⟩
  | .hbm, ⟨35, _⟩ => ⟨S64x576x1, .i32⟩
  | .hbm, ⟨36, _⟩ => ⟨S16x64x576, .f32⟩
  | .hbm, ⟨37, _⟩ => ⟨S_, .f32⟩
  | .hbm, ⟨38, _⟩ => ⟨S8x64x16x64, .f32⟩
  | .hbm, ⟨39, _⟩ => ⟨S128x64x16x64, .f32⟩
  | .hbm, ⟨40, _⟩ => ⟨S136x64x16x64, .f32⟩
  | .hbm, ⟨41, _⟩ => ⟨S128x64x16x64, .f32⟩
  | .hbm, ⟨42, _⟩ => ⟨S128x64x16x64, .f32⟩
  | .hbm, ⟨43, _⟩ => ⟨S128x64x16x64, .f32⟩
  | .hbm, ⟨44, _⟩ => ⟨S128x64x16x64, .f32⟩
  | .hbm, ⟨45, _⟩ => ⟨S128x64x16x64, .f32⟩
  | .hbm, ⟨46, _⟩ => ⟨S128x64x16x64, .f32⟩
  | .hbm, ⟨47, _⟩ => ⟨S128x64x16x64, .f32⟩
  | .hbm, ⟨48, _⟩ => ⟨S128x64x16x64, .f32⟩
  | .hbm, ⟨49, _⟩ => ⟨S128x64x16x64, .f32⟩
  | .hbm, ⟨50, _⟩ => ⟨S128x576x16x64, .f32⟩
  | .hbm, ⟨51, _⟩ => ⟨S128x64x16x64, .f32⟩
  | .hbm, ⟨52, _⟩ => ⟨S128x16x64x576, .f32⟩
  | .hbm, ⟨53, _⟩ => ⟨S_, .f32⟩
  | .hbm, ⟨54, _⟩ => ⟨S128x16x64x576, .f32⟩
  | .hbm, ⟨55, _⟩ => ⟨S128x16x64x576, .f32⟩
  | .hbm, ⟨56, _⟩ => ⟨S1x16x64x576, .f32⟩
  | .hbm, ⟨57, _⟩ => ⟨S128x16x64x576, .f32⟩
  | .hbm, ⟨58, _⟩ => ⟨S128x16x64x576, .f32⟩
  | .hbm, ⟨59, _⟩ => ⟨S128, .i32⟩
  | .hbm, ⟨60, _⟩ => ⟨S_, .i32⟩
  | .hbm, ⟨61, _⟩ => ⟨S128, .i32⟩
  | .hbm, ⟨62, _⟩ => ⟨S128, .i32⟩
  | .hbm, ⟨63, _⟩ => ⟨S128x1, .i32⟩
  | .hbm, ⟨64, _⟩ => ⟨S_, .i32⟩
  | .hbm, ⟨65, _⟩ => ⟨S128x1, .i32⟩
  | .hbm, ⟨66, _⟩ => ⟨S128x1, .i32⟩
  | .hbm, ⟨67, _⟩ => ⟨S576, .i32⟩
  | .hbm, ⟨68, _⟩ => ⟨S1x576, .i32⟩
  | .hbm, ⟨69, _⟩ => ⟨S128x576, .i32⟩
  | .hbm, ⟨70, _⟩ => ⟨S128x576, .i32⟩
  | .hbm, ⟨71, _⟩ => ⟨S128x576, .i32⟩
  | .hbm, ⟨72, _⟩ => ⟨S_, .i32⟩
  | .hbm, ⟨73, _⟩ => ⟨S128x576, .i32⟩
  | .hbm, ⟨74, _⟩ => ⟨S128x576, .i1⟩
  | .hbm, ⟨75, _⟩ => ⟨S128x1x1x576, .i1⟩
  | .hbm, ⟨76, _⟩ => ⟨S_, .f32⟩
  | .hbm, ⟨77, _⟩ => ⟨S_, .f32⟩
  | .hbm, ⟨78, _⟩ => ⟨S128x16x64x576, .i1⟩
  | .hbm, ⟨79, _⟩ => ⟨S128x16x64x576, .f32⟩
  | .hbm, ⟨80, _⟩ => ⟨S128x16x64x576, .f32⟩
  | .hbm, ⟨81, _⟩ => ⟨S_, .f32⟩
  | .hbm, ⟨82, _⟩ => ⟨S128x16x64, .f32⟩
  | .hbm, ⟨83, _⟩ => ⟨S128x16x64x1, .f32⟩
  | .hbm, ⟨84, _⟩ => ⟨S128x16x64x576, .f32⟩
  | .hbm, ⟨85, _⟩ => ⟨S128x16x64x576, .f32⟩
  | .hbm, ⟨86, _⟩ => ⟨S128x16x64x576, .f32⟩
  | .hbm, ⟨87, _⟩ => ⟨S_, .f32⟩
  | .hbm, ⟨88, _⟩ => ⟨S128x16x64, .f32⟩
  | .hbm, ⟨89, _⟩ => ⟨S128x16x64, .f32⟩
  | .hbm, ⟨90, _⟩ => ⟨S128x16x64, .f32⟩
  | .hbm, ⟨91, _⟩ => ⟨S16x128x64, .f32⟩
  | .hbm, ⟨92, _⟩ => ⟨S16x8192, .f32⟩
  | .hbm, ⟨93, _⟩ => ⟨S16x1, .f32⟩
  | .hbm, ⟨94, _⟩ => ⟨S16x319, .f32⟩
  | .hbm, ⟨95, _⟩ => ⟨S16x320, .f32⟩
  | .hbm, ⟨96, _⟩ => ⟨S16x639, .f32⟩
  | .hbm, ⟨97, _⟩ => ⟨S_, .i32⟩
  | .hbm, ⟨98, _⟩ => ⟨S_, .f32⟩
  | .hbm, ⟨99, _⟩ => ⟨S16x640, .f32⟩
  | .hbm, ⟨100, _⟩ => ⟨S1x16x1x640, .f32⟩
  | .hbm, ⟨101, _⟩ => ⟨S1x16x65x640, .f32⟩
  | .hbm, ⟨102, _⟩ => ⟨S16x41600, .f32⟩
  | .hbm, ⟨103, _⟩ => ⟨S16x41024, .f32⟩
  | .hbm, ⟨104, _⟩ => ⟨S16x64x641, .f32⟩
  | .hbm, ⟨105, _⟩ => ⟨S16x64x576, .f32⟩
  | .hbm, ⟨106, _⟩ => ⟨S16x64x576, .f32⟩
  | .hbm, ⟨107, _⟩ => ⟨S_, .f32⟩
  | .hbm, ⟨108, _⟩ => ⟨S_, .f32⟩
  | .hbm, ⟨109, _⟩ => ⟨S16x64x768, .f32⟩
  | .hbm, ⟨110, _⟩ => ⟨S_, .f32⟩
  | .hbm, ⟨111, _⟩ => ⟨S_, .f32⟩
  | .hbm, ⟨112, _⟩ => ⟨S16x64x768, .f32⟩
  | .hbm, ⟨113, _⟩ => ⟨S_, .f32⟩
  | .hbm, ⟨114, _⟩ => ⟨S_, .f32⟩
  | .hbm, ⟨115, _⟩ => ⟨S16x64x768, .f32⟩
  | .hbm, ⟨116, _⟩ => ⟨S_, .f32⟩
  | .hbm, ⟨117, _⟩ => ⟨S_, .f32⟩
  | .hbm, ⟨118, _⟩ => ⟨S16x64x768, .f32⟩
  | .hbm, ⟨119, _⟩ => ⟨S16x256x768, .f32⟩
  | .hbm, ⟨120, _⟩ => ⟨S8x2x256x768, .f32⟩
  | .hbm, ⟨121, _⟩ => ⟨S8x768x2x256, .f32⟩
  | .hbm, ⟨122, _⟩ => ⟨S8x768x512, .f32⟩
  | .hbm, ⟨123, _⟩ => ⟨S8192x1024, .bf16⟩
  | .hbm, ⟨124, _⟩ => ⟨S8192x1024, .bf16⟩
  | .hbm, ⟨125, _⟩ => ⟨S8192x1024, .bf16⟩
  | .hbm, ⟨126, _⟩ => ⟨S16x576x64, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S16x256, .f32⟩
  | .local _ .vmem, ⟨17, _⟩ => ⟨S16x256, .f32⟩
  | .local _ .vmem, ⟨18, _⟩ => ⟨S8x768x512, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S16x576x64, .f32⟩
  | .local _ .vmem, ⟨26, _⟩ => ⟨S768x1024, .bf16⟩
  | .local _ .vmem, ⟨27, _⟩ => ⟨S768x1024, .bf16⟩
  | .local _ .vmem, ⟨28, _⟩ => ⟨S768x1024, .f32⟩
  | .local _ .vmem, ⟨29, _⟩ => ⟨S768x1024, .f32⟩
  | .local _ .vmem, ⟨30, _⟩ => ⟨S768x512, .f32⟩
  | _, _ => ⟨S8192x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_12 : Ref sig .tc := ⟨.hbm, 97, rfl⟩
abbrev main_call2_v0 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_13 : Ref sig .tc := ⟨.hbm, 107, rfl⟩
abbrev main_call3_v0 : Ref sig .tc := ⟨.hbm, 108, rfl⟩
abbrev main_v80 : Ref sig .tc := ⟨.hbm, 109, rfl⟩
abbrev main_cst_14 : Ref sig .tc := ⟨.hbm, 110, rfl⟩
abbrev main_call4_v0 : Ref sig .tc := ⟨.hbm, 111, rfl⟩
abbrev main_v81 : Ref sig .tc := ⟨.hbm, 112, rfl⟩
abbrev main_cst_15 : Ref sig .tc := ⟨.hbm, 113, rfl⟩
abbrev main_call5_v0 : Ref sig .tc := ⟨.hbm, 114, rfl⟩
abbrev main_v82 : Ref sig .tc := ⟨.hbm, 115, rfl⟩
abbrev main_cst_16 : Ref sig .tc := ⟨.hbm, 116, rfl⟩
abbrev main_call6_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88_0 : Ref sig .tc := ⟨.hbm, 123, rfl⟩
abbrev main_v88_1 : Ref sig .tc := ⟨.hbm, 124, rfl⟩
abbrev main_v88_2 : Ref sig .tc := ⟨.hbm, 125, rfl⟩
abbrev main_v88_3 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![34], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.subi v0 c2_i32
  let c0_i32 : BitVec 32 := 0#32
  let v2 : BitVec 32 := Scalar.maxsi v1 c0_i32
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.subi v0 c0_i32
  let c0_i32_0 : BitVec 32 := 0#32
  let v2 : BitVec 32 := Scalar.maxsi v1 c0_i32_0
  let c1_i32 : BitVec 32 := 1#32
  let c0_i32_1 : BitVec 32 := 0#32
  ![v2.toNat, c1_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.subi v0 c2_i32
  let c0_i32 : BitVec 32 := 0#32
  let v2 : BitVec 32 := Scalar.maxsi v1 c0_i32
  let c2_i32_0 : BitVec 32 := 2#32
  let c0_i32_1 : BitVec 32 := 0#32
  ![v2.toNat, c2_i32_0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.subi v0 c0_i32
  let c0_i32_0 : BitVec 32 := 0#32
  let v2 : BitVec 32 := Scalar.maxsi v1 c0_i32_0
  let c2_i32 : BitVec 32 := 2#32
  let c0_i32_1 : BitVec 32 := 0#32
  ![v2.toNat, c2_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x768x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S16x576x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x5760 : Shape := ⟨2, ![8192, 5760]⟩
abbrev S16x320 : Shape := ⟨2, ![16, 320]⟩
abbrev S8192x1024 : Shape := ⟨2, ![8192, 1024]⟩
abbrev S8192x16x64 : Shape := ⟨3, ![8192, 16, 64]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S8x64x16x64 : Shape := ⟨4, ![8, 64, 16, 64]⟩
abbrev S128x64x16x64 : Shape := ⟨4, ![128, 64, 16, 64]⟩
abbrev S136x64x16x64 : Shape := ⟨4, ![136, 64, 16, 64]⟩
abbrev S128x576x16x64 : Shape := ⟨4, ![128, 576, 16, 64]⟩
abbrev S128x16x64x576 : Shape := ⟨4, ![128, 16, 64, 576]⟩
abbrev S1x16x64x576 : Shape := ⟨4, ![1, 16, 64, 576]⟩
abbrev S128 : Shape := ⟨1, ![128]⟩
abbrev S128x1 : Shape := ⟨2, ![128, 1]⟩
abbrev S128x576 : Shape := ⟨2, ![128, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x64x64 : Shape := ⟨4, ![128, 16, 64, 64]⟩
abbrev S128x16x576x64 : Shape := ⟨4, ![128, 16, 576, 64]⟩
abbrev S16x576x64 : Shape := ⟨3, ![16, 576, 64]⟩

abbrev nBuf : Space → Nat
  | .hbm => 262
  | .vmem => 0
  | .smem => 0
  | _ => 0

abbrev hbmTy0_0 (i : Nat) : BufTy := match i % 128 with
  | 0 => ⟨S8192x5760, .f32⟩
  | 1 => ⟨S16x320, .f32⟩
  | 2 => ⟨S8192x1024, .f32⟩
  | 3 => ⟨S8192x1024, .f32⟩
  | 4 => ⟨S8192x16x64, .f32⟩
  | 5 => ⟨S8192x1024, .f32⟩
  | 6 => ⟨S8192x16x64, .f32⟩
  | 7 => ⟨S8192x1024, .f32⟩
  | 8 => ⟨S8192x16x64, .f32⟩
  | 9 => ⟨S64, .i32⟩
  | 10 => ⟨S64x1, .i32⟩
  | 11 => ⟨S_, .i32⟩
  | 12 => ⟨S64x1, .i32⟩
  | 13 => ⟨S64x1, .i32⟩
  | 14 => ⟨S576, .i32⟩
  | 15 => ⟨S1x576, .i32⟩
  | 16 => ⟨S64x576, .i32⟩
  | 17 => ⟨S64x576, .i32⟩
  | 18 => ⟨S64x576, .i32⟩
  | 19 => ⟨S_, .i32⟩
  | 20 => ⟨S_, .i32⟩
  | 21 => ⟨S_, .i32⟩
  | 22 => ⟨S64x576, .i32⟩
  | 23 => ⟨S64x576, .i32⟩
  | 24 => ⟨S_, .i32⟩
  | 25 => ⟨S64x576, .i32⟩
  | 26 => ⟨S64x576, .i32⟩
  | 27 => ⟨S_, .i32⟩
  | 28 => ⟨S64x576, .i32⟩
  | 29 => ⟨S64x576, .i32⟩
  | 30 => ⟨S_, .i32⟩
  | 31 => ⟨S64x576, .i32⟩
  | 32 => ⟨S64x576, .i1⟩
  | 33 => ⟨S_, .i32⟩
  | 34 => ⟨S64x576, .i32⟩
  | 35 => ⟨S64x576, .i32⟩
  | 36 => ⟨S64x576, .i32⟩
  | 37 => ⟨S64x576x1, .i32⟩
  | 38 => ⟨S16x64x576, .f32⟩
  | 39 => ⟨S_, .f32⟩
  | 40 => ⟨S8x64x16x64, .f32⟩
  | 41 => ⟨S128x64x16x64, .f32⟩
  | 42 => ⟨S136x64x16x64, .f32⟩
  | 43 => ⟨S_, .f32⟩
  | 44 => ⟨S8x64x16x64, .f32⟩
  | 45 => ⟨S128x64x16x64, .f32⟩
  | 46 => ⟨S128x64x16x64, .f32⟩
  | 47 => ⟨S128x64x16x64, .f32⟩
  | 48 => ⟨S128x64x16x64, .f32⟩
  | 49 => ⟨S128x64x16x64, .f32⟩
  | 50 => ⟨S128x64x16x64, .f32⟩
  | 51 => ⟨S128x64x16x64, .f32⟩
  | 52 => ⟨S128x64x16x64, .f32⟩
  | 53 => ⟨S128x64x16x64, .f32⟩
  | 54 => ⟨S128x576x16x64, .f32⟩
  | 55 => ⟨S_, .f32⟩
  | 56 => ⟨S8x64x16x64, .f32⟩
  | 57 => ⟨S128x64x16x64, .f32⟩
  | 58 => ⟨S136x64x16x64, .f32⟩
  | 59 => ⟨S_, .f32⟩
  | 60 => ⟨S8x64x16x64, .f32⟩
  | 61 => ⟨S128x64x16x64, .f32⟩
  | 62 => ⟨S128x64x16x64, .f32⟩
  | 63 => ⟨S128x64x16x64, .f32⟩
  | 64 => ⟨S128x64x16x64, .f32⟩
  | 65 => ⟨S128x64x16x64, .f32⟩
  | 66 => ⟨S128x64x16x64, .f32⟩
  | 67 => ⟨S128x64x16x64, .f32⟩
  | 68 => ⟨S128x64x16x64, .f32⟩
  | 69 => ⟨S128x64x16x64, .f32⟩
  | 70 => ⟨S128x576x16x64, .f32⟩
  | 71 => ⟨S128x64x16x64, .f32⟩
  | 72 => ⟨S128x16x64x576, .f32⟩
  | 73 => ⟨S_, .f32⟩
  | 74 => ⟨S128x16x64x576, .f32⟩
  | 75 => ⟨S128x16x64x576, .f32⟩
  | 76 => ⟨S1x16x64x576, .f32⟩
  | 77 => ⟨S128x16x64x576, .f32⟩
  | 78 => ⟨S128x16x64x576, .f32⟩
  | 79 => ⟨S128, .i32⟩
  | 80 => ⟨S_, .i32⟩
  | 81 => ⟨S128, .i32⟩
  | 82 => ⟨S128, .i32⟩
  | 83 => ⟨S128x1, .i32⟩
  | 84 => ⟨S_, .i32⟩
  | 85 => ⟨S128x1, .i32⟩
  | 86 => ⟨S128x1, .i32⟩
  | 87 => ⟨S576, .i32⟩
  | 88 => ⟨S1x576, .i32⟩
  | 89 => ⟨S128x576, .i32⟩
  | 90 => ⟨S128x576, .i32⟩
  | 91 => ⟨S128x576, .i32⟩
  | 92 => ⟨S_, .i32⟩
  | 93 => ⟨S128x576, .i32⟩
  | 94 => ⟨S128x576, .i1⟩
  | 95 => ⟨S128x1x1x576, .i1⟩
  | 96 => ⟨S_, .f32⟩
  | 97 => ⟨S_, .f32⟩
  | 98 => ⟨S128x16x64x576, .i1⟩
  | 99 => ⟨S128x16x64x576, .f32⟩
  | 100 => ⟨S128x16x64x576, .f32⟩
  | 101 => ⟨S_, .f32⟩
  | 102 => ⟨S128x16x64x576, .f32⟩
  | 103 => ⟨S_, .f32⟩
  | 104 => ⟨S128x16x64, .f32⟩
  | 105 => ⟨S128x16x64x1, .f32⟩
  | 106 => ⟨S128x16x64x576, .f32⟩
  | 107 => ⟨S128x16x64x576, .i1⟩
  | 108 => ⟨S128x16x64x576, .f32⟩
  | 109 => ⟨S_, .f32⟩
  | 110 => ⟨S128x16x64, .f32⟩
  | 111 => ⟨S_, .f32⟩
  | 112 => ⟨S128x16x64, .f32⟩
  | 113 => ⟨S128x16x64, .f32⟩
  | 114 => ⟨S_, .f32⟩
  | 115 => ⟨S128x16x64, .f32⟩
  | 116 => ⟨S128x16x64, .i1⟩
  | 117 => ⟨S_, .f32⟩
  | 118 => ⟨S128x16x64, .f32⟩
  | 119 => ⟨S128x16x64, .i1⟩
  | 120 => ⟨S_, .f32⟩
  | 121 => ⟨S128x16x64, .f32⟩
  | 122 => ⟨S_, .f32⟩
  | 123 => ⟨S128x16x64, .f32⟩
  | 124 => ⟨S_, .f32⟩
  | 125 => ⟨S128x16x64, .f32⟩
  | 126 => ⟨S128x16x64, .f32⟩
  | 127 => ⟨S128x16x64, .f32⟩
  | _ => ⟨S8192x5760, .f32⟩

abbrev hbmTy0_1 (i : Nat) : BufTy := match i % 128 with
  | 0 => ⟨S128x16x64x1, .f32⟩
  | 1 => ⟨S128x16x64x576, .f32⟩
  | 2 => ⟨S128x16x64x576, .f32⟩
  | 3 => ⟨S128x16x64x576, .f32⟩
  | 4 => ⟨S_, .f32⟩
  | 5 => ⟨S128x16x64, .f32⟩
  | 6 => ⟨S128x16x64x1, .f32⟩
  | 7 => ⟨S128x16x64x576, .f32⟩
  | 8 => ⟨S128x16x64x576, .f32⟩
  | 9 => ⟨S128x16x64x1, .f32⟩
  | 10 => ⟨S_, .f32⟩
  | 11 => ⟨S128x16x64x1, .f32⟩
  | 12 => ⟨S128x16x64x1, .f32⟩
  | 13 => ⟨S128x16x64x64, .f32⟩
  | 14 => ⟨S128x64x16x64, .f32⟩
  | 15 => ⟨S8192x1024, .f32⟩
  | 16 => ⟨S128x64x16x64, .f32⟩
  | 17 => ⟨S128x16x64x64, .f32⟩
  | 18 => ⟨S128x16x64x576, .f32⟩
  | 19 => ⟨S128x16x64x576, .f32⟩
  | 20 => ⟨S128x576x16x64, .f32⟩
  | 21 => ⟨S128x16x64x576, .f32⟩
  | 22 => ⟨S128x16x64x576, .f32⟩
  | 23 => ⟨S128x16x64x576, .f32⟩
  | 24 => ⟨S_, .f32⟩
  | 25 => ⟨S128x16x64, .f32⟩
  | 26 => ⟨S128x16x64x1, .f32⟩
  | 27 => ⟨S128x16x64x1, .f32⟩
  | 28 => ⟨S128x16x64x576, .f32⟩
  | 29 => ⟨S128x16x64x576, .f32⟩
  | 30 => ⟨S_, .f32⟩
  | 31 => ⟨S128x16x64, .f32⟩
  | 32 => ⟨S128x16x64x576, .f32⟩
  | 33 => ⟨S128x16x64x576, .f32⟩
  | 34 => ⟨S128x16x64x576, .f32⟩
  | 35 => ⟨S_, .f32⟩
  | 36 => ⟨S128x16x64x576, .f32⟩
  | 37 => ⟨S128x16x64x576, .f32⟩
  | 38 => ⟨S_, .f32⟩
  | 39 => ⟨S16x64x576, .f32⟩
  | 40 => ⟨S1x16x64x576, .f32⟩
  | 41 => ⟨S_, .f32⟩
  | 42 => ⟨S16x64x576, .f32⟩
  | 43 => ⟨S_, .f32⟩
  | 44 => ⟨S128x16x64x576, .f32⟩
  | 45 => ⟨S128x16x64x576, .f32⟩
  | 46 => ⟨S128x16x576x64, .f32⟩
  | 47 => ⟨S128x576x16x64, .f32⟩
  | 48 => ⟨S128x16x64x64, .f32⟩
  | 49 => ⟨S128x64x16x64, .f32⟩
  | 50 => ⟨S8192x16x64, .f32⟩
  | 51 => ⟨S128x64x16x64, .f32⟩
  | 52 => ⟨S128x64x16x64, .f32⟩
  | 53 => ⟨S128x64x16x64, .f32⟩
  | 54 => ⟨S128x64x16x64, .f32⟩
  | 55 => ⟨S128x64x16x64, .f32⟩
  | 56 => ⟨S128x64x16x64, .f32⟩
  | 57 => ⟨S128x64x16x64, .f32⟩
  | 58 => ⟨S128x64x16x64, .f32⟩
  | 59 => ⟨S128x64x16x64, .f32⟩
  | 60 => ⟨S_, .f32⟩
  | 61 => ⟨S136x64x16x64, .f32⟩
  | 62 => ⟨S_, .f32⟩
  | 63 => ⟨S136x64x16x64, .f32⟩
  | 64 => ⟨S136x64x16x64, .f32⟩
  | 65 => ⟨S_, .f32⟩
  | 66 => ⟨S136x64x16x64, .f32⟩
  | 67 => ⟨S136x64x16x64, .f32⟩
  | 68 => ⟨S_, .f32⟩
  | 69 => ⟨S136x64x16x64, .f32⟩
  | 70 => ⟨S136x64x16x64, .f32⟩
  | 71 => ⟨S_, .f32⟩
  | 72 => ⟨S136x64x16x64, .f32⟩
  | 73 => ⟨S136x64x16x64, .f32⟩
  | 74 => ⟨S_, .f32⟩
  | 75 => ⟨S136x64x16x64, .f32⟩
  | 76 => ⟨S136x64x16x64, .f32⟩
  | 77 => ⟨S_, .f32⟩
  | 78 => ⟨S136x64x16x64, .f32⟩
  | 79 => ⟨S136x64x16x64, .f32⟩
  | 80 => ⟨S_, .f32⟩
  | 81 => ⟨S136x64x16x64, .f32⟩
  | 82 => ⟨S136x64x16x64, .f32⟩
  | 83 => ⟨S_, .f32⟩
  | 84 => ⟨S136x64x16x64, .f32⟩
  | 85 => ⟨S136x64x16x64, .f32⟩
  | 86 => ⟨S8x64x16x64, .f32⟩
  | 87 => ⟨S128x64x16x64, .f32⟩
  | 88 => ⟨S8192x16x64, .f32⟩
  | 89 => ⟨S128x64x16x64, .f32⟩
  | 90 => ⟨S128x64x16x64, .f32⟩
  | 91 => ⟨S128x64x16x64, .f32⟩
  | 92 => ⟨S128x64x16x64, .f32⟩
  | 93 => ⟨S128x64x16x64, .f32⟩
  | 94 => ⟨S128x64x16x64, .f32⟩
  | 95 => ⟨S128x64x16x64, .f32⟩
  | 96 => ⟨S128x64x16x64, .f32⟩
  | 97 => ⟨S128x64x16x64, .f32⟩
  | 98 => ⟨S_, .f32⟩
  | 99 => ⟨S136x64x16x64, .f32⟩
  | 100 => ⟨S_, .f32⟩
  | 101 => ⟨S136x64x16x64, .f32⟩
  | 102 => ⟨S136x64x16x64, .f32⟩
  | 103 => ⟨S_, .f32⟩
  | 104 => ⟨S136x64x16x64, .f32⟩
  | 105 => ⟨S136x64x16x64, .f32⟩
  | 106 => ⟨S_, .f32⟩
  | 107 => ⟨S136x64x16x64, .f32⟩
  | 108 => ⟨S136x64x16x64, .f32⟩
  | 109 => ⟨S_, .f32⟩
  | 110 => ⟨S136x64x16x64, .f32⟩
  | 111 => ⟨S136x64x16x64, .f32⟩
  | 112 => ⟨S_, .f32⟩
  | 113 => ⟨S136x64x16x64, .f32⟩
  | 114 => ⟨S136x64x16x64, .f32⟩
  | 115 => ⟨S_, .f32⟩
  | 116 => ⟨S136x64x16x64, .f32⟩
  | 117 => ⟨S136x64x16x64, .f32⟩
  | 118 => ⟨S_, .f32⟩
  | 119 => ⟨S136x64x16x64, .f32⟩
  | 120 => ⟨S136x64x16x64, .f32⟩
  | 121 => ⟨S_, .f32⟩
  | 122 => ⟨S136x64x16x64, .f32⟩
  | 123 => ⟨S136x64x16x64, .f32⟩
  | 124 => ⟨S8x64x16x64, .f32⟩
  | 125 => ⟨S128x64x16x64, .f32⟩
  | 126 => ⟨S8192x16x64, .f32⟩
  | 127 => ⟨S8192x1024, .f32⟩
  | _ => ⟨S8192x5760, .f32⟩

abbrev hbmTy0_2 (i : Nat) : BufTy := match i % 128 with
  | 0 => ⟨S8192x1024, .bf16⟩
  | 1 => ⟨S8192x1024, .f32⟩
  | 2 => ⟨S8192x1024, .bf16⟩
  | 3 => ⟨S8192x1024, .f32⟩
  | 4 => ⟨S8192x1024, .bf16⟩
  | 5 => ⟨S16x576x64, .f32⟩
  | _ => ⟨S8192x5760, .f32⟩

abbrev hbmTy (i : Nat) : BufTy := match i / 128 with
  | 0 => hbmTy0_0 i
  | 1 => hbmTy0_1 i
  | 2 => hbmTy0_2 i
  | _ => ⟨S8192x5760, .f32⟩

abbrev bufTy : (tb : Table) → Fin (tcTables nBuf tb) → BufTy
  | .hbm, ⟨i, _⟩ => hbmTy i
  | _, _ => ⟨S8192x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_9 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_call1_v0 : Ref sig .tc := ⟨.hbm, 97, rfl⟩
abbrev main_v74_1 : Ref sig .tc := ⟨.hbm, 98, rfl⟩
abbrev main_call1_v2 : Ref sig .tc := ⟨.hbm, 99, rfl⟩
abbrev main_v74_0 : Ref sig .tc := ⟨.hbm, 100, rfl⟩
abbrev main_call1_cst : Ref sig .tc := ⟨.hbm, 101, rfl⟩
abbrev main_v74_2 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_cst_20 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_21 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_23 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_24 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_call2_cst : Ref sig .tc := ⟨.hbm, 163, rfl⟩
abbrev main_call2_v0 : Ref sig .tc := ⟨.hbm, 164, rfl⟩
abbrev main_v123 : Ref sig .tc := ⟨.hbm, 165, rfl⟩
abbrev main_cst_25 : Ref sig .tc := ⟨.hbm, 166, rfl⟩
abbrev main_v124 : Ref sig .tc := ⟨.hbm, 167, rfl⟩
abbrev main_v125 : Ref sig .tc := ⟨.hbm, 168, rfl⟩
abbrev main_cst_26 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_28 : Ref sig .tc := ⟨.hbm, 188, rfl⟩
abbrev main_v143 : Ref sig .tc := ⟨.hbm, 189, rfl⟩
abbrev main_cst_29 : Ref sig .tc := ⟨.hbm, 190, rfl⟩
abbrev main_v144 : Ref sig .tc := ⟨.hbm, 191, rfl⟩
abbrev main_v145 : Ref sig .tc := ⟨.hbm, 192, rfl⟩
abbrev main_cst_30 : Ref sig .tc := ⟨.hbm, 193, rfl⟩
abbrev main_v146 : Ref sig .tc := ⟨.hbm, 194, rfl⟩
abbrev main_v147 : Ref sig .tc := ⟨.hbm, 195, rfl⟩
abbrev main_cst_31 : Ref sig .tc := ⟨.hbm, 196, rfl⟩
abbrev main_v148 : Ref sig .tc := ⟨.hbm, 197, rfl⟩
abbrev main_v149 : Ref sig .tc := ⟨.hbm, 198, rfl⟩
abbrev main_cst_32 : Ref sig .tc := ⟨.hbm, 199, rfl⟩
abbrev main_v150 : Ref sig .tc := ⟨.hbm, 200, rfl⟩
abbrev main_v151 : Ref sig .tc := ⟨.hbm, 201, rfl⟩
abbrev main_cst_33 : Ref sig .tc := ⟨.hbm, 202, rfl⟩
abbrev main_v152 : Ref sig .tc := ⟨.hbm, 203, rfl⟩
abbrev main_v153 : Ref sig .tc := ⟨.hbm, 204, rfl⟩
abbrev main_cst_34 : Ref sig .tc := ⟨.hbm, 205, rfl⟩
abbrev main_v154 : Ref sig .tc := ⟨.hbm, 206, rfl⟩
abbrev main_v155 : Ref sig .tc := ⟨.hbm, 207, rfl⟩
abbrev main_cst_35 : Ref sig .tc := ⟨.hbm, 208, rfl⟩
abbrev main_v156 : Ref sig .tc := ⟨.hbm, 209, rfl⟩
abbrev main_v157 : Ref sig .tc := ⟨.hbm, 210, rfl⟩
abbrev main_cst_36 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_37 : Ref sig .tc := ⟨.hbm, 226, rfl⟩
abbrev main_v172 : Ref sig .tc := ⟨.hbm, 227, rfl⟩
abbrev main_cst_38 : Ref sig .tc := ⟨.hbm, 228, rfl⟩
abbrev main_v173 : Ref sig .tc := ⟨.hbm, 229, rfl⟩
abbrev main_v174 : Ref sig .tc := ⟨.hbm, 230, rfl⟩
abbrev main_cst_39 : Ref sig .tc := ⟨.hbm, 231, rfl⟩
abbrev main_v175 : Ref sig .tc := ⟨.hbm, 232, rfl⟩
abbrev main_v176 : Ref sig .tc := ⟨.hbm, 233, rfl⟩
abbrev main_cst_40 : Ref sig .tc := ⟨.hbm, 234, rfl⟩
abbrev main_v177 : Ref sig .tc := ⟨.hbm, 235, rfl⟩
abbrev main_v178 : Ref sig .tc := ⟨.hbm, 236, rfl⟩
abbrev main_cst_41 : Ref sig .tc := ⟨.hbm, 237, rfl⟩
abbrev main_v179 : Ref sig .tc := ⟨.hbm, 238, rfl⟩
abbrev main_v180 : Ref sig .tc := ⟨.hbm, 239, rfl⟩
abbrev main_cst_42 : Ref sig .tc := ⟨.hbm, 240, rfl⟩
abbrev main_v181 : Ref sig .tc := ⟨.hbm, 241, rfl⟩
abbrev main_v182 : Ref sig .tc := ⟨.hbm, 242, rfl⟩
abbrev main_cst_43 : Ref sig .tc := ⟨.hbm, 243, rfl⟩
abbrev main_v183 : Ref sig .tc := ⟨.hbm, 244, rfl⟩
abbrev main_v184 : Ref sig .tc := ⟨.hbm, 245, rfl⟩
abbrev main_cst_44 : Ref sig .tc := ⟨.hbm, 246, rfl⟩
abbrev main_v185 : Ref sig .tc := ⟨.hbm, 247, rfl⟩
abbrev main_v186 : Ref sig .tc := ⟨.hbm, 248, rfl⟩
abbrev main_cst_45 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩

abbrev nD : Nat := 1
abbrev τ : Topo := Topo.v7x

variable {F : FTy → Type} [FloatOps F]
-- ==== Kernel2.lean ====
abbrev S8192x2048 : Shape := ⟨2, ![8192, 2048]⟩
abbrev S5632x2048 : Shape := ⟨2, ![5632, 2048]⟩
abbrev S8192x5632 : Shape := ⟨2, ![8192, 5632]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x2048, .f32⟩
  | .hbm, ⟨5, _⟩ => ⟨S5632x2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .bf16⟩
  | .hbm, ⟨31, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .bf16⟩
  | .hbm, ⟨3, _⟩ => ⟨S5632x2048, .bf16⟩
  | .hbm, ⟨4, _⟩ => ⟨S8192x2048, .bf16⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x5632, .bf16⟩
  | .local _ .vmem, ⟨5, _⟩ => ⟨S512x5632, .bf16⟩
  | .local _ .vmem, ⟨6, _⟩ => ⟨S5632x512, .bf16⟩
  | .local _ .vmem, ⟨7, _⟩ => ⟨S5632x512, .bf16⟩
  | .local _ .vmem, ⟨8, _⟩ => ⟨S512x512, .bf16⟩
  | .local _ .vmem, ⟨9, _⟩ => ⟨S512x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S5632x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8192x5632 : Shape := ⟨2, ![8192, 5632]⟩
abbrev S5632x2048 : Shape := ⟨2, ![5632, 2048]⟩
abbrev S2048x5632 : Shape := ⟨2, ![2048, 5632]⟩
abbrev S_ : Shape := ⟨0, ![]⟩
abbrev S8192x2048 : Shape := ⟨2, ![8192, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .bf16⟩
  | .hbm, ⟨3, _⟩ => ⟨S5632x2048, .bf16⟩
  | .hbm, ⟨4, _⟩ => ⟨S8192x5632, .f32⟩
  | .hbm, ⟨5, _⟩ => ⟨S5632x2048, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S8192x2048, .f32⟩
  | .hbm, ⟨12, _⟩ => ⟨S8192x5632, .f32⟩
  | .hbm, ⟨13, _⟩ => ⟨S8192x5632, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S8192x2048 : Shape := ⟨2, ![8192, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S2048x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Reference4DownIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S5632x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S5632x2048 : Shape := ⟨2, ![5632, 2048]⟩
abbrev S8192x5632 : Shape := ⟨2, ![8192, 5632]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S5632x2048, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x2048 : Shape := ⟨2, ![8192, 2048]⟩
abbrev S5632x2048 : Shape := ⟨2, ![5632, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S5632x2048, .bf16⟩
  | .hbm, ⟨3, _⟩ => ⟨S8192x2048, .f32⟩
  | .hbm, ⟨4, _⟩ => ⟨S5632x2048, .f32⟩
  | .hbm, ⟨5, _⟩ => ⟨S5632x2048, .f32⟩
  | .hbm, ⟨6, _⟩ => ⟨S2048x5632, .f32⟩
  | .hbm, ⟨7, _⟩ => ⟨S8192x5632, .f32⟩
  | .hbm, ⟨8, _⟩ => ⟨S2048x5632, .f32⟩
  | .hbm, ⟨9, _⟩ => ⟨S8192x5632, .f32⟩
  | .hbm, ⟨10, _⟩ => ⟨S8192x5632, .bf16⟩
  | .hbm, ⟨11, _⟩ => ⟨S8192x5632, .bf16⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel6.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x2048 : Shape := ⟨2, ![8192, 2048]⟩
abbrev S5760x2048 : Shape := ⟨2, ![5760, 2048]⟩
abbrev S8192x5760 : Shape := ⟨2, ![8192, 5760]⟩
abbrev S1024x2048 : Shape := ⟨2, ![1024, 2048]⟩
abbrev S1920x2048 : Shape := ⟨2, ![1920, 2048]⟩
abbrev S1024x1920 : Shape := ⟨2, ![1024, 1920]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5760x2048, .bf16⟩
  | .hbm, ⟨2, _⟩ => ⟨S8192x5760, .f32⟩
  | .local _ .vmem, ⟨0, _⟩ => ⟨S1024x2048, .bf16⟩
  | .local _ .vmem, ⟨1, _⟩ => ⟨S1024x2048, .bf16⟩
  | .local _ .vmem, ⟨2, _⟩ => ⟨S1920x2048, .bf16⟩
  | .local _ .vmem, ⟨3, _⟩ => ⟨S1920x2048, .bf16⟩
  | .local _ .vmem, ⟨4, _⟩ => ⟨S1024x1920, .f32⟩
  | .local _ .vmem, ⟨5, _⟩ => ⟨S1024x1920, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1920x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S5760x2048 : Shape := ⟨2, ![5760, 2048]⟩
abbrev S2048x5760 : Shape := ⟨2, ![2048, 5760]⟩
abbrev S8192x5760 : Shape := ⟨2, ![8192, 5760]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5760x2048, .bf16⟩
  | .hbm, ⟨2, _⟩ => ⟨S8192x2048, .f32⟩
  | .hbm, ⟨3, _⟩ => ⟨S5760x2048, .f32⟩
  | .hbm, ⟨4, _⟩ => ⟨S2048x5760, .f32⟩
  | .hbm, ⟨5, _⟩ => ⟨S8192x5760, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x5760 : Shape := ⟨2, ![8192, 5760]⟩
abbrev S5760x2048 : Shape := ⟨2, ![5760, 2048]⟩
abbrev S8x128 : Shape := ⟨2, ![8, 128]⟩
abbrev S8192x2048 : Shape := ⟨2, ![8192, 2048]⟩
abbrev S512x5760 : Shape := ⟨2, ![512, 5760]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x5760, .bf16⟩
  | .hbm, ⟨1, _⟩ => ⟨S5760x2048, .bf16⟩
  | .hbm, ⟨2, _⟩ => ⟨S8x128, .f32⟩
  | .hbm, ⟨3, _⟩ => ⟨S8192x2048, .bf16⟩
  | .local _ .vmem, ⟨0, _⟩ => ⟨S512x5760, .bf16⟩
  | .local _ .vmem, ⟨1, _⟩ => ⟨S512x5760, .bf16⟩
  | .local _ .vmem, ⟨2, _⟩ => ⟨S5760x2048, .bf16⟩
  | .local _ .vmem, ⟨3, _⟩ => ⟨S512x2048, .bf16⟩
  | .local _ .vmem, ⟨4, _⟩ => ⟨S512x2048, .bf16⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5760x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x5760 : Shape := ⟨2, ![8192, 5760]⟩
abbrev S5760x2048 : Shape := ⟨2, ![5760, 2048]⟩
abbrev S8x128 : Shape := ⟨2, ![8, 128]⟩
abbrev S2048x5760 : Shape := ⟨2, ![2048, 5760]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5760, .bf16⟩
  | .hbm, ⟨1, _⟩ => ⟨S5760x2048, .bf16⟩
  | .hbm, ⟨2, _⟩ => ⟨S8x128, .f32⟩
  | .hbm, ⟨3, _⟩ => ⟨S8192x5760, .f32⟩
  | .hbm, ⟨4, _⟩ => ⟨S5760x2048, .f32⟩
  | .hbm, ⟨5, _⟩ => ⟨S2048x5760, .f32⟩
  | .hbm, ⟨6, _⟩ => ⟨S_, .f32⟩
  | .hbm, ⟨7, _⟩ => ⟨S8192x2048, .f32⟩
  | .hbm, ⟨8, _⟩ => ⟨S8192x5760, .f32⟩
  | .hbm, ⟨9, _⟩ => ⟨S8192x2048, .f32⟩
  | .hbm, ⟨10, _⟩ => ⟨S8192x2048, .bf16⟩
  | _, _ => ⟨S8192x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S8192x5760 : Shape := ⟨2, ![8192, 5760]⟩
abbrev S8192x2048 : Shape := ⟨2, ![8192, 2048]⟩
abbrev S5760x2048 : Shape := ⟨2, ![5760, 2048]⟩
abbrev S1024x1152 : Shape := ⟨2, ![1024, 1152]⟩
abbrev S1024x2048 : Shape := ⟨2, ![1024, 2048]⟩
abbrev S1152x2048 : Shape := ⟨2, ![1152, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5760, .bf16⟩
  | .hbm, ⟨1, _⟩ => ⟨S8192x2048, .bf16⟩
  | .hbm, ⟨2, _⟩ => ⟨S5760x2048, .bf16⟩
  | .local _ .vmem, ⟨0, _⟩ => ⟨S1024x1152, .bf16⟩
  | .local _ .vmem, ⟨1, _⟩ => ⟨S1024x1152, .bf16⟩
  | .local _ .vmem, ⟨2, _⟩ => ⟨S1024x2048, .bf16⟩
  | .local _ .vmem, ⟨3, _⟩ => ⟨S1024x2048, .bf16⟩
  | .local _ .vmem, ⟨4, _⟩ => ⟨S1152x2048, .bf16⟩
  | .local _ .vmem, ⟨5, _⟩ => ⟨S1152x2048, .bf16⟩
  | .local _ .vmem, ⟨6, _⟩ => ⟨S1152x2048, .f32⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x5760 : Shape := ⟨2, ![8192, 5760]⟩
abbrev S8192x2048 : Shape := ⟨2, ![8192, 2048]⟩
abbrev S_ : Shape := ⟨0, ![]⟩
abbrev S2048x5760 : Shape := ⟨2, ![2048, 5760]⟩
abbrev S5760x2048 : Shape := ⟨2, ![5760, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5760, .bf16⟩
  | .hbm, ⟨1, _⟩ => ⟨S8192x2048, .bf16⟩
  | .hbm, ⟨2, _⟩ => ⟨S8192x5760, .f32⟩
  | .hbm, ⟨3, _⟩ => ⟨S8192x2048, .f32⟩
  | .hbm, ⟨4, _⟩ => ⟨S_, .f32⟩
  | .hbm, ⟨5, _⟩ => ⟨S2048x5760, .f32⟩
  | .hbm, ⟨6, _⟩ => ⟨S8192x5760, .f32⟩
  | .hbm, ⟨7, _⟩ => ⟨S5760x2048, .f32⟩
  | .hbm, ⟨8, _⟩ => ⟨S2048x5760, .f32⟩
  | .hbm, ⟨9, _⟩ => ⟨S5760x2048, .f32⟩
  | .hbm, ⟨10, _⟩ => ⟨S5760x2048, .bf16⟩
  | _, _ => ⟨S8192x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S8x128 : Shape := ⟨2, ![8, 128]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8x128, .f32⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x2048 : Shape := ⟨2, ![2048, 2048]⟩
abbrev S8x128 : Shape := ⟨2, ![8, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8x128, .f32⟩
  | .hbm, ⟨3, _⟩ => ⟨S8192x2048, .f32⟩
  | .hbm, ⟨4, _⟩ => ⟨S2048x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference13Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S5x2048 : Shape := ⟨2, ![5, 2048]⟩
abbrev S8x2048 : Shape := ⟨2, ![8, 2048]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S5x2048, .f32⟩
  | .hbm, ⟨68, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel14.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 11
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .hbm, ⟨10, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference14Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S4x2048 : Shape := ⟨2, ![4, 2048]⟩
abbrev S8x2048 : Shape := ⟨2, ![8, 2048]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S8192x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S8192x2048, .bf16⟩
  | .hbm, ⟨77, _⟩ => ⟨S_, .f32⟩
  | .hbm, ⟨78, _⟩ => ⟨S4x2048, .f32⟩
  | .hbm, ⟨79, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Kernel15.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference15Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S5x2048 : Shape := ⟨2, ![5, 2048]⟩
abbrev S8x2048 : Shape := ⟨2, ![8, 2048]⟩

abbrev nBuf : Space → Nat
  | .hbm => 109
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x2048, .f32⟩
  | .hbm, ⟨61, _⟩ => ⟨S8192x2048, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S8192x1, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S_, .f32⟩
  | .hbm, ⟨100, _⟩ => ⟨S2048, .f32⟩
  | .hbm, ⟨101, _⟩ => ⟨S1x2048, .f32⟩
  | .hbm, ⟨102, _⟩ => ⟨S_, .f32⟩
  | .hbm, ⟨103, _⟩ => ⟨S1x2048, .f32⟩
  | .hbm, ⟨104, _⟩ => ⟨S1x2048, .f32⟩
  | .hbm, ⟨105, _⟩ => ⟨S8192x2048, .bf16⟩
  | .hbm, ⟨106, _⟩ => ⟨S_, .f32⟩
  | .hbm, ⟨107, _⟩ => ⟨S5x2048, .f32⟩
  | .hbm, ⟨108, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_19 : Ref sig .tc := ⟨.hbm, 99, rfl⟩
abbrev main_v74 : Ref sig .tc := ⟨.hbm, 100, rfl⟩
abbrev main_v75 : Ref sig .tc := ⟨.hbm, 101, rfl⟩
abbrev main_cst_20 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_21 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]
-- ==== Kernel16.lean ====
abbrev S8x704x2048 : Shape := ⟨3, ![8, 704, 2048]⟩
abbrev S704x2048 : Shape := ⟨2, ![704, 2048]⟩
abbrev S8x704x512 : Shape := ⟨3, ![8, 704, 512]⟩
abbrev S704x512 : Shape := ⟨2, ![704, 512]⟩
abbrev S1x704x512 : Shape := ⟨3, ![1, 704, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x704x512, .bf16⟩
  | .local _ .vmem, ⟨1, _⟩ => ⟨S8x704x512, .bf16⟩
  | .local _ .vmem, ⟨2, _⟩ => ⟨S704x512, .f32⟩
  | .local _ .vmem, ⟨3, _⟩ => ⟨S704x512, .f32⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | .local _ .vmem, ⟨8, _⟩ => ⟨S704x512, .f32⟩
  | .local _ .vmem, ⟨9, _⟩ => ⟨S704x512, .f32⟩
  | .local _ .vmem, ⟨10, _⟩ => ⟨S704x512, .f32⟩
  | .local _ .vmem, ⟨11, _⟩ => ⟨S704x512, .f32⟩
  | .local _ .vmem, ⟨12, _⟩ => ⟨S704x512, .f32⟩
  | .local _ .vmem, ⟨13, _⟩ => ⟨S704x512, .f32⟩
  | .local _ .vmem, ⟨14, _⟩ => ⟨S704x512, .f32⟩
  | .local _ .vmem, ⟨15, _⟩ => ⟨S704x512, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x704x2048 : Shape := ⟨3, ![8, 704, 2048]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x706x2048 : Shape := ⟨3, ![8, 706, 2048]⟩
abbrev S706x2048 : Shape := ⟨2, ![706, 2048]⟩
abbrev S8x706x512 : Shape := ⟨3, ![8, 706, 512]⟩
abbrev S706x512 : Shape := ⟨2, ![706, 512]⟩
abbrev S1x706x512 : Shape := ⟨3, ![1, 706, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x706x2048, .bf16⟩
  | .hbm, ⟨1, _⟩ => ⟨S706x2048, .f32⟩
  | .hbm, ⟨2, _⟩ => ⟨S706x2048, .f32⟩
  | .hbm, ⟨3, _⟩ => ⟨S706x2048, .f32⟩
  | .hbm, ⟨4, _⟩ => ⟨S706x2048, .f32⟩
  | .hbm, ⟨5, _⟩ => ⟨S706x2048, .f32⟩
  | .hbm, ⟨6, _⟩ => ⟨S706x2048, .f32⟩
  | .hbm, ⟨7, _⟩ => ⟨S706x2048, .f32⟩
  | .local _ .vmem, ⟨0, _⟩ => ⟨S8x706x512, .bf16⟩
  | .local _ .vmem, ⟨1, _⟩ => ⟨S8x706x512, .bf16⟩
  | .local _ .vmem, ⟨2, _⟩ => ⟨S706x512, .f32⟩
  | .local _ .vmem, ⟨3, _⟩ => ⟨S706x512, .f32⟩
  | .local _ .vmem, ⟨4, _⟩ => ⟨S706x512, .f32⟩
  | .local _ .vmem, ⟨5, _⟩ => ⟨S706x512, .f32⟩
  | .local _ .vmem, ⟨6, _⟩ => ⟨S706x512, .f32⟩
  | .local _ .vmem, ⟨7, _⟩ => ⟨S706x512, .f32⟩
  | .local _ .vmem, ⟨8, _⟩ => ⟨S706x512, .f32⟩
  | .local _ .vmem, ⟨9, _⟩ => ⟨S706x512, .f32⟩
  | .local _ .vmem, ⟨10, _⟩ => ⟨S706x512, .f32⟩
  | .local _ .vmem, ⟨11, _⟩ => ⟨S706x512, .f32⟩
  | .local _ .vmem, ⟨12, _⟩ => ⟨S706x512, .f32⟩
  | .local _ .vmem, ⟨13, _⟩ => ⟨S706x512, .f32⟩
  | .local _ .vmem, ⟨14, _⟩ => ⟨S706x512, .f32⟩
  | .local _ .vmem, ⟨15, _⟩ => ⟨S706x512, .f32⟩
  | _, _ => ⟨S8x706x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x706x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S706x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S706x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S706x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S706x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S706x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S706x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S706x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x706x2048 : Shape := ⟨3, ![8, 706, 2048]⟩
abbrev S706x2048 : Shape := ⟨2, ![706, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x706x2048, .bf16⟩
  | .hbm, ⟨1, _⟩ => ⟨S706x2048, .f32⟩
  | .hbm, ⟨2, _⟩ => ⟨S706x2048, .f32⟩
  | .hbm, ⟨3, _⟩ => ⟨S706x2048, .f32⟩
  | .hbm, ⟨4, _⟩ => ⟨S8x706x2048, .f32⟩
  | .hbm, ⟨5, _⟩ => ⟨S_, .f32⟩
  | .hbm, ⟨6, _⟩ => ⟨S706x2048, .f32⟩
  | .hbm, ⟨7, _⟩ => ⟨S_, .f32⟩
  | .hbm, ⟨8, _⟩ => ⟨S706x2048, .f32⟩
  | .hbm, ⟨9, _⟩ => ⟨S706x2048, .f32⟩
  | .hbm, ⟨10, _⟩ => ⟨S_, .f32⟩
  | .hbm, ⟨11, _⟩ => ⟨S706x2048, .f32⟩
  | .hbm, ⟨12, _⟩ => ⟨S706x2048, .f32⟩
  | .hbm, ⟨13, _⟩ => ⟨S706x2048, .f32⟩
  | .hbm, ⟨14, _⟩ => ⟨S_, .f32⟩
  | .hbm, ⟨15, _⟩ => ⟨S706x2048, .f32⟩
  | .hbm, ⟨16, _⟩ => ⟨S706x2048, .f32⟩
  | .hbm, ⟨17, _⟩ => ⟨S706x2048, .f32⟩
  | .hbm, ⟨18, _⟩ => ⟨S_, .f32⟩
  | .hbm, ⟨19, _⟩ => ⟨S706x2048, .f32⟩
  | .hbm, ⟨20, _⟩ => ⟨S706x2048, .f32⟩
  | .hbm, ⟨21, _⟩ => ⟨S706x2048, .f32⟩
  | .hbm, ⟨22, _⟩ => ⟨S_, .f32⟩
  | .hbm, ⟨23, _⟩ => ⟨S706x2048, .f32⟩
  | .hbm, ⟨24, _⟩ => ⟨S706x2048, .f32⟩
  | .hbm, ⟨25, _⟩ => ⟨S_, .f32⟩
  | .hbm, ⟨26, _⟩ => ⟨S706x2048, .f32⟩
  | .hbm, ⟨27, _⟩ => ⟨S706x2048, .f32⟩
  | .hbm, ⟨28, _⟩ => ⟨S706x2048, .f32⟩
  | .hbm, ⟨29, _⟩ => ⟨S_, .f32⟩
  | .hbm, ⟨30, _⟩ => ⟨S706x2048, .f32⟩
  | .hbm, ⟨31, _⟩ => ⟨S706x2048, .f32⟩
  | .hbm, ⟨32, _⟩ => ⟨S706x2048, .f32⟩
  | .hbm, ⟨33, _⟩ => ⟨S_, .f32⟩
  | .hbm, ⟨34, _⟩ => ⟨S706x2048, .f32⟩
  | .hbm, ⟨35, _⟩ => ⟨S706x2048, .f32⟩
  | .hbm, ⟨36, _⟩ => ⟨S706x2048, .f32⟩
  | .hbm, ⟨37, _⟩ => ⟨S_, .f32⟩
  | .hbm, ⟨38, _⟩ => ⟨S706x2048, .f32⟩
  | .hbm, ⟨39, _⟩ => ⟨S706x2048, .f32⟩
  | _, _ => ⟨S8x706x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S2048x1536 : Shape := ⟨2, ![2048, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S8192x2048 : Shape := ⟨2, ![8192, 2048]⟩
abbrev S8192x1024 : Shape := ⟨2, ![8192, 1024]⟩
abbrev S8192x5760 : Shape := ⟨2, ![8192, 5760]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x1024, .f32⟩
  | .hbm, ⟨3, _⟩ => ⟨S8192x5760, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference21Ideal.lean ====
abbrev S8192x2048 : Shape := ⟨2, ![8192, 2048]⟩
abbrev S8192x1024 : Shape := ⟨2, ![8192, 1024]⟩
abbrev S8192x5760 : Shape := ⟨2, ![8192, 5760]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x1024, .f32⟩
  | .hbm, ⟨3, _⟩ => ⟨S8192x5760, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .bf16⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x1024, .f32⟩
  | .hbm, ⟨97, _⟩ => ⟨S8192x1024, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .bf16⟩
  | .hbm, ⟨116, _⟩ => ⟨S_, .f32⟩
  | .hbm, ⟨117, _⟩ => ⟨S6x1024, .f32⟩
  | .hbm, ⟨118, _⟩ => ⟨S8x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v37_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v37_1 : Ref sig .tc := ⟨.hbm, 62, rfl⟩
abbrev main_v37_0 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩

abbrev nD : Nat := 1
abbrev τ : Topo := Topo.v7x

variable {F : FTy → Type} [FloatOps F]
-- ==== Kernel22.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel23.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S1x2048, .f32⟩
  | .hbm, ⟨6, _⟩ => ⟨S8192x2048, .bf16⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel24.lean ====
abbrev S8192x1024 : Shape := ⟨2, ![8192, 1024]⟩
abbrev S8192x5760 : Shape := ⟨2, ![8192, 5760]⟩
abbrev S1x1024 : Shape := ⟨2, ![1, 1024]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5760, .f32⟩
  | .hbm, ⟨3, _⟩ => ⟨S1x1024, .f32⟩
  | .hbm, ⟨4, _⟩ => ⟨S1x1024, .f32⟩
  | .hbm, ⟨5, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x2048, .bf16⟩
  | .local _ .vmem, ⟨9, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference24Ideal.lean ====
abbrev S8192x1024 : Shape := ⟨2, ![8192, 1024]⟩
abbrev S8192x5760 : Shape := ⟨2, ![8192, 5760]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5760, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x2048, .f32⟩
  | .hbm, ⟨47, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel25.lean ====
abbrev S16x576x64 : Shape := ⟨3, ![16, 576, 64]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S576x64 : Shape := ⟨2, ![576, 64]⟩
abbrev S36864x1 : Shape := ⟨2, ![36864, 1]⟩
abbrev S320 : Shape := ⟨1, ![320]⟩
abbrev S1x320 : Shape := ⟨2, ![1, 320]⟩
abbrev S36864x320 : Shape := ⟨2, ![36864, 320]⟩
abbrev S16x36864 : Shape := ⟨2, ![16, 36864]⟩
abbrev S16x320 : Shape := ⟨2, ![16, 320]⟩
abbrev S16x4608 : Shape := ⟨2, ![16, 4608]⟩
abbrev S4608x320 : Shape := ⟨2, ![4608, 320]⟩

abbrev nBuf : Space → Nat
  | .hbm => 32
  | .vmem => 6
  | .smem => 0
  | _ => 0

abbrev bufTy : (tb : Table) → Fin (tcTables nBuf tb) → BufTy
  | .hbm, ⟨0, _⟩ => ⟨S16x576x64, .f32⟩
  | .hbm, ⟨1, _⟩ => ⟨S64, .i32⟩
  | .hbm, ⟨2, _⟩ => ⟨S64x1, .i32⟩
  | .hbm, ⟨3, _⟩ => ⟨S_, .i32⟩
  | .hbm, ⟨4, _⟩ => ⟨S64x1, .i32⟩
  | .hbm, ⟨5, _⟩ => ⟨S64x1, .i32⟩
  | .hbm, ⟨6, _⟩ => ⟨S576, .i32⟩
  | .hbm, ⟨7, _⟩ => ⟨S1x576, .i32⟩
  | .hbm, ⟨8, _⟩ => ⟨S64x576, .i32⟩
  | .hbm, ⟨9, _⟩ => ⟨S64x576, .i32⟩
  | .hbm, ⟨10, _⟩ => ⟨S64x576, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x576, .i32⟩
  | .hbm, ⟨15, _⟩ => ⟨S64x576, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S576x64, .i32⟩
  | .hbm, ⟨23, _⟩ => ⟨S36864x1, .i32⟩
  | .hbm, ⟨24, _⟩ => ⟨S320, .i32⟩
  | .hbm, ⟨25, _⟩ => ⟨S1x320, .i32⟩
  | .hbm, ⟨26, _⟩ => ⟨S36864x320, .i32⟩
  | .hbm, ⟨27, _⟩ => ⟨S36864x320, .i32⟩
  | .hbm, ⟨28, _⟩ => ⟨S36864x320, .i1⟩
  | .hbm, ⟨29, _⟩ => ⟨S36864x320, .f32⟩
  | .hbm, ⟨30, _⟩ => ⟨S16x36864, .f32⟩
  | .hbm, ⟨31, _⟩ => ⟨S16x320, .f32⟩
  | .local _ .vmem, ⟨0, _⟩ => ⟨S16x4608, .f32⟩
  | .local _ .vmem, ⟨1, _⟩ => ⟨S16x4608, .f32⟩
  | .local _ .vmem, ⟨2, _⟩ => ⟨S4608x320, .f32⟩
  | .local _ .vmem, ⟨3, _⟩ => ⟨S4608x320, .f32⟩
  | .local _ .vmem, ⟨4, _⟩ => ⟨S16x320, .f32⟩
  | .local _ .vmem, ⟨5, _⟩ => ⟨S16x320, .f32⟩
  | _, _ => ⟨S16x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4608x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S16x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S16x576x64 : Shape := ⟨3, ![16, 576, 64]⟩
abbrev S_ : Shape := ⟨0, ![]⟩
abbrev S16x320 : Shape := ⟨2, ![16, 320]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩

abbrev nBuf : Space → Nat
  | .hbm => 37
  | .vmem => 0
  | .smem => 0
  | _ => 0

abbrev bufTy : (tb : Table) → Fin (tcTables nBuf tb) → BufTy
  | .hbm, ⟨0, _⟩ => ⟨S16x576x64, .f32⟩
  | .hbm, ⟨1, _⟩ => ⟨S_, .f32⟩
  | .hbm, ⟨2, _⟩ => ⟨S16x320, .f32⟩
  | .hbm, ⟨3, _⟩ => ⟨S64, .i32⟩
  | .hbm, ⟨4, _⟩ => ⟨S64x1, .i32⟩
  | .hbm, ⟨5, _⟩ => ⟨S_, .i32⟩
  | .hbm, ⟨6, _⟩ => ⟨S64x1, .i32⟩
  | .hbm, ⟨7, _⟩ => ⟨S64x1, .i32⟩
  | .hbm, ⟨8, _⟩ => ⟨S576, .i32⟩
  | .hbm, ⟨9, _⟩ => ⟨S1x576, .i32⟩
  | .hbm, ⟨10, _⟩ => ⟨S64x576, .i32⟩
  | .hbm, ⟨11, _⟩ => ⟨S64x576, .i32⟩
  | .hbm, ⟨12, _⟩ => ⟨S64x576, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64x576, .i32⟩
  | .hbm, ⟨17, _⟩ => ⟨S64x576, .i32⟩
  | .hbm, ⟨18, _⟩ => ⟨S_, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S64x576, .i32⟩
  | .hbm, ⟨23, _⟩ => ⟨S64x576, .i32⟩
  | .hbm, ⟨24, _⟩ => ⟨S_, .i32⟩
  | .hbm, ⟨25, _⟩ => ⟨S64x576, .i32⟩
  | .hbm, ⟨26, _⟩ => ⟨S64x576, .i1⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S64x576, .i32⟩
  | .hbm, ⟨31, _⟩ => ⟨S64x576x1, .i32⟩
  | .hbm, ⟨32, _⟩ => ⟨S16x64x576, .f32⟩
  | .hbm, ⟨33, _⟩ => ⟨S16x64x576, .f32⟩
  | .hbm, ⟨34, _⟩ => ⟨S_, .f32⟩
  | .hbm, ⟨35, _⟩ => ⟨S16x320, .f32⟩
  | .hbm, ⟨36, _⟩ => ⟨S16x320, .f32⟩
  | _, _ => ⟨S16x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Proof.Body.lean ====
module

public import proofs.«01_k».proof.Proof.Gen.KernelIdeal.Skeleton

@[expose] public section

set_option maxRecDepth 65536

noncomputable section

namespace Cert.Bwd

open Idealize.ShloMosaic Idealize.SL.Sem Cert.KernelIdeal Cert.KernelIdeal.Gen

variable {F : FTy → Type} [FloatOps F]

theorem inbCols256 (p : ℕ) (hp : p < 8) : ∀ a, (![0, 128 * p] : Fin 2 → ℕ) a + S256x128.size a ≤ S256x1024.size a := by
  intro a; fin_cases a
  · show 0 + 256 ≤ 256; omega
  · show 128 * p + 128 ≤ 1024; omega

theorem inbCols768 (p : ℕ) (hp : p < 8) : ∀ a, (![0, 128 * p] : Fin 2 → ℕ) a + S768x128.size a ≤ S768x1024.size a := by
  intro a; fin_cases a
  · show 0 + 768 ≤ 768; omega
  · show 128 * p + 128 ≤ 1024; omega

theorem inbBias (p : ℕ) (hp : p < 8) : ∀ a, (![p, 0, 0] : Fin 3 → ℕ) a + S1x768x512.size a ≤ S8x768x512.size a := by
  intro a; fin_cases a
  · show p + 1 ≤ 8; omega
  · show 0 + 768 ≤ 768; omega
  · show 0 + 512 ≤ 512; omega

theorem inbLse (h : ℕ) (hh : h < 16) : ∀ a, (![h, 0] : Fin 2 → ℕ) a + S1x256.size a ≤ S16x256.size a := by
  intro a; fin_cases a
  · show h + 1 ≤ 16; omega
  · show 0 + 256 ≤ 256; omega

theorem inbDb (h : ℕ) (hh : h < 16) : ∀ a, (![h, 0, 0] : Fin 3 → ℕ) a + S1x576x64.size a ≤ S16x576x64.size a := by
  intro a; fin_cases a
  · show h + 1 ≤ 16; omega
  · show 0 + 576 ≤ 576; omega
  · show 0 + 64 ≤ 64; omega

/-- The columns of a head pair are whole rows of a packed tile. -/
theorem packedCols (p : ℕ) (hp : p < 8) :
    (Rect.unit (s := S256x1024) ![0, 128 * p] S256x128.size (inbCols256 p hp)).PackedRows (EltTy.packing .bf16) := by
  have h : p = 0 ∨ p = 1 ∨ p = 2 ∨ p = 3 ∨ p = 4 ∨ p = 5 ∨ p = 6 ∨ p = 7 := by omega
  rcases h with rfl | rfl | rfl | rfl | rfl | rfl | rfl | rfl
  · exact packedbf16_S256x1024_S256x128_0_0
  · exact packedbf16_S256x1024_S256x128_0_128
  · exact packedbf16_S256x1024_S256x128_0_256
  · exact packedbf16_S256x1024_S256x128_0_384
  · exact packedbf16_S256x1024_S256x128_0_512
  · exact packedbf16_S256x1024_S256x128_0_640
  · exact packedbf16_S256x1024_S256x128_0_768
  · exact packedbf16_S256x1024_S256x128_0_896

/-! ## What a head pair computes from what it loads: its queries `q`, output gradients `o`, window of keys `k` and of
values `v`, bias table `b` and the two rows `l0`, `l1` of log-sum-exps -/

/-- The gradient of the scores, before rounding. -/
def payDsF (n : BitVec 32) (q o : Vec F S256x128 .f32) (k : Vec F S768x128 .bf16) (b : Vec F S1x768x512 .f32) (l0 l1 : Vec F S1x256 .f32)
    (v : Vec F S768x128 .bf16) : FVec F S768x512 .f32 :=
  k0_pay18 (k0_pay13 o) (k0_pay14 n q k b) (k0_pay15 l0) l1 v
/-- The same as it is stored for the sums of the bias gradient. -/
def payDs (n : BitVec 32) (q o : Vec F S256x128 .f32) (k : Vec F S768x128 .bf16) (b : Vec F S1x768x512 .f32) (l0 l1 : Vec F S1x256 .f32)
    (v : Vec F S768x128 .bf16) : FVec F S768x512 .f32 :=
  k0_pay19 (k0_pay13 o) (k0_pay14 n q k b) (k0_pay15 l0) l1 v
/-- The values' accumulator `av` with this pair's part added. -/
def payDv (n : BitVec 32) (q o : Vec F S256x128 .f32) (k : Vec F S768x128 .bf16) (b : Vec F S1x768x512 .f32) (l0 l1 : Vec F S1x256 .f32)
    (av : Vec F S768x128 .f32) : FVec F S768x128 .f32 :=
  k0_pay17 (k0_pay13 o) (k0_pay14 n q k b) (k0_pay15 l0) l1 av
/-- The keys' accumulator `ak` with this pair's part added. -/
def payDk (n : BitVec 32) (q o : Vec F S256x128 .f32) (k : Vec F S768x128 .bf16) (b : Vec F S1x768x512 .f32) (l0 l1 : Vec F S1x256 .f32)
    (v : Vec F S768x128 .bf16) (ak : Vec F S768x128 .f32) : FVec F S768x128 .f32 :=
  k0_pay24 (k0_pay12 q) (payDsF n q o k b l0 l1 v) ak
/-- The gradient of the pair's queries. -/
def payDq (n : BitVec 32) (q o : Vec F S256x128 .f32) (k : Vec F S768x128 .bf16) (b : Vec F S1x768x512 .f32) (l0 l1 : Vec F S1x256 .f32)
    (v : Vec F S768x128 .bf16) : FVec F S256x128 .bf16 :=
  k0_pay25 k0_pay11 k (payDsF n q o k b l0 l1 v)
/-- The first head's bias gradient `g` with four shifted pieces of the scores' gradient added. -/
def payDb0 (s0 s1 s2 s3 : Vec F S576x64 .f32) (g : Vec F S1x576x64 .f32) : FVec F S1x576x64 .f32 :=
  k0_pay21 (k0_pay20 s0 s1 s2 s3 g)
/-- The second head's. -/
def payDb1 (s0 s1 s2 s3 : Vec F S576x64 .f32) (g : Vec F S1x576x64 .f32) : FVec F S1x576x64 .f32 :=
  k0_pay22 s0 s1 s2 s3 g

/-! ## The body in five pieces -/

/-- Head pair `p` of the body. -/
def pairProg (i : grid0.Coords) (arg1 : Memref sig .tc .vmem S256x1024 .f32) (harg1 : arg1.IsWhole) (arg8 : Memref sig .tc .vmem S256x1024 .f32) (harg8 : arg8.IsWhole) (arg9 : Memref sig .tc .vmem S16x256 .f32) (harg9 : arg9.IsWhole) (arg10 : Memref sig .tc .vmem S8x768x512 .f32) (harg10 : arg10.IsWhole) (arg11 : Memref sig .tc .vmem S256x1024 .bf16) (harg11 : arg11.IsWhole) (arg14 : Memref sig .tc .vmem S16x576x64 .f32) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S768x1024 .f32) (harg17 : arg17.IsWhole) (arg18 : Memref sig .tc .vmem S768x1024 .f32) (harg18 : arg18.IsWhole) (arg19 : Memref sig .tc .vmem S768x512 .f32) (harg19 : arg19.IsWhole) (p : ℕ) (hp : p < 8) :
    Prog (TpuEff nD τ sig (Elt F) Λ₀ .tc) PUnit := do
  let q : Vec F S256x128 .f32 ← Prog.lift (.load arg1 (Rect.unit (s := S256x1024) ![0, 128 * p] S256x128.size (inbCols256 p hp)).toLoadRect (View.loadsAt_vmem h_S256x128))
  let o : Vec F S256x128 .f32 ← Prog.lift (.load arg8 (Rect.unit (s := S256x1024) ![0, 128 * p] S256x128.size (inbCols256 p hp)).toLoadRect (View.loadsAt_vmem h_S256x128))
  let k : Vec F S768x128 .bf16 ← Prog.lift (.load arg15 (Rect.unit (s := S768x1024) ![0, 128 * p] S768x128.size (inbCols768 p hp)).toLoadRect (View.loadsAt_vmem h_S768x128))
  let b : Vec F S1x768x512 .f32 ← Prog.lift (.load arg10 (Rect.unit (s := S8x768x512) ![p, 0, 0] S1x768x512.size (inbBias p hp)).toLoadRect (View.loadsAt_vmem h_S1x768x512))
  let l0 : Vec F S1x256 .f32 ← Prog.lift (.load arg9 (Rect.unit (s := S16x256) ![2 * p, 0] S1x256.size (inbLse (2 * p) (by omega))).toLoadRect (View.loadsAt_vmem h_S1x256))
  let l1 : Vec F S1x256 .f32 ← Prog.lift (.load arg9 (Rect.unit (s := S16x256) ![2 * p + 1, 0] S1x256.size (inbLse (2 * p + 1) (by omega))).toLoadRect (View.loadsAt_vmem h_S1x256))
  let av : Vec F S768x128 .f32 ← Prog.lift (.load arg18 (Rect.unit (s := S768x1024) ![0, 128 * p] S768x128.size (inbCols768 p hp)).toLoadRect (View.loadsAt_vmem h_S768x128))
  let _ : Vec F S768x128 .f32 ← Prog.lift (.load arg18 (Rect.unit (s := S768x1024) ![0, 128 * p] S768x128.size (inbCols768 p hp)).toLoadRect (View.loadsAt_vmem h_S768x128))
  Prog.lift (.store arg18 (Rect.unit (s := S768x1024) ![0, 128 * p] S768x128.size (inbCols768 p hp)) (payDv (BitVec.ofNat 32 (i 0).val) q o k b l0 l1 av) Finset.univ (View.stores_vmem_bits_univ h_S768x128 rfl) (.inl rfl))
  let v : Vec F S768x128 .bf16 ← Prog.lift (.load arg16 (Rect.unit (s := S768x1024) ![0, 128 * p] S768x128.size (inbCols768 p hp)).toLoadRect (View.loadsAt_vmem h_S768x128))
  let _ : Vec F S768x512 .f32 ← Prog.lift (.load arg19 (Rect.unit (s := S768x512) ![0, 0] S768x512.size inb_S768x512_S768x512_0_0).toLoadRect (View.loadsAt_vmem h_S768x512))
  Prog.lift (.store arg19 (Rect.unit (s := S768x512) ![0, 0] S768x512.size inb_S768x512_S768x512_0_0) (payDs (BitVec.ofNat 32 (i 0).val) q o k b l0 l1 v) Finset.univ (View.stores_vmem_bits_univ h_S768x512 rfl) (.inl rfl))
  let s0 : Vec F S576x64 .f32 ← Prog.lift (.load arg19 (Rect.unit (s := S768x512) ![0, 0] S576x64.size inb_S768x512_S576x64_0_0).toLoadRect (View.loadsAt_vmem h_S576x64))
  let s1 : Vec F S576x64 .f32 ← Prog.lift (.load arg19 (Rect.unit (s := S768x512) ![64, 64] S576x64.size inb_S768x512_S576x64_64_64).toLoadRect (View.loadsAt_vmem h_S576x64))
  let s2 : Vec F S576x64 .f32 ← Prog.lift (.load arg19 (Rect.unit (s := S768x512) ![128, 128] S576x64.size inb_S768x512_S576x64_128_128).toLoadRect (View.loadsAt_vmem h_S576x64))
  let s3 : Vec F S576x64 .f32 ← Prog.lift (.load arg19 (Rect.unit (s := S768x512) ![192, 192] S576x64.size inb_S768x512_S576x64_192_192).toLoadRect (View.loadsAt_vmem h_S576x64))
  let g0 : Vec F S1x576x64 .f32 ← Prog.lift (.load arg14 (Rect.unit (s := S16x576x64) ![2 * p, 0, 0] S1x576x64.size (inbDb (2 * p) (by omega))).toLoadRect (View.loadsAt_vmem h_S1x576x64))
  let _ : Vec F S1x576x64 .f32 ← Prog.lift (.load arg14 (Rect.unit (s := S16x576x64) ![2 * p, 0, 0] S1x576x64.size (inbDb (2 * p) (by omega))).toLoadRect (View.loadsAt_vmem h_S1x576x64))
  Prog.lift (.store arg14 (Rect.unit (s := S16x576x64) ![2 * p, 0, 0] S1x576x64.size (inbDb (2 * p) (by omega))) (payDb0 s0 s1 s2 s3 g0) Finset.univ (View.stores_vmem_bits_univ h_S1x576x64 rfl) (.inl rfl))
  let t0 : Vec F S576x64 .f32 ← Prog.lift (.load arg19 (Rect.unit (s := S768x512) ![0, 256] S576x64.size inb_S768x512_S576x64_0_256).toLoadRect (View.loadsAt_vmem h_S576x64))
  let t1 : Vec F S576x64 .f32 ← Prog.lift (.load arg19 (Rect.unit (s := S768x512) ![64, 320] S576x64.size inb_S768x512_S576x64_64_320).toLoadRect (View.loadsAt_vmem h_S576x64))
  let t2 : Vec F S576x64 .f32 ← Prog.lift (.load arg19 (Rect.unit (s := S768x512) ![128, 384] S576x64.size inb_S768x512_S576x64_128_384).toLoadRect (View.loadsAt_vmem h_S576x64))
  let t3 : Vec F S576x64 .f32 ← Prog.lift (.load arg19 (Rect.unit (s := S768x512) ![192, 448] S576x64.size inb_S768x512_S576x64_192_448).toLoadRect (View.loadsAt_vmem h_S576x64))
  let g1 : Vec F S1x576x64 .f32 ← Prog.lift (.load arg14 (Rect.unit (s := S16x576x64) ![2 * p + 1, 0, 0] S1x576x64.size (inbDb (2 * p + 1) (by omega))).toLoadRect (View.loadsAt_vmem h_S1x576x64))
  let _ : Vec F S1x576x64 .f32 ← Prog.lift (.load arg14 (Rect.unit (s := S16x576x64) ![2 * p + 1, 0, 0] S1x576x64.size (inbDb (2 * p + 1) (by omega))).toLoadRect (View.loadsAt_vmem h_S1x576x64))
  Prog.lift (.store arg14 (Rect.unit (s := S16x576x64) ![2 * p + 1, 0, 0] S1x576x64.size (inbDb (2 * p + 1) (by omega))) (payDb1 t0 t1 t2 t3 g1) Finset.univ (View.stores_vmem_bits_univ h_S1x576x64 rfl) (.inl rfl))
  let ak : Vec F S768x128 .f32 ← Prog.lift (.load arg17 (Rect.unit (s := S768x1024) ![0, 128 * p] S768x128.size (inbCols768 p hp)).toLoadRect (View.loadsAt_vmem h_S768x128))
  let _ : Vec F S768x128 .f32 ← Prog.lift (.load arg17 (Rect.unit (s := S768x1024) ![0, 128 * p] S768x128.size (inbCols768 p hp)).toLoadRect (View.loadsAt_vmem h_S768x128))
  Prog.lift (.store arg17 (Rect.unit (s := S768x1024) ![0, 128 * p] S768x128.size (inbCols768 p hp)) (payDk (BitVec.ofNat 32 (i 0).val) q o k b l0 l1 v ak) Finset.univ (View.stores_vmem_bits_univ h_S768x128 rfl) (.inl rfl))
  let _ : Vec F S256x128 .bf16 ← Prog.lift (.load arg11 (Rect.unit (s := S256x1024) ![0, 128 * p] S256x128.size (inbCols256 p hp)).toLoadRect (View.loadsAt_vmem h_S256x128))
  Prog.lift (.store arg11 (Rect.unit (s := S256x1024) ![0, 128 * p] S256x128.size (inbCols256 p hp)) (payDq (BitVec.ofNat 32 (i 0).val) q o k b l0 l1 v) Finset.univ (View.stores_vmem h_S256x128 (harg11.storeExact_slice rfl _ (packedCols p hp)) (fun _ => rfl)) (.inl rfl))

/-- The three key blocks and the three value blocks put side by side. -/
def copyProg (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg15 : Memref sig .tc .vmem S768x1024 .bf16) (harg15 : arg15.IsWhole) (arg16 : Memref sig .tc .vmem S768x1024 .bf16) (harg16 : arg16.IsWhole) :
    Prog (TpuEff nD τ sig (Elt F) Λ₀ .tc) PUnit := do
  let v36 : Vec F S256x1024 .f32 ← Prog.lift (.load arg2 (Rect.unit (s := S256x1024) ![0, 0] S256x1024.size inb_S256x1024_S256x1024_0_0).toLoadRect (View.loadsAt_vmem h_S256x1024))
  let _ : Vec F S256x1024 .bf16 ← Prog.lift (.load arg15 (Rect.unit (s := S768x1024) ![0, 0] S256x1024.size inb_S768x1024_S256x1024_0_0).toLoadRect (View.loadsAt_vmem h_S256x1024))
  Prog.lift (.store arg15 (Rect.unit (s := S768x1024) ![0, 0] S256x1024.size inb_S768x1024_S256x1024_0_0) (k0_pay4 v36) Finset.univ (View.stores_vmem h_S256x1024 (harg15.storeExact_slice rfl _ packedbf16_S768x1024_S256x1024_0_0) (fun _ => rfl)) (.inl rfl))
  let v41 : Vec F S256x1024 .f32 ← Prog.lift (.load arg5 (Rect.unit (s := S256x1024) ![0, 0] S256x1024.size inb_S256x1024_S256x1024_0_0).toLoadRect (View.loadsAt_vmem h_S256x1024))
  let _ : Vec F S256x1024 .bf16 ← Prog.lift (.load arg16 (Rect.unit (s := S768x1024) ![0, 0] S256x1024.size inb_S768x1024_S256x1024_0_0).toLoadRect (View.loadsAt_vmem h_S256x1024))
  Prog.lift (.store arg16 (Rect.unit (s := S768x1024) ![0, 0] S256x1024.size inb_S768x1024_S256x1024_0_0) (k0_pay5 v41) Finset.univ (View.stores_vmem h_S256x1024 (harg16.storeExact_slice rfl _ packedbf16_S768x1024_S256x1024_0_0) (fun _ => rfl)) (.inl rfl))
  let v46 : Vec F S256x1024 .f32 ← Prog.lift (.load arg3 (Rect.unit (s := S256x1024) ![0, 0] S256x1024.size inb_S256x1024_S256x1024_0_0).toLoadRect (View.loadsAt_vmem h_S256x1024))
  let _ : Vec F S256x1024 .bf16 ← Prog.lift (.load arg15 (Rect.unit (s := S768x1024) ![256, 0] S256x1024.size inb_S768x1024_S256x1024_256_0).toLoadRect (View.loadsAt_vmem h_S256x1024))
  Prog.lift (.store arg15 (Rect.unit (s := S768x1024) ![256, 0] S256x1024.size inb_S768x1024_S256x1024_256_0) (k0_pay6 v46) Finset.univ (View.stores_vmem h_S256x1024 (harg15.storeExact_slice rfl _ packedbf16_S768x1024_S256x1024_256_0) (fun _ => rfl)) (.inl rfl))
  let v51 : Vec F S256x1024 .f32 ← Prog.lift (.load arg6 (Rect.unit (s := S256x1024) ![0, 0] S256x1024.size inb_S256x1024_S256x1024_0_0).toLoadRect (View.loadsAt_vmem h_S256x1024))
  let _ : Vec F S256x1024 .bf16 ← Prog.lift (.load arg16 (Rect.unit (s := S768x1024) ![256, 0] S256x1024.size inb_S768x1024_S256x1024_256_0).toLoadRect (View.loadsAt_vmem h_S256x1024))
  Prog.lift (.store arg16 (Rect.unit (s := S768x1024) ![256, 0] S256x1024.size inb_S768x1024_S256x1024_256_0) (k0_pay7 v51) Finset.univ (View.stores_vmem h_S256x1024 (harg16.storeExact_slice rfl _ packedbf16_S768x1024_S256x1024_256_0) (fun _ => rfl)) (.inl rfl))
  let v56 : Vec F S256x1024 .f32 ← Prog.lift (.load arg4 (Rect.unit (s := S256x1024) ![0, 0] S256x1024.size inb_S256x1024_S256x1024_0_0).toLoadRect (View.loadsAt_vmem h_S256x1024))
  let _ : Vec F S256x1024 .bf16 ← Prog.lift (.load arg15 (Rect.unit (s := S768x1024) ![512, 0] S256x1024.size inb_S768x1024_S256x1024_512_0).toLoadRect (View.loadsAt_vmem h_S256x1024))
  Prog.lift (.store arg15 (Rect.unit (s := S768x1024) ![512, 0] S256x1024.size inb_S768x1024_S256x1024_512_0) (k0_pay8 v56) Finset.univ (View.stores_vmem h_S256x1024 (harg15.storeExact_slice rfl _ packedbf16_S768x1024_S256x1024_512_0) (fun _ => rfl)) (.inl rfl))
  let v61 : Vec F S256x1024 .f32 ← Prog.lift (.load arg7 (Rect.unit (s := S256x1024) ![0, 0] S256x1024.size inb_S256x1024_S256x1024_0_0).toLoadRect (View.loadsAt_vmem h_S256x1024))
  let _ : Vec F S256x1024 .bf16 ← Prog.lift (.load arg16 (Rect.unit (s := S768x1024) ![512, 0] S256x1024.size inb_S768x1024_S256x1024_512_0).toLoadRect (View.loadsAt_vmem h_S256x1024))
  Prog.lift (.store arg16 (Rect.unit (s := S768x1024) ![512, 0] S256x1024.size inb_S768x1024_S256x1024_512_0) (k0_pay9 v61) Finset.univ (View.stores_vmem h_S256x1024 (harg16.storeExact_slice rfl _ packedbf16_S768x1024_S256x1024_512_0) (fun _ => rfl)) (.inl rfl))
  pure ⟨⟩

/-- The accumulators zeroed. -/
def initProg (arg14 : Memref sig .tc .vmem S16x576x64 .f32) (harg14 : arg14.IsWhole) (arg17 : Memref sig .tc .vmem S768x1024 .f32) (harg17 : arg17.IsWhole) (arg18 : Memref sig .tc .vmem S768x1024 .f32) (harg18 : arg18.IsWhole) :
    Prog (TpuEff nD τ sig (Elt F) Λ₀ .tc) PUnit := do
  let v37 : Vec F S768x1024 .f32 ← Prog.lift (.load arg17 (Rect.unit (s := S768x1024) ![0, 0] S768x1024.size inb_S768x1024_S768x1024_0_0).toLoadRect (View.loadsAt_vmem h_S768x1024))
  Prog.lift (.store arg17 (Rect.unit (s := S768x1024) ![0, 0] S768x1024.size inb_S768x1024_S768x1024_0_0) (k0_pay112 (F := F)) Finset.univ (View.stores_vmem_bits_univ h_S768x1024 rfl) (.inl rfl))
  let v41 : Vec F S768x1024 .f32 ← Prog.lift (.load arg18 (Rect.unit (s := S768x1024) ![0, 0] S768x1024.size inb_S768x1024_S768x1024_0_0).toLoadRect (View.loadsAt_vmem h_S768x1024))
  Prog.lift (.store arg18 (Rect.unit (s := S768x1024) ![0, 0] S768x1024.size inb_S768x1024_S768x1024_0_0) (k0_pay113 (F := F)) Finset.univ (View.stores_vmem_bits_univ h_S768x1024 rfl) (.inl rfl))
  let v45 : Vec F S16x576x64 .f32 ← Prog.lift (.load arg14 (Rect.unit (s := S16x576x64) ![0, 0, 0] S16x576x64.size inb_S16x576x64_S16x576x64_0_0_0).toLoadRect (View.loadsAt_vmem h_S16x576x64))
  Prog.lift (.store arg14 (Rect.unit (s := S16x576x64) ![0, 0, 0] S16x576x64.size inb_S16x576x64_S16x576x64_0_0_0) (k0_pay114 (F := F)) Finset.univ (View.stores_vmem_bits_univ h_S16x576x64 rfl) (.inl rfl))
  pure ⟨⟩

/-- The oldest block of the two accumulators handed out, the keys' accumulator shifted, the first block of the values' read. -/
def tailProg (arg12 : Memref sig .tc .vmem S256x1024 .bf16) (harg12 : arg12.IsWhole) (arg13 : Memref sig .tc .vmem S256x1024 .bf16) (harg13 : arg13.IsWhole) (arg17 : Memref sig .tc .vmem S768x1024 .f32) (harg17 : arg17.IsWhole) (arg18 : Memref sig .tc .vmem S768x1024 .f32) (harg18 : arg18.IsWhole) :
    Prog (TpuEff nD τ sig (Elt F) Λ₀ .tc) (Vec F S256x1024 .f32) := do
  let v6 : Vec F S256x1024 .f32 ← Prog.lift (.load arg17 (Rect.unit (s := S768x1024) ![0, 0] S256x1024.size inb_S768x1024_S256x1024_0_0).toLoadRect (View.loadsAt_vmem h_S256x1024))
  let v8 : Vec F S256x1024 .bf16 ← Prog.lift (.load arg12 (Rect.unit (s := S256x1024) ![0, 0] S256x1024.size inb_S256x1024_S256x1024_0_0).toLoadRect (View.loadsAt_vmem h_S256x1024))
  Prog.lift (.store arg12 (Rect.unit (s := S256x1024) ![0, 0] S256x1024.size inb_S256x1024_S256x1024_0_0) (k0_pay117 v6) Finset.univ (View.stores_vmem h_S256x1024 (harg12.storeExact_slice rfl _ packedbf16_S256x1024_S256x1024_0_0) (fun _ => rfl)) (.inl rfl))
  let v9 : Vec F S256x1024 .f32 ← Prog.lift (.load arg18 (Rect.unit (s := S768x1024) ![0, 0] S256x1024.size inb_S768x1024_S256x1024_0_0).toLoadRect (View.loadsAt_vmem h_S256x1024))
  let v11 : Vec F S256x1024 .bf16 ← Prog.lift (.load arg13 (Rect.unit (s := S256x1024) ![0, 0] S256x1024.size inb_S256x1024_S256x1024_0_0).toLoadRect (View.loadsAt_vmem h_S256x1024))
  Prog.lift (.store arg13 (Rect.unit (s := S256x1024) ![0, 0] S256x1024.size inb_S256x1024_S256x1024_0_0) (k0_pay118 v9) Finset.univ (View.stores_vmem h_S256x1024 (harg13.storeExact_slice rfl _ packedbf16_S256x1024_S256x1024_0_0) (fun _ => rfl)) (.inl rfl))
  let v12 : Vec F S256x1024 .f32 ← Prog.lift (.load arg17 (Rect.unit (s := S768x1024) ![256, 0] S256x1024.size inb_S768x1024_S256x1024_256_0).toLoadRect (View.loadsAt_vmem h_S256x1024))
  let v13 : Vec F S256x1024 .f32 ← Prog.lift (.load arg17 (Rect.unit (s := S768x1024) ![0, 0] S256x1024.size inb_S768x1024_S256x1024_0_0).toLoadRect (View.loadsAt_vmem h_S256x1024))
  Prog.lift (.store arg17 (Rect.unit (s := S768x1024) ![0, 0] S256x1024.size inb_S768x1024_S256x1024_0_0) (k0_pay119 v12) Finset.univ (View.stores_vmem_bits_univ h_S256x1024 rfl) (.inl rfl))
  let v16 : Vec F S256x1024 .f32 ← Prog.lift (.load arg17 (Rect.unit (s := S768x1024) ![512, 0] S256x1024.size inb_S768x1024_S256x1024_512_0).toLoadRect (View.loadsAt_vmem h_S256x1024))
  let v17 : Vec F S256x1024 .f32 ← Prog.lift (.load arg17 (Rect.unit (s := S768x1024) ![256, 0] S256x1024.size inb_S768x1024_S256x1024_256_0).toLoadRect (View.loadsAt_vmem h_S256x1024))
  Prog.lift (.store arg17 (Rect.unit (s := S768x1024) ![256, 0] S256x1024.size inb_S768x1024_S256x1024_256_0) (k0_pay120 v16) Finset.univ (View.stores_vmem_bits_univ h_S256x1024 rfl) (.inl rfl))
  let v21 : Vec F S256x1024 .f32 ← Prog.lift (.load arg17 (Rect.unit (s := S768x1024) ![512, 0] S256x1024.size inb_S768x1024_S256x1024_512_0).toLoadRect (View.loadsAt_vmem h_S256x1024))
  Prog.lift (.store arg17 (Rect.unit (s := S768x1024) ![512, 0] S256x1024.size inb_S768x1024_S256x1024_512_0) (k0_pay121 (F := F)) Finset.univ (View.stores_vmem_bits_univ h_S256x1024 rfl) (.inl rfl))
  let v24 : Vec F S256x1024 .f32 ← Prog.lift (.load arg18 (Rect.unit (s := S768x1024) ![256, 0] S256x1024.size inb_S768x1024_S256x1024_256_0).toLoadRect (View.loadsAt_vmem h_S256x1024))
  pure v24

/-- The values' accumulator shifted. -/
def shiftProg (arg18 : Memref sig .tc .vmem S768x1024 .f32) (harg18 : arg18.IsWhole) (v24 : Vec F S256x1024 .f32) :
    Prog (TpuEff nD τ sig (Elt F) Λ₀ .tc) PUnit := do
  let v25 : Vec F S256x1024 .f32 ← Prog.lift (.load arg18 (Rect.unit (s := S768x1024) ![0, 0] S256x1024.size inb_S768x1024_S256x1024_0_0).toLoadRect (View.loadsAt_vmem h_S256x1024))
  Prog.lift (.store arg18 (Rect.unit (s := S768x1024) ![0, 0] S256x1024.size inb_S768x1024_S256x1024_0_0) (k0_pay1 v24) Finset.univ (View.stores_vmem_bits_univ h_S256x1024 rfl) (.inl rfl))
  let v28 : Vec F S256x1024 .f32 ← Prog.lift (.load arg18 (Rect.unit (s := S768x1024) ![512, 0] S256x1024.size inb_S768x1024_S256x1024_512_0).toLoadRect (View.loadsAt_vmem h_S256x1024))
  let v29 : Vec F S256x1024 .f32 ← Prog.lift (.load arg18 (Rect.unit (s := S768x1024) ![256, 0] S256x1024.size inb_S768x1024_S256x1024_256_0).toLoadRect (View.loadsAt_vmem h_S256x1024))
  Prog.lift (.store arg18 (Rect.unit (s := S768x1024) ![256, 0] S256x1024.size inb_S768x1024_S256x1024_256_0) (k0_pay2 v28) Finset.univ (View.stores_vmem_bits_univ h_S256x1024 rfl) (.inl rfl))
  let v33 : Vec F S256x1024 .f32 ← Prog.lift (.load arg18 (Rect.unit (s := S768x1024) ![512, 0] S256x1024.size inb_S768x1024_S256x1024_512_0).toLoadRect (View.loadsAt_vmem h_S256x1024))
  Prog.lift (.store arg18 (Rect.unit (s := S768x1024) ![512, 0] S256x1024.size inb_S768x1024_S256x1024_512_0) (k0_pay3 (F := F)) Finset.univ (View.stores_vmem_bits_univ h_S256x1024 rfl) (.inl rfl))
  pure ⟨⟩

/-- All of a step's head pairs. -/
def headsProg (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S16x256 .f32) (harg9 : arg9.IsWhole) (arg10 : Memref sig .tc .vmem S8x768x512 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S16x576x64 .f32) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S768x1024 .f32) (harg17 : arg17.IsWhole) (arg18 : Memref sig .tc .vmem S768x1024 .f32) (harg18 : arg18.IsWhole) (arg19 : Memref sig .tc .vmem S768x512 .f32) (harg19 : arg19.IsWhole) :
    Prog (TpuEff nD τ sig (Elt F) Λ₀ .tc) PUnit := do
  copyProg arg2 harg2 arg3 harg3 arg4 harg4 arg5 harg5 arg6 harg6 arg7 harg7 arg15 harg15 arg16 harg16
  pairProg i arg1 harg1 arg8 harg8 arg9 harg9 arg10 harg10 arg11 harg11 arg14 harg14 arg15 harg15 arg16 harg16 arg17 harg17 arg18 harg18 arg19 harg19 0 (by omega)
  pairProg i arg1 harg1 arg8 harg8 arg9 harg9 arg10 harg10 arg11 harg11 arg14 harg14 arg15 harg15 arg16 harg16 arg17 harg17 arg18 harg18 arg19 harg19 1 (by omega)
  pairProg i arg1 harg1 arg8 harg8 arg9 harg9 arg10 harg10 arg11 harg11 arg14 harg14 arg15 harg15 arg16 harg16 arg17 harg17 arg18 harg18 arg19 harg19 2 (by omega)
  pairProg i arg1 harg1 arg8 harg8 arg9 harg9 arg10 harg10 arg11 harg11 arg14 harg14 arg15 harg15 arg16 harg16 arg17 harg17 arg18 harg18 arg19 harg19 3 (by omega)
  pairProg i arg1 harg1 arg8 harg8 arg9 harg9 arg10 harg10 arg11 harg11 arg14 harg14 arg15 harg15 arg16 harg16 arg17 harg17 arg18 harg18 arg19 harg19 4 (by omega)
  pairProg i arg1 harg1 arg8 harg8 arg9 harg9 arg10 harg10 arg11 harg11 arg14 harg14 arg15 harg15 arg16 harg16 arg17 harg17 arg18 harg18 arg19 harg19 5 (by omega)
  pairProg i arg1 harg1 arg8 harg8 arg9 harg9 arg10 harg10 arg11 harg11 arg14 harg14 arg15 harg15 arg16 harg16 arg17 harg17 arg18 harg18 arg19 harg19 6 (by omega)
  pairProg i arg1 harg1 arg8 harg8 arg9 harg9 arg10 harg10 arg11 harg11 arg14 harg14 arg15 harg15 arg16 harg16 arg17 harg17 arg18 harg18 arg19 harg19 7 (by omega)

/-- The step's head pairs, where the step is one of the first 32, then the hand-out. -/
def restProg (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S16x256 .f32) (harg9 : arg9.IsWhole) (arg10 : Memref sig .tc .vmem S8x768x512 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S16x576x64 .f32) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S768x1024 .f32) (harg17 : arg17.IsWhole) (arg18 : Memref sig .tc .vmem S768x1024 .f32) (harg18 : arg18.IsWhole) (arg19 : Memref sig .tc .vmem S768x512 .f32) (harg19 : arg19.IsWhole) :
    Prog (TpuEff nD τ sig (Elt F) Λ₀ .tc) (Vec F S256x1024 .f32) :=
  if k0_h2 : k0_cond2 i = 1#1 then do
    let _ ← headsProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    tailProg arg12 harg12 arg13 harg13 arg17 harg17 arg18 harg18
  else tailProg arg12 harg12 arg13 harg13 arg17 harg17 arg18 harg18

/-- The body up to the first block of the values' accumulator. -/
def frontProg (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S16x256 .f32) (harg9 : arg9.IsWhole) (arg10 : Memref sig .tc .vmem S8x768x512 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S16x576x64 .f32) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S768x1024 .f32) (harg17 : arg17.IsWhole) (arg18 : Memref sig .tc .vmem S768x1024 .f32) (harg18 : arg18.IsWhole) (arg19 : Memref sig .tc .vmem S768x512 .f32) (harg19 : arg19.IsWhole) :
    Prog (TpuEff nD τ sig (Elt F) Λ₀ .tc) (Vec F S256x1024 .f32) :=
  if k0_h1 : k0_cond1 i = 1#1 then do
    let _ ← initProg arg14 harg14 arg17 harg17 arg18 harg18
    restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  else restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19

/-- The body in its pieces. -/
def bodyProg (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S16x256 .f32) (harg9 : arg9.IsWhole) (arg10 : Memref sig .tc .vmem S8x768x512 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S16x576x64 .f32) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S768x1024 .f32) (harg17 : arg17.IsWhole) (arg18 : Memref sig .tc .vmem S768x1024 .f32) (harg18 : arg18.IsWhole) (arg19 : Memref sig .tc .vmem S768x512 .f32) (harg19 : arg19.IsWhole) :
    Prog (TpuEff nD τ sig (Elt F) Λ₀ .tc) PUnit := do
  let v24 ← frontProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  shiftProg arg18 harg18 v24

theorem front_eq : k0_part24_skel (F := F) = frontProg (F := F) := rfl

/-- The printed body is its pieces: by unfolding. -/
theorem body_eq : cc0_attn_bwd (F := F) = bodyProg (F := F) := rfl

end Cert.Bwd

end
-- ==== Proof.Runs.lean ====
module

public import proofs.«01_k».proof.Proof.Body
public import proofs.«01_k».proof.Proof.Gen.KernelIdeal.Frame
public import Idealize.ShloMosaic.Lib.VecWindow
public import Idealize.ShloMosaic.Lib.ValueIdx

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (put window_put_of_disjoint)
open Idealize.ShloMosaic.ValueIdx (ix2 ix3)
open Cert.KernelIdeal Cert.KernelIdeal.Gen

variable {F : FTy → Type} [FloatOps F]

local notation "𝕄" => MT nD τ sig Unit (Elt F) ℕ (UR sig nD τ) ℕ

/-! ## What is loaded -/

/-- The columns of head pair `p` of a block of 256 rows. -/
def colsQ (x : Vec F S256x1024 .f32) (p : ℕ) (hp : p < 8) : Vec F S256x128 .f32 :=
  View.ld (Val := Elt F) x (Rect.unit ![0, 128 * p] S256x128.size (inbCols256 p hp))
/-- The columns of head pair `p` of a window of 768 rows. -/
def colsK {e : EltTy} (x : Vec F S768x1024 e) (p : ℕ) (hp : p < 8) : Vec F S768x128 e :=
  View.ld (Val := Elt F) x (Rect.unit ![0, 128 * p] S768x128.size (inbCols768 p hp))
/-- The bias table of head pair `p`. -/
def biasOf (x : Vec F S8x768x512 .f32) (p : ℕ) (hp : p < 8) : Vec F S1x768x512 .f32 :=
  View.ld (Val := Elt F) x (Rect.unit ![p, 0, 0] S1x768x512.size (inbBias p hp))
/-- The row of log-sum-exps of head `h`. -/
def lseOf (x : Vec F S16x256 .f32) (h : ℕ) (hh : h < 16) : Vec F S1x256 .f32 :=
  View.ld (Val := Elt F) x (Rect.unit ![h, 0] S1x256.size (inbLse h hh))
/-- The bias gradient of head `h`. -/
def dbOf (x : Vec F S16x576x64 .f32) (h : ℕ) (hh : h < 16) : Vec F S1x576x64 .f32 :=
  View.ld (Val := Elt F) x (Rect.unit ![h, 0, 0] S1x576x64.size (inbDb h hh))

/-! ## What head pair `p` leaves -/

def dsOf (i : grid0.Coords) (x1 x8 : Vec F S256x1024 .f32) (x9 : Vec F S16x256 .f32) (x10 : Vec F S8x768x512 .f32) (x15 x16 : Vec F S768x1024 .bf16) (p : ℕ) (hp : p < 8) : Vec F S768x512 .f32 :=
  payDs (BitVec.ofNat 32 (i 0).val) (colsQ x1 p hp) (colsQ x8 p hp) (colsK x15 p hp) (biasOf x10 p hp) (lseOf x9 (2 * p) (by omega)) (lseOf x9 (2 * p + 1) (by omega)) (colsK x16 p hp)
def dqPut (i : grid0.Coords) (x1 x8 : Vec F S256x1024 .f32) (x9 : Vec F S16x256 .f32) (x10 : Vec F S8x768x512 .f32) (x15 x16 : Vec F S768x1024 .bf16) (p : ℕ) (hp : p < 8) (x : Vec F S256x1024 .bf16) : Vec F S256x1024 .bf16 :=
  put x ![0, 128 * p] S256x128.size (payDq (BitVec.ofNat 32 (i 0).val) (colsQ x1 p hp) (colsQ x8 p hp) (colsK x15 p hp) (biasOf x10 p hp) (lseOf x9 (2 * p) (by omega)) (lseOf x9 (2 * p + 1) (by omega)) (colsK x16 p hp))
def dkPut (i : grid0.Coords) (x1 x8 : Vec F S256x1024 .f32) (x9 : Vec F S16x256 .f32) (x10 : Vec F S8x768x512 .f32) (x15 x16 : Vec F S768x1024 .bf16) (p : ℕ) (hp : p < 8) (x : Vec F S768x1024 .f32) : Vec F S768x1024 .f32 :=
  put x ![0, 128 * p] S768x128.size (payDk (BitVec.ofNat 32 (i 0).val) (colsQ x1 p hp) (colsQ x8 p hp) (colsK x15 p hp) (biasOf x10 p hp) (lseOf x9 (2 * p) (by omega)) (lseOf x9 (2 * p + 1) (by omega)) (colsK x16 p hp) (colsK x p hp))
def dvPut (i : grid0.Coords) (x1 x8 : Vec F S256x1024 .f32) (x9 : Vec F S16x256 .f32) (x10 : Vec F S8x768x512 .f32) (x15 x16 : Vec F S768x1024 .bf16) (p : ℕ) (hp : p < 8) (x : Vec F S768x1024 .f32) : Vec F S768x1024 .f32 :=
  put x ![0, 128 * p] S768x128.size (payDv (BitVec.ofNat 32 (i 0).val) (colsQ x1 p hp) (colsQ x8 p hp) (colsK x15 p hp) (biasOf x10 p hp) (lseOf x9 (2 * p) (by omega)) (lseOf x9 (2 * p + 1) (by omega)) (colsK x p hp))
/-- A piece of the scores' gradient. -/
def dsAt (s : Vec F S768x512 .f32) (a b : ℕ) (h : ∀ j, (![a, b] : Fin 2 → ℕ) j + S576x64.size j ≤ S768x512.size j) : Vec F S576x64 .f32 :=
  View.ld (Val := Elt F) s (Rect.unit ![a, b] S576x64.size h)
/-- The bias gradient `g` of a pair's first head with the scores' gradient `s` folded in. -/
def db0Of (s : Vec F S768x512 .f32) (g : Vec F S1x576x64 .f32) : Vec F S1x576x64 .f32 :=
  payDb0 (dsAt s 0 0 inb_S768x512_S576x64_0_0) (dsAt s 64 64 inb_S768x512_S576x64_64_64)
    (dsAt s 128 128 inb_S768x512_S576x64_128_128) (dsAt s 192 192 inb_S768x512_S576x64_192_192) g
/-- The second head's. -/
def db1Of (s : Vec F S768x512 .f32) (g : Vec F S1x576x64 .f32) : Vec F S1x576x64 .f32 :=
  payDb1 (dsAt s 0 256 inb_S768x512_S576x64_0_256) (dsAt s 64 320 inb_S768x512_S576x64_64_320)
    (dsAt s 128 384 inb_S768x512_S576x64_128_384) (dsAt s 192 448 inb_S768x512_S576x64_192_448) g
def dbPut (i : grid0.Coords) (x1 x8 : Vec F S256x1024 .f32) (x9 : Vec F S16x256 .f32) (x10 : Vec F S8x768x512 .f32) (x15 x16 : Vec F S768x1024 .bf16) (p : ℕ) (hp : p < 8) (x : Vec F S16x576x64 .f32) : Vec F S16x576x64 .f32 :=
  put (put x ![2 * p, 0, 0] S1x576x64.size (db0Of (dsOf i x1 x8 x9 x10 x15 x16 p hp) (dbOf x (2 * p) (by omega))))
    ![2 * p + 1, 0, 0] S1x576x64.size (db1Of (dsOf i x1 x8 x9 x10 x15 x16 p hp) (dbOf x (2 * p + 1) (by omega)))

/-- A load after a store of the view's own sizes reads a window of the payload. -/
theorem readCov_sub {s : Shape} {e : EltTy} (v : View sig .tc .vmem s e) {off : Fin s.rank → ℕ} (inb : ∀ a, off a + s.size a ≤ s.size a)
    (w : (Rect.unit off s.size inb).shape.Idx → Elt F e) (r : Rect s) :
    v.readCov [⟨Rect.unit off s.size inb, w⟩] r.toLoadRect = View.ld (Val := Elt F) (w : s.Idx → Elt F e) r := by
  show View.ld (v.read (Elt F) (v.writes (Elt F) v.junk [⟨Rect.unit off s.size inb, w⟩])) r = _
  rw [View.read_writes_full]

set_option maxHeartbeats 4000000 in
/-- Head pair `p`, run. -/
theorem pair_wp (c : Dev nD) (i : grid0.Coords) (p : ℕ) (hp : p < 8) (arg1 : Memref sig .tc .vmem S256x1024 .f32) (harg1 : arg1.IsWhole) (arg8 : Memref sig .tc .vmem S256x1024 .f32) (harg8 : arg8.IsWhole) (arg9 : Memref sig .tc .vmem S16x256 .f32) (harg9 : arg9.IsWhole) (arg10 : Memref sig .tc .vmem S8x768x512 .f32) (harg10 : arg10.IsWhole) (arg11 : Memref sig .tc .vmem S256x1024 .bf16) (harg11 : arg11.IsWhole) (arg14 : Memref sig .tc .vmem S16x576x64 .f32) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S768x1024 .f32) (harg17 : arg17.IsWhole) (arg18 : Memref sig .tc .vmem S768x1024 .f32) (harg18 : arg18.IsWhole) (arg19 : Memref sig .tc .vmem S768x512 .f32) (harg19 : arg19.IsWhole)
    (x1 : Vec F S256x1024 .f32) (x8 : Vec F S256x1024 .f32) (x9 : Vec F S16x256 .f32) (x10 : Vec F S8x768x512 .f32) (x11 : Vec F S256x1024 .bf16) (x14 : Vec F S16x576x64 .f32) (x15 : Vec F S768x1024 .bf16) (x16 : Vec F S768x1024 .bf16) (x17 : Vec F S768x1024 .f32) (x18 : Vec F S768x1024 .f32) (x19 : Vec F S768x512 .f32) (E : Set ℕ) (K : PUnit → sProp 𝕄) :
    iprop(owns (c : Thread nD τ) arg1 fullShare x1 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (iprop(owns (c : Thread nD τ) arg1 fullShare x1 ∗ owns (c : Thread nD τ) arg8 fullShare x8 ∗ owns (c : Thread nD τ) arg9 fullShare x9 ∗ owns (c : Thread nD τ) arg10 fullShare x10 ∗ owns (c : Thread nD τ) arg11 fullShare (dqPut i x1 x8 x9 x10 x15 x16 p hp x11) ∗ owns (c : Thread nD τ) arg14 fullShare (dbPut i x1 x8 x9 x10 x15 x16 p hp x14) ∗ owns (c : Thread nD τ) arg15 fullShare x15 ∗ owns (c : Thread nD τ) arg16 fullShare x16 ∗ owns (c : Thread nD τ) arg17 fullShare (dkPut i x1 x8 x9 x10 x15 x16 p hp x17) ∗ owns (c : Thread nD τ) arg18 fullShare (dvPut i x1 x8 x9 x10 x15 x16 p hp x18) ∗ owns (c : Thread nD τ) arg19 fullShare (dsOf i x1 x8 x9 x10 x15 x16 p hp)) -∗ K ⟨⟩))
    ⊢ wp frame (wpE (defs₀ (F := F)) Variants.none c none) E (pairProg i arg1 harg1 arg8 harg8 arg9 harg9 arg10 harg10 arg11 harg11 arg14 harg14 arg15 harg15 arg16 harg16 arg17 harg17 arg18 harg18 arg19 harg19 p hp) K := by
  unfold pairProg owns
  iintro ⟨⟨%f1, %hf1, H1⟩, ⟨%f8, %hf8, H8⟩, ⟨%f9, %hf9, H9⟩, ⟨%f10, %hf10, H10⟩, ⟨%f11, %hf11, H11⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg1.eq_unread hf1; obtain rfl := harg8.eq_unread hf8; obtain rfl := harg9.eq_unread hf9; obtain rfl := harg10.eq_unread hf10; obtain rfl := harg11.eq_unread hf11; obtain rfl := harg14.eq_unread hf14; obtain rfl := harg15.eq_unread hf15; obtain rfl := harg16.eq_unread hf16; obtain rfl := harg17.eq_unread hf17; obtain rfl := harg18.eq_unread hf18; obtain rfl := harg19.eq_unread hf19
  sl_exec
  sl_step
  iapply Hk
  isplitl [H1]
  · iexists _; isplitr; · ipureintro; exact harg1.read_unread _
    iexact H1
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    rw [View.read_writes_cons_put _ _ _ _ _ rfl, View.writes_nil, hf11]; simp only [View.readAt_eq_ld, hf1, hf8, hf9, hf10, hf11, hf14, hf15, hf16, hf17, hf18, hf19]; rfl
  isplitl [H14]
  · iexists _; isplitr; swap; · iexact H14
    ipureintro
    sl_unfold_words; rw [View.read_writes_cons_put _ _ _ _ _ rfl, View.read_writes_cons_put _ _ _ _ _ rfl, View.writes_nil, hf14]
    repeat rw [readCov_sub]
    simp only [View.readAt_eq_ld, hf1, hf8, hf9, hf10, hf11, hf14, hf15, hf16, hf17, hf18, hf19]; rfl
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro
    rw [View.read_writes_cons_put _ _ _ _ _ rfl, View.writes_nil, hf17]; simp only [View.readAt_eq_ld, hf1, hf8, hf9, hf10, hf11, hf14, hf15, hf16, hf17, hf18, hf19]; rfl
  isplitl [H18]
  · iexists _; isplitr; swap; · iexact H18
    ipureintro
    rw [View.read_writes_cons_put _ _ _ _ _ rfl, View.writes_nil, hf18]; simp only [View.readAt_eq_ld, hf1, hf8, hf9, hf10, hf11, hf14, hf15, hf16, hf17, hf18, hf19]; rfl
  iexists _; isplitr; swap; · iexact H19
  ipureintro
  sl_unfold_words; rw [View.read_writes_full]; simp only [View.readAt_eq_ld, hf1, hf8, hf9, hf10, hf11, hf14, hf15, hf16, hf17, hf18, hf19]; rfl

end Cert.Bwd

end
-- ==== Proof.RunsB.lean ====
module

public import proofs.«01_k».proof.Proof.Body
public import proofs.«01_k».proof.Proof.Gen.KernelIdeal.Frame
public import Idealize.ShloMosaic.Lib.VecWindow
public import Idealize.ShloMosaic.Lib.ValueIdx

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (put window_put_of_disjoint)
open Idealize.ShloMosaic.ValueIdx (ix2 ix3)
open Cert.KernelIdeal Cert.KernelIdeal.Gen

variable {F : FTy → Type} [FloatOps F]

local notation "𝕄" => MT nD τ sig Unit (Elt F) ℕ (UR sig nD τ) ℕ

/-! ## Three blocks of 256 rows, one above the other -/

/-- Three blocks of 256 rows, one above the other. -/
def stack3 {e : EltTy} (a b d : Vec F S256x1024 e) : Vec F S768x1024 e := fun y =>
  if h0 : (y 0).val < 256 then a (ix2 (n0 := 256) (n1 := 1024) ⟨(y 0).val, h0⟩ (y 1))
  else if h1 : (y 0).val < 512 then b (ix2 (n0 := 256) (n1 := 1024) ⟨(y 0).val - 256, by omega⟩ (y 1))
  else d (ix2 (n0 := 256) (n1 := 1024) ⟨(y 0).val - 512, by have h : (y 0).val < 768 := (y 0).isLt; omega⟩ (y 1))

/-- Put into a window of 768 rows they cover it. -/
theorem put_stack {e : EltTy} (x : Vec F S768x1024 e) (a b d : Vec F S256x1024 e) :
    put (put (put x ![0, 0] S256x1024.size a) ![256, 0] S256x1024.size b) ![512, 0] S256x1024.size d = stack3 a b d := by
  funext y
  have h0 : (y 0).val < 768 := (y 0).isLt
  have h1 : (y 1).val < 1024 := (y 1).isLt
  have key : ∀ (r : ℕ) (u : Vec F S768x1024 e) (w : Vec F S256x1024 e), r ≤ (y 0).val → (hr : (y 0).val - r < 256) →
      put u ![r, 0] S256x1024.size w y = w (ix2 (n0 := 256) (n1 := 1024) ⟨(y 0).val - r, hr⟩ (y 1)) := by
    intro r u w hle hr
    have hm : ∀ a, (![r, 0] : Fin 2 → ℕ) a ≤ (y a).val ∧ (y a).val < (![r, 0] : Fin 2 → ℕ) a + S256x1024.size a := by
      intro a; fin_cases a
      · show r ≤ (y 0).val ∧ (y 0).val < r + 256; omega
      · show 0 ≤ (y 1).val ∧ (y 1).val < 0 + 1024; omega
    unfold put
    rw [dif_pos hm]
    refine congrArg w (funext fun a => ?_)
    fin_cases a
    · exact Fin.ext rfl
    · exact Fin.ext (Nat.sub_zero _)
  have skip : ∀ (r : ℕ) (u : Vec F S768x1024 e) (w : Vec F S256x1024 e), (y 0).val < r →
      put u ![r, 0] S256x1024.size w y = u y := by
    intro r u w hlt
    unfold put
    exact dif_neg fun hm => by have := (hm 0).1; simp only [Matrix.cons_val_zero] at this; omega
  unfold stack3
  by_cases c0 : (y 0).val < 256
  · rw [dif_pos c0, skip 512 _ _ (by omega), skip 256 _ _ (by omega), key 0 _ _ (by omega) (by omega)]; rfl
  · rw [dif_neg c0]
    by_cases c1 : (y 0).val < 512
    · rw [dif_pos c1, skip 512 _ _ (by omega), key 256 _ _ (by omega) (by omega)]
    · rw [dif_neg c1, key 512 _ _ (by omega) (by omega)]

/-- The block of 256 rows of a window of 768 that starts at `r`. -/
def rowsAt {e : EltTy} (x : Vec F S768x1024 e) (r : ℕ) (h : ∀ j, (![r, 0] : Fin 2 → ℕ) j + S256x1024.size j ≤ S768x1024.size j) : Vec F S256x1024 e :=
  View.ld (Val := Elt F) x (Rect.unit ![r, 0] S256x1024.size h)

/-- An accumulator with its first block dropped and a block of zeros below. -/
def shiftK (x : Vec F S768x1024 .f32) : Vec F S768x1024 .f32 :=
  stack3 (k0_pay119 (rowsAt x 256 inb_S768x1024_S256x1024_256_0)) (k0_pay120 (rowsAt x 512 inb_S768x1024_S256x1024_512_0)) (k0_pay121 (F := F))
/-- The same for the values' accumulator. -/
def shiftV (x : Vec F S768x1024 .f32) : Vec F S768x1024 .f32 :=
  stack3 (k0_pay1 (rowsAt x 256 inb_S768x1024_S256x1024_256_0)) (k0_pay2 (rowsAt x 512 inb_S768x1024_S256x1024_512_0)) (k0_pay3 (F := F))

set_option maxHeartbeats 2000000 in
/-- The copies, run. -/
theorem copy_wp (c : Dev nD) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg15 : Memref sig .tc .vmem S768x1024 .bf16) (harg15 : arg15.IsWhole) (arg16 : Memref sig .tc .vmem S768x1024 .bf16) (harg16 : arg16.IsWhole)
    (x2 : Vec F S256x1024 .f32) (x3 : Vec F S256x1024 .f32) (x4 : Vec F S256x1024 .f32) (x5 : Vec F S256x1024 .f32) (x6 : Vec F S256x1024 .f32) (x7 : Vec F S256x1024 .f32) (x15 : Vec F S768x1024 .bf16) (x16 : Vec F S768x1024 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg15 fullShare (stack3 (k0_pay4 x2) (k0_pay6 x3) (k0_pay8 x4)) ∗ owns (c : Thread nD τ) arg16 fullShare (stack3 (k0_pay5 x5) (k0_pay7 x6) (k0_pay9 x7))) -∗ K ⟨⟩))
    ⊢ wp frame (wpE (defs₀ (F := F)) Variants.none c none) E (copyProg arg2 harg2 arg3 harg3 arg4 harg4 arg5 harg5 arg6 harg6 arg7 harg7 arg15 harg15 arg16 harg16) K := by
  unfold copyProg owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f15, %hf15, H15⟩, ⟨%f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg15.eq_unread hf15; obtain rfl := harg16.eq_unread hf16
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H15]
  · iexists _; isplitr; swap; · iexact H15
    ipureintro
    rw [View.read_writes_cons_put _ _ _ _ _ rfl, View.read_writes_cons_put _ _ _ _ _ rfl, View.read_writes_cons_put _ _ _ _ _ rfl, View.writes_nil, put_stack, View.readAt_full, View.readAt_full, View.readAt_full, hf2, hf3, hf4]
  iexists _; isplitr; swap; · iexact H16
  ipureintro
  rw [View.read_writes_cons_put _ _ _ _ _ rfl, View.read_writes_cons_put _ _ _ _ _ rfl, View.read_writes_cons_put _ _ _ _ _ rfl, View.writes_nil, put_stack, View.readAt_full, View.readAt_full, View.readAt_full, hf5, hf6, hf7]

/-- The zeroing, run. -/
theorem init_wp (c : Dev nD) (arg14 : Memref sig .tc .vmem S16x576x64 .f32) (harg14 : arg14.IsWhole) (arg17 : Memref sig .tc .vmem S768x1024 .f32) (harg17 : arg17.IsWhole) (arg18 : Memref sig .tc .vmem S768x1024 .f32) (harg18 : arg18.IsWhole)
    (x14 : Vec F S16x576x64 .f32) (x17 : Vec F S768x1024 .f32) (x18 : Vec F S768x1024 .f32) (E : Set ℕ) (K : PUnit → sProp 𝕄) :
    iprop(owns (c : Thread nD τ) arg14 fullShare x14 ∗ owns (c : Thread nD τ) arg17 fullShare x17 ∗ owns (c : Thread nD τ) arg18 fullShare x18 ∗ (iprop(owns (c : Thread nD τ) arg14 fullShare (k0_pay114 (F := F)) ∗ owns (c : Thread nD τ) arg17 fullShare (k0_pay112 (F := F)) ∗ owns (c : Thread nD τ) arg18 fullShare (k0_pay113 (F := F))) -∗ K ⟨⟩))
    ⊢ wp frame (wpE (defs₀ (F := F)) Variants.none c none) E (initProg arg14 harg14 arg17 harg17 arg18 harg18) K := by
  unfold initProg owns
  iintro ⟨⟨%f14, %hf14, H14⟩, ⟨%f17, %hf17, H17⟩, ⟨%f18, %hf18, H18⟩, Hk⟩
  obtain rfl := harg14.eq_unread hf14; obtain rfl := harg17.eq_unread hf17; obtain rfl := harg18.eq_unread hf18
  sl_exec
  sl_step
  iapply Hk
  isplitl [H14]
  · iexists _; isplitr; swap; · iexact H14
    ipureintro
    first | exact View.read_writes_full _ _ _ _ _ | (sl_unfold_words; exact View.read_writes_full _ _ _ _ _)
  isplitl [H17]
  · iexists _; isplitr; swap; · iexact H17
    ipureintro
    first | exact View.read_writes_full _ _ _ _ _ | (sl_unfold_words; exact View.read_writes_full _ _ _ _ _)
  iexists _; isplitr; swap; · iexact H18
  ipureintro
  first | exact View.read_writes_full _ _ _ _ _ | (sl_unfold_words; exact View.read_writes_full _ _ _ _ _)

/-- The hand-out, run. -/
theorem tail_wp (c : Dev nD) (arg12 : Memref sig .tc .vmem S256x1024 .bf16) (harg12 : arg12.IsWhole) (arg13 : Memref sig .tc .vmem S256x1024 .bf16) (harg13 : arg13.IsWhole) (arg17 : Memref sig .tc .vmem S768x1024 .f32) (harg17 : arg17.IsWhole) (arg18 : Memref sig .tc .vmem S768x1024 .f32) (harg18 : arg18.IsWhole)
    (x12 : Vec F S256x1024 .bf16) (x13 : Vec F S256x1024 .bf16) (x17 : Vec F S768x1024 .f32) (x18 : Vec F S768x1024 .f32) (E : Set ℕ) (K : Vec F S256x1024 .f32 → sProp 𝕄) :
    iprop(owns (c : Thread nD τ) arg12 fullShare x12 ∗ owns (c : Thread nD τ) arg13 fullShare x13 ∗ owns (c : Thread nD τ) arg17 fullShare x17 ∗ owns (c : Thread nD τ) arg18 fullShare x18 ∗ (iprop(owns (c : Thread nD τ) arg12 fullShare (k0_pay117 (rowsAt x17 0 inb_S768x1024_S256x1024_0_0)) ∗ owns (c : Thread nD τ) arg13 fullShare (k0_pay118 (rowsAt x18 0 inb_S768x1024_S256x1024_0_0)) ∗ owns (c : Thread nD τ) arg17 fullShare (shiftK x17) ∗ owns (c : Thread nD τ) arg18 fullShare x18) -∗ K (rowsAt x18 256 inb_S768x1024_S256x1024_256_0)))
    ⊢ wp frame (wpE (defs₀ (F := F)) Variants.none c none) E (tailProg arg12 harg12 arg13 harg13 arg17 harg17 arg18 harg18) K := by
  unfold tailProg owns
  iintro ⟨⟨%f12, %hf12, H12⟩, ⟨%f13, %hf13, H13⟩, ⟨%f17, %hf17, H17⟩, ⟨%f18, %hf18, H18⟩, Hk⟩
  obtain rfl := harg12.eq_unread hf12; obtain rfl := harg13.eq_unread hf13; obtain rfl := harg17.eq_unread hf17; obtain rfl := harg18.eq_unread hf18
  sl_exec
  sl_step
  rw [show View.readAt (Elt F) arg18.view (Rect.unit (s := S768x1024) ![256, 0] S256x1024.size inb_S768x1024_S256x1024_256_0).toLoadRect (harg18.unread x18)
      = rowsAt x18 256 inb_S768x1024_S256x1024_256_0 from by rw [View.readAt_eq_ld, hf18]; rfl]
  iapply Hk
  isplitl [H12]
  · iexists _; isplitr; swap; · iexact H12
    ipureintro
    rw [View.read_writes_full, View.readAt_eq_ld, hf17]; rfl
  isplitl [H13]
  · iexists _; isplitr; swap; · iexact H13
    ipureintro
    rw [View.read_writes_full, View.readAt_eq_ld, hf18]; rfl
  isplitl [H17]
  · iexists _; isplitr; swap; · iexact H17
    ipureintro
    sl_unfold_words; rw [View.read_writes_cons_put _ _ _ _ _ rfl, View.read_writes_cons_put _ _ _ _ _ rfl, View.read_writes_cons_put _ _ _ _ _ rfl, View.writes_nil, put_stack]; simp only [View.readAt_eq_ld, hf17]; rfl
  iexists _; isplitr; · ipureintro; exact harg18.read_unread _
  iexact H18

/-- The values' accumulator shifted, run. -/
theorem shift_wp (c : Dev nD) (arg18 : Memref sig .tc .vmem S768x1024 .f32) (harg18 : arg18.IsWhole)
    (x18 : Vec F S768x1024 .f32) (E : Set ℕ) (K : PUnit → sProp 𝕄) :
    iprop(owns (c : Thread nD τ) arg18 fullShare x18 ∗ (iprop(owns (c : Thread nD τ) arg18 fullShare (shiftV x18)) -∗ K ⟨⟩))
    ⊢ wp frame (wpE (defs₀ (F := F)) Variants.none c none) E (shiftProg arg18 harg18 (rowsAt x18 256 inb_S768x1024_S256x1024_256_0)) K := by
  unfold shiftProg owns
  iintro ⟨⟨%f18, %hf18, H18⟩, Hk⟩
  obtain rfl := harg18.eq_unread hf18
  sl_exec
  sl_step
  iapply Hk
  iexists _; isplitr; swap; · iexact H18
  ipureintro
  sl_unfold_words; rw [View.read_writes_cons_put _ _ _ _ _ rfl, View.read_writes_cons_put _ _ _ _ _ rfl, View.read_writes_cons_put _ _ _ _ _ rfl, View.writes_nil, put_stack]; simp only [View.readAt_eq_ld, hf18]; rfl

end Cert.Bwd

end
-- ==== Proof.RunsC.lean ====
module

public import proofs.«01_k».proof.Proof.Runs
public import proofs.«01_k».proof.Proof.RunsB
public import proofs.«01_k».proof.Proof.Gen.KernelIdeal.Frame
public import Idealize.ShloMosaic.Lib.VecWindow
public import Idealize.ShloMosaic.Lib.ValueIdx

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (put window_put_of_disjoint)
open Idealize.ShloMosaic.ValueIdx (ix2 ix3 idx2_lt1)
open Cert.KernelIdeal Cert.KernelIdeal.Gen

variable {F : FTy → Type} [FloatOps F]

local notation "𝕄" => MT nD τ sig Unit (Elt F) ℕ (UR sig nD τ) ℕ

/-! ## Eight column blocks of 128 -/

/-- Eight blocks of 128 columns, side by side. -/
def colsAll {α : Type} {R : ℕ} (w : (p : ℕ) → p < 8 → (⟨2, ![R, 128]⟩ : Shape).Idx → α) : (⟨2, ![R, 1024]⟩ : Shape).Idx → α := fun y =>
  w ((y 1).val / 128) (by have h : (y 1).val < 1024 := (y 1).isLt; omega) (ix2 (n0 := R) (n1 := 128) (y 0) ⟨(y 1).val % 128, Nat.mod_lt _ (by decide)⟩)

/-- The first `n` of them put over `x`. -/
def putCols {α : Type} {R : ℕ} (w : (p : ℕ) → p < 8 → (⟨2, ![R, 128]⟩ : Shape).Idx → α) (x : (⟨2, ![R, 1024]⟩ : Shape).Idx → α) : ℕ → (⟨2, ![R, 1024]⟩ : Shape).Idx → α
  | 0 => x
  | n + 1 => if h : n < 8 then put (putCols w x n) ![0, 128 * n] ![R, 128] (w n h) else putCols w x n

theorem putCols_succ {α : Type} {R : ℕ} (w : (p : ℕ) → p < 8 → (⟨2, ![R, 128]⟩ : Shape).Idx → α) (x : (⟨2, ![R, 1024]⟩ : Shape).Idx → α) (n : ℕ) (h : n < 8) :
    putCols w x (n + 1) = put (putCols w x n) ![0, 128 * n] ![R, 128] (w n h) := dif_pos h

theorem putCols_apply {α : Type} {R : ℕ} (w : (p : ℕ) → p < 8 → (⟨2, ![R, 128]⟩ : Shape).Idx → α) (x : (⟨2, ![R, 1024]⟩ : Shape).Idx → α)
    (n : ℕ) (hn : n ≤ 8) (y : (⟨2, ![R, 1024]⟩ : Shape).Idx) :
    putCols w x n y = if (y 1).val / 128 < n then colsAll w y else x y := by
  have h0 : (y 0).val < R := (y 0).isLt
  have h1 : (y 1).val < 1024 := (y 1).isLt
  induction n with
  | zero => rw [if_neg (by omega)]; rfl
  | succ n ih =>
    rw [putCols_succ w x n (by omega)]
    by_cases hc : (y 1).val / 128 = n
    · have hm : ∀ a, (![0, 128 * n] : Fin 2 → ℕ) a ≤ (y a).val ∧ (y a).val < (![0, 128 * n] : Fin 2 → ℕ) a + (![R, 128] : Fin 2 → ℕ) a := by
        intro a; fin_cases a
        · show 0 ≤ (y 0).val ∧ (y 0).val < 0 + R; omega
        · show 128 * n ≤ (y 1).val ∧ (y 1).val < 128 * n + 128; omega
      rw [if_pos (by omega)]
      unfold put colsAll
      rw [dif_pos hm]
      subst hc
      refine congrArg (w _ _) (funext fun a => ?_)
      fin_cases a
      · exact Fin.ext (Nat.sub_zero _)
      · exact Fin.ext (show (y 1).val - 128 * ((y 1).val / 128) = (y 1).val % 128 by omega)
    · have hm : ¬ ∀ a, (![0, 128 * n] : Fin 2 → ℕ) a ≤ (y a).val ∧ (y a).val < (![0, 128 * n] : Fin 2 → ℕ) a + (![R, 128] : Fin 2 → ℕ) a := by
        intro h
        have h' : 128 * n ≤ (y 1).val ∧ (y 1).val < 128 * n + 128 := h 1
        omega
      rw [show put (putCols w x n) ![0, 128 * n] ![R, 128] (w n (by omega)) y = putCols w x n y from dif_neg hm, ih (by omega)]
      by_cases hl : (y 1).val / 128 < n
      · rw [if_pos hl, if_pos (by omega)]
      · rw [if_neg hl, if_neg (by omega)]

theorem putCols_all {α : Type} {R : ℕ} (w : (p : ℕ) → p < 8 → (⟨2, ![R, 128]⟩ : Shape).Idx → α) (x : (⟨2, ![R, 1024]⟩ : Shape).Idx → α) :
    putCols w x 8 = colsAll w := by
  funext y
  have h1 : (y 1).val < 1024 := (y 1).isLt
  rw [putCols_apply w x 8 (le_refl _), if_pos (by omega)]

/-- A later column block still reads what was there at first. -/
theorem colsK_putCols (w : (p : ℕ) → p < 8 → Vec F S768x128 .f32) (x : Vec F S768x1024 .f32) (n : ℕ) (h : n < 8) :
    colsK (putCols (R := 768) w x n : Vec F S768x1024 .f32) n h = colsK x n h := by
  funext z
  show putCols (R := 768) w x n _ = x _
  rw [putCols_apply w x n (by omega), if_neg]
  show ¬ (128 * n + 1 * (z 1).val) / 128 < n
  omega

/-! ## The sixteen heads' bias gradients -/

/-- Head `h`'s bias gradient `g` with that head's part of the scores' gradient folded in. -/
def dbNew (ds : (p : ℕ) → p < 8 → Vec F S768x512 .f32) (x : Vec F S16x576x64 .f32) (h : ℕ) (hh : h < 16) : Vec F S1x576x64 .f32 :=
  if h % 2 = 0 then db0Of (ds (h / 2) (by omega)) (dbOf x h hh) else db1Of (ds (h / 2) (by omega)) (dbOf x h hh)

def dbAll (ds : (p : ℕ) → p < 8 → Vec F S768x512 .f32) (x : Vec F S16x576x64 .f32) : Vec F S16x576x64 .f32 := fun y =>
  dbNew ds x (y 0).val (y 0).isLt (ix3 (n0 := 1) (n1 := 576) (n2 := 64) 0 (y 1) (y 2))

/-- The first `n` pairs of them put over `x`. -/
def putDb (ds : (p : ℕ) → p < 8 → Vec F S768x512 .f32) (x : Vec F S16x576x64 .f32) : ℕ → Vec F S16x576x64 .f32
  | 0 => x
  | n + 1 => if h : n < 8 then put (put (putDb ds x n) ![2 * n, 0, 0] S1x576x64.size (db0Of (ds n h) (dbOf x (2 * n) (by omega))))
      ![2 * n + 1, 0, 0] S1x576x64.size (db1Of (ds n h) (dbOf x (2 * n + 1) (by omega))) else putDb ds x n

theorem putDb_succ (ds : (p : ℕ) → p < 8 → Vec F S768x512 .f32) (x : Vec F S16x576x64 .f32) (n : ℕ) (h : n < 8) :
    putDb ds x (n + 1) = put (put (putDb ds x n) ![2 * n, 0, 0] S1x576x64.size (db0Of (ds n h) (dbOf x (2 * n) (by omega))))
      ![2 * n + 1, 0, 0] S1x576x64.size (db1Of (ds n h) (dbOf x (2 * n + 1) (by omega))) := dif_pos h

/-- A put of one head's plane, at an index. -/
theorem put_plane {e : EltTy} (x : Vec F S16x576x64 e) (h : ℕ) (w : Vec F S1x576x64 e) (y : S16x576x64.Idx) :
    put x ![h, 0, 0] S1x576x64.size w y = if (y 0).val = h then w (ix3 (n0 := 1) (n1 := 576) (n2 := 64) 0 (y 1) (y 2)) else x y := by
  have h1 : (y 1).val < 576 := (y 1).isLt
  have h2 : (y 2).val < 64 := (y 2).isLt
  by_cases hc : (y 0).val = h
  · have hm : ∀ a, (![h, 0, 0] : Fin 3 → ℕ) a ≤ (y a).val ∧ (y a).val < (![h, 0, 0] : Fin 3 → ℕ) a + S1x576x64.size a := by
      intro a; fin_cases a
      · show h ≤ (y 0).val ∧ (y 0).val < h + 1; omega
      · show 0 ≤ (y 1).val ∧ (y 1).val < 0 + 576; omega
      · show 0 ≤ (y 2).val ∧ (y 2).val < 0 + 64; omega
    rw [if_pos hc]
    unfold put
    rw [dif_pos hm]
    refine congrArg w (funext fun a => ?_)
    fin_cases a
    · exact Fin.ext (show (y 0).val - h = 0 by omega)
    · exact Fin.ext (Nat.sub_zero _)
    · exact Fin.ext (Nat.sub_zero _)
  · rw [if_neg hc]
    refine dif_neg fun hm => hc ?_
    have h' : h ≤ (y 0).val ∧ (y 0).val < h + 1 := hm 0
    omega

theorem at_congr {β : Type} (ds : (p : ℕ) → p < 8 → β) {a b : ℕ} (h : a = b) (ha : a < 8) (hb : b < 8) : ds a ha = ds b hb := by
  subst h; rfl

theorem dbNew_even (ds : (p : ℕ) → p < 8 → Vec F S768x512 .f32) (x : Vec F S16x576x64 .f32) (n : ℕ) (hn : n < 8) (h : ℕ) (hh : h < 16) (e : h = 2 * n) :
    dbNew ds x h hh = db0Of (ds n hn) (dbOf x (2 * n) (by omega)) := by
  subst e
  unfold dbNew
  rw [if_pos (by omega), at_congr ds (show 2 * n / 2 = n by omega) _ hn]

theorem dbNew_odd (ds : (p : ℕ) → p < 8 → Vec F S768x512 .f32) (x : Vec F S16x576x64 .f32) (n : ℕ) (hn : n < 8) (h : ℕ) (hh : h < 16) (e : h = 2 * n + 1) :
    dbNew ds x h hh = db1Of (ds n hn) (dbOf x (2 * n + 1) (by omega)) := by
  subst e
  unfold dbNew
  rw [if_neg (by omega), at_congr ds (show (2 * n + 1) / 2 = n by omega) _ hn]

theorem putDb_apply (ds : (p : ℕ) → p < 8 → Vec F S768x512 .f32) (x : Vec F S16x576x64 .f32) (n : ℕ) (hn : n ≤ 8) (y : S16x576x64.Idx) :
    putDb ds x n y = if (y 0).val < 2 * n then dbAll ds x y else x y := by
  induction n with
  | zero => rw [if_neg (by omega)]; rfl
  | succ n ih =>
    rw [putDb_succ ds x n (by omega), put_plane, put_plane, ih (by omega)]
    by_cases h1 : (y 0).val = 2 * n + 1
    · rw [if_pos h1, if_pos (by omega)]
      unfold dbAll
      exact (congrFun (dbNew_odd ds x n (by omega) _ _ h1) _).symm
    · rw [if_neg h1]
      by_cases h0 : (y 0).val = 2 * n
      · rw [if_pos h0, if_pos (by omega)]
        unfold dbAll
        exact (congrFun (dbNew_even ds x n (by omega) _ _ h0) _).symm
      · rw [if_neg h0]
        by_cases hl : (y 0).val < 2 * n
        · rw [if_pos hl, if_pos (by omega)]
        · rw [if_neg hl, if_neg (by omega)]

theorem putDb_all (ds : (p : ℕ) → p < 8 → Vec F S768x512 .f32) (x : Vec F S16x576x64 .f32) : putDb ds x 8 = dbAll ds x := by
  funext y
  have h1 : (y 0).val < 16 := (y 0).isLt
  rw [putDb_apply ds x 8 (le_refl _), if_pos (by omega)]

theorem dbOf_putDb (ds : (p : ℕ) → p < 8 → Vec F S768x512 .f32) (x : Vec F S16x576x64 .f32) (n h : ℕ) (hh : h < 16) (hn : 2 * n ≤ h) :
    dbOf (putDb ds x n) h hh = dbOf x h hh := by
  funext z
  show putDb ds x n _ = x _
  rw [putDb_apply ds x n (by omega), if_neg]
  have hz : (z 0).val < 1 := (z 0).isLt
  show ¬ h + 1 * (z 0).val < 2 * n
  omega

/-! ## All the pairs of a step -/

/-- What each pair stores of the queries' gradient, -/
def wq (i : grid0.Coords) (x1 x8 : Vec F S256x1024 .f32) (x9 : Vec F S16x256 .f32) (x10 : Vec F S8x768x512 .f32) (xk xv : Vec F S768x1024 .bf16) (p : ℕ) (hp : p < 8) : Vec F S256x128 .bf16 := payDq (BitVec.ofNat 32 (i 0).val) (colsQ x1 p hp) (colsQ x8 p hp) (colsK xk p hp) (biasOf x10 p hp) (lseOf x9 (2 * p) (by omega)) (lseOf x9 (2 * p + 1) (by omega)) (colsK xv p hp)
/-- of the keys' over the accumulator `a`, -/
def wk (i : grid0.Coords) (x1 x8 : Vec F S256x1024 .f32) (x9 : Vec F S16x256 .f32) (x10 : Vec F S8x768x512 .f32) (xk xv : Vec F S768x1024 .bf16) (a : Vec F S768x1024 .f32) (p : ℕ) (hp : p < 8) : Vec F S768x128 .f32 := payDk (BitVec.ofNat 32 (i 0).val) (colsQ x1 p hp) (colsQ x8 p hp) (colsK xk p hp) (biasOf x10 p hp) (lseOf x9 (2 * p) (by omega)) (lseOf x9 (2 * p + 1) (by omega)) (colsK xv p hp) (colsK a p hp)
/-- and of the values'. -/
def wv (i : grid0.Coords) (x1 x8 : Vec F S256x1024 .f32) (x9 : Vec F S16x256 .f32) (x10 : Vec F S8x768x512 .f32) (xk xv : Vec F S768x1024 .bf16) (a : Vec F S768x1024 .f32) (p : ℕ) (hp : p < 8) : Vec F S768x128 .f32 := payDv (BitVec.ofNat 32 (i 0).val) (colsQ x1 p hp) (colsQ x8 p hp) (colsK xk p hp) (biasOf x10 p hp) (lseOf x9 (2 * p) (by omega)) (lseOf x9 (2 * p + 1) (by omega)) (colsK a p hp)

/-- The buffers after `n` pairs. -/
def pairState (c : Dev nD) (i : grid0.Coords) (x1 x8 : Vec F S256x1024 .f32) (x9 : Vec F S16x256 .f32) (x10 : Vec F S8x768x512 .f32) (xk xv : Vec F S768x1024 .bf16) (x11 : Vec F S256x1024 .bf16) (x14 : Vec F S16x576x64 .f32) (x17 x18 : Vec F S768x1024 .f32)
    (arg1 : Memref sig .tc .vmem S256x1024 .f32) (arg8 : Memref sig .tc .vmem S256x1024 .f32) (arg9 : Memref sig .tc .vmem S16x256 .f32) (arg10 : Memref sig .tc .vmem S8x768x512 .f32) (arg11 : Memref sig .tc .vmem S256x1024 .bf16) (arg14 : Memref sig .tc .vmem S16x576x64 .f32) (arg15 : Memref sig .tc .vmem S768x1024 .bf16) (arg16 : Memref sig .tc .vmem S768x1024 .bf16) (arg17 : Memref sig .tc .vmem S768x1024 .f32) (arg18 : Memref sig .tc .vmem S768x1024 .f32) (arg19 : Memref sig .tc .vmem S768x512 .f32) (n : ℕ) : sProp 𝕄 :=
  iprop(owns (c : Thread nD τ) arg1 fullShare x1 ∗ owns (c : Thread nD τ) arg8 fullShare x8 ∗ owns (c : Thread nD τ) arg9 fullShare x9 ∗ owns (c : Thread nD τ) arg10 fullShare x10 ∗ owns (c : Thread nD τ) arg11 fullShare (putCols (R := 256) (wq i x1 x8 x9 x10 xk xv) x11 n) ∗ owns (c : Thread nD τ) arg14 fullShare (putDb (dsOf i x1 x8 x9 x10 xk xv) x14 n) ∗ owns (c : Thread nD τ) arg15 fullShare xk ∗ owns (c : Thread nD τ) arg16 fullShare xv ∗ owns (c : Thread nD τ) arg17 fullShare (putCols (R := 768) (wk i x1 x8 x9 x10 xk xv x17) x17 n) ∗ owns (c : Thread nD τ) arg18 fullShare (putCols (R := 768) (wv i x1 x8 x9 x10 xk xv x18) x18 n) ∗ (∃ d, owns (c : Thread nD τ) arg19 fullShare d))

theorem pairStep (c : Dev nD) (arg1 : Memref sig .tc .vmem S256x1024 .f32) (harg1 : arg1.IsWhole) (arg8 : Memref sig .tc .vmem S256x1024 .f32) (harg8 : arg8.IsWhole) (arg9 : Memref sig .tc .vmem S16x256 .f32) (harg9 : arg9.IsWhole) (arg10 : Memref sig .tc .vmem S8x768x512 .f32) (harg10 : arg10.IsWhole) (arg11 : Memref sig .tc .vmem S256x1024 .bf16) (harg11 : arg11.IsWhole) (arg14 : Memref sig .tc .vmem S16x576x64 .f32) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S768x1024 .f32) (harg17 : arg17.IsWhole) (arg18 : Memref sig .tc .vmem S768x1024 .f32) (harg18 : arg18.IsWhole) (arg19 : Memref sig .tc .vmem S768x512 .f32) (harg19 : arg19.IsWhole) (i : grid0.Coords) (x1 x8 : Vec F S256x1024 .f32) (x9 : Vec F S16x256 .f32) (x10 : Vec F S8x768x512 .f32) (xk xv : Vec F S768x1024 .bf16) (x11 : Vec F S256x1024 .bf16) (x14 : Vec F S16x576x64 .f32) (x17 x18 : Vec F S768x1024 .f32) (E : Set ℕ) (K : PUnit → sProp 𝕄) (p : ℕ) (hp : p < 8) :
    iprop(pairState c i x1 x8 x9 x10 xk xv x11 x14 x17 x18 arg1 arg8 arg9 arg10 arg11 arg14 arg15 arg16 arg17 arg18 arg19 p ∗ (pairState c i x1 x8 x9 x10 xk xv x11 x14 x17 x18 arg1 arg8 arg9 arg10 arg11 arg14 arg15 arg16 arg17 arg18 arg19 (p + 1) -∗ K ⟨⟩))
    ⊢ wp frame (wpE (defs₀ (F := F)) Variants.none c none) E (pairProg i arg1 harg1 arg8 harg8 arg9 harg9 arg10 harg10 arg11 harg11 arg14 harg14 arg15 harg15 arg16 harg16 arg17 harg17 arg18 harg18 arg19 harg19 p hp) K := by
  unfold pairState
  iintro ⟨⟨H1, H8, H9, H10, H11, H14, H15, H16, H17, H18, ⟨%x19, H19⟩⟩, Hk⟩
  iapply (pair_wp c i p hp arg1 harg1 arg8 harg8 arg9 harg9 arg10 harg10 arg11 harg11 arg14 harg14 arg15 harg15 arg16 harg16 arg17 harg17 arg18 harg18 arg19 harg19 x1 x8 x9 x10 _ _ xk xv _ _ x19 E K)
  isplitl [H1]; · iexact H1
  isplitl [H8]; · iexact H8
  isplitl [H9]; · iexact H9
  isplitl [H10]; · iexact H10
  isplitl [H11]; · iexact H11
  isplitl [H14]; · iexact H14
  isplitl [H15]; · iexact H15
  isplitl [H16]; · iexact H16
  isplitl [H17]; · iexact H17
  isplitl [H18]; · iexact H18
  isplitl [H19]; · iexact H19
  iintro ⟨H1, H8, H9, H10, H11, H14, H15, H16, H17, H18, H19⟩
  iapply Hk
  isplitl [H1]; · iexact H1
  isplitl [H8]; · iexact H8
  isplitl [H9]; · iexact H9
  isplitl [H10]; · iexact H10
  isplitl [H11]
  · rw [putCols_succ _ _ p hp]; iexact H11
  isplitl [H14]
  · rw [show putDb (dsOf i x1 x8 x9 x10 xk xv) x14 (p + 1) = dbPut i x1 x8 x9 x10 xk xv p hp (putDb (dsOf i x1 x8 x9 x10 xk xv) x14 p) from by
      rw [putDb_succ _ _ p hp]; unfold dbPut; rw [dbOf_putDb _ _ _ _ _ (by omega), dbOf_putDb _ _ _ _ _ (by omega)]]
    iexact H14
  isplitl [H15]; · iexact H15
  isplitl [H16]; · iexact H16
  isplitl [H17]
  · rw [show putCols (R := 768) (wk i x1 x8 x9 x10 xk xv x17) x17 (p + 1) = dkPut i x1 x8 x9 x10 xk xv p hp (putCols (R := 768) (wk i x1 x8 x9 x10 xk xv x17) x17 p) from by
      rw [putCols_succ _ _ p hp]; unfold dkPut; rw [colsK_putCols]; rfl]
    iexact H17
  isplitl [H18]
  · rw [show putCols (R := 768) (wv i x1 x8 x9 x10 xk xv x18) x18 (p + 1) = dvPut i x1 x8 x9 x10 xk xv p hp (putCols (R := 768) (wv i x1 x8 x9 x10 xk xv x18) x18 p) from by
      rw [putCols_succ _ _ p hp]; unfold dvPut; rw [colsK_putCols]; rfl]
    iexact H18
  iexists _; iexact H19

/-- The window of keys of a step, from its three blocks, -/
def kOf (x2 x3 x4 : Vec F S256x1024 .f32) : Vec F S768x1024 .bf16 := stack3 (k0_pay4 x2) (k0_pay6 x3) (k0_pay8 x4)
/-- and of values. -/
def vOf (x5 x6 x7 : Vec F S256x1024 .f32) : Vec F S768x1024 .bf16 := stack3 (k0_pay5 x5) (k0_pay7 x6) (k0_pay9 x7)

/-- A step's head pairs, run. -/
theorem heads_wp (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S16x256 .f32) (harg9 : arg9.IsWhole) (arg10 : Memref sig .tc .vmem S8x768x512 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S16x576x64 .f32) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S768x1024 .f32) (harg17 : arg17.IsWhole) (arg18 : Memref sig .tc .vmem S768x1024 .f32) (harg18 : arg18.IsWhole) (arg19 : Memref sig .tc .vmem S768x512 .f32) (harg19 : arg19.IsWhole)
    (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S256x1024 .f32) (x9 : Vec F S16x256 .f32) (x10 : Vec F S8x768x512 .f32) (x11 : Vec F S256x1024 .bf16) (x14 : Vec F S16x576x64 .f32) (x17 : Vec F S768x1024 .f32) (x18 : Vec F S768x1024 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg14 fullShare x14 ∗ (∃ d, owns (c : Thread nD τ) arg15 fullShare d) ∗ (∃ d, owns (c : Thread nD τ) arg16 fullShare d) ∗ owns (c : Thread nD τ) arg17 fullShare x17 ∗ owns (c : Thread nD τ) arg18 fullShare x18 ∗ (∃ d, owns (c : Thread nD τ) arg19 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (colsAll (R := 256) (wq i x1 x8 x9 x10 (kOf x2 x3 x4) (vOf x5 x6 x7))) ∗ owns (c : Thread nD τ) arg14 fullShare (dbAll (dsOf i x1 x8 x9 x10 (kOf x2 x3 x4) (vOf x5 x6 x7)) x14) ∗ (∃ d, owns (c : Thread nD τ) arg15 fullShare d) ∗ (∃ d, owns (c : Thread nD τ) arg16 fullShare d) ∗ owns (c : Thread nD τ) arg17 fullShare (colsAll (R := 768) (wk i x1 x8 x9 x10 (kOf x2 x3 x4) (vOf x5 x6 x7) x17)) ∗ owns (c : Thread nD τ) arg18 fullShare (colsAll (R := 768) (wv i x1 x8 x9 x10 (kOf x2 x3 x4) (vOf x5 x6 x7) x18)) ∗ (∃ d, owns (c : Thread nD τ) arg19 fullShare d)) -∗ K ⟨⟩))
    ⊢ wp frame (wpE (defs₀ (F := F)) Variants.none c none) E (headsProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold headsProg
  iintro ⟨H1, H2, H3, H4, H5, H6, H7, H8, H9, H10, H11, H14, ⟨%x15, H15⟩, ⟨%x16, H16⟩, H17, H18, ⟨%x19, H19⟩, Hk⟩
  rw [wp_bind]
  iapply (copy_wp c arg2 harg2 arg3 harg3 arg4 harg4 arg5 harg5 arg6 harg6 arg7 harg7 arg15 harg15 arg16 harg16 x2 x3 x4 x5 x6 x7 x15 x16 E _)
  isplitl [H2]; · iexact H2
  isplitl [H3]; · iexact H3
  isplitl [H4]; · iexact H4
  isplitl [H5]; · iexact H5
  isplitl [H6]; · iexact H6
  isplitl [H7]; · iexact H7
  isplitl [H15]; · iexact H15
  isplitl [H16]; · iexact H16
  iintro ⟨H2, H3, H4, H5, H6, H7, H15, H16⟩
  have e0 : pairState c i x1 x8 x9 x10 (kOf x2 x3 x4) (vOf x5 x6 x7) x11 x14 x17 x18 arg1 arg8 arg9 arg10 arg11 arg14 arg15 arg16 arg17 arg18 arg19 0 = iprop(owns (c : Thread nD τ) arg1 fullShare x1 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg14 fullShare x14 ∗ owns (c : Thread nD τ) arg15 fullShare (kOf x2 x3 x4) ∗ owns (c : Thread nD τ) arg16 fullShare (vOf x5 x6 x7) ∗ owns (c : Thread nD τ) arg17 fullShare x17 ∗ owns (c : Thread nD τ) arg18 fullShare x18 ∗ (∃ d, owns (c : Thread nD τ) arg19 fullShare d)) := rfl
  have e8 : pairState c i x1 x8 x9 x10 (kOf x2 x3 x4) (vOf x5 x6 x7) x11 x14 x17 x18 arg1 arg8 arg9 arg10 arg11 arg14 arg15 arg16 arg17 arg18 arg19 8 = iprop(owns (c : Thread nD τ) arg1 fullShare x1 ∗ owns (c : Thread nD τ) arg8 fullShare x8 ∗ owns (c : Thread nD τ) arg9 fullShare x9 ∗ owns (c : Thread nD τ) arg10 fullShare x10 ∗ owns (c : Thread nD τ) arg11 fullShare (colsAll (R := 256) (wq i x1 x8 x9 x10 (kOf x2 x3 x4) (vOf x5 x6 x7))) ∗ owns (c : Thread nD τ) arg14 fullShare (dbAll (dsOf i x1 x8 x9 x10 (kOf x2 x3 x4) (vOf x5 x6 x7)) x14) ∗ owns (c : Thread nD τ) arg15 fullShare (kOf x2 x3 x4) ∗ owns (c : Thread nD τ) arg16 fullShare (vOf x5 x6 x7) ∗ owns (c : Thread nD τ) arg17 fullShare (colsAll (R := 768) (wk i x1 x8 x9 x10 (kOf x2 x3 x4) (vOf x5 x6 x7) x17)) ∗ owns (c : Thread nD τ) arg18 fullShare (colsAll (R := 768) (wv i x1 x8 x9 x10 (kOf x2 x3 x4) (vOf x5 x6 x7) x18)) ∗ (∃ d, owns (c : Thread nD τ) arg19 fullShare d)) := by
    unfold pairState; simp only [putCols_all, putDb_all]
  ihave HS : pairState c i x1 x8 x9 x10 (kOf x2 x3 x4) (vOf x5 x6 x7) x11 x14 x17 x18 arg1 arg8 arg9 arg10 arg11 arg14 arg15 arg16 arg17 arg18 arg19 0 $$ [H1 H8 H9 H10 H11 H14 H15 H16 H17 H18 H19]
  · rw [e0]
    isplitl [H1]; · iexact H1
    isplitl [H8]; · iexact H8
    isplitl [H9]; · iexact H9
    isplitl [H10]; · iexact H10
    isplitl [H11]; · iexact H11
    isplitl [H14]; · iexact H14
    isplitl [H15]; · iexact H15
    isplitl [H16]; · iexact H16
    isplitl [H17]; · iexact H17
    isplitl [H18]; · iexact H18
    iexists _; iexact H19
  rw [wp_bind]
  iapply (pairStep c arg1 harg1 arg8 harg8 arg9 harg9 arg10 harg10 arg11 harg11 arg14 harg14 arg15 harg15 arg16 harg16 arg17 harg17 arg18 harg18 arg19 harg19 i x1 x8 x9 x10 (kOf x2 x3 x4) (vOf x5 x6 x7) x11 x14 x17 x18 E _ 0 _)
  isplitl [HS]; · iexact HS
  iintro HS
  rw [wp_bind]
  iapply (pairStep c arg1 harg1 arg8 harg8 arg9 harg9 arg10 harg10 arg11 harg11 arg14 harg14 arg15 harg15 arg16 harg16 arg17 harg17 arg18 harg18 arg19 harg19 i x1 x8 x9 x10 (kOf x2 x3 x4) (vOf x5 x6 x7) x11 x14 x17 x18 E _ 1 _)
  isplitl [HS]; · iexact HS
  iintro HS
  rw [wp_bind]
  iapply (pairStep c arg1 harg1 arg8 harg8 arg9 harg9 arg10 harg10 arg11 harg11 arg14 harg14 arg15 harg15 arg16 harg16 arg17 harg17 arg18 harg18 arg19 harg19 i x1 x8 x9 x10 (kOf x2 x3 x4) (vOf x5 x6 x7) x11 x14 x17 x18 E _ 2 _)
  isplitl [HS]; · iexact HS
  iintro HS
  rw [wp_bind]
  iapply (pairStep c arg1 harg1 arg8 harg8 arg9 harg9 arg10 harg10 arg11 harg11 arg14 harg14 arg15 harg15 arg16 harg16 arg17 harg17 arg18 harg18 arg19 harg19 i x1 x8 x9 x10 (kOf x2 x3 x4) (vOf x5 x6 x7) x11 x14 x17 x18 E _ 3 _)
  isplitl [HS]; · iexact HS
  iintro HS
  rw [wp_bind]
  iapply (pairStep c arg1 harg1 arg8 harg8 arg9 harg9 arg10 harg10 arg11 harg11 arg14 harg14 arg15 harg15 arg16 harg16 arg17 harg17 arg18 harg18 arg19 harg19 i x1 x8 x9 x10 (kOf x2 x3 x4) (vOf x5 x6 x7) x11 x14 x17 x18 E _ 4 _)
  isplitl [HS]; · iexact HS
  iintro HS
  rw [wp_bind]
  iapply (pairStep c arg1 harg1 arg8 harg8 arg9 harg9 arg10 harg10 arg11 harg11 arg14 harg14 arg15 harg15 arg16 harg16 arg17 harg17 arg18 harg18 arg19 harg19 i x1 x8 x9 x10 (kOf x2 x3 x4) (vOf x5 x6 x7) x11 x14 x17 x18 E _ 5 _)
  isplitl [HS]; · iexact HS
  iintro HS
  rw [wp_bind]
  iapply (pairStep c arg1 harg1 arg8 harg8 arg9 harg9 arg10 harg10 arg11 harg11 arg14 harg14 arg15 harg15 arg16 harg16 arg17 harg17 arg18 harg18 arg19 harg19 i x1 x8 x9 x10 (kOf x2 x3 x4) (vOf x5 x6 x7) x11 x14 x17 x18 E _ 6 _)
  isplitl [HS]; · iexact HS
  iintro HS
  iapply (pairStep c arg1 harg1 arg8 harg8 arg9 harg9 arg10 harg10 arg11 harg11 arg14 harg14 arg15 harg15 arg16 harg16 arg17 harg17 arg18 harg18 arg19 harg19 i x1 x8 x9 x10 (kOf x2 x3 x4) (vOf x5 x6 x7) x11 x14 x17 x18 E _ 7 _)
  isplitl [HS]; · iexact HS
  iintro HS
  ihave HT : iprop(owns (c : Thread nD τ) arg1 fullShare x1 ∗ owns (c : Thread nD τ) arg8 fullShare x8 ∗ owns (c : Thread nD τ) arg9 fullShare x9 ∗ owns (c : Thread nD τ) arg10 fullShare x10 ∗ owns (c : Thread nD τ) arg11 fullShare (colsAll (R := 256) (wq i x1 x8 x9 x10 (kOf x2 x3 x4) (vOf x5 x6 x7))) ∗ owns (c : Thread nD τ) arg14 fullShare (dbAll (dsOf i x1 x8 x9 x10 (kOf x2 x3 x4) (vOf x5 x6 x7)) x14) ∗ owns (c : Thread nD τ) arg15 fullShare (kOf x2 x3 x4) ∗ owns (c : Thread nD τ) arg16 fullShare (vOf x5 x6 x7) ∗ owns (c : Thread nD τ) arg17 fullShare (colsAll (R := 768) (wk i x1 x8 x9 x10 (kOf x2 x3 x4) (vOf x5 x6 x7) x17)) ∗ owns (c : Thread nD τ) arg18 fullShare (colsAll (R := 768) (wv i x1 x8 x9 x10 (kOf x2 x3 x4) (vOf x5 x6 x7) x18)) ∗ (∃ d, owns (c : Thread nD τ) arg19 fullShare d)) $$ [HS]
  · rw [← e8]; iexact HS
  icases HT with ⟨H1, H8, H9, H10, H11, H14, H15, H16, H17, H18, H19⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H14]; · iexact H14
  isplitl [H15]; · iexists _; iexact H15
  isplitl [H16]; · iexists _; iexact H16
  isplitl [H17]; · iexact H17
  isplitl [H18]; · iexact H18
  iexact H19

/-! ## The whole body -/

/-- An accumulator after the zeroing, where the step is the first. -/
def ini {s : Shape} (i : grid0.Coords) (z x : Vec F s .f32) : Vec F s .f32 := if k0_cond1 i = 1#1 then z else x
/-- What a step's head pairs change, where the step is one of the first 32. -/
def upd {s : Shape} {e : EltTy} (i : grid0.Coords) (z x : Vec F s e) : Vec F s e := if k0_cond2 i = 1#1 then z else x

/-- The keys' accumulator after a step's head pairs. -/
def mid17 (i : grid0.Coords) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S256x1024 .f32) (x9 : Vec F S16x256 .f32) (x10 : Vec F S8x768x512 .f32) (x17 : Vec F S768x1024 .f32) : Vec F S768x1024 .f32 :=
  upd i (colsAll (R := 768) (wk i x1 x8 x9 x10 (kOf x2 x3 x4) (vOf x5 x6 x7) x17)) x17
def mid18 (i : grid0.Coords) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S256x1024 .f32) (x9 : Vec F S16x256 .f32) (x10 : Vec F S8x768x512 .f32) (x18 : Vec F S768x1024 .f32) : Vec F S768x1024 .f32 :=
  upd i (colsAll (R := 768) (wv i x1 x8 x9 x10 (kOf x2 x3 x4) (vOf x5 x6 x7) x18)) x18
def mid14 (i : grid0.Coords) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S256x1024 .f32) (x9 : Vec F S16x256 .f32) (x10 : Vec F S8x768x512 .f32) (x14 : Vec F S16x576x64 .f32) : Vec F S16x576x64 .f32 :=
  upd i (dbAll (dsOf i x1 x8 x9 x10 (kOf x2 x3 x4) (vOf x5 x6 x7)) x14) x14
def mid11 (i : grid0.Coords) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S256x1024 .f32) (x9 : Vec F S16x256 .f32) (x10 : Vec F S8x768x512 .f32) (x11 : Vec F S256x1024 .bf16) : Vec F S256x1024 .bf16 :=
  upd i (colsAll (R := 256) (wq i x1 x8 x9 x10 (kOf x2 x3 x4) (vOf x5 x6 x7))) x11

theorem rest_wp (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S16x256 .f32) (harg9 : arg9.IsWhole) (arg10 : Memref sig .tc .vmem S8x768x512 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S16x576x64 .f32) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S768x1024 .f32) (harg17 : arg17.IsWhole) (arg18 : Memref sig .tc .vmem S768x1024 .f32) (harg18 : arg18.IsWhole) (arg19 : Memref sig .tc .vmem S768x512 .f32) (harg19 : arg19.IsWhole)
    (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S256x1024 .f32) (x9 : Vec F S16x256 .f32) (x10 : Vec F S8x768x512 .f32) (x11 : Vec F S256x1024 .bf16) (x12 : Vec F S256x1024 .bf16) (x13 : Vec F S256x1024 .bf16) (x14 : Vec F S16x576x64 .f32) (x17 : Vec F S768x1024 .f32) (x18 : Vec F S768x1024 .f32) (E : Set ℕ) (K : Vec F S256x1024 .f32 → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ owns (c : Thread nD τ) arg17 fullShare x17 ∗ owns (c : Thread nD τ) arg18 fullShare x18 ∗ (∃ d, owns (c : Thread nD τ) arg19 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (mid11 i x1 x2 x3 x4 x5 x6 x7 x8 x9 x10 x11) ∗ owns (c : Thread nD τ) arg12 fullShare (k0_pay117 (rowsAt (mid17 i x1 x2 x3 x4 x5 x6 x7 x8 x9 x10 x17) 0 inb_S768x1024_S256x1024_0_0)) ∗ owns (c : Thread nD τ) arg13 fullShare (k0_pay118 (rowsAt (mid18 i x1 x2 x3 x4 x5 x6 x7 x8 x9 x10 x18) 0 inb_S768x1024_S256x1024_0_0)) ∗ owns (c : Thread nD τ) arg14 fullShare (mid14 i x1 x2 x3 x4 x5 x6 x7 x8 x9 x10 x14) ∗ (∃ d, owns (c : Thread nD τ) arg15 fullShare d) ∗ (∃ d, owns (c : Thread nD τ) arg16 fullShare d) ∗ owns (c : Thread nD τ) arg17 fullShare (shiftK (mid17 i x1 x2 x3 x4 x5 x6 x7 x8 x9 x10 x17)) ∗ owns (c : Thread nD τ) arg18 fullShare (mid18 i x1 x2 x3 x4 x5 x6 x7 x8 x9 x10 x18) ∗ (∃ d, owns (c : Thread nD τ) arg19 fullShare d)) -∗ K (rowsAt (mid18 i x1 x2 x3 x4 x5 x6 x7 x8 x9 x10 x18) 256 inb_S768x1024_S256x1024_256_0)))
    ⊢ wp frame (wpE (defs₀ (F := F)) Variants.none c none) E (restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold restProg mid17 mid18 mid14 mid11 upd
  iintro ⟨H1, H2, H3, H4, H5, H6, H7, H8, H9, H10, H11, H12, H13, H14, H15, H16, H17, H18, H19, Hk⟩
  by_cases h : k0_cond2 i = 1#1
  · rw [dif_pos h]
    simp only [if_pos h]
    rw [wp_bind]
    iapply (heads_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x14 x17 x18 E _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H14]; · iexact H14
    isplitl [H15]; · iexact H15
    isplitl [H16]; · iexact H16
    isplitl [H17]; · iexact H17
    isplitl [H18]; · iexact H18
    isplitl [H19]; · iexact H19
    iintro ⟨H1, H2, H3, H4, H5, H6, H7, H8, H9, H10, H11, H14, H15, H16, H17, H18, H19⟩
    iapply (tail_wp c arg12 harg12 arg13 harg13 arg17 harg17 arg18 harg18 x12 x13 _ _ E _)
    isplitl [H12]; · iexact H12
    isplitl [H13]; · iexact H13
    isplitl [H17]; · iexact H17
    isplitl [H18]; · iexact H18
    iintro ⟨H12, H13, H17, H18⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · rw [dif_neg h]
    simp only [if_neg h]
    iapply (tail_wp c arg12 harg12 arg13 harg13 arg17 harg17 arg18 harg18 x12 x13 _ _ E _)
    isplitl [H12]; · iexact H12
    isplitl [H13]; · iexact H13
    isplitl [H17]; · iexact H17
    isplitl [H18]; · iexact H18
    iintro ⟨H12, H13, H17, H18⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem front_wp (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S16x256 .f32) (harg9 : arg9.IsWhole) (arg10 : Memref sig .tc .vmem S8x768x512 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S16x576x64 .f32) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S768x1024 .f32) (harg17 : arg17.IsWhole) (arg18 : Memref sig .tc .vmem S768x1024 .f32) (harg18 : arg18.IsWhole) (arg19 : Memref sig .tc .vmem S768x512 .f32) (harg19 : arg19.IsWhole)
    (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S256x1024 .f32) (x9 : Vec F S16x256 .f32) (x10 : Vec F S8x768x512 .f32) (x11 : Vec F S256x1024 .bf16) (x12 : Vec F S256x1024 .bf16) (x13 : Vec F S256x1024 .bf16) (x14 : Vec F S16x576x64 .f32) (x17 : Vec F S768x1024 .f32) (x18 : Vec F S768x1024 .f32) (E : Set ℕ) (K : Vec F S256x1024 .f32 → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ owns (c : Thread nD τ) arg17 fullShare x17 ∗ owns (c : Thread nD τ) arg18 fullShare x18 ∗ (∃ d, owns (c : Thread nD τ) arg19 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (mid11 i x1 x2 x3 x4 x5 x6 x7 x8 x9 x10 x11) ∗ owns (c : Thread nD τ) arg12 fullShare (k0_pay117 (rowsAt (mid17 i x1 x2 x3 x4 x5 x6 x7 x8 x9 x10 (ini i (k0_pay112 (F := F)) x17)) 0 inb_S768x1024_S256x1024_0_0)) ∗ owns (c : Thread nD τ) arg13 fullShare (k0_pay118 (rowsAt (mid18 i x1 x2 x3 x4 x5 x6 x7 x8 x9 x10 (ini i (k0_pay113 (F := F)) x18)) 0 inb_S768x1024_S256x1024_0_0)) ∗ owns (c : Thread nD τ) arg14 fullShare (mid14 i x1 x2 x3 x4 x5 x6 x7 x8 x9 x10 (ini i (k0_pay114 (F := F)) x14)) ∗ (∃ d, owns (c : Thread nD τ) arg15 fullShare d) ∗ (∃ d, owns (c : Thread nD τ) arg16 fullShare d) ∗ owns (c : Thread nD τ) arg17 fullShare (shiftK (mid17 i x1 x2 x3 x4 x5 x6 x7 x8 x9 x10 (ini i (k0_pay112 (F := F)) x17))) ∗ owns (c : Thread nD τ) arg18 fullShare (mid18 i x1 x2 x3 x4 x5 x6 x7 x8 x9 x10 (ini i (k0_pay113 (F := F)) x18)) ∗ (∃ d, owns (c : Thread nD τ) arg19 fullShare d)) -∗ K (rowsAt (mid18 i x1 x2 x3 x4 x5 x6 x7 x8 x9 x10 (ini i (k0_pay113 (F := F)) x18)) 256 inb_S768x1024_S256x1024_256_0)))
    ⊢ wp frame (wpE (defs₀ (F := F)) Variants.none c none) E (frontProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold frontProg ini
  iintro ⟨H1, H2, H3, H4, H5, H6, H7, H8, H9, H10, H11, H12, H13, H14, H15, H16, H17, H18, H19, Hk⟩
  by_cases h : k0_cond1 i = 1#1
  · rw [dif_pos h]
    simp only [if_pos h]
    rw [wp_bind]
    iapply (init_wp c arg14 harg14 arg17 harg17 arg18 harg18 x14 x17 x18 E _)
    isplitl [H14]; · iexact H14
    isplitl [H17]; · iexact H17
    isplitl [H18]; · iexact H18
    iintro ⟨H14, H17, H18⟩
    iapply (rest_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 _ _ _ E _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H1, H2, H3, H4, H5, H6, H7, H8, H9, H10, H11, H12, H13, H14, H15, H16, H17, H18, H19⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · rw [dif_neg h]
    simp only [if_neg h]
    iapply (rest_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 _ _ _ E _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H1, H2, H3, H4, H5, H6, H7, H8, H9, H10, H11, H12, H13, H14, H15, H16, H17, H18, H19⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body, run. -/
theorem body_wp (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S16x256 .f32) (harg9 : arg9.IsWhole) (arg10 : Memref sig .tc .vmem S8x768x512 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S16x576x64 .f32) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S768x1024 .f32) (harg17 : arg17.IsWhole) (arg18 : Memref sig .tc .vmem S768x1024 .f32) (harg18 : arg18.IsWhole) (arg19 : Memref sig .tc .vmem S768x512 .f32) (harg19 : arg19.IsWhole)
    (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S256x1024 .f32) (x9 : Vec F S16x256 .f32) (x10 : Vec F S8x768x512 .f32) (x11 : Vec F S256x1024 .bf16) (x12 : Vec F S256x1024 .bf16) (x13 : Vec F S256x1024 .bf16) (x14 : Vec F S16x576x64 .f32) (x17 : Vec F S768x1024 .f32) (x18 : Vec F S768x1024 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ owns (c : Thread nD τ) arg17 fullShare x17 ∗ owns (c : Thread nD τ) arg18 fullShare x18 ∗ (∃ d, owns (c : Thread nD τ) arg19 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (mid11 i x1 x2 x3 x4 x5 x6 x7 x8 x9 x10 x11) ∗ owns (c : Thread nD τ) arg12 fullShare (k0_pay117 (rowsAt (mid17 i x1 x2 x3 x4 x5 x6 x7 x8 x9 x10 (ini i (k0_pay112 (F := F)) x17)) 0 inb_S768x1024_S256x1024_0_0)) ∗ owns (c : Thread nD τ) arg13 fullShare (k0_pay118 (rowsAt (mid18 i x1 x2 x3 x4 x5 x6 x7 x8 x9 x10 (ini i (k0_pay113 (F := F)) x18)) 0 inb_S768x1024_S256x1024_0_0)) ∗ owns (c : Thread nD τ) arg14 fullShare (mid14 i x1 x2 x3 x4 x5 x6 x7 x8 x9 x10 (ini i (k0_pay114 (F := F)) x14)) ∗ (∃ d, owns (c : Thread nD τ) arg15 fullShare d) ∗ (∃ d, owns (c : Thread nD τ) arg16 fullShare d) ∗ owns (c : Thread nD τ) arg17 fullShare (shiftK (mid17 i x1 x2 x3 x4 x5 x6 x7 x8 x9 x10 (ini i (k0_pay112 (F := F)) x17))) ∗ owns (c : Thread nD τ) arg18 fullShare (shiftV (mid18 i x1 x2 x3 x4 x5 x6 x7 x8 x9 x10 (ini i (k0_pay113 (F := F)) x18))) ∗ (∃ d, owns (c : Thread nD τ) arg19 fullShare d)) -∗ K ⟨⟩))
    ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [body_eq]
  unfold bodyProg
  iintro ⟨H1, H2, H3, H4, H5, H6, H7, H8, H9, H10, H11, H12, H13, H14, H15, H16, H17, H18, H19, Hk⟩
  rw [wp_bind]
  iapply (front_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 x14 x17 x18 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  iapply (shift_wp c arg18 harg18 _ E _)
  isplitl [H18]; · iexact H18
  iintro H18
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

end Cert.Bwd

end
-- ==== Proof.Launch.lean ====
module

public import proofs.«01_k».proof.Proof.RunsC
public import Idealize.ShloMosaic.Lib.Claim

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- The accumulators are zeroed at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The head pairs run at the first 32 points. -/
theorem runs_iff : ∀ t : Fin cfg0.N, k0_cond2 (grid0.coords t) = 1#1 ↔ t.val < 32 :=
  (by decide +kernel : ∀ t : Fin grid0.N, k0_cond2 (grid0.coords t) = 1#1 ↔ t.val < 32)
/-- The queries' gradient is not written back at the points 31 and 32. -/
theorem flush10 : ∀ t : Fin cfg0.N, t.val = 31 ∨ t.val = 32 → (cfg0.win 10).flush t = false :=
  (by decide +kernel : ∀ t : Fin grid0.N, t.val = 31 ∨ t.val = 32 → win0_10.flush t = false)

/-! ## The memrefs of a point -/

abbrev st0 (t : Fin cfg0.N) : Memref sig .tc .vmem S256x1024 .f32 := win0_0.stage (cfg0.slots t 0)
abbrev wh0 (t : Fin cfg0.N) : (st0 t).IsWhole := hstage0_0 ((cfg0.slots t 0).cast nbuf0_0)
abbrev st1 (t : Fin cfg0.N) : Memref sig .tc .vmem S256x1024 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S256x1024 .f32 := win0_2.stage (cfg0.slots t 2)
abbrev wh2 (t : Fin cfg0.N) : (st2 t).IsWhole := hstage0_2 ((cfg0.slots t 2).cast nbuf0_2)
abbrev st3 (t : Fin cfg0.N) : Memref sig .tc .vmem S256x1024 .f32 := win0_3.stage (cfg0.slots t 3)
abbrev wh3 (t : Fin cfg0.N) : (st3 t).IsWhole := hstage0_3 ((cfg0.slots t 3).cast nbuf0_3)
abbrev st4 (t : Fin cfg0.N) : Memref sig .tc .vmem S256x1024 .f32 := win0_4.stage (cfg0.slots t 4)
abbrev wh4 (t : Fin cfg0.N) : (st4 t).IsWhole := hstage0_4 ((cfg0.slots t 4).cast nbuf0_4)
abbrev st5 (t : Fin cfg0.N) : Memref sig .tc .vmem S256x1024 .f32 := win0_5.stage (cfg0.slots t 5)
abbrev wh5 (t : Fin cfg0.N) : (st5 t).IsWhole := hstage0_5 ((cfg0.slots t 5).cast nbuf0_5)
abbrev st6 (t : Fin cfg0.N) : Memref sig .tc .vmem S256x1024 .f32 := win0_6.stage (cfg0.slots t 6)
abbrev wh6 (t : Fin cfg0.N) : (st6 t).IsWhole := hstage0_6 ((cfg0.slots t 6).cast nbuf0_6)
abbrev st7 (t : Fin cfg0.N) : Memref sig .tc .vmem S256x1024 .f32 := win0_7.stage (cfg0.slots t 7)
abbrev wh7 (t : Fin cfg0.N) : (st7 t).IsWhole := hstage0_7 ((cfg0.slots t 7).cast nbuf0_7)
abbrev st8 (t : Fin cfg0.N) : Memref sig .tc .vmem S16x256 .f32 := win0_8.stage (cfg0.slots t 8)
abbrev wh8 (t : Fin cfg0.N) : (st8 t).IsWhole := hstage0_8 ((cfg0.slots t 8).cast nbuf0_8)
abbrev st9 (t : Fin cfg0.N) : Memref sig .tc .vmem S8x768x512 .f32 := win0_9.stage (cfg0.slots t 9)
abbrev wh9 (t : Fin cfg0.N) : (st9 t).IsWhole := hstage0_9 ((cfg0.slots t 9).cast nbuf0_9)
abbrev st10 (t : Fin cfg0.N) : Memref sig .tc .vmem S256x1024 .bf16 := win0_10.stage (cfg0.slots t 10)
abbrev wh10 (t : Fin cfg0.N) : (st10 t).IsWhole := hstage0_10 ((cfg0.slots t 10).cast nbuf0_10)
abbrev st11 (t : Fin cfg0.N) : Memref sig .tc .vmem S256x1024 .bf16 := win0_11.stage (cfg0.slots t 11)
abbrev wh11 (t : Fin cfg0.N) : (st11 t).IsWhole := hstage0_11 ((cfg0.slots t 11).cast nbuf0_11)
abbrev st12 (t : Fin cfg0.N) : Memref sig .tc .vmem S256x1024 .bf16 := win0_12.stage (cfg0.slots t 12)
abbrev wh12 (t : Fin cfg0.N) : (st12 t).IsWhole := hstage0_12 ((cfg0.slots t 12).cast nbuf0_12)
abbrev st13 (t : Fin cfg0.N) : Memref sig .tc .vmem S16x576x64 .f32 := win0_13.stage (cfg0.slots t 13)
abbrev wh13 (t : Fin cfg0.N) : (st13 t).IsWhole := hstage0_13 ((cfg0.slots t 13).cast nbuf0_13)
abbrev sc0 : Memref sig .tc .vmem S768x1024 .bf16 := Memref.whole cc0_scratch0
abbrev sc1 : Memref sig .tc .vmem S768x1024 .bf16 := Memref.whole cc0_scratch1
abbrev sc2 : Memref sig .tc .vmem S768x1024 .f32 := Memref.whole cc0_scratch2
abbrev sc3 : Memref sig .tc .vmem S768x1024 .f32 := Memref.whole cc0_scratch3
abbrev sc4 : Memref sig .tc .vmem S768x512 .f32 := Memref.whole cc0_scratch4

theorem scratch_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; rfl

/-! ## What the body leaves -/

/-- The keys' accumulator after point `t`'s head pairs, from `x` before them, -/
def stepK (c : Dev nD) (t : Fin cfg0.N) (x : Vec F S768x1024 .f32) : Vec F S768x1024 .f32 :=
  mid17 (grid0.coords t) (X0_0 m c t) (X0_1 m c t) (X0_2 m c t) (X0_3 m c t) (X0_4 m c t) (X0_5 m c t) (X0_6 m c t) (iblk m c 7 t) (iblk m c 8 t) (iblk m c 9 t) x
/-- the values', -/
def stepV (c : Dev nD) (t : Fin cfg0.N) (x : Vec F S768x1024 .f32) : Vec F S768x1024 .f32 :=
  mid18 (grid0.coords t) (X0_0 m c t) (X0_1 m c t) (X0_2 m c t) (X0_3 m c t) (X0_4 m c t) (X0_5 m c t) (X0_6 m c t) (iblk m c 7 t) (iblk m c 8 t) (iblk m c 9 t) x
/-- the bias gradient -/
def stepB (c : Dev nD) (t : Fin cfg0.N) (x : Vec F S16x576x64 .f32) : Vec F S16x576x64 .f32 :=
  mid14 (grid0.coords t) (X0_0 m c t) (X0_1 m c t) (X0_2 m c t) (X0_3 m c t) (X0_4 m c t) (X0_5 m c t) (X0_6 m c t) (iblk m c 7 t) (iblk m c 8 t) (iblk m c 9 t) x
/-- and the queries' gradient. -/
def stepQ (c : Dev nD) (t : Fin cfg0.N) : Vec F S256x1024 .bf16 :=
  colsAll (R := 256) (wq (grid0.coords t) (X0_0 m c t) (iblk m c 7 t) (iblk m c 8 t) (iblk m c 9 t) (kOf (X0_1 m c t) (X0_2 m c t) (X0_3 m c t)) (vOf (X0_4 m c t) (X0_5 m c t) (X0_6 m c t)))

/-- The two accumulators and the bias gradient before point `n`. -/
def acc (c : Dev nD) : ℕ → Vec F S768x1024 .f32 × Vec F S768x1024 .f32 × Vec F S16x576x64 .f32
  | 0 => (k0_pay112 (F := F), k0_pay113 (F := F), k0_pay114 (F := F))
  | n + 1 => if h : n < cfg0.N then
      (shiftK (stepK m c ⟨n, h⟩ (acc c n).1), shiftV (stepV m c ⟨n, h⟩ (acc c n).2.1), stepB m c ⟨n, h⟩ (acc c n).2.2)
    else acc c n

theorem acc_succ (c : Dev nD) (t : Fin cfg0.N) : acc m c (t.val + 1) =
    (shiftK (stepK m c t (acc m c t.val).1), shiftV (stepV m c t (acc m c t.val).2.1), stepB m c t (acc m c t.val).2.2) :=
  dif_pos t.isLt

/-- The point whose queries' gradient the buffer holds after point `t`. -/
def lastQ (t : Fin cfg0.N) : Fin cfg0.N := if t.val < 32 then t else ⟨31, by rw [show cfg0.N = 34 from N_0]; decide⟩

/-- The invariant before position `n`: before the first point every scratch buffer at anything; afterwards the two
    accumulators at what the points before left. -/
def PhiN (c : Dev nD) : ℕ → sProp 𝕄
  | 0 => Pipeline.ΦA spec0 c
  | n + 1 => iprop(iprop((∃ d, owns (c : Thread nD τ) sc0 fullShare d) ∗ (∃ d, owns (c : Thread nD τ) sc1 fullShare d) ∗ owns (c : Thread nD τ) sc2 fullShare (acc m c (n + 1)).1 ∗ owns (c : Thread nD τ) sc3 fullShare (acc m c (n + 1)).2.1 ∗ (∃ d, owns (c : Thread nD τ) sc4 fullShare d)) ∗ (∃ r, prngReg c r))

theorem PhiN_succ (c : Dev nD) (t : Fin cfg0.N) : PhiN m c (t.val + 1) = iprop(iprop((∃ d, owns (c : Thread nD τ) sc0 fullShare d) ∗ (∃ d, owns (c : Thread nD τ) sc1 fullShare d) ∗ owns (c : Thread nD τ) sc2 fullShare (shiftK (stepK m c t (acc m c t.val).1)) ∗ owns (c : Thread nD τ) sc3 fullShare (shiftV (stepV m c t (acc m c t.val).2.1)) ∗ (∃ d, owns (c : Thread nD τ) sc4 fullShare d)) ∗ (∃ r, prngReg c r)) := by
  show iprop(_ ∗ _) = _; rw [acc_succ m c t]

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => stepQ m c (lastQ t)
    | ⟨11, _⟩ => k0_pay117 (rowsAt (stepK m c t (acc m c t.val).1) 0 inb_S768x1024_S256x1024_0_0)
    | ⟨12, _⟩ => k0_pay118 (rowsAt (stepV m c t (acc m c t.val).2.1) 0 inb_S768x1024_S256x1024_0_0)
    | ⟨13, _⟩ => (acc m c (t.val + 1)).2.2
  Φ t := PhiN m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = X0_5 m c t := by dsimp only [dats]
theorem after_6 (c : Dev nD) (t : Fin cfg0.N) : (dats m 0 c).after 6 t = X0_6 m c t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = stepQ m c (lastQ t) := by dsimp only [dats]
theorem after_11 (c : Dev nD) (t : Fin cfg0.N) : (dats m 0 c).after 11 t = k0_pay117 (rowsAt (stepK m c t (acc m c t.val).1) 0 inb_S768x1024_S256x1024_0_0) := by dsimp only [dats]
theorem after_12 (c : Dev nD) (t : Fin cfg0.N) : (dats m 0 c).after 12 t = k0_pay118 (rowsAt (stepV m c t (acc m c t.val).2.1) 0 inb_S768x1024_S256x1024_0_0) := by dsimp only [dats]
theorem after_13 (c : Dev nD) (t : Fin cfg0.N) : (dats m 0 c).after 13 t = (acc m c (t.val + 1)).2.2 := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = X0_5 m c t :=
  before0_5_of m (dats m 0 c) (A_eq m c 5) (after_5 m c) t d
theorem before_6 (c : Dev nD) (t : Fin cfg0.N) (d) : (dats m 0 c).before 6 t d = X0_6 m c t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- An output's buffer before a point the block was not written back before: what the last body left, through the
    points that store nothing into it. -/
theorem held (c : Dev nD) (w : Fin cfg0.W) (hw : (cfg0.win w).isOut = true) (hclip : ∀ (i : cfg0.grid.Coords) a, (cfg0.win w).clip i a = none)
    (hidle : ∀ t : Fin cfg0.N, cfg0.idle w (cfg0.grid.coords t) = true → t.val ≠ 0 ∧ ∀ t' : Fin cfg0.N, t'.val + 1 = t.val →
      (cfg0.win w).flush t' = false ∧ (dats m 0 c).after w t = (dats m 0 c).after w t') (d) :
    ∀ (n : ℕ) (t t' : Fin cfg0.N), t.val = n + 1 → t'.val = n → (cfg0.win w).flush t' = false →
      (dats m 0 c).before w t d = (dats m 0 c).after w t' := by
  intro n
  induction n with
  | zero =>
    intro t t' ht ht' hf
    have e : (⟨t.val - 1, Nat.lt_of_le_of_lt (Nat.sub_le _ _) t.isLt⟩ : Fin cfg0.N) = t' := Fin.ext (by show t.val - 1 = t'.val; omega)
    rw [(dats m 0 c).before_of_pos w t (by omega) ((cfg0.win w).fetch_out hw t), e, if_neg (by rw [hf]; exact Bool.false_ne_true)]
    unfold Dat.left
    cases hi : cfg0.idle w (cfg0.grid.coords t') with
    | true => exact absurd ht' (hidle t' hi).1
    | false =>
      show (dats m 0 c).kept w t' d = _
      unfold Dat.kept
      rw [Idealize.ShloMosaic.Pipeline.fill_of_clip_none w _ (hclip _) d ((dats m 0 c).after w _), Window.fill_cut]
  | succ n ih =>
    intro t t' ht ht' hf
    have e : (⟨t.val - 1, Nat.lt_of_le_of_lt (Nat.sub_le _ _) t.isLt⟩ : Fin cfg0.N) = t' := Fin.ext (by show t.val - 1 = t'.val; omega)
    rw [(dats m 0 c).before_of_pos w t (by omega) ((cfg0.win w).fetch_out hw t), e, if_neg (by rw [hf]; exact Bool.false_ne_true)]
    unfold Dat.left
    cases hi : cfg0.idle w (cfg0.grid.coords t') with
    | true =>
      have hh := (hidle t' hi).2 ⟨n, by have := t'.isLt; omega⟩ (by show n + 1 = t'.val; omega)
      rw [hh.2]
      exact ih t' ⟨n, by have := t'.isLt; omega⟩ ht' rfl hh.1
    | false =>
      show (dats m 0 c).kept w t' d = _
      unfold Dat.kept
      rw [Idealize.ShloMosaic.Pipeline.fill_of_clip_none w _ (hclip _) d ((dats m 0 c).after w _), Window.fill_cut]

theorem idle_iff10 : ∀ t : Fin cfg0.N, cfg0.idle 10 (cfg0.grid.coords t) = true ↔ 32 ≤ t.val :=
  (by decide +kernel : ∀ t : Fin grid0.N, idle0 10 (grid0.coords t) = true ↔ 32 ≤ t.val)
theorem idle_iff13 : ∀ t : Fin cfg0.N, cfg0.idle 13 (cfg0.grid.coords t) = true ↔ 32 ≤ t.val :=
  (by decide +kernel : ∀ t : Fin grid0.N, idle0 13 (grid0.coords t) = true ↔ 32 ≤ t.val)
theorem flush13 (t : Fin cfg0.N) (h : t.val < 33) : (cfg0.win 13).flush t = false := by
  rw [Bool.eq_false_iff]; intro e; have := (flush0_13 _).mp e; omega
theorem pt_lt (t : Fin cfg0.N) : t.val < 34 := lt_of_lt_of_eq t.isLt (show cfg0.N = 34 from N_0)

/-- Past the last head pairs the bias gradient stays. -/
theorem stepB_idle (c : Dev nD) (t : Fin cfg0.N) (h : 32 ≤ t.val) (x) : stepB m c t x = x := by
  unfold stepB mid14 upd; rw [if_neg (fun e => absurd ((runs_iff t).mp e) (by omega))]

theorem lastQ_idle (t t' : Fin cfg0.N) (h : t'.val + 1 = t.val) (ht : 32 ≤ t.val) : lastQ t = lastQ t' := by
  unfold lastQ
  rw [if_neg (by omega)]
  by_cases h' : t'.val < 32
  · rw [if_pos h']; exact Fin.ext (show 31 = t'.val by omega)
  · rw [if_neg h']

theorem before_10 (c : Dev nD) (t t' : Fin cfg0.N) (h : t'.val + 1 = t.val) (ht : 32 ≤ t.val) (d) :
    (dats m 0 c).before 10 t d = stepQ m c (lastQ t) := by
  have hN := pt_lt t
  rw [held m c 10 rfl (fun _ _ => rfl) (fun s hs => ⟨by have := (idle_iff10 s).mp hs; omega, fun s' hs' => by
    have h32 := (idle_iff10 s).mp hs; have := pt_lt s
    exact ⟨flush10 s' (by omega), by rw [after_10, after_10, lastQ_idle s s' hs' h32]⟩⟩) d t'.val t t' h.symm rfl (flush10 t' (by omega)),
    after_10, lastQ_idle t t' h ht]

theorem before_13 (c : Dev nD) (t t' : Fin cfg0.N) (h : t'.val + 1 = t.val) (d) :
    (dats m 0 c).before 13 t d = (acc m c t.val).2.2 := by
  have hN := pt_lt t
  rw [held m c 13 rfl (fun _ _ => rfl) (fun s hs => ⟨by have := (idle_iff13 s).mp hs; omega, fun s' hs' => by
    have h32 := (idle_iff13 s).mp hs; have := pt_lt s
    exact ⟨flush13 s' (by omega), by rw [after_13, after_13, acc_succ m c s, hs']; exact stepB_idle m c s h32 _⟩⟩) d t'.val t t' h.symm rfl (flush13 t' (by omega)),
    after_13, h]

theorem keepQ (c : Dev nD) (t : Fin cfg0.N) (d) :
    mid11 (grid0.coords t) (X0_0 m c t) (X0_1 m c t) (X0_2 m c t) (X0_3 m c t) (X0_4 m c t) (X0_5 m c t) (X0_6 m c t) (iblk m c 7 t) (iblk m c 8 t) (iblk m c 9 t) ((dats m 0 c).before 10 t d) = stepQ m c (lastQ t) := by
  unfold mid11 upd
  by_cases h : t.val < 32
  · unfold lastQ; rw [if_pos ((runs_iff t).mpr h), if_pos h]; rfl
  · rw [if_neg (fun e => h ((runs_iff t).mp e))]
    exact before_10 m c t ⟨t.val - 1, by have := t.isLt; omega⟩ (by show t.val - 1 + 1 = t.val; omega) (by omega) d

/-- The bias gradient's buffer before a point, after the zeroing. -/
theorem keepB (c : Dev nD) (t : Fin cfg0.N) (d) :
    ini (grid0.coords t) (k0_pay114 (F := F)) ((dats m 0 c).before 13 t d) = (acc m c t.val).2.2 := by
  unfold ini
  by_cases h : t.val = 0
  · rw [if_pos ((first_iff t).mpr h), h]; rfl
  · rw [if_neg (fun e => h ((first_iff t).mp e))]
    exact before_13 m c t ⟨t.val - 1, by have := t.isLt; omega⟩ (by show t.val - 1 + 1 = t.val; omega) d

/-- What the body leaves in the queries' gradient's buffer is what the obligation asks. -/
theorem leave_10 (c : Dev nD) (t : Fin cfg0.N) (d) :
    (owns (c : Thread nD τ) (st10 t) fullShare (mid11 (grid0.coords t) (X0_0 m c t) (X0_1 m c t) (X0_2 m c t) (X0_3 m c t) (X0_4 m c t) (X0_5 m c t) (X0_6 m c t) (iblk m c 7 t) (iblk m c 8 t) (iblk m c 9 t) ((dats m 0 c).before 10 t d)) : sProp 𝕄) ⊢ (dats m 0 c).leavesExact 10 t := by
  cases hi : cfg0.idle 10 (cfg0.grid.coords t) with
  | false =>
    rw [show (dats m 0 c).leavesExact 10 t = owns (c : Thread nD τ) (st10 t) fullShare ((dats m 0 c).after 10 t) from by
      unfold Dat.leavesExact; rw [hi], after_10, keepQ]
  | true =>
    cases hf : (cfg0.win 10).flush t with
    | true =>
      rw [show (dats m 0 c).leavesExact 10 t = owns (c : Thread nD τ) (st10 t) fullShare ((dats m 0 c).after 10 t) from by
        unfold Dat.leavesExact; rw [hi, hf], after_10, keepQ]
    | false =>
      rw [(dats m 0 c).leavesExact_idle 10 t hi hf]
      unfold mid11 upd
      rw [if_neg (fun e => absurd ((runs_iff t).mp e) (by have := (idle_iff10 t).mp hi; omega))]
      iintro H; iexists d; iexact H

/-- The same for the bias gradient's. -/
theorem leave_13 (c : Dev nD) (t : Fin cfg0.N) (d) :
    (owns (c : Thread nD τ) (st13 t) fullShare (mid14 (grid0.coords t) (X0_0 m c t) (X0_1 m c t) (X0_2 m c t) (X0_3 m c t) (X0_4 m c t) (X0_5 m c t) (X0_6 m c t) (iblk m c 7 t) (iblk m c 8 t) (iblk m c 9 t) (ini (grid0.coords t) (k0_pay114 (F := F)) ((dats m 0 c).before 13 t d))) : sProp 𝕄) ⊢ (dats m 0 c).leavesExact 13 t := by
  cases hi : cfg0.idle 13 (cfg0.grid.coords t) with
  | false =>
    rw [show (dats m 0 c).leavesExact 13 t = owns (c : Thread nD τ) (st13 t) fullShare ((dats m 0 c).after 13 t) from by
      unfold Dat.leavesExact; rw [hi], after_13, acc_succ m c t, keepB]
    exact Idealize.SL.BI.Entails.refl _
  | true =>
    cases hf : (cfg0.win 13).flush t with
    | true =>
      rw [show (dats m 0 c).leavesExact 13 t = owns (c : Thread nD τ) (st13 t) fullShare ((dats m 0 c).after 13 t) from by
        unfold Dat.leavesExact; rw [hi, hf], after_13, acc_succ m c t, keepB]
      exact Idealize.SL.BI.Entails.refl _
    | false =>
      have h32 := (idle_iff13 t).mp hi
      rw [(dats m 0 c).leavesExact_idle 13 t hi hf]
      unfold mid14 upd ini
      rw [if_neg (fun e => absurd ((runs_iff t).mp e) (by omega)), if_neg (fun e => absurd ((first_iff t).mp e) (by omega))]
      iintro H; iexists d; iexact H

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- The invariant before a point, with the accumulators named after the zeroing. -/
theorem Phi_before (c : Dev nD) (t : Fin cfg0.N) : (dats m 0 c).Φ t.castSucc ⊢
    iprop(∃ a, ∃ b, ⌜ini (grid0.coords t) (k0_pay112 (F := F)) a = (acc m c t.val).1 ∧ ini (grid0.coords t) (k0_pay113 (F := F)) b = (acc m c t.val).2.1⌝
      ∗ (∃ d, owns (c : Thread nD τ) sc0 fullShare d) ∗ (∃ d, owns (c : Thread nD τ) sc1 fullShare d) ∗ owns (c : Thread nD τ) sc2 fullShare a ∗ owns (c : Thread nD τ) sc3 fullShare b ∗ (∃ d, owns (c : Thread nD τ) sc4 fullShare d) ∗ (∃ r, prngReg c r)) := by
  show PhiN m c t.val ⊢ _
  obtain ⟨n, hn⟩ := t
  cases n with
  | zero =>
    show Pipeline.ΦA spec0 c ⊢ _
    rw [scratch_eq]
    iintro ⟨⟨H0, H1, ⟨%a, H2⟩, ⟨%b, H3⟩, H4⟩, Hg⟩
    iexists a; iexists b
    isplitr
    · ipureintro
      unfold ini
      rw [if_pos ((first_iff _).mpr rfl), if_pos ((first_iff _).mpr rfl)]; exact ⟨rfl, rfl⟩
    isplitl [H0]; · iexact H0
    isplitl [H1]; · iexact H1
    isplitl [H2]; · iexact H2
    isplitl [H3]; · iexact H3
    isplitl [H4]; · iexact H4
    iexact Hg
  | succ n =>
    show iprop(_ ∗ _) ⊢ _
    iintro ⟨⟨H0, H1, H2, H3, H4⟩, Hg⟩
    iexists (acc m c (n + 1)).1; iexists (acc m c (n + 1)).2.1
    isplitr
    · ipureintro
      unfold ini
      rw [if_neg (fun e => absurd ((first_iff _).mp e) (Nat.succ_ne_zero n)), if_neg (fun e => absurd ((first_iff _).mp e) (Nat.succ_ne_zero n))]; exact ⟨rfl, rfl⟩
    isplitl [H0]; · iexact H0
    isplitl [H1]; · iexact H1
    isplitl [H2]; · iexact H2
    isplitl [H3]; · iexact H3
    isplitl [H4]; · iexact H4
    iexact Hg

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).leavesExact 0 t = owns (c : Thread nD τ) (st0 t) fullShare (X0_0 m c t) from by
    unfold Dat.leavesExact; rw [show cfg0.idle 0 (cfg0.grid.coords t) = false from rfl, after_0]]
  rw [show (dats m 0 c).leavesExact 1 t = owns (c : Thread nD τ) (st1 t) fullShare (X0_1 m c t) from by
    unfold Dat.leavesExact; rw [show cfg0.idle 1 (cfg0.grid.coords t) = false from rfl, after_1]]
  rw [show (dats m 0 c).leavesExact 2 t = owns (c : Thread nD τ) (st2 t) fullShare (X0_2 m c t) from by
    unfold Dat.leavesExact; rw [show cfg0.idle 2 (cfg0.grid.coords t) = false from rfl, after_2]]
  rw [show (dats m 0 c).leavesExact 3 t = owns (c : Thread nD τ) (st3 t) fullShare (X0_3 m c t) from by
    unfold Dat.leavesExact; rw [show cfg0.idle 3 (cfg0.grid.coords t) = false from rfl, after_3]]
  rw [show (dats m 0 c).leavesExact 4 t = owns (c : Thread nD τ) (st4 t) fullShare (X0_4 m c t) from by
    unfold Dat.leavesExact; rw [show cfg0.idle 4 (cfg0.grid.coords t) = false from rfl, after_4]]
  rw [show (dats m 0 c).leavesExact 5 t = owns (c : Thread nD τ) (st5 t) fullShare (X0_5 m c t) from by
    unfold Dat.leavesExact; rw [show cfg0.idle 5 (cfg0.grid.coords t) = false from rfl, after_5]]
  rw [show (dats m 0 c).leavesExact 6 t = owns (c : Thread nD τ) (st6 t) fullShare (X0_6 m c t) from by
    unfold Dat.leavesExact; rw [show cfg0.idle 6 (cfg0.grid.coords t) = false from rfl, after_6]]
  rw [show (dats m 0 c).leavesExact 7 t = owns (c : Thread nD τ) (st7 t) fullShare (iblk m c 7 t) from by
    unfold Dat.leavesExact; rw [show cfg0.idle 7 (cfg0.grid.coords t) = false from rfl, after_7]]
  rw [show (dats m 0 c).leavesExact 8 t = owns (c : Thread nD τ) (st8 t) fullShare (iblk m c 8 t) from by
    unfold Dat.leavesExact; rw [show cfg0.idle 8 (cfg0.grid.coords t) = false from rfl, after_8]]
  rw [show (dats m 0 c).leavesExact 9 t = owns (c : Thread nD τ) (st9 t) fullShare (iblk m c 9 t) from by
    unfold Dat.leavesExact; rw [show cfg0.idle 9 (cfg0.grid.coords t) = false from rfl, after_9]]
  rw [show (dats m 0 c).leavesExact 11 t = owns (c : Thread nD τ) (st11 t) fullShare (k0_pay117 (rowsAt (stepK m c t (acc m c t.val).1) 0 inb_S768x1024_S256x1024_0_0)) from by
    unfold Dat.leavesExact; rw [show cfg0.idle 11 (cfg0.grid.coords t) = false from rfl, after_11]]
  rw [show (dats m 0 c).leavesExact 12 t = owns (c : Thread nD τ) (st12 t) fullShare (k0_pay118 (rowsAt (stepV m c t (acc m c t.val).2.1) 0 inb_S768x1024_S256x1024_0_0)) from by
    unfold Dat.leavesExact; rw [show cfg0.idle 12 (cfg0.grid.coords t) = false from rfl, after_12]]
  rw [show (dats m 0 c).Φ t.succ = PhiN m c (t.val + 1) from rfl, PhiN_succ m c t]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HQ := Phi_before m c t $$ HP
  icases HQ with ⟨%a, %b, %hab, S0, S1, S2, S3, S4, Hg⟩
  obtain ⟨ha, hb⟩ := hab
  iapply (body_wp c (grid0.coords t) _ (wh0 t) _ (wh1 t) _ (wh2 t) _ (wh3 t) _ (wh4 t) _ (wh5 t) _ (wh6 t) _ (wh7 t) _ (wh8 t) _ (wh9 t) _ (wh10 t) _ (wh11 t) _ (wh12 t) _ (wh13 t) _ (Memref.isWhole_whole _) _ (Memref.isWhole_whole _) _ (Memref.isWhole_whole _) _ (Memref.isWhole_whole _) _ (Memref.isWhole_whole _)
    (X0_0 m c t) (X0_1 m c t) (X0_2 m c t) (X0_3 m c t) (X0_4 m c t) (X0_5 m c t) (X0_6 m c t) (iblk m c 7 t) (iblk m c 8 t) (iblk m c 9 t) ((dats m 0 c).before 10 t d10) _ _ ((dats m 0 c).before 13 t d13) a b Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, S0, S1, S2, S3, S4⟩
  isplitl [S0 S1 S2 S3 S4 Hg]
  · isplitl [S0 S1 S2 S3 S4]
    · isplitl [S0]; · iexact S0
      isplitl [S1]; · iexact S1
      isplitl [S2]; · rw [← ha]; iexact S2
      isplitl [S3]; · rw [← hb]; iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leave_10 m c t d10); iexact H10
  isplitl [H11]; · rw [← ha]; iexact H11
  isplitl [H12]; · rw [← hb]; iexact H12
  iapply (leave_13 m c t d13); iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiN m c (33 + 1) from by
    show PhiN m c (Fin.last cfg0.N).val = _; rw [Fin.val_last, show cfg0.N = 34 from N_0], scratch_eq]
  show iprop(_ ∗ _) ⊢ _
  iintro ⟨⟨H0, H1, H2, H3, H4⟩, Hg⟩
  isplitl [H0 H1 H2 H3 H4]
  · isplitl [H0]; · iexact H0
    isplitl [H1]; · iexact H1
    isplitl [H2]; · iexists _; iexact H2
    isplitl [H3]; · iexists _; iexact H3
    iexact H4
  iexact Hg

set_option backward.isDefEq.respectTransparency.types false in
/-- The launch. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, at any values. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Bwd

end
-- ==== Proof.KFrame.lean ====
module

public import proofs.«01_k».proof.Defs
public import proofs.«01_k».proof.Proof.Gen.Kernel
public import proofs.«01_k».proof.Proof.Launch

@[expose] public section

set_option maxRecDepth 100000

/-! # The kernel's frame, from that of its idealization

The two programs are the same text, over their own names: their main functions are equal by unfolding, and so are their bodies
once the one label is named. The frame of the idealization holds at every reading of the floats, so at the machine's. -/

namespace Cert.Proof

open Idealize.ShloMosaic Idealize.SL.Sem

set_option maxHeartbeats 8000000 in
/-- The bodies of the two programs' one kernel are the same. -/
theorem bodies : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun x => ?_)
  match l, x with
  | 0, (t, s) => rfl

set_option maxHeartbeats 8000000 in
/-- So are their procedures: the bodies and the pipeline around them. -/
theorem procedures : @Cert.Kernel.defs Bits _ Cert.Kernel.Gen.facts = @Cert.KernelIdeal.defs Bits _ Cert.KernelIdeal.Gen.facts :=
  congrArg (Pipeline.defs (Cert.Kernel.pcfgs (F := Bits))) bodies

set_option maxHeartbeats 8000000 in
/-- The kernel's frame: its program is quiescent and keeps its arguments. -/
theorem frame_kernel : Cert.quiescent_Kernel := fun m ρ _ => by
  rw [procedures]
  exact Cert.Bwd.frame_ideal (F := Bits) m ρ

end Cert.Proof
-- ==== Proof.Math.lean ====
module

public import Idealize.ShloMosaic.Lib.Pointwise
public import Idealize.ShloMosaic.Lib.Claim
public import Mathlib.Analysis.SpecialFunctions.Log.Basic

@[expose] public section

noncomputable section

/-! # The attention's gradient over the real numbers

Token `i` of 8192 stands in chunk `i / 64`; its band is the 576 positions from `64 * (i / 64)` on, where position `R` is the
token `R - 512` (a position below 512 is before the sequence). -/

namespace Cert.Att

open Finset

/-- The arrays: queries, keys, values and the output's gradient by token and column, the bias by head, token of the chunk and
position of the band. -/
structure Arrs where
  q : ℕ → ℕ → ℝ
  k : ℕ → ℕ → ℝ
  v : ℕ → ℕ → ℝ
  o : ℕ → ℕ → ℝ
  b : ℕ → ℕ → ℕ → ℝ

/-- Position `R` is a token of token `i`'s band. -/
abbrev inb (i R : ℕ) : Prop := 512 ≤ R ∧ 64 * (i / 64) ≤ R ∧ R < 64 * (i / 64) + 576

namespace Arrs

variable (A : Arrs)

/-- The score. -/
def S (i h R : ℕ) : ℝ := (∑ d ∈ range 64, A.q i (64 * h + d) * A.k (R - 512) (64 * h + d)) * (1 / 8) + A.b h (i % 64) (R - 64 * (i / 64))
/-- Its exponential, on the band. -/
def E (i h R : ℕ) : ℝ := if inb i R then Real.exp (A.S i h R) else 0
/-- Their sum over the band. -/
def Z (i h : ℕ) : ℝ := ∑ j ∈ range 576, A.E i h (64 * (i / 64) + j)
/-- The probability. -/
def pt (i h R : ℕ) : ℝ := A.E i h R / A.Z i h
/-- The probability's gradient. -/
def dp (i h R : ℕ) : ℝ := ∑ d ∈ range 64, A.v (R - 512) (64 * h + d) * A.o i (64 * h + d)
/-- The mean of it under the probabilities. -/
def dl (i h : ℕ) : ℝ := ∑ j ∈ range 576, A.dp i h (64 * (i / 64) + j) * A.pt i h (64 * (i / 64) + j)
/-- The score's gradient. -/
def ds (i h R : ℕ) : ℝ := A.pt i h R * (A.dp i h R - A.dl i h)

/-- The gradient of the queries, -/
def dq (i c : ℕ) : ℝ := (∑ j ∈ range 576, A.ds i (c / 64) (64 * (i / 64) + j) * A.k (64 * (i / 64) + j - 512) c) * (1 / 8)
/-- of the keys, -/
def dk (r c : ℕ) : ℝ := ∑ i ∈ range 8192, A.ds i (c / 64) (r + 512) * (A.q i c * (1 / 8))
/-- of the values -/
def dv (r c : ℕ) : ℝ := ∑ i ∈ range 8192, A.pt i (c / 64) (r + 512) * A.o i c
/-- and of the bias. -/
def db (h j c : ℕ) : ℝ := ∑ n ∈ range 128, A.ds (64 * n + c) h (64 * n + j)

theorem E_out {i h R : ℕ} (hn : ¬ inb i R) : A.E i h R = 0 := if_neg hn
theorem pt_out {i h R : ℕ} (hn : ¬ inb i R) : A.pt i h R = 0 := by unfold pt; rw [A.E_out hn, zero_div]
theorem ds_out {i h R : ℕ} (hn : ¬ inb i R) : A.ds i h R = 0 := by unfold ds; rw [A.pt_out hn, zero_mul]

theorem E_nonneg (i h R : ℕ) : 0 ≤ A.E i h R := by unfold E; split; exacts [(Real.exp_pos _).le, le_rfl]

theorem Z_pos (i h : ℕ) : 0 < A.Z i h := by
  refine Finset.sum_pos' (fun j _ => A.E_nonneg _ _ _) ⟨512, by simp, ?_⟩
  unfold E
  rw [if_pos ⟨by omega, by omega, by omega⟩]
  exact Real.exp_pos _

theorem exp_sub_log {i h R : ℕ} (hi : inb i R) : Real.exp (A.S i h R - Real.log (A.Z i h)) = A.pt i h R := by
  unfold pt E
  rw [if_pos hi, Real.exp_sub, Real.exp_log (A.Z_pos i h)]

end Arrs

/-- A sum over the window of a function that vanishes off the band of the `a`-th chunk is the sum over the band. -/
theorem sum_band (g : ℕ → ℝ) (a : ℕ) (ha : a < 4) (hg : ∀ w, ¬ (64 * a ≤ w ∧ w < 64 * a + 576) → g w = 0) :
    ∑ w ∈ range 768, g w = ∑ j ∈ range 576, g (64 * a + j) := by
  rw [Finset.sum_image (s := range 576) (g := fun j => 64 * a + j) (f := g) (fun x _ y _ h => by simpa using h) |>.symm]
  symm
  refine Finset.sum_subset (fun w hw => ?_) (fun w _ hw => hg w fun h => hw ?_)
  · obtain ⟨j, hj, rfl⟩ := Finset.mem_image.1 hw
    have := Finset.mem_range.1 hj
    exact Finset.mem_range.2 (by omega)
  · exact Finset.mem_image.2 ⟨w - 64 * a, Finset.mem_range.2 (by omega), by show 64 * a + (w - 64 * a) = w; omega⟩

/-- A sum over 512 query columns, the second 256 for the second head, where only one head counts. -/
theorem sum_pair (g : ℕ → ℝ) (u : ℕ) (hu : u < 2) (hg : ∀ y, y / 256 ≠ u → g y = 0) :
    ∑ y ∈ range 512, g y = ∑ x ∈ range 256, g (256 * u + x) := by
  rw [Finset.sum_image (s := range 256) (g := fun j => 256 * u + j) (f := g) (fun x _ y _ h => by simpa using h) |>.symm]
  symm
  refine Finset.sum_subset (fun w hw => ?_) (fun w hw' hw => hg w fun h => hw ?_)
  · obtain ⟨j, hj, rfl⟩ := Finset.mem_image.1 hw
    have := Finset.mem_range.1 hj
    exact Finset.mem_range.2 (by omega)
  · have := Finset.mem_range.1 hw'
    exact Finset.mem_image.2 ⟨w - 256 * u, Finset.mem_range.2 (by omega), by show 256 * u + (w - 256 * u) = w; omega⟩

/-- A sum over the 128 columns of a pair, where only one head's 64 count. -/
theorem sum_half (g : ℕ → ℝ) (u : ℕ) (hu : u < 2) (hg : ∀ y, y / 64 ≠ u → g y = 0) :
    ∑ y ∈ range 128, g y = ∑ x ∈ range 64, g (64 * u + x) := by
  rw [Finset.sum_image (s := range 64) (g := fun j => 64 * u + j) (f := g) (fun x _ y _ h => by simpa using h) |>.symm]
  symm
  refine Finset.sum_subset (fun w hw => ?_) (fun w hw' hw => hg w fun h => hw ?_)
  · obtain ⟨j, hj, rfl⟩ := Finset.mem_image.1 hw
    have := Finset.mem_range.1 hj
    exact Finset.mem_range.2 (by omega)
  · have := Finset.mem_range.1 hw'
    exact Finset.mem_image.2 ⟨w - 64 * u, Finset.mem_range.2 (by omega), by show 64 * u + (w - 64 * u) = w; omega⟩

/-! ## Sums of reals as extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum whose terms are reals, by number. -/
theorem sum_fin {n : ℕ} (F : Fin n → EReal) (f : ℕ → ℝ) (h : ∀ k : Fin n, F k = ((f k.val : ℝ) : EReal)) :
    ∑ k, F k = ((∑ i ∈ range n, f i : ℝ) : EReal) := by
  rw [Finset.sum_congr rfl fun k _ => h k, ← coe_sum, Finset.sum_range]

end Cert.Att
-- ==== Proof.KPair.lean ====
module

public import proofs.«01_k».proof.Proof.Body
public import proofs.«01_k».proof.Proof.Math
public import Idealize.ShloMosaic.Lib.Tactic.WordOmega

@[expose] public section

set_option maxRecDepth 16384

noncomputable section

/-! # What a head pair computes, over the real numbers -/

namespace Cert.Bwd

open Idealize.ShloMosaic Idealize.SL.Sem Cert.KernelIdeal Cert.KernelIdeal.Gen Cert.Att
open Finset (range)

theorem eighth : Ideal.ofBits .f32 0x3E000000#32 = ((1 / 8 : ℝ) : EReal) := by
  simp [Ideal.ofBits, Ideal.ieee, -EReal.coe_mul]; norm_num

theorem neg_inf : Ideal.ofBits .f32 0xFF800000#32 = (⊥ : EReal) := by
  simp [Ideal.ofBits, Ideal.ieee]

theorem lane_lt (l : Fin 128) : IntOp.cmpi .slt (BitVec.ofNat 32 l.val) 64#32 = BitVec.ofBool (decide (l.val < 64)) := by
  revert l; decide

theorem mask_bit (t w : ℕ) (ht : t < 64) (hw : w < 768) :
    IntOp.cmpi .sge (IntOp.addi (Scalar.subi (Scalar.muli (BitVec.ofNat 32 t) 256#32) 512#32) (BitVec.ofNat 32 w)) 0#32
      = BitVec.ofBool (decide (512 ≤ 256 * t + w)) := by
  show BitVec.ofBool (BitVec.sle 0#32 (BitVec.ofNat 32 t * 256#32 - 512#32 + BitVec.ofNat 32 w)) = _
  congr 1
  rw [BitVec.sle_eq_decide]
  have h : (BitVec.ofNat 32 t * 256#32 - 512#32 + BitVec.ofNat 32 w).toNat = if 512 ≤ 256 * t + w then 256 * t + w - 512 else 2 ^ 32 + (256 * t + w) - 512 := by
    simp only [BitVec.toNat_add, BitVec.toNat_sub, BitVec.toNat_mul, BitVec.toNat_ofNat]
    split <;> omega
  rw [BitVec.toInt_eq_toNat_cond, BitVec.toInt_eq_toNat_cond, h]
  simp only [decide_eq_decide]
  split_ifs <;> simp_all <;> omega

/-- What head pair `p` of step `t` loads, in terms of the arrays; `kw` and `vw` are the window's keys and values. -/
structure PairIn (A : Arrs) (t p : ℕ) (kw vw : ℕ → ℕ → ℝ) (q o : Vec Ideal S256x128 .f32) (k v : Vec Ideal S768x128 .bf16) (b : Vec Ideal S1x768x512 .f32)
    (l0 l1 : Vec Ideal S1x256 .f32) : Prop where
  ht : t < 32
  hq : ∀ (x : Fin 256) (l : Fin 128), q (ix2 x l) = ((A.q (256 * t + x.val) (128 * p + l.val) : ℝ) : EReal)
  ho : ∀ (x : Fin 256) (l : Fin 128), o (ix2 x l) = ((A.o (256 * t + x.val) (128 * p + l.val) : ℝ) : EReal)
  hk : ∀ (w : Fin 768) (l : Fin 128), k (ix2 w l) = ((kw w.val l.val : ℝ) : EReal)
  hv : ∀ (w : Fin 768) (l : Fin 128), v (ix2 w l) = ((vw w.val l.val : ℝ) : EReal)
  hkw : ∀ w l, 512 ≤ 256 * t + w → w < 768 → l < 128 → kw w l = A.k (256 * t + w - 512) (128 * p + l)
  hvw : ∀ w l, 512 ≤ 256 * t + w → w < 768 → l < 128 → vw w l = A.v (256 * t + w - 512) (128 * p + l)
  hb : ∀ (w : Fin 768) (y : Fin 512), b (ix3 0 w y) = if 64 * (y.val % 256 / 64) ≤ w.val ∧ w.val < 64 * (y.val % 256 / 64) + 576
    then ((A.b (2 * p + y.val / 256) (y.val % 64) (w.val - 64 * (y.val % 256 / 64)) : ℝ) : EReal) else ⊥
  hl0 : ∀ x : Fin 256, l0 (ix2 0 x) = ((Real.log (A.Z (256 * t + x.val) (2 * p)) : ℝ) : EReal)
  hl1 : ∀ x : Fin 256, l1 (ix2 0 x) = ((Real.log (A.Z (256 * t + x.val) (2 * p + 1)) : ℝ) : EReal)

/-- A pair's two heads side by side: the column's head if it is the row's, else nothing. -/
theorem pay13_apply (o : Vec Ideal S256x128 .f32) (f : ℕ → ℕ → ℝ) (h : ∀ (x : Fin 256) (l : Fin 128), o (ix2 x l) = ((f x.val l.val : ℝ) : EReal))
    (y : Fin 512) (l : Fin 128) :
    k0_pay13 (F := Ideal) o (ix2 y l) = ((if l.val / 64 = y.val / 256 then f (y.val % 256) l.val else 0 : ℝ) : EReal) := by
  have hy := y.isLt
  have hl := l.isLt
  pointwise [k0_pay13, k0_pay11, lane_lt]
  simp only [h]
  by_cases h1 : y.val < 256 <;> by_cases h2 : l.val < 64
  · rw [dif_pos h1, if_pos h2, if_pos (by omega), Nat.mod_eq_of_lt h1]
  · rw [dif_pos h1, if_neg h2, if_neg (by omega)]; rfl
  · rw [dif_neg h1, if_pos h2, if_neg (by omega)]; rfl
  · rw [dif_neg h1, if_neg h2, if_pos (by omega), show y.val % 256 = y.val - 256 by omega]

theorem pay12_apply (q : Vec Ideal S256x128 .f32) (f : ℕ → ℕ → ℝ) (h : ∀ (x : Fin 256) (l : Fin 128), q (ix2 x l) = ((f x.val l.val : ℝ) : EReal))
    (y : Fin 512) (l : Fin 128) :
    k0_pay12 (F := Ideal) q (ix2 y l) = ((if l.val / 64 = y.val / 256 then f (y.val % 256) l.val * (1 / 8) else 0 : ℝ) : EReal) := by
  have hy := y.isLt
  have hl := l.isLt
  pointwise [k0_pay12, k0_pay11, lane_lt]
  simp only [h, eighth]
  by_cases h1 : y.val < 256 <;> by_cases h2 : l.val < 64
  · rw [dif_pos h1, if_pos h2, if_pos (by omega), Nat.mod_eq_of_lt h1, EReal.coe_mul]
  · rw [dif_pos h1, if_neg h2, if_neg (by omega), zero_mul]; rfl
  · rw [dif_neg h1, if_pos h2, if_neg (by omega), zero_mul]; rfl
  · rw [dif_neg h1, if_neg h2, if_pos (by omega), show y.val % 256 = y.val - 256 by omega, EReal.coe_mul]

variable {A : Arrs} {t p : ℕ} {kw vw : ℕ → ℕ → ℝ} {q o : Vec Ideal S256x128 .f32} {k v : Vec Ideal S768x128 .bf16} {b : Vec Ideal S1x768x512 .f32} {l0 l1 : Vec Ideal S1x256 .f32}

/-- A product over a pair's 128 columns is one over the head's 64. -/
theorem half_sum (X : Vec Ideal S768x128 .bf16) (Y : Vec Ideal S512x128 .bf16) (x : ℕ → ℕ → ℝ) (f : ℕ → ℕ → ℝ)
    (hX : ∀ (w : Fin 768) (l : Fin 128), X (ix2 w l) = ((x w.val l.val : ℝ) : EReal))
    (hY : ∀ (y : Fin 512) (l : Fin 128), Y (ix2 y l) = ((if l.val / 64 = y.val / 256 then f (y.val % 256) l.val else 0 : ℝ) : EReal))
    (w : Fin 768) (y : Fin 512) :
    ∑ l : Fin 128, X (ix2 w l) * Y (ix2 y l) = ((∑ d ∈ range 64, x w.val (64 * (y.val / 256) + d) * f (y.val % 256) (64 * (y.val / 256) + d) : ℝ) : EReal) := by
  have hy := y.isLt
  rw [sum_fin _ (fun l => x w.val l * (if l / 64 = y.val / 256 then f (y.val % 256) l else 0)) (fun l => by rw [hX, hY, EReal.coe_mul])]
  congr 1
  rw [sum_half _ (y.val / 256) (by omega) (fun l hl => by rw [if_neg hl, mul_zero])]
  exact Finset.sum_congr rfl fun d hd => by
    have := Finset.mem_range.1 hd
    rw [if_pos (by omega)]

/-- The masked scores. -/
theorem st_apply (H : PairIn A t p kw vw q o k v b l0 l1) (w : Fin 768) (y : Fin 512) :
    k0_pay14 (F := Ideal) (BitVec.ofNat 32 t) q k b (ix2 w y)
      = if inb (256 * t + y.val % 256) (256 * t + w.val) then ((A.S (256 * t + y.val % 256) (2 * p + y.val / 256) (256 * t + w.val) : ℝ) : EReal) else ⊥ := by
  have hy := y.isLt
  have hw := w.isLt
  have ht := H.ht
  pointwise [k0_pay14, k0_pay10, mask_bit t w.val (by omega) hw]
  rw [half_sum k _ kw (fun x l => A.q (256 * t + x) (128 * p + l) * (1 / 8)) H.hk (pay12_apply q (fun x l => A.q (256 * t + x) (128 * p + l)) H.hq), H.hb, neg_inf]
  by_cases hm : 512 ≤ 256 * t + w.val
  · rw [if_pos hm]
    by_cases hb : 64 * (y.val % 256 / 64) ≤ w.val ∧ w.val < 64 * (y.val % 256 / 64) + 576
    · rw [if_pos hb, if_pos ⟨hm, by omega, by omega⟩, ← EReal.coe_add]
      congr 1
      unfold Arrs.S
      rw [Finset.sum_mul, show (256 * t + y.val % 256) % 64 = y.val % 64 by omega, show 256 * t + w.val - 64 * ((256 * t + y.val % 256) / 64) = w.val - 64 * (y.val % 256 / 64) by omega]
      congr 1
      refine Finset.sum_congr rfl fun d hd => ?_
      have := Finset.mem_range.1 hd
      rw [H.hkw _ _ hm hw (by omega), show 128 * p + (64 * (y.val / 256) + d) = 64 * (2 * p + y.val / 256) + d by omega]
      ring
    · rw [if_neg hb, if_neg (fun h => hb ⟨by have := h.2.1; omega, by have := h.2.2; omega⟩), EReal.add_bot]
  · rw [if_neg hm, if_neg (fun h => hm h.1)]

/-- The probabilities. -/
theorem pt_apply (H : PairIn A t p kw vw q o k v b l0 l1) (w : Fin 768) (y : Fin 512) :
    k0_pay16 (F := Ideal) (k0_pay14 (BitVec.ofNat 32 t) q k b) (k0_pay15 l0) l1 (ix2 w y)
      = ((A.pt (256 * t + y.val % 256) (2 * p + y.val / 256) (256 * t + w.val) : ℝ) : EReal) := by
  have hy := y.isLt
  pointwise [k0_pay16, k0_pay15]
  rw [st_apply H]
  have hl : (if h : y.val < 256 then l0 (ix2 0 ⟨y.val, h⟩) else l1 (ix2 0 ⟨y.val - 256, by omega⟩))
      = ((Real.log (A.Z (256 * t + y.val % 256) (2 * p + y.val / 256)) : ℝ) : EReal) := by
    split
    · rw [H.hl0]; simp only []; rw [show y.val % 256 = y.val by omega, show 2 * p + y.val / 256 = 2 * p by omega]
    · rw [H.hl1]; simp only []; rw [show y.val % 256 = y.val - 256 by omega, show 2 * p + y.val / 256 = 2 * p + 1 by omega]
  rw [hl]
  by_cases hi : inb (256 * t + y.val % 256) (256 * t + w.val)
  · rw [if_pos hi, ← EReal.coe_sub, Ideal.exp_coe, A.exp_sub_log hi]
  · rw [if_neg hi, A.pt_out hi, EReal.bot_sub, Ideal.exp_bot]; rfl

/-- The scores' gradient. -/
theorem ds_apply (H : PairIn A t p kw vw q o k v b l0 l1) (w : Fin 768) (y : Fin 512) :
    payDsF (F := Ideal) (BitVec.ofNat 32 t) q o k b l0 l1 v (ix2 w y)
      = ((A.ds (256 * t + y.val % 256) (2 * p + y.val / 256) (256 * t + w.val) : ℝ) : EReal) := by
  have hy := y.isLt
  have hw := w.isLt
  pointwise [payDsF, k0_pay18]
  have hd : ∀ w : Fin 768, ∑ l : Fin 128, v (ix2 w l) * k0_pay13 (F := Ideal) o (ix2 y l)
      = ((∑ d ∈ range 64, vw w.val (64 * (y.val / 256) + d) * A.o (256 * t + y.val % 256) (128 * p + (64 * (y.val / 256) + d)) : ℝ) : EReal) := fun w =>
    half_sum v _ vw (fun x l => A.o (256 * t + x) (128 * p + l)) H.hv (pay13_apply o (fun x l => A.o (256 * t + x) (128 * p + l)) H.ho) w y
  simp only [hd, pt_apply H]
  set g : ℕ → ℝ := fun w => ∑ d ∈ range 64, vw w (64 * (y.val / 256) + d) * A.o (256 * t + y.val % 256) (128 * p + (64 * (y.val / 256) + d)) with hg
  have hdp : ∀ w, 512 ≤ 256 * t + w → w < 768 → g w = A.dp (256 * t + y.val % 256) (2 * p + y.val / 256) (256 * t + w) := fun w hm hw => by
    refine Finset.sum_congr rfl fun d hd => ?_
    have := Finset.mem_range.1 hd
    rw [H.hvw _ _ hm hw (by omega), show 128 * p + (64 * (y.val / 256) + d) = 64 * (2 * p + y.val / 256) + d by omega]
  rw [sum_fin _ (fun w => g w * A.pt (256 * t + y.val % 256) (2 * p + y.val / 256) (256 * t + w)) (fun w => by rw [EReal.coe_mul]),
    sum_band _ (y.val % 256 / 64) (by omega) (fun w hn => by rw [A.pt_out (fun h => hn ⟨by have := h.2.1; omega, by have := h.2.2; omega⟩), mul_zero])]
  have hdl : ∑ j ∈ range 576, g (64 * (y.val % 256 / 64) + j) * A.pt (256 * t + y.val % 256) (2 * p + y.val / 256) (256 * t + (64 * (y.val % 256 / 64) + j))
      = A.dl (256 * t + y.val % 256) (2 * p + y.val / 256) := by
    unfold Arrs.dl
    refine Finset.sum_congr rfl fun j hj => ?_
    have := Finset.mem_range.1 hj
    rw [show 64 * ((256 * t + y.val % 256) / 64) + j = 256 * t + (64 * (y.val % 256 / 64) + j) by omega]
    by_cases hm : 512 ≤ 256 * t + (64 * (y.val % 256 / 64) + j)
    · rw [hdp _ hm (by omega)]
    · rw [A.pt_out (fun h => hm h.1), mul_zero, mul_zero]
  rw [hdl, ← EReal.coe_sub, ← EReal.coe_mul]
  congr 1
  unfold Arrs.ds
  by_cases hm : 512 ≤ 256 * t + w.val
  · rw [← hdp _ hm hw]
  · rw [A.pt_out (fun h => hm h.1), zero_mul, zero_mul]

theorem dsS_apply (H : PairIn A t p kw vw q o k v b l0 l1) (w : Fin 768) (y : Fin 512) :
    payDs (F := Ideal) (BitVec.ofNat 32 t) q o k b l0 l1 v (ix2 w y)
      = ((A.ds (256 * t + y.val % 256) (2 * p + y.val / 256) (256 * t + w.val) : ℝ) : EReal) := by
  rw [← ds_apply H]
  pointwise [payDs, payDsF, k0_pay19]

/-- A product over a pair's 512 query columns is one over the head's 256. -/
theorem rows_sum (X : Vec Ideal S768x512 .f32) (Y : Vec Ideal S512x128 .bf16) (x : ℕ → ℕ → ℝ) (f : ℕ → ℕ → ℝ)
    (w : Fin 768) (l : Fin 128) (hX : ∀ (y : Fin 512), X (ix2 w y) = ((x (y.val / 256) (y.val % 256) : ℝ) : EReal))
    (hY : ∀ (y : Fin 512) (l : Fin 128), Y (ix2 y l) = ((if l.val / 64 = y.val / 256 then f (y.val % 256) l.val else 0 : ℝ) : EReal)) :
    ∑ y : Fin 512, X (ix2 w y) * Y (ix2 y l) = ((∑ y ∈ range 256, x (l.val / 64) y * f y l.val : ℝ) : EReal) := by
  have hl := l.isLt
  rw [sum_fin _ (fun y => x (y / 256) (y % 256) * (if l.val / 64 = y / 256 then f (y % 256) l.val else 0)) (fun y => by rw [hX, hY, EReal.coe_mul])]
  congr 1
  rw [sum_pair _ (l.val / 64) (by omega) (fun y hy => by rw [if_neg (fun h => hy h.symm), mul_zero])]
  exact Finset.sum_congr rfl fun d hd => by
    have := Finset.mem_range.1 hd
    rw [show (256 * (l.val / 64) + d) / 256 = l.val / 64 by omega, show (256 * (l.val / 64) + d) % 256 = d by omega, if_pos rfl]

/-- The values' accumulator after the pair, -/
theorem dv_apply (H : PairIn A t p kw vw q o k v b l0 l1) (av : Vec Ideal S768x128 .f32) (w : Fin 768) (l : Fin 128) :
    payDv (F := Ideal) (BitVec.ofNat 32 t) q o k b l0 l1 av (ix2 w l)
      = av (ix2 w l) + ((∑ x ∈ range 256, A.pt (256 * t + x) (2 * p + l.val / 64) (256 * t + w.val) * A.o (256 * t + x) (128 * p + l.val) : ℝ) : EReal) := by
  pointwise [payDv, k0_pay17]
  exact congrArg (av (ix2 w l) + ·) (rows_sum (k0_pay16 (k0_pay14 (BitVec.ofNat 32 t) q k b) (k0_pay15 l0) l1) _
    (fun u x => A.pt (256 * t + x) (2 * p + u) (256 * t + w.val)) (fun x l => A.o (256 * t + x) (128 * p + l)) w l (pt_apply H w) (pay13_apply o (fun x l => A.o (256 * t + x) (128 * p + l)) H.ho))

/-- the keys', -/
theorem dk_apply (H : PairIn A t p kw vw q o k v b l0 l1) (ak : Vec Ideal S768x128 .f32) (w : Fin 768) (l : Fin 128) :
    payDk (F := Ideal) (BitVec.ofNat 32 t) q o k b l0 l1 v ak (ix2 w l)
      = ak (ix2 w l) + ((∑ x ∈ range 256, A.ds (256 * t + x) (2 * p + l.val / 64) (256 * t + w.val) * (A.q (256 * t + x) (128 * p + l.val) * (1 / 8)) : ℝ) : EReal) := by
  pointwise [payDk, k0_pay24, k0_pay23]
  exact congrArg (ak (ix2 w l) + ·) (rows_sum (payDsF (BitVec.ofNat 32 t) q o k b l0 l1 v) _
    (fun u x => A.ds (256 * t + x) (2 * p + u) (256 * t + w.val)) (fun x l => A.q (256 * t + x) (128 * p + l) * (1 / 8)) w l (ds_apply H w) (pay12_apply q (fun x l => A.q (256 * t + x) (128 * p + l)) H.hq))

/-- and the queries' gradient. -/
theorem dq_apply (H : PairIn A t p kw vw q o k v b l0 l1) (x : Fin 256) (l : Fin 128) :
    payDq (F := Ideal) (BitVec.ofNat 32 t) q o k b l0 l1 v (ix2 x l)
      = ((A.dq (256 * t + x.val) (128 * p + l.val) : ℝ) : EReal) := by
  have hx := x.isLt
  have hl := l.isLt
  have ht := H.ht
  pointwise [payDq, k0_pay25, k0_pay11, k0_pay23, lane_lt]
  have key : ∀ y : Fin 512, y.val % 256 = x.val → y.val / 256 = l.val / 64 →
      ∑ w : Fin 768, payDsF (F := Ideal) (BitVec.ofNat 32 t) q o k b l0 l1 v (ix2 w y) * k (ix2 w l) * 1
        = ((∑ j ∈ range 576, A.ds (256 * t + x.val) ((128 * p + l.val) / 64) (64 * ((256 * t + x.val) / 64) + j) * A.k (64 * ((256 * t + x.val) / 64) + j - 512) (128 * p + l.val) : ℝ) : EReal) := by
    intro y h1 h2
    rw [sum_fin _ (fun w => A.ds (256 * t + x.val) ((128 * p + l.val) / 64) (256 * t + w) * kw w l.val) (fun w => by
      rw [ds_apply H, H.hk, h1, h2, mul_one, EReal.coe_mul, show 2 * p + l.val / 64 = (128 * p + l.val) / 64 by omega]),
      sum_band _ (x.val / 64) (by omega) (fun w hn => by rw [A.ds_out (fun h => hn ⟨by have := h.2.1; omega, by have := h.2.2; omega⟩), zero_mul])]
    congr 1
    refine Finset.sum_congr rfl fun j hj => ?_
    have := Finset.mem_range.1 hj
    rw [show 64 * ((256 * t + x.val) / 64) + j = 256 * t + (64 * (x.val / 64) + j) by omega]
    by_cases hm : 512 ≤ 256 * t + (64 * (x.val / 64) + j)
    · rw [H.hkw _ _ hm (by omega) hl]
    · rw [A.ds_out (fun h => hm h.1), zero_mul, zero_mul]
  simp only [mul_one] at key
  unfold Arrs.dq
  rw [EReal.coe_mul, eighth]
  split
  · rw [key ⟨x.val, by omega⟩ (by simp only []; omega) (by simp only []; omega)]
  · rw [key ⟨256 + x.val, by omega⟩ (by simp only []; omega) (by simp only []; omega)]

end Cert.Bwd
-- ==== Proof.Host.lean ====
module

public import proofs.«01_k».proof.Proof.Gen.KernelIdeal.Frame
public import proofs.«01_k».proof.Proof.Math
public import Idealize.ShloMosaic.Lib.Claim
public import Idealize.ShloMosaic.Lib.Pointwise
public import Idealize.ShloMosaic.Lib.Tactic.WordOmega

/-!
# The lines before the call: the score of every query of a chunk against its band of keys

The program before the kernel's launch computes the log of every row's sum of exponentials from the queries, the
keys and the table of relative biases. The reference begins with the same lines. Each line (or a few of them) is a
definition here, with a theorem that reads it at an index.
-/

@[expose] public section

set_option maxRecDepth 16384

noncomputable section
namespace Cert.Host

open Idealize.ShloMosaic Idealize.SL.Sem Cert.KernelIdeal Cert.KernelIdeal.Gen Cert.Att

/-- Column `c + 512 − j` clipped to `−63 … 256` and moved up by 63: where the bias of key `j` of a chunk's band for
    the chunk's query `c` stands in its table. -/
def idx0 : IVec S64x576 32 :=
  addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))

/-- The same position, wrapped as an index. -/
def idx : IVec S64x576 32 :=
  select (cmpi .slt idx0 (broadcastInDim S64x576 ![] bcast_S_S64x576 (constantI S_ 32 0#32))) (addi idx0 (broadcastInDim S64x576 ![] bcast_S_S64x576 (constantI S_ 32 320#32))) idx0

/-- The biases of the band, picked out of the table. -/
def rel (x1 : FVec Ideal S16x320 .f32) : FVec Ideal S16x64x576 .f32 :=
  Host.gather gather_S16x320_S64x576x1_S16x64x576_0_1_n_n_1_2_161 x1 (broadcastInDim S64x576x1 ![0, 1] bcast_S64x576_S64x576x1_0_1 idx)

/-- An array in chunks of 64 rows with eight chunks of zeros before it. -/
def padded (y : FVec Ideal S128x64x16x64 .f32) : FVec Ideal S136x64x16x64 .f32 :=
  concatenate S136x64x16x64 0 [⟨S8x64x16x64, (broadcastInDim S8x64x16x64 ![] bcast_S_S8x64x16x64 (constant (F := Ideal) S_ .f32 0x00000000#32))⟩, ⟨S128x64x16x64, y⟩] concatenates_S8x64x16x64_S128x64x16x64_S136x64x16x64_d0

/-- The nine chunks that each chunk of queries sees, side by side. -/
def band (z : FVec Ideal S136x64x16x64 .f32) : FVec Ideal S128x576x16x64 .f32 :=
  concatenate S128x576x16x64 1 [⟨S128x64x16x64, extractStridedSlice S128x64x16x64 ![0, 0, 0, 0] z slices_S136x64x16x64_S128x64x16x64_0_0_0_0⟩, ⟨S128x64x16x64, extractStridedSlice S128x64x16x64 ![1, 0, 0, 0] z slices_S136x64x16x64_S128x64x16x64_1_0_0_0⟩, ⟨S128x64x16x64, extractStridedSlice S128x64x16x64 ![2, 0, 0, 0] z slices_S136x64x16x64_S128x64x16x64_2_0_0_0⟩, ⟨S128x64x16x64, extractStridedSlice S128x64x16x64 ![3, 0, 0, 0] z slices_S136x64x16x64_S128x64x16x64_3_0_0_0⟩, ⟨S128x64x16x64, extractStridedSlice S128x64x16x64 ![4, 0, 0, 0] z slices_S136x64x16x64_S128x64x16x64_4_0_0_0⟩, ⟨S128x64x16x64, extractStridedSlice S128x64x16x64 ![5, 0, 0, 0] z slices_S136x64x16x64_S128x64x16x64_5_0_0_0⟩, ⟨S128x64x16x64, extractStridedSlice S128x64x16x64 ![6, 0, 0, 0] z slices_S136x64x16x64_S128x64x16x64_6_0_0_0⟩, ⟨S128x64x16x64, extractStridedSlice S128x64x16x64 ![7, 0, 0, 0] z slices_S136x64x16x64_S128x64x16x64_7_0_0_0⟩, ⟨S128x64x16x64, extractStridedSlice S128x64x16x64 ![8, 0, 0, 0] z slices_S136x64x16x64_S128x64x16x64_8_0_0_0⟩] concatenates_S128x64x16x64_S128x64x16x64_S128x64x16x64_S128x64x16x64_S128x64x16x64_S128x64x16x64_S128x64x16x64_S128x64x16x64_S128x64x16x64_S128x576x16x64_d1

/-- The queries in chunks, heads apart. -/
def qc (x0 : FVec Ideal S8192x5760 .f32) : FVec Ideal S128x64x16x64 .f32 :=
  shapeCast _ (shapeCast _ (extractStridedSlice S8192x1024 ![0, 0] x0 slices_S8192x5760_S8192x1024_0_0) shapeCasts_S8192x1024_S8192x16x64) shapeCasts_S8192x16x64_S128x64x16x64
/-- The keys in chunks, heads apart. -/
def kc (x0 : FVec Ideal S8192x5760 .f32) : FVec Ideal S128x64x16x64 .f32 :=
  shapeCast _ (shapeCast _ (extractStridedSlice S8192x1024 ![0, 1024] x0 slices_S8192x5760_S8192x1024_0_1024) shapeCasts_S8192x1024_S8192x16x64) shapeCasts_S8192x16x64_S128x64x16x64

/-- Whether key `j` of chunk `n`'s band is there. -/
def mask : IVec S128x16x64x576 1 :=
  broadcastInDim S128x16x64x576 ![0, 1, 2, 3] bcast_S128x1x1x576_S128x16x64x576_0_1_2_3 (broadcastInDim S128x1x1x576 ![0, 3] bcast_S128x576_S128x1x1x576_0_3 (cmpi .sge (addi (broadcastInDim S128x576 ![0, 1] bcast_S128x1_S128x576_0_1 (subi (broadcastInDim S128x1 ![0] bcast_S128_S128x1_0 (muli (iotaInDim S128 32 0) (broadcastInDim S128 ![] bcast_S_S128 (constantI S_ 32 64#32)))) (broadcastInDim S128x1 ![] bcast_S_S128x1 (constantI S_ 32 512#32)))) (broadcastInDim S128x576 ![0, 1] bcast_S1x576_S128x576_0_1 (broadcastInDim S1x576 ![1] bcast_S576_S1x576_1 (iotaInDim S576 32 0)))) (broadcastInDim S128x576 ![] bcast_S_S128x576 (constantI S_ 32 0#32))))

/-- The masked scores. -/
def score (x0 : FVec Ideal S8192x5760 .f32) (x1 : FVec Ideal S16x320 .f32) : FVec Ideal S128x16x64x576 .f32 :=
  select mask (addf (mulf (Host.dotGeneral dot_S128x64x16x64_S128x576x16x64_S128x16x64x576_3_3_1_1_02_02 none (qc x0) (band (padded (kc x0)))) (broadcastInDim S128x16x64x576 ![] bcast_S_S128x16x64x576 (constant (F := Ideal) S_ .f32 0x3E000000#32))) (broadcastInDim S128x16x64x576 ![0, 1, 2, 3] bcast_S1x16x64x576_S128x16x64x576_0_1_2_3 (broadcastInDim S1x16x64x576 ![1, 2, 3] bcast_S16x64x576_S1x16x64x576_1_2_3 (rel x1)))) (broadcastInDim S128x16x64x576 ![] bcast_S_S128x16x64x576 (id (constant (F := Ideal) S_ .f32 0xFF800000#32)))

/-- The largest score of each row. -/
def smax (s : FVec Ideal S128x16x64x576 .f32) : FVec Ideal S128x16x64 .f32 :=
  Host.reduce FloatOps.maximumf s (constant (F := Ideal) S_ .f32 0xFF800000#32) reducesTo_S128x16x64x576_S128x16x64_d3 h_S_

/-- Exponentials of a row's scores less a number of the row. -/
def sexp (s : FVec Ideal S128x16x64x576 .f32) (x : FVec Ideal S128x16x64 .f32) : FVec Ideal S128x16x64x576 .f32 :=
  Host.exp (subf s (broadcastInDim S128x16x64x576 ![0, 1, 2, 3] bcast_S128x16x64x1_S128x16x64x576_0_1_2_3 (broadcastInDim S128x16x64x1 ![0, 1, 2] bcast_S128x16x64_S128x16x64x1_0_1_2 x)))

/-- The sum of each row. -/
def ssum (e : FVec Ideal S128x16x64x576 .f32) : FVec Ideal S128x16x64 .f32 :=
  Host.reduceAdd e (constant (F := Ideal) S_ .f32 0x00000000#32) reducesTo_S128x16x64x576_S128x16x64_d3 h_S_

/-- The log of each row's sum of exponentials, one row per head. -/
def lse (s : FVec Ideal S128x16x64x576 .f32) : FVec Ideal S16x8192 .f32 :=
  shapeCast _ (transpose S16x128x64 [1, 0, 2] (addf (smax s) (Host.log (ssum (sexp s (smax s))))) transposes_S128x16x64_S16x128x64_1_0_2) shapeCasts_S16x128x64_S16x8192

/-- The table reversed, with its last entry repeated before it and a zero behind it. -/
def rev (x1 : FVec Ideal S16x320 .f32) : FVec Ideal S16x640 .f32 :=
  pad S16x640 ![0, 0] ![0, 1] ![0, 0] (concatenate S16x639 1 [⟨S16x319, broadcastInDim S16x319 ![0, 1] bcast_S16x1_S16x319_0_1 (extractStridedSlice S16x1 ![0, 319] x1 slices_S16x320_S16x1_0_319)⟩, ⟨S16x320, Host.reverse [1] x1⟩] concatenates_S16x319_S16x320_S16x639_d1) (sitofp (F := Ideal) .f32 (constantI S_ 32 0#32)) pads_S16x639_S16x640_000_010 h_S_

/-- Each query's window of it: rows of one length read at another, so that every row stands one place further. -/
def skew (r : FVec Ideal S16x640 .f32) : FVec Ideal S16x64x576 .f32 :=
  Host.reverse [1] (extractStridedSlice S16x64x576 ![0, 0, 0] (shapeCast S16x64x641 (extractStridedSlice S16x41024 ![0, 0] (shapeCast S16x41600 (broadcastInDim S1x16x65x640 ![0, 1, 2, 3] bcast_S1x16x1x640_S1x16x65x640_0_1_2_3 (shapeCast S1x16x1x640 r shapeCasts_S16x640_S1x16x1x640)) shapeCasts_S1x16x65x640_S16x41600) slices_S16x41600_S16x41024_0_0) shapeCasts_S16x41024_S16x64x641) slices_S16x64x641_S16x64x576_0_0_0)

/-- The biases of 256 queries against 768 keys, minus infinity out of the band, keys first. -/
def wide (s : FVec Ideal S16x64x576 .f32) : FVec Ideal S8x768x512 .f32 :=
  shapeCast _ (transpose S8x768x2x256 [0, 3, 1, 2] (shapeCast S8x2x256x768 (concatenate S16x256x768 1
    [⟨S16x64x768, pad S16x64x768 ![0, 0, 0] ![0, 0, 192] ![0, 0, 0] s (id (constant (F := Ideal) S_ .f32 0xFF800000#32)) pads_S16x64x576_S16x64x768_000_000_01920 h_S_⟩,
     ⟨S16x64x768, pad S16x64x768 ![0, 0, 64] ![0, 0, 128] ![0, 0, 0] s (id (constant (F := Ideal) S_ .f32 0xFF800000#32)) pads_S16x64x576_S16x64x768_000_000_641280 h_S_⟩,
     ⟨S16x64x768, pad S16x64x768 ![0, 0, 128] ![0, 0, 64] ![0, 0, 0] s (id (constant (F := Ideal) S_ .f32 0xFF800000#32)) pads_S16x64x576_S16x64x768_000_000_128640 h_S_⟩,
     ⟨S16x64x768, pad S16x64x768 ![0, 0, 192] ![0, 0, 0] ![0, 0, 0] s (id (constant (F := Ideal) S_ .f32 0xFF800000#32)) pads_S16x64x576_S16x64x768_000_000_19200 h_S_⟩]
    concatenates_S16x64x768_S16x64x768_S16x64x768_S16x64x768_S16x256x768_d1) shapeCasts_S16x256x768_S8x2x256x768) transposes_S8x2x256x768_S8x768x2x256_0_3_1_2) shapeCasts_S8x768x2x256_S8x768x512

end Cert.Host
-- ==== Proof.KHost.lean ====
module

public import proofs.«01_k».proof.Proof.Host
public import Idealize.ShloMosaic.Lib.StableHlo.ReadAt

/-!
# What the call is entered with

The two operands of the call that the lines before it compute, as the definitions of `Host`.
-/

@[expose] public section

set_option maxRecDepth 16384

noncomputable section
namespace Cert.Host

open Idealize.ShloMosaic Idealize.ShloMosaic.TcCoe Idealize.SL.Sem Cert.KernelIdeal Cert.KernelIdeal.Gen Cert.Att

variable (m : (ℓ : Loc nD τ sig) → Buf (Elt Ideal) ℓ) (c : Dev nD)

set_option maxHeartbeats 4000000 in
/-- The scores, as the first lines leave them. -/
theorem early_score (W : Valuation τ sig (Elt Ideal)) :
    StableHlo.after (List.flatten [hostOps0, hostOps0_1, hostOps0_2, hostOps0_3]) W (Proc.tc.devRef main_v57)
      = score (W (Proc.tc.devRef main_arg0)) (W (Proc.tc.devRef main_arg1)) := by
  after_reads_simp
  simp -implicitDefEqProofs only [StableHlo.TRef.toBuf, StableHlo.TRef.ofBuf, cast_cast, cast_eq]
  rfl

/-- The log sums, as the rest leaves them. -/
theorem late_lse (W : Valuation τ sig (Elt Ideal)) :
    StableHlo.after (List.flatten [hostOps0_4, hostOps0_5, hostOps0_6, hostOps0_7, hostOps0_8, hostOps0_9, hostOps0_10, hostOps0_11, hostOps0_12, hostOps0_13, hostOps0_14]) W (Proc.tc.devRef main_v67)
      = lse (W (Proc.tc.devRef main_v57)) := by
  after_reads_simp
  rfl

/-- The call's log sums. -/
theorem V_lse : V m c main_v67 = lse (score (m ((c.tc : Thread nD τ).loc main_arg0)) (m ((c.tc : Thread nD τ).loc main_arg1))) := by
  have h := late_lse (StableHlo.after (List.flatten [hostOps0, hostOps0_1, hostOps0_2, hostOps0_3]) (fun b => m (c, b)))
  rw [early_score, ← Idealize.ShloMosaic.StableHlo.after_append] at h
  exact h
/-- The call's biases. -/
theorem V_bias : V m c main_v87 = wide (skew (rev (m ((c.tc : Thread nD τ).loc main_arg1)))) := by
  unfold V
  after_reads_simp
  rfl

/-- The call's first operand is @main's first argument. -/
theorem V_arg0 : V m c main_arg0 = m ((c.tc : Thread nD τ).loc main_arg0) := by
  unfold V
  after_reads_simp
/-- Its last read operand is the third. -/
theorem V_arg2 : V m c main_arg2 = m ((c.tc : Thread nD τ).loc main_arg2) := by
  unfold V
  after_reads_simp

end Cert.Host
-- ==== Proof.HostAt.lean ====
module

public import proofs.«01_k».proof.Proof.Host

/-!
# The lines before the call, read at an index

Each definition of `Host` at an index, then the scores, the log sums and the biases as real numbers.
-/

@[expose] public section

set_option maxRecDepth 16384

noncomputable section
namespace Cert.Host

open Idealize.ShloMosaic Idealize.SL.Sem Cert.KernelIdeal Cert.KernelIdeal.Gen Cert.Att

theorem word_toInt (n : ℕ) (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

theorem minsi_toInt (x y : BitVec 32) : (IntOp.minsi x y).toInt = min x.toInt y.toInt := by
  unfold IntOp.minsi
  simp only [BitVec.slt, decide_eq_true_eq]
  split <;> omega

theorem maxsi_toInt (x y : BitVec 32) : (IntOp.maxsi x y).toInt = max x.toInt y.toInt := by
  unfold IntOp.maxsi
  simp only [BitVec.slt, decide_eq_true_eq]
  split <;> omega

theorem idx0_toInt (a : Fin 64) (j : Fin 576) : (idx0 (ix2 a j)).toInt = (min 319 (a.val + 575 - j.val) : ℕ) := by
  pointwise [idx0]
  have ha := a.isLt
  have hj := j.isLt
  have h0 : ((IntOp.subi (IntOp.addi (BitVec.ofNat 32 ↑a) 512#32) (BitVec.ofNat 32 ↑j))).toInt = (a.val : ℤ) + 512 - j.val := by
    simp only [IntOp.subi, IntOp.addi, BitVec.toInt_sub, BitVec.toInt_add, Int.bmod_def]
    rw [word_toInt a.val (by omega), word_toInt j.val (by omega), word_toInt 512 (by omega)]
    omega
  have h1 : (IntOp.minsi (256#32) (IntOp.maxsi (4294967233#32) (IntOp.subi (IntOp.addi (BitVec.ofNat 32 ↑a) 512#32) (BitVec.ofNat 32 ↑j)))).toInt
      = min 256 (max (-63) ((a.val : ℤ) + 512 - j.val)) := by
    rw [minsi_toInt, maxsi_toInt, h0]; rfl
  show (IntOp.minsi (256#32) (IntOp.maxsi (4294967233#32) (IntOp.subi (IntOp.addi (BitVec.ofNat 32 ↑a) 512#32) (BitVec.ofNat 32 ↑j))) + 63#32).toInt = _
  rw [BitVec.toInt_add, h1, Int.bmod_def, word_toInt 63 (by omega)]
  omega

theorem idx_toInt (a : Fin 64) (j : Fin 576) : (idx (ix2 a j)).toInt = (min 319 (a.val + 575 - j.val) : ℕ) := by
  have h := idx0_toInt a j
  pointwise [idx]
  rw [show IntOp.cmpi CmpIPredicate.slt (idx0 (ix2 a j)) 0#32 = 0#1 from by
    simp only [IntOp.cmpi, BitVec.slt]
    rw [h, decide_eq_false (by simp)]
    rfl]
  exact h

theorem mask_apply (n : Fin 128) (h : Fin 16) (a : Fin 64) (j : Fin 576) :
    mask (ix4 n h a j) = BitVec.ofBool (decide (512 ≤ 64 * n.val + j.val)) := by
  pointwise [mask]
  have ha := n.isLt
  have hj := j.isLt
  have h0 : (IntOp.addi (IntOp.subi (IntOp.muli (BitVec.ofNat 32 ↑n) 64#32) 512#32) (BitVec.ofNat 32 ↑j)).toInt = 64 * (n.val : ℤ) - 512 + j.val := by
    simp only [IntOp.subi, IntOp.addi, IntOp.muli, BitVec.toInt_sub, BitVec.toInt_add, BitVec.toInt_mul, Int.bmod_def]
    rw [word_toInt n.val (by omega), word_toInt j.val (by omega), word_toInt 64 (by omega), word_toInt 512 (by omega)]
    omega
  simp only [IntOp.cmpi, BitVec.sle]
  rw [h0]
  congr 1
  simp only [decide_eq_decide, BitVec.toInt_zero]
  omega

abbrev relDims (H N R C : Nat)
    (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

theorem gather_rel {H N R C : Nat}
    (wf : GatherDims.WF ⟨2, ![H, N]⟩ ⟨3, ![R, C, 1]⟩ ⟨3, ![H, R, C]⟩ [0] [1] [] [1] [] 2 ![H, 1])
    (x : (⟨2, ![H, N]⟩ : Shape).Idx → EReal) (g : IVec ⟨3, ![R, C, 1]⟩ 32) (h : Fin H) (a : Fin R) (j : Fin C)
    (k : ℕ) (hk : (g (ix3 a j 0)).toInt = k) (hkN : k < N) :
    Host.gather (relDims H N R C wf) x g (ix3 h a j) = x (ix2 h ⟨k, hkN⟩) := by
  unfold Host.gather
  congr 1
  funext b
  refine Fin.ext ?_
  show (relDims H N R C wf).start (ix3 h a j) g b + (relDims H N R C wf).batchCoord (ix3 h a j) b + (relDims H N R C wf).offCoord (ix3 h a j) b = _
  rw [GatherDims.batchCoord_eq_zero _ _ _ List.not_mem_nil]
  have h01 : b = 0 ∨ b = 1 := by
    match b with
    | ⟨0, _⟩ => exact Or.inl rfl
    | ⟨1, _⟩ => exact Or.inr rfl
  rcases h01 with rfl | rfl
  · unfold GatherDims.start
    rw [dif_neg (show (0 : Fin 2) ∉ (relDims H N R C wf).startIndexMap by simp)]
    have hs : (relDims H N R C wf).sKept = [0] := rfl
    unfold GatherDims.offCoord
    rw [dif_pos (show (0 : Fin 2) ∈ (relDims H N R C wf).sKept by rw [hs]; exact List.mem_singleton.mpr rfl)]
    show 0 + 0 + _ = h.val
    rw [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ (relDims H N R C wf).startIndexMap from List.mem_singleton.mpr rfl)]
    have hsi : (relDims H N R C wf).siIdx (ix3 h a j) ⟨List.idxOf (1 : Fin 2) (relDims H N R C wf).startIndexMap,
        List.idxOf_lt_length_iff.2 (List.mem_singleton.mpr rfl)⟩ = ix3 a j 0 := by
      funext b; refine Fin.ext ?_
      match b with
      | ⟨0, _⟩ => rfl
      | ⟨1, _⟩ => rfl
      | ⟨2, _⟩ => rfl
    rw [hsi, hk, Int.toNat_natCast]
    show min k (N - 1) + 0 + 0 = k
    omega

/-- The operand's row and the clamped column that the index names. -/
theorem rel_apply (x1 : FVec Ideal S16x320 .f32) (h : Fin 16) (a : Fin 64) (j : Fin 576) :
    rel x1 (ix3 h a j) = x1 (ix2 h ⟨min 319 (a.val + 575 - j.val), by omega⟩) := by
  have hk : (broadcastInDim S64x576x1 ![0, 1] bcast_S64x576_S64x576x1_0_1 idx (ix3 a j 0)).toInt = ((min 319 (a.val + 575 - j.val) : ℕ) : ℤ) := by
    pointwise
    exact idx_toInt a j
  unfold rel
  generalize broadcastInDim S64x576x1 ![0, 1] bcast_S64x576_S64x576x1_0_1 idx = g at hk ⊢
  have hlt : min 319 (a.val + 575 - j.val) < 320 := by omega
  exact gather_rel gather_S16x320_S64x576x1_S16x64x576_0_1_n_n_1_2_161_wf x1 g h a j (min 319 (a.val + 575 - j.val)) hk hlt

theorem sexp_apply (s : FVec Ideal S128x16x64x576 .f32) (x : FVec Ideal S128x16x64 .f32) (n : Fin 128) (h : Fin 16) (a : Fin 64) (j : Fin 576) :
    sexp s x (ix4 n h a j) = Ideal.exp (s (ix4 n h a j) - x (ix3 n h a)) := by
  pointwise [sexp]

theorem ssum_apply (e : FVec Ideal S128x16x64x576 .f32) (n : Fin 128) (h : Fin 16) (a : Fin 64) :
    ssum e (ix3 n h a) = ∑ j, e (ix4 n h a j) := by
  pointwise [ssum]

theorem smax_apply (s : FVec Ideal S128x16x64x576 .f32) (n : Fin 128) (h : Fin 16) (a : Fin 64) :
    smax s (ix3 n h a) = Finset.fold max (Ideal.ofBits .f32 0xFF800000#32) (fun j => s (ix4 n h a j)) Finset.univ := by
  pointwise [smax]

theorem tr_apply (x : FVec Ideal S128x16x64 .f32) (h : Fin 16) (i : Fin 8192) :
    shapeCast S16x8192 (transpose S16x128x64 [1, 0, 2] x transposes_S128x16x64_S16x128x64_1_0_2) shapeCasts_S16x128x64_S16x8192 (ix2 h i)
      = x (ix3 ⟨i.val / 64, by omega⟩ h ⟨i.val % 64, by omega⟩) := by
  pointwise

theorem trlog_apply (x y : FVec Ideal S128x16x64 .f32) (h : Fin 16) (i : Fin 8192) :
    shapeCast S16x8192 (transpose S16x128x64 [1, 0, 2] (addf x (Host.log y)) transposes_S128x16x64_S16x128x64_1_0_2) shapeCasts_S16x128x64_S16x8192 (ix2 h i)
      = x (ix3 ⟨i.val / 64, by omega⟩ h ⟨i.val % 64, by omega⟩) + Ideal.log (y (ix3 ⟨i.val / 64, by omega⟩ h ⟨i.val % 64, by omega⟩)) := by
  rw [tr_apply]
  rfl

theorem lse_apply (s : FVec Ideal S128x16x64x576 .f32) (h : Fin 16) (i : Fin 8192) :
    lse s (ix2 h i) = smax s (ix3 ⟨i.val / 64, by omega⟩ h ⟨i.val % 64, by omega⟩)
      + Ideal.log (ssum (sexp s (smax s)) (ix3 ⟨i.val / 64, by omega⟩ h ⟨i.val % 64, by omega⟩)) :=
  trlog_apply (smax s) (ssum (sexp s (smax s))) h i

theorem qc_apply (x0 : FVec Ideal S8192x5760 .f32) (n : Fin 128) (r : Fin 64) (h : Fin 16) (d : Fin 64) :
    qc x0 (ix4 n r h d) = x0 (ix2 ⟨n.val * 64 + r.val, by omega⟩ ⟨h.val * 64 + d.val, by omega⟩) := by
  pointwise [qc]

theorem kc_apply (x0 : FVec Ideal S8192x5760 .f32) (n : Fin 128) (r : Fin 64) (h : Fin 16) (d : Fin 64) :
    kc x0 (ix4 n r h d) = x0 (ix2 ⟨n.val * 64 + r.val, by omega⟩ ⟨1024 + (h.val * 64 + d.val), by omega⟩) := by
  pointwise [kc]

theorem ix2_congr {α : Type} {n0 n1 : ℕ} (z : (⟨2, ![n0, n1]⟩ : Shape).Idx → α) {a a' : Fin n0} {b b' : Fin n1}
    (ha : a.val = a'.val) (hb : b.val = b'.val) : z (ix2 a b) = z (ix2 a' b') := by
  obtain rfl := Fin.ext ha
  obtain rfl := Fin.ext hb
  rfl

theorem ix4_congr {α : Type} {n0 n1 n2 n3 : ℕ} (z : (⟨4, ![n0, n1, n2, n3]⟩ : Shape).Idx → α) {a a' : Fin n0} {b b' : Fin n1} (c : Fin n2) (d : Fin n3)
    (ha : a.val = a'.val) (hb : b.val = b'.val) : z (ix4 a b c d) = z (ix4 a' b' c d) := by
  obtain rfl := Fin.ext ha
  obtain rfl := Fin.ext hb
  rfl

theorem band_apply (z : FVec Ideal S136x64x16x64 .f32) (n : Fin 128) (j : Fin 576) (h : Fin 16) (d : Fin 64) :
    band z (ix4 n j h d) = z (ix4 ⟨n.val + j.val / 64, by omega⟩ ⟨j.val % 64, by omega⟩ h d) := by
  have hj := j.isLt
  pointwise [band]
  split_ifs <;> exact ix4_congr z h d (by simp only; omega) (by simp only; omega)

/-- A band of padded chunks, where the position is a token and where it is before the sequence. -/
theorem band_padded (y : FVec Ideal S128x64x16x64 .f32) (n : Fin 128) (j : Fin 576) (h : Fin 16) (d : Fin 64) :
    band (padded y) (ix4 n j h d) = if hp : 512 ≤ 64 * n.val + j.val then y (ix4 ⟨n.val + j.val / 64 - 8, by omega⟩ ⟨j.val % 64, by omega⟩ h d) else 0 := by
  rw [band_apply]
  pointwise [padded]
  by_cases hp : 512 ≤ 64 * n.val + j.val
  · rw [dif_neg (by omega), dif_pos hp]
  · rw [dif_pos (by omega), dif_neg hp]

theorem score_apply (x0 : FVec Ideal S8192x5760 .f32) (x1 : FVec Ideal S16x320 .f32) (n : Fin 128) (h : Fin 16) (a : Fin 64) (j : Fin 576) :
    score x0 x1 (ix4 n h a j) = if 512 ≤ 64 * n.val + j.val then
      (∑ x, qc x0 (ix4 n a h x) * band (padded (kc x0)) (ix4 n j h x)) * Ideal.ofBits .f32 0x3E000000#32 + rel x1 (ix3 h a j)
      else ⊥ := by
  have hc : id (constant (F := Ideal) S_ .f32 0xFF800000#32) ix0 = ⊥ := by
    show Ideal.ofBits .f32 0xFF800000#32 = ⊥
    simp [Ideal.ofBits, Ideal.ieee]
  pointwise [score, mask_apply]
  rw [hc]

/-- The largest of some numbers, each real or minus infinity and one real, is real. -/
theorem fold_max_real {n : ℕ} (f : Fin n → EReal) (P : Fin n → Prop) [DecidablePred P] (g : Fin n → ℝ) (h : ∀ j, f j = if P j then (g j : EReal) else ⊥)
    (j : Fin n) (hj : P j) : ∃ r : ℝ, Finset.fold max ⊥ f Finset.univ = (r : EReal) := by
  have h1 : Finset.fold max ⊥ f Finset.univ < ⊤ := by
    rw [Finset.fold_max_lt]
    refine ⟨bot_lt_top, fun x _ => ?_⟩
    rw [h]
    split
    · exact EReal.coe_lt_top _
    · exact bot_lt_top
  have h2 : (g j : EReal) ≤ Finset.fold max ⊥ f Finset.univ := by
    rw [Finset.le_fold_max]
    exact Or.inr ⟨j, Finset.mem_univ _, by rw [h, if_pos hj]⟩
  exact ⟨_, (EReal.coe_toReal h1.ne (fun hb => by rw [hb] at h2; exact absurd (le_bot_iff.1 h2) (EReal.coe_ne_bot _))).symm⟩

/-- The arguments as real arrays. -/
structure Ins (A : Arrs) (x0 : FVec Ideal S8192x5760 .f32) (x1 : FVec Ideal S16x320 .f32) (x2 : FVec Ideal S8192x1024 .f32) : Prop where
  hq : ∀ (i : Fin 8192) (l : Fin 5760), l.val < 1024 → x0 (ix2 i l) = ((A.q i.val l.val : ℝ) : EReal)
  hk : ∀ (i : Fin 8192) (l : Fin 5760), 1024 ≤ l.val → l.val < 2048 → x0 (ix2 i l) = ((A.k i.val (l.val - 1024) : ℝ) : EReal)
  hv : ∀ (i : Fin 8192) (l : Fin 5760), 2048 ≤ l.val → l.val < 3072 → x0 (ix2 i l) = ((A.v i.val (l.val - 2048) : ℝ) : EReal)
  ho : ∀ (i : Fin 8192) (l : Fin 1024), x2 (ix2 i l) = ((A.o i.val l.val : ℝ) : EReal)
  hb : ∀ (h : Fin 16) (c j : ℕ) (e : Fin 320), c < 64 → j < 576 → e.val = min 319 (c + 575 - j) → x1 (ix2 h e) = ((A.b h.val c j : ℝ) : EReal)

section
variable {A : Arrs} {x0 : FVec Ideal S8192x5760 .f32} {x1 : FVec Ideal S16x320 .f32} {x2 : FVec Ideal S8192x1024 .f32} (I : Ins A x0 x1 x2)
include I

theorem qc_real (n : Fin 128) (r : Fin 64) (h : Fin 16) (d : Fin 64) :
    qc x0 (ix4 n r h d) = ((A.q (64 * n.val + r.val) (64 * h.val + d.val) : ℝ) : EReal) := by
  rw [qc_apply, I.hq _ _ (by simp only; omega)]
  simp only [Nat.mul_comm]

theorem kb_real (n : Fin 128) (j : Fin 576) (h : Fin 16) (d : Fin 64) :
    band (padded (kc x0)) (ix4 n j h d) = ((if 512 ≤ 64 * n.val + j.val then A.k (64 * n.val + j.val - 512) (64 * h.val + d.val) else 0 : ℝ) : EReal) := by
  rw [band_padded]
  by_cases hp : 512 ≤ 64 * n.val + j.val
  · rw [dif_pos hp, if_pos hp, kc_apply, I.hk _ _ (by simp only; omega) (by simp only; omega)]
    simp only
    rw [show (n.val + j.val / 64 - 8) * 64 + j.val % 64 = 64 * n.val + j.val - 512 by omega, show 1024 + (h.val * 64 + d.val) - 1024 = 64 * h.val + d.val by omega]
  · rw [dif_neg hp, if_neg hp, EReal.coe_zero]

theorem score_real (n : Fin 128) (h : Fin 16) (a : Fin 64) (j : Fin 576) :
    score x0 x1 (ix4 n h a j) = if 512 ≤ 64 * n.val + j.val then ((A.S (64 * n.val + a.val) h.val (64 * n.val + j.val) : ℝ) : EReal) else ⊥ := by
  rw [score_apply]
  by_cases hp : 512 ≤ 64 * n.val + j.val
  · rw [if_pos hp, if_pos hp, sum_fin _ (fun d => A.q (64 * n.val + a.val) (64 * h.val + d) * A.k (64 * n.val + j.val - 512) (64 * h.val + d)) (fun x => by
      rw [qc_real I, kb_real I, if_pos hp, EReal.coe_mul]), rel_apply, I.hb h a.val j.val _ a.isLt j.isLt rfl]
    unfold Arrs.S
    rw [show (64 * n.val + a.val) / 64 = n.val by omega, show (64 * n.val + a.val) % 64 = a.val by omega, show 64 * n.val + j.val - 64 * n.val = j.val by omega,
      EReal.coe_add, EReal.coe_mul, show Ideal.ofBits .f32 0x3E000000#32 = ((1 / 8 : ℝ) : EReal) from by
        simp [Ideal.ofBits, Ideal.ieee, -EReal.coe_mul]; norm_num]
  · rw [if_neg hp, if_neg hp]

/-- A row's largest score is a real number: the query's own token is in its band. -/
theorem smax_real (n : Fin 128) (h : Fin 16) (a : Fin 64) : ∃ r : ℝ, smax (score x0 x1) (ix3 n h a) = (r : EReal) := by
  rw [smax_apply, show Ideal.ofBits .f32 0xFF800000#32 = (⊥ : EReal) from by simp [Ideal.ofBits, Ideal.ieee]]
  refine fold_max_real _ (fun j => 512 ≤ 64 * n.val + j.val) (fun j => A.S (64 * n.val + a.val) h.val (64 * n.val + j.val)) (fun j => score_real I n h a j) ⟨512, by omega⟩ ?_
  simp only
  omega

/-- The exponential of a score less a real number. -/
theorem sexp_real (x : FVec Ideal S128x16x64 .f32) (r : ℝ) (n : Fin 128) (h : Fin 16) (a : Fin 64) (hx : x (ix3 n h a) = (r : EReal)) (j : Fin 576) :
    sexp (score x0 x1) x (ix4 n h a j) = ((A.E (64 * n.val + a.val) h.val (64 * n.val + j.val) * Real.exp (-r) : ℝ) : EReal) := by
  have hj := j.isLt
  rw [sexp_apply, hx, score_real I]
  unfold Arrs.E
  by_cases hp : 512 ≤ 64 * n.val + j.val
  · rw [if_pos hp, if_pos ⟨hp, by omega, by omega⟩, ← EReal.coe_sub, Ideal.exp_coe, ← Real.exp_add, sub_eq_add_neg]
  · rw [if_neg hp, if_neg (fun h => hp h.1), zero_mul, EReal.bot_sub, Ideal.exp_bot, EReal.coe_zero]

/-- The sum of a row's. -/
theorem ssum_real (x : FVec Ideal S128x16x64 .f32) (r : ℝ) (n : Fin 128) (h : Fin 16) (a : Fin 64) (hx : x (ix3 n h a) = (r : EReal)) :
    ssum (sexp (score x0 x1) x) (ix3 n h a) = ((A.Z (64 * n.val + a.val) h.val * Real.exp (-r) : ℝ) : EReal) := by
  rw [ssum_apply, sum_fin _ (fun j => A.E (64 * n.val + a.val) h.val (64 * n.val + j) * Real.exp (-r)) (fun j => sexp_real I x r n h a hx j), ← Finset.sum_mul]
  unfold Arrs.Z
  rw [show (64 * n.val + a.val) / 64 = n.val by omega]

/-- The log of a row's sum of exponentials. -/
theorem lse_real (h : Fin 16) (i : Fin 8192) : lse (score x0 x1) (ix2 h i) = ((Real.log (A.Z i.val h.val) : ℝ) : EReal) := by
  obtain ⟨r, hr⟩ := smax_real I ⟨i.val / 64, by omega⟩ h ⟨i.val % 64, by omega⟩
  rw [lse_apply, ssum_real I _ r _ _ _ hr, hr]
  simp only
  rw [show 64 * (i.val / 64) + i.val % 64 = i.val by omega, Ideal.log_coe, if_neg (not_le.2 (mul_pos (A.Z_pos _ _) (Real.exp_pos _))), ← EReal.coe_add,
    Real.log_mul (A.Z_pos _ _).ne' (Real.exp_pos _).ne', Real.log_exp, add_comm, neg_add_cancel_right]

omit I in
theorem rev_apply (x1 : FVec Ideal S16x320 .f32) (h : Fin 16) (e : Fin 640) (he : e.val < 639) :
    rev x1 (ix2 h e) = x1 (ix2 h ⟨min 319 (638 - e.val), by omega⟩) := by
  pointwise [rev]
  rw [dif_pos he]
  by_cases h1 : e.val < 319
  · rw [dif_pos h1]
    congr 2
    refine Fin.ext ?_
    show 319 = min 319 (638 - e.val)
    omega
  · rw [dif_neg h1]
    refine ix2_congr x1 rfl ?_
    show 320 - (e.val - 319 + 1) = min 319 (638 - e.val)
    omega

omit I in
theorem skew_apply (r : FVec Ideal S16x640 .f32) (h : Fin 16) (a : Fin 64) (j : Fin 576) :
    skew r (ix3 h a j) = r (ix2 h ⟨63 - a.val + j.val, by omega⟩) := by
  have ha := a.isLt
  have hj := j.isLt
  pointwise [skew]
  refine ix2_congr r rfl ?_
  show ((64 - (a.val + 1)) * 641 + j.val) % 640 = 63 - a.val + j.val
  omega

theorem skew_real (h : Fin 16) (a : Fin 64) (j : Fin 576) : skew (rev x1) (ix3 h a j) = ((A.b h.val a.val j.val : ℝ) : EReal) := by
  have ha := a.isLt
  have hj := j.isLt
  rw [skew_apply, rev_apply _ _ _ (by simp only; omega)]
  refine I.hb h a.val j.val _ ha hj ?_
  simp only
  omega

end

end Cert.Host
-- ==== Proof.Wide.lean ====
module

public import proofs.«01_k».proof.Proof.HostAt

/-!
# The call's biases read at an index

Every pair of heads has one array of biases, 768 keys by two times 256 queries, minus infinity out of the band.
-/

@[expose] public section

set_option maxRecDepth 16384

noncomputable section
namespace Cert.Host

open Idealize.ShloMosaic Idealize.SL.Sem Cert.KernelIdeal Cert.KernelIdeal.Gen Cert.Att

/-- The array of a pair, from the window of each query. -/
theorem wide_apply (s : FVec Ideal S16x64x576 .f32) (f : ℕ → ℕ → ℕ → EReal) (hs : ∀ h a j, s (ix3 h a j) = f h.val a.val j.val) (p : Fin 8) (w : Fin 768) (y : Fin 512) :
    wide s (ix3 p w y) = if 64 * (y.val % 256 / 64) ≤ w.val ∧ w.val < 64 * (y.val % 256 / 64) + 576
      then f (2 * p.val + y.val / 256) (y.val % 64) (w.val - 64 * (y.val % 256 / 64)) else ⊥ := by
  have hp := p.isLt
  have hw := w.isLt
  have hy := y.isLt
  have hc : ∀ i, id (constant (F := Ideal) S_ .f32 0xFF800000#32) i = (⊥ : EReal) := fun i => by
    show Ideal.ofBits .f32 0xFF800000#32 = ⊥
    simp [Ideal.ofBits, Ideal.ieee]
  unfold wide
  generalize id (constant (F := Ideal) S_ .f32 0xFF800000#32) = z at hc ⊢
  pointwise
  simp only [hc, hs, dite_eq_ite]
  have hf : ∀ h a j h' a' j', h = h' → a = a' → j = j' → f h a j = f h' a' j' := by rintro _ _ _ _ _ _ rfl rfl rfl; rfl
  clear hs hc
  obtain h1 | h1 | h1 | h1 : y.val % 256 / 64 = 0 ∨ y.val % 256 / 64 = 1 ∨ y.val % 256 / 64 = 2 ∨ y.val % 256 / 64 = 3 := by omega
  · rw [if_pos (by omega), h1]
    refine if_congr (by omega) (hf _ _ _ _ _ _ (by omega) (by omega) (by omega)) rfl
  · rw [if_neg (by omega), if_pos (by omega), h1]
    refine if_congr (by omega) (hf _ _ _ _ _ _ (by omega) (by omega) (by omega)) rfl
  · rw [if_neg (by omega), if_neg (by omega), if_pos (by omega), h1]
    refine if_congr (by omega) (hf _ _ _ _ _ _ (by omega) (by omega) (by omega)) rfl
  · rw [if_neg (by omega), if_neg (by omega), if_neg (by omega), h1]
    refine if_congr (by omega) (hf _ _ _ _ _ _ (by omega) (by omega) (by omega)) rfl

/-- The biases of a pair of heads. -/
theorem wide_real {A : Arrs} {x0 : FVec Ideal S8192x5760 .f32} {x1 : FVec Ideal S16x320 .f32} {x2 : FVec Ideal S8192x1024 .f32} (I : Ins A x0 x1 x2)
    (p : Fin 8) (w : Fin 768) (y : Fin 512) :
    wide (skew (rev x1)) (ix3 p w y) = if 64 * (y.val % 256 / 64) ≤ w.val ∧ w.val < 64 * (y.val % 256 / 64) + 576
      then ((A.b (2 * p.val + y.val / 256) (y.val % 64) (w.val - 64 * (y.val % 256 / 64)) : ℝ) : EReal) else ⊥ :=
  wide_apply _ (fun h a j => ((A.b h a j : ℝ) : EReal)) (skew_real I) p w y

end Cert.Host
-- ==== Proof.KBlocks.lean ====
module

public import proofs.«01_k».proof.Proof.Launch
public import proofs.«01_k».proof.Proof.KPair
public import proofs.«01_k».proof.Proof.KHost
public import proofs.«01_k».proof.Proof.HostAt
public import proofs.«01_k».proof.Proof.Wide
public import Idealize.ShloMosaic.Lib.Pipeline.ValueKit.Geometry

/-!
# What a step reads

Every block a step loads, at an index, in terms of the arrays; and so what its head pairs find.
-/

@[expose] public section

set_option maxRecDepth 16384

noncomputable section
namespace Cert.Bwd

open Idealize.ShloMosaic Idealize.ShloMosaic.TcCoe Idealize.SL.Sem Cert.KernelIdeal Cert.KernelIdeal.Gen Cert.Att
open Finset (range)

variable (m : (ℓ : Loc nD τ sig) → Buf (Elt Ideal) ℓ) (c : Dev nD)

theorem index_0 : ∀ t : Fin cfg0.N, win0_0.index t = ![min t.val 31, 0] := by decide +kernel
theorem index_1 : ∀ t : Fin cfg0.N, win0_1.index t = ![min t.val 31 - 2, 1] := by decide +kernel
theorem index_2 : ∀ t : Fin cfg0.N, win0_2.index t = ![min t.val 31 - 1, 1] := by decide +kernel
theorem index_3 : ∀ t : Fin cfg0.N, win0_3.index t = ![min t.val 31, 1] := by decide +kernel
theorem index_4 : ∀ t : Fin cfg0.N, win0_4.index t = ![min t.val 31 - 2, 2] := by decide +kernel
theorem index_5 : ∀ t : Fin cfg0.N, win0_5.index t = ![min t.val 31 - 1, 2] := by decide +kernel
theorem index_6 : ∀ t : Fin cfg0.N, win0_6.index t = ![min t.val 31, 2] := by decide +kernel
theorem index_7 : ∀ t : Fin cfg0.N, win0_7.index t = ![min t.val 31, 0] := by decide +kernel
theorem index_8 : ∀ t : Fin cfg0.N, win0_8.index t = ![0, min t.val 31] := by decide +kernel
theorem index_9 : ∀ t : Fin cfg0.N, win0_9.index t = ![0, 0, 0] := by decide +kernel
theorem index_10 : ∀ t : Fin cfg0.N, win0_10.index t = ![min t.val 31, 0] := by decide +kernel
theorem index_11 : ∀ t : Fin cfg0.N, win0_11.index t = ![t.val - 2, 0] := by decide +kernel
theorem index_12 : ∀ t : Fin cfg0.N, win0_12.index t = ![t.val - 2, 0] := by decide +kernel
theorem index_13 : ∀ t : Fin cfg0.N, win0_13.index t = ![0, 0, 0] := by decide +kernel

theorem row_lt (t : ℕ) (y : Fin 256) : 256 * min t 31 + y.val < 8192 := by omega
theorem row_lt' (t d : ℕ) (y : Fin 256) : 256 * (min t 31 - d) + y.val < 8192 := by omega

set_option maxHeartbeats 1000000
theorem cut_0 (G : FVec Ideal S8192x5760 .f32) (t : Fin cfg0.N) (y : Fin 256) (l : Fin 1024) :
    (cfg0.win 0).fill (cfg0.grid.coords t) dflt0_0 (((cfg0.win 0).blk t).view.read (Elt Ideal) G) (ix2 y l)
      = G (ix2 (⟨256 * min t.val 31 + y.val, row_lt _ _⟩ : Fin 8192) (⟨l.val, by omega⟩ : Fin 5760)) := by
  unfold Pipeline.Window.fill
  rw [dif_pos (moved0_0 t _)]
  blk_simp
  refine congrArg _ ?_
  have e := index_0 t
  blk_ext [e]
theorem read_0 (t : Fin cfg0.N) (y : Fin 256) (l : Fin 1024) :
    X0_0 m c t (ix2 y l) = m ((c.tc : Thread nD τ).loc main_arg0) (ix2 (⟨256 * min t.val 31 + y.val, row_lt _ _⟩ : Fin 8192) (⟨l.val, by omega⟩ : Fin 5760)) := by
  rw [← V_main_arg0 m c]
  exact cut_0 (V m c main_arg0) t y l

theorem cut_1 (G : FVec Ideal S8192x5760 .f32) (t : Fin cfg0.N) (y : Fin 256) (l : Fin 1024) :
    (cfg0.win 1).fill (cfg0.grid.coords t) dflt0_1 (((cfg0.win 1).blk t).view.read (Elt Ideal) G) (ix2 y l)
      = G (ix2 (⟨256 * (min t.val 31 - 2) + y.val, row_lt' _ _ _⟩ : Fin 8192) (⟨1024 + l.val, by omega⟩ : Fin 5760)) := by
  unfold Pipeline.Window.fill
  rw [dif_pos (moved0_1 t _)]
  blk_simp
  refine congrArg _ ?_
  have e := index_1 t
  blk_ext [e]
theorem read_1 (t : Fin cfg0.N) (y : Fin 256) (l : Fin 1024) :
    X0_1 m c t (ix2 y l) = m ((c.tc : Thread nD τ).loc main_arg0) (ix2 (⟨256 * (min t.val 31 - 2) + y.val, row_lt' _ _ _⟩ : Fin 8192) (⟨1024 + l.val, by omega⟩ : Fin 5760)) := by
  rw [← V_main_arg0 m c]
  exact cut_1 (V m c main_arg0) t y l
theorem cut_2 (G : FVec Ideal S8192x5760 .f32) (t : Fin cfg0.N) (y : Fin 256) (l : Fin 1024) :
    (cfg0.win 2).fill (cfg0.grid.coords t) dflt0_2 (((cfg0.win 2).blk t).view.read (Elt Ideal) G) (ix2 y l)
      = G (ix2 (⟨256 * (min t.val 31 - 1) + y.val, row_lt' _ _ _⟩ : Fin 8192) (⟨1024 + l.val, by omega⟩ : Fin 5760)) := by
  unfold Pipeline.Window.fill
  rw [dif_pos (moved0_2 t _)]
  blk_simp
  refine congrArg _ ?_
  have e := index_2 t
  blk_ext [e]
theorem read_2 (t : Fin cfg0.N) (y : Fin 256) (l : Fin 1024) :
    X0_2 m c t (ix2 y l) = m ((c.tc : Thread nD τ).loc main_arg0) (ix2 (⟨256 * (min t.val 31 - 1) + y.val, row_lt' _ _ _⟩ : Fin 8192) (⟨1024 + l.val, by omega⟩ : Fin 5760)) := by
  rw [← V_main_arg0 m c]
  exact cut_2 (V m c main_arg0) t y l
theorem cut_3 (G : FVec Ideal S8192x5760 .f32) (t : Fin cfg0.N) (y : Fin 256) (l : Fin 1024) :
    (cfg0.win 3).fill (cfg0.grid.coords t) dflt0_3 (((cfg0.win 3).blk t).view.read (Elt Ideal) G) (ix2 y l)
      = G (ix2 (⟨256 * (min t.val 31 - 0) + y.val, row_lt' _ _ _⟩ : Fin 8192) (⟨1024 + l.val, by omega⟩ : Fin 5760)) := by
  unfold Pipeline.Window.fill
  rw [dif_pos (moved0_3 t _)]
  blk_simp
  refine congrArg _ ?_
  have e := index_3 t
  blk_ext [e]
theorem read_3 (t : Fin cfg0.N) (y : Fin 256) (l : Fin 1024) :
    X0_3 m c t (ix2 y l) = m ((c.tc : Thread nD τ).loc main_arg0) (ix2 (⟨256 * (min t.val 31 - 0) + y.val, row_lt' _ _ _⟩ : Fin 8192) (⟨1024 + l.val, by omega⟩ : Fin 5760)) := by
  rw [← V_main_arg0 m c]
  exact cut_3 (V m c main_arg0) t y l
theorem cut_4 (G : FVec Ideal S8192x5760 .f32) (t : Fin cfg0.N) (y : Fin 256) (l : Fin 1024) :
    (cfg0.win 4).fill (cfg0.grid.coords t) dflt0_4 (((cfg0.win 4).blk t).view.read (Elt Ideal) G) (ix2 y l)
      = G (ix2 (⟨256 * (min t.val 31 - 2) + y.val, row_lt' _ _ _⟩ : Fin 8192) (⟨2048 + l.val, by omega⟩ : Fin 5760)) := by
  unfold Pipeline.Window.fill
  rw [dif_pos (moved0_4 t _)]
  blk_simp
  refine congrArg _ ?_
  have e := index_4 t
  blk_ext [e]
theorem read_4 (t : Fin cfg0.N) (y : Fin 256) (l : Fin 1024) :
    X0_4 m c t (ix2 y l) = m ((c.tc : Thread nD τ).loc main_arg0) (ix2 (⟨256 * (min t.val 31 - 2) + y.val, row_lt' _ _ _⟩ : Fin 8192) (⟨2048 + l.val, by omega⟩ : Fin 5760)) := by
  rw [← V_main_arg0 m c]
  exact cut_4 (V m c main_arg0) t y l
theorem cut_5 (G : FVec Ideal S8192x5760 .f32) (t : Fin cfg0.N) (y : Fin 256) (l : Fin 1024) :
    (cfg0.win 5).fill (cfg0.grid.coords t) dflt0_5 (((cfg0.win 5).blk t).view.read (Elt Ideal) G) (ix2 y l)
      = G (ix2 (⟨256 * (min t.val 31 - 1) + y.val, row_lt' _ _ _⟩ : Fin 8192) (⟨2048 + l.val, by omega⟩ : Fin 5760)) := by
  unfold Pipeline.Window.fill
  rw [dif_pos (moved0_5 t _)]
  blk_simp
  refine congrArg _ ?_
  have e := index_5 t
  blk_ext [e]
theorem read_5 (t : Fin cfg0.N) (y : Fin 256) (l : Fin 1024) :
    X0_5 m c t (ix2 y l) = m ((c.tc : Thread nD τ).loc main_arg0) (ix2 (⟨256 * (min t.val 31 - 1) + y.val, row_lt' _ _ _⟩ : Fin 8192) (⟨2048 + l.val, by omega⟩ : Fin 5760)) := by
  rw [← V_main_arg0 m c]
  exact cut_5 (V m c main_arg0) t y l
theorem cut_6 (G : FVec Ideal S8192x5760 .f32) (t : Fin cfg0.N) (y : Fin 256) (l : Fin 1024) :
    (cfg0.win 6).fill (cfg0.grid.coords t) dflt0_6 (((cfg0.win 6).blk t).view.read (Elt Ideal) G) (ix2 y l)
      = G (ix2 (⟨256 * (min t.val 31 - 0) + y.val, row_lt' _ _ _⟩ : Fin 8192) (⟨2048 + l.val, by omega⟩ : Fin 5760)) := by
  unfold Pipeline.Window.fill
  rw [dif_pos (moved0_6 t _)]
  blk_simp
  refine congrArg _ ?_
  have e := index_6 t
  blk_ext [e]
theorem read_6 (t : Fin cfg0.N) (y : Fin 256) (l : Fin 1024) :
    X0_6 m c t (ix2 y l) = m ((c.tc : Thread nD τ).loc main_arg0) (ix2 (⟨256 * (min t.val 31 - 0) + y.val, row_lt' _ _ _⟩ : Fin 8192) (⟨2048 + l.val, by omega⟩ : Fin 5760)) := by
  rw [← V_main_arg0 m c]
  exact cut_6 (V m c main_arg0) t y l
theorem cut_7 (G : FVec Ideal S8192x1024 .f32) (t : Fin cfg0.N) (y : Fin 256) (l : Fin 1024) :
    ((cfg0.win 7).blk t).view.read (Elt Ideal) G (ix2 y l) = G (ix2 (⟨256 * min t.val 31 + y.val, row_lt _ _⟩ : Fin 8192) l) := by
  blk_simp
  refine congrArg _ ?_
  have e := index_7 t
  blk_ext [e]
theorem read_7 (t : Fin cfg0.N) (y : Fin 256) (l : Fin 1024) :
    iblk m c 7 t (ix2 y l) = m ((c.tc : Thread nD τ).loc main_arg2) (ix2 (⟨256 * min t.val 31 + y.val, row_lt _ _⟩ : Fin 8192) l) := by
  rw [← V_main_arg2 m c]
  exact cut_7 (V m c main_arg2) t y l

theorem cut_8 (G : FVec Ideal S16x8192 .f32) (t : Fin cfg0.N) (h : Fin 16) (y : Fin 256) :
    ((cfg0.win 8).blk t).view.read (Elt Ideal) G (ix2 h y) = G (ix2 h (⟨256 * min t.val 31 + y.val, row_lt _ _⟩ : Fin 8192)) := by
  blk_simp
  refine congrArg _ ?_
  have e := index_8 t
  blk_ext [e]
theorem read_8 (t : Fin cfg0.N) (h : Fin 16) (y : Fin 256) :
    iblk m c 8 t (ix2 h y) = V m c main_v67 (ix2 h (⟨256 * min t.val 31 + y.val, row_lt _ _⟩ : Fin 8192)) :=
  cut_8 (V m c main_v67) t h y

theorem cut_9 (G : FVec Ideal S8x768x512 .f32) (t : Fin cfg0.N) (p : Fin 8) (w : Fin 768) (y : Fin 512) :
    ((cfg0.win 9).blk t).view.read (Elt Ideal) G (ix3 p w y) = G (ix3 p w y) := by
  blk_simp
  refine congrArg _ ?_
  have e := index_9 t
  blk_ext [e]
theorem read_9 (t : Fin cfg0.N) (p : Fin 8) (w : Fin 768) (y : Fin 512) :
    iblk m c 9 t (ix3 p w y) = V m c main_v87 (ix3 p w y) :=
  cut_9 (V m c main_v87) t p w y

/-! ## What a head pair loads -/

section loads
variable {F : FTy → Type} [FloatOps F]

theorem colsQ_apply (x : Vec F S256x1024 .f32) (p : ℕ) (hp : p < 8) (y : Fin 256) (l : Fin 128) :
    colsQ x p hp (ix2 y l) = x (ix2 y (⟨128 * p + l.val, by omega⟩ : Fin 1024)) := by
  unfold colsQ; rw [View.ld_unit]; refine congrArg x ?_; funext a; fin_cases a <;> ext <;> simp [ix2]
theorem colsK_apply {e : EltTy} (x : Vec F S768x1024 e) (p : ℕ) (hp : p < 8) (y : Fin 768) (l : Fin 128) :
    colsK x p hp (ix2 y l) = x (ix2 y (⟨128 * p + l.val, by omega⟩ : Fin 1024)) := by
  unfold colsK; rw [View.ld_unit]; refine congrArg x ?_; funext a; fin_cases a <;> ext <;> simp [ix2]
theorem biasOf_apply (x : Vec F S8x768x512 .f32) (p : ℕ) (hp : p < 8) (w : Fin 768) (y : Fin 512) :
    biasOf x p hp (ix3 0 w y) = x (ix3 (⟨p, hp⟩ : Fin 8) w y) := by
  unfold biasOf; rw [View.ld_unit]; refine congrArg x ?_; funext a; fin_cases a <;> ext <;> simp [ix3]
theorem lseOf_apply (x : Vec F S16x256 .f32) (h : ℕ) (hh : h < 16) (y : Fin 256) :
    lseOf x h hh (ix2 0 y) = x (ix2 (⟨h, hh⟩ : Fin 16) y) := by
  unfold lseOf; rw [View.ld_unit]; refine congrArg x ?_; funext a; fin_cases a <;> ext <;> simp [ix2]
theorem dbOf_apply (x : Vec F S16x576x64 .f32) (h : ℕ) (hh : h < 16) (j : Fin 576) (y : Fin 64) :
    dbOf x h hh (ix3 0 j y) = x (ix3 (⟨h, hh⟩ : Fin 16) j y) := by
  unfold dbOf; rw [View.ld_unit]; refine congrArg x ?_; funext a; fin_cases a <;> ext <;> simp [ix3]
theorem rowsAt_apply {e : EltTy} (x : Vec F S768x1024 e) (r : ℕ) (hr : r ≤ 512) (h) (y : Fin 256) (l : Fin 1024) :
    rowsAt x r h (ix2 y l) = x (ix2 (⟨r + y.val, by omega⟩ : Fin 768) l) := by
  unfold rowsAt; rw [View.ld_unit]; refine congrArg x ?_; funext a; fin_cases a <;> ext <;> simp [ix2]
theorem dsAt_apply (s : Vec F S768x512 .f32) (a b : ℕ) (ha : a ≤ 192) (hb : b ≤ 448) (h) (j : Fin 576) (y : Fin 64) :
    dsAt s a b h (ix2 j y) = s (ix2 (⟨a + j.val, by omega⟩ : Fin 768) (⟨b + y.val, by omega⟩ : Fin 512)) := by
  unfold dsAt; rw [View.ld_unit]; refine congrArg s ?_; funext a; fin_cases a <;> ext <;> simp [ix2]

end loads

end Cert.Bwd
-- ==== Proof.KStep.lean ====
module

public import proofs.«01_k».proof.Proof.KBlocks

/-!
# What a step computes

The head pairs of a step, over real arrays: what the step adds to its two accumulators and to the bias gradient, and the
queries' gradient it leaves.
-/

@[expose] public section

set_option maxRecDepth 16384

noncomputable section
namespace Cert.Bwd

open Idealize.ShloMosaic Idealize.ShloMosaic.TcCoe Idealize.SL.Sem Cert.KernelIdeal Cert.KernelIdeal.Gen Cert.Att Cert.Host
open Finset (range)

theorem coords_val : ∀ t : Fin cfg0.N, (grid0.coords t 0).val = t.val := by decide +kernel

theorem colsAll_apply {α : Type} {R : ℕ} (w : (p : ℕ) → p < 8 → (⟨2, ![R, 128]⟩ : Shape).Idx → α) (y : Fin R) (l : Fin 1024) :
    colsAll w (ix2 y l) = w (l.val / 128) (by omega) (ix2 y (⟨l.val % 128, Nat.mod_lt _ (by decide)⟩ : Fin 128)) := rfl

/-- The row of the keys that row `w` of step `t`'s window holds: the first step has its block three times, the second its
    first block twice. -/
def keyRow (t w : ℕ) : ℕ := if w < 256 then 256 * (t - 2) + w else if w < 512 then 256 * (t - 1) + (w - 256) else 256 * t + (w - 512)

theorem keyRow_eq (t w : ℕ) (h : 512 ≤ 256 * t + w) (hw : w < 768) : keyRow t w = 256 * t + w - 512 := by
  unfold keyRow; split_ifs <;> omega

theorem stack3_apply {F : FTy → Type} [FloatOps F] {e : EltTy} (a b d : Vec F S256x1024 e) (w : Fin 768) (l : Fin 1024) :
    stack3 a b d (ix2 w l) = if h : w.val < 256 then a (ix2 (⟨w.val, h⟩ : Fin 256) l)
      else if h' : w.val < 512 then b (ix2 (⟨w.val - 256, by omega⟩ : Fin 256) l) else d (ix2 (⟨w.val - 512, by omega⟩ : Fin 256) l) := by
  unfold stack3
  rfl

/-- The window of keys or values. -/
theorem window_apply {A : ℕ → ℕ → ℝ} (t : ℕ) (ht : t < 32) (e : EltTy) (a b d : Vec Ideal S256x1024 .f32) (a' b' d' : FVec Ideal S256x1024 .bf16)
    (ha' : ∀ y l, a' (ix2 y l) = a (ix2 y l)) (hb' : ∀ y l, b' (ix2 y l) = b (ix2 y l)) (hd' : ∀ y l, d' (ix2 y l) = d (ix2 y l))
    (ha : ∀ (y : Fin 256) (l : Fin 1024), a (ix2 y l) = ((A (256 * (min t 31 - 2) + y.val) l.val : ℝ) : EReal))
    (hb : ∀ (y : Fin 256) (l : Fin 1024), b (ix2 y l) = ((A (256 * (min t 31 - 1) + y.val) l.val : ℝ) : EReal))
    (hd : ∀ (y : Fin 256) (l : Fin 1024), d (ix2 y l) = ((A (256 * (min t 31 - 0) + y.val) l.val : ℝ) : EReal)) (w : Fin 768) (l : Fin 1024) :
    stack3 (F := Ideal) (e := .bf16) a' b' d' (ix2 w l) = ((A (keyRow t w.val) l.val : ℝ) : EReal) := by
  rw [stack3_apply]
  unfold keyRow
  split
  · rw [ha', ha, min_eq_left (by omega : t ≤ 31)]
  · split
    · rw [hb', hb, min_eq_left (by omega : t ≤ 31)]
    · rw [hd', hd, min_eq_left (by omega : t ≤ 31)]; rfl

theorem pay4_apply (x : Vec Ideal S256x1024 .f32) (y : Fin 256) (l : Fin 1024) : k0_pay4 (F := Ideal) x (ix2 y l) = x (ix2 y l) := by pointwise [k0_pay4]
theorem pay6_apply (x : Vec Ideal S256x1024 .f32) (y : Fin 256) (l : Fin 1024) : k0_pay6 (F := Ideal) x (ix2 y l) = x (ix2 y l) := by pointwise [k0_pay6]
theorem pay8_apply (x : Vec Ideal S256x1024 .f32) (y : Fin 256) (l : Fin 1024) : k0_pay8 (F := Ideal) x (ix2 y l) = x (ix2 y l) := by pointwise [k0_pay8]
theorem pay5_apply (x : Vec Ideal S256x1024 .f32) (y : Fin 256) (l : Fin 1024) : k0_pay5 (F := Ideal) x (ix2 y l) = x (ix2 y l) := by pointwise [k0_pay5]
theorem pay7_apply (x : Vec Ideal S256x1024 .f32) (y : Fin 256) (l : Fin 1024) : k0_pay7 (F := Ideal) x (ix2 y l) = x (ix2 y l) := by pointwise [k0_pay7]
theorem pay9_apply (x : Vec Ideal S256x1024 .f32) (y : Fin 256) (l : Fin 1024) : k0_pay9 (F := Ideal) x (ix2 y l) = x (ix2 y l) := by pointwise [k0_pay9]

variable (m : (ℓ : Loc nD τ sig) → Buf (Elt Ideal) ℓ) (c : Dev nD) {A : Arrs}

/-- The launch's three arguments, as real arrays. -/
abbrev InsAt (A : Arrs) : Prop := Ins A (m ((c.tc : Thread nD τ).loc main_arg0)) (m ((c.tc : Thread nD τ).loc main_arg1)) (m ((c.tc : Thread nD τ).loc main_arg2))

variable (I : InsAt m c A)
include I

theorem keys_apply (t : Fin cfg0.N) (ht : t.val < 32) (w : Fin 768) (l : Fin 1024) :
    kOf (X0_1 m c t) (X0_2 m c t) (X0_3 m c t) (ix2 w l) = ((A.k (keyRow t.val w.val) l.val : ℝ) : EReal) := by
  have hk : ∀ (r : Fin 8192) (l : Fin 1024), m ((c.tc : Thread nD τ).loc main_arg0) (ix2 r (⟨1024 + l.val, by omega⟩ : Fin 5760)) = ((A.k r.val l.val : ℝ) : EReal) := fun r l => by
    rw [I.hk r ⟨1024 + l.val, by omega⟩ (by simp) (by simp; omega)]; simp
  refine window_apply t.val ht .bf16 _ _ _ _ _ _ (pay4_apply _) (pay6_apply _) (pay8_apply _) (fun y l => ?_) (fun y l => ?_) (fun y l => ?_) w l
  · rw [read_1]; exact hk _ _
  · rw [read_2]; exact hk _ _
  · rw [read_3]; exact hk _ _

theorem values_apply (t : Fin cfg0.N) (ht : t.val < 32) (w : Fin 768) (l : Fin 1024) :
    vOf (X0_4 m c t) (X0_5 m c t) (X0_6 m c t) (ix2 w l) = ((A.v (keyRow t.val w.val) l.val : ℝ) : EReal) := by
  have hk : ∀ (r : Fin 8192) (l : Fin 1024), m ((c.tc : Thread nD τ).loc main_arg0) (ix2 r (⟨2048 + l.val, by omega⟩ : Fin 5760)) = ((A.v r.val l.val : ℝ) : EReal) := fun r l => by
    rw [I.hv r ⟨2048 + l.val, by omega⟩ (by simp) (by simp; omega)]; simp
  refine window_apply t.val ht .bf16 _ _ _ _ _ _ (pay5_apply _) (pay7_apply _) (pay9_apply _) (fun y l => ?_) (fun y l => ?_) (fun y l => ?_) w l
  · rw [read_4]; exact hk _ _
  · rw [read_5]; exact hk _ _
  · rw [read_6]; exact hk _ _

/-- What head pair `p` of step `t` loads. -/
theorem pair_in (t : Fin cfg0.N) (ht : t.val < 32) (p : ℕ) (hp : p < 8) :
    PairIn A t.val p (fun w l => A.k (keyRow t.val w) (128 * p + l)) (fun w l => A.v (keyRow t.val w) (128 * p + l))
      (colsQ (X0_0 m c t) p hp) (colsQ (iblk m c 7 t) p hp) (colsK (kOf (X0_1 m c t) (X0_2 m c t) (X0_3 m c t)) p hp)
      (colsK (vOf (X0_4 m c t) (X0_5 m c t) (X0_6 m c t)) p hp) (biasOf (iblk m c 9 t) p hp)
      (lseOf (iblk m c 8 t) (2 * p) (by omega)) (lseOf (iblk m c 8 t) (2 * p + 1) (by omega)) := by
  have hl : ∀ (h : ℕ) (hh : h < 16) (x : Fin 256), lseOf (F := Ideal) (iblk m c 8 t) h hh (ix2 0 x) = ((Real.log (A.Z (256 * t.val + x.val) h) : ℝ) : EReal) := fun h hh x => by
    rw [lseOf_apply, read_8, V_lse, lse_real I]
    show ((Real.log (A.Z (256 * min t.val 31 + x.val) h) : ℝ) : EReal) = _
    rw [min_eq_left (by omega : t.val ≤ 31)]
  refine ⟨ht, fun x l => ?_, fun x l => ?_, fun w l => ?_, fun w l => ?_, fun w l h hw _ => ?_, fun w l h hw _ => ?_, fun w y => ?_, hl _ _, hl _ _⟩
  · rw [colsQ_apply, read_0, I.hq _ _ (by show 128 * p + l.val < 1024; omega)]
    show ((A.q (256 * min t.val 31 + x.val) (128 * p + l.val) : ℝ) : EReal) = _
    rw [min_eq_left (by omega : t.val ≤ 31)]
  · rw [colsQ_apply, read_7, I.ho]
    show ((A.o (256 * min t.val 31 + x.val) (128 * p + l.val) : ℝ) : EReal) = _
    rw [min_eq_left (by omega : t.val ≤ 31)]
  · rw [colsK_apply, keys_apply m c I t ht]
  · rw [colsK_apply, values_apply m c I t ht]
  · show A.k (keyRow t.val w) _ = _; rw [keyRow_eq _ _ h hw]
  · show A.v (keyRow t.val w) _ = _; rw [keyRow_eq _ _ h hw]
  · rw [biasOf_apply, read_9, V_bias]
    exact wide_real I ⟨p, hp⟩ w y

theorem stepQ_apply (t : Fin cfg0.N) (ht : t.val < 32) (y : Fin 256) (l : Fin 1024) :
    stepQ m c t (ix2 y l) = ((A.dq (256 * t.val + y.val) l.val : ℝ) : EReal) := by
  have hl := l.isLt
  unfold stepQ
  rw [colsAll_apply]
  unfold wq
  rw [coords_val, dq_apply (pair_in m c I t ht (l.val / 128) (by omega))]
  show ((A.dq (256 * t.val + y.val) (128 * (l.val / 128) + l.val % 128) : ℝ) : EReal) = _
  rw [Nat.div_add_mod]

theorem stepK_apply (t : Fin cfg0.N) (ht : t.val < 32) (x : Vec Ideal S768x1024 .f32) (w : Fin 768) (l : Fin 1024) :
    stepK m c t x (ix2 w l) = x (ix2 w l) + ((∑ y ∈ range 256, A.ds (256 * t.val + y) (l.val / 64) (256 * t.val + w.val) * (A.q (256 * t.val + y) l.val * (1 / 8)) : ℝ) : EReal) := by
  have hl := l.isLt
  unfold stepK mid17 upd
  rw [if_pos ((runs_iff t).mpr ht), colsAll_apply]
  unfold wk
  rw [coords_val, dk_apply (pair_in m c I t ht (l.val / 128) (by omega)), colsK_apply]
  have e1 : 128 * (l.val / 128) + l.val % 128 = l.val := Nat.div_add_mod _ _
  have e2 : 2 * (l.val / 128) + l.val % 128 / 64 = l.val / 64 := by omega
  simp only [e1, e2]

theorem stepV_apply (t : Fin cfg0.N) (ht : t.val < 32) (x : Vec Ideal S768x1024 .f32) (w : Fin 768) (l : Fin 1024) :
    stepV m c t x (ix2 w l) = x (ix2 w l) + ((∑ y ∈ range 256, A.pt (256 * t.val + y) (l.val / 64) (256 * t.val + w.val) * A.o (256 * t.val + y) l.val : ℝ) : EReal) := by
  have hl := l.isLt
  unfold stepV mid18 upd
  rw [if_pos ((runs_iff t).mpr ht), colsAll_apply]
  unfold wv
  rw [coords_val, dv_apply (pair_in m c I t ht (l.val / 128) (by omega)), colsK_apply]
  have e1 : 128 * (l.val / 128) + l.val % 128 = l.val := Nat.div_add_mod _ _
  have e2 : 2 * (l.val / 128) + l.val % 128 / 64 = l.val / 64 := by omega
  simp only [e1, e2]

omit I in
theorem db0_apply (s : Vec Ideal S768x512 .f32) (g : Vec Ideal S1x576x64 .f32) (j : Fin 576) (y : Fin 64) :
    db0Of (F := Ideal) s g (ix3 0 j y) = g (ix3 0 j y) + (s (ix2 (⟨0 + j.val, by omega⟩ : Fin 768) (⟨0 + y.val, by omega⟩ : Fin 512)) + s (ix2 (⟨64 + j.val, by omega⟩ : Fin 768) (⟨64 + y.val, by omega⟩ : Fin 512))
      + s (ix2 (⟨128 + j.val, by omega⟩ : Fin 768) (⟨128 + y.val, by omega⟩ : Fin 512)) + s (ix2 (⟨192 + j.val, by omega⟩ : Fin 768) (⟨192 + y.val, by omega⟩ : Fin 512))) := by
  unfold db0Of
  rw [← dsAt_apply s 0 0 (by omega) (by omega) inb_S768x512_S576x64_0_0, ← dsAt_apply s 64 64 (by omega) (by omega) inb_S768x512_S576x64_64_64,
    ← dsAt_apply s 128 128 (by omega) (by omega) inb_S768x512_S576x64_128_128, ← dsAt_apply s 192 192 (by omega) (by omega) inb_S768x512_S576x64_192_192]
  generalize dsAt s 0 0 _ = s0
  generalize dsAt s 64 64 _ = s1
  generalize dsAt s 128 128 _ = s2
  generalize dsAt s 192 192 _ = s3
  pointwise [payDb0, k0_pay20, k0_pay21]

omit I in
theorem db1_apply (s : Vec Ideal S768x512 .f32) (g : Vec Ideal S1x576x64 .f32) (j : Fin 576) (y : Fin 64) :
    db1Of (F := Ideal) s g (ix3 0 j y) = g (ix3 0 j y) + (s (ix2 (⟨0 + j.val, by omega⟩ : Fin 768) (⟨256 + y.val, by omega⟩ : Fin 512)) + s (ix2 (⟨64 + j.val, by omega⟩ : Fin 768) (⟨320 + y.val, by omega⟩ : Fin 512))
      + s (ix2 (⟨128 + j.val, by omega⟩ : Fin 768) (⟨384 + y.val, by omega⟩ : Fin 512)) + s (ix2 (⟨192 + j.val, by omega⟩ : Fin 768) (⟨448 + y.val, by omega⟩ : Fin 512))) := by
  unfold db1Of
  rw [← dsAt_apply s 0 256 (by omega) (by omega) inb_S768x512_S576x64_0_256, ← dsAt_apply s 64 320 (by omega) (by omega) inb_S768x512_S576x64_64_320,
    ← dsAt_apply s 128 384 (by omega) (by omega) inb_S768x512_S576x64_128_384, ← dsAt_apply s 192 448 (by omega) (by omega) inb_S768x512_S576x64_192_448]
  generalize dsAt s 0 256 _ = s0
  generalize dsAt s 64 320 _ = s1
  generalize dsAt s 128 384 _ = s2
  generalize dsAt s 192 448 _ = s3
  pointwise [payDb1, k0_pay22]

theorem stepB_apply (t : Fin cfg0.N) (ht : t.val < 32) (x : Vec Ideal S16x576x64 .f32) (h : Fin 16) (j : Fin 576) (y : Fin 64) :
    stepB m c t x (ix3 h j y) = x (ix3 h j y) + ((∑ a ∈ range 4, A.ds (64 * (4 * t.val + a) + y.val) h.val (64 * (4 * t.val + a) + j.val) : ℝ) : EReal) := by
  have hy := y.isLt
  have hh := h.isLt
  unfold stepB mid14 upd
  rw [if_pos ((runs_iff t).mpr ht)]
  show dbNew _ x h.val h.isLt (ix3 0 j y) = _
  have hds : ∀ (w : Fin 768) (z : Fin 512) (hp), dsOf (F := Ideal) (grid0.coords t) (X0_0 m c t) (iblk m c 7 t) (iblk m c 8 t) (iblk m c 9 t)
      (kOf (X0_1 m c t) (X0_2 m c t) (X0_3 m c t)) (vOf (X0_4 m c t) (X0_5 m c t) (X0_6 m c t)) (h.val / 2) hp (ix2 w z)
      = ((A.ds (256 * t.val + z.val % 256) (2 * (h.val / 2) + z.val / 256) (256 * t.val + w.val) : ℝ) : EReal) := fun w z hp => by
    unfold dsOf
    rw [coords_val, dsS_apply (pair_in m c I t ht (h.val / 2) hp)]
  unfold dbNew
  simp only [Finset.sum_range_succ, Finset.sum_range_zero, zero_add]
  have e : ∀ (i i' u u' r r' : ℕ), i = i' → u = u' → r = r' → A.ds i u r = A.ds i' u' r' := by rintro _ _ _ _ _ _ rfl rfl rfl; rfl
  split
  · rw [db0_apply, dbOf_apply, hds, hds, hds, hds, ← EReal.coe_add, ← EReal.coe_add, ← EReal.coe_add]
    refine congrArg (fun z : ℝ => x (ix3 h j y) + (z : EReal)) ?_
    refine congrArg₂ (· + ·) (congrArg₂ (· + ·) (congrArg₂ (· + ·) ?_ ?_) ?_) ?_ <;> refine e _ _ _ _ _ _ ?_ ?_ ?_ <;> simp only <;> omega
  · rw [db1_apply, dbOf_apply, hds, hds, hds, hds, ← EReal.coe_add, ← EReal.coe_add, ← EReal.coe_add]
    refine congrArg (fun z : ℝ => x (ix3 h j y) + (z : EReal)) ?_
    refine congrArg₂ (· + ·) (congrArg₂ (· + ·) (congrArg₂ (· + ·) ?_ ?_) ?_) ?_ <;> refine e _ _ _ _ _ _ ?_ ?_ ?_ <;> simp only <;> omega

end Cert.Bwd
-- ==== Proof.KAcc.lean ====
module

public import proofs.«01_k».proof.Proof.KStep

/-!
# What the accumulators hold, and the call's four results

Before step `n` row `w` of an accumulator holds, for the key at window position `256 * n + w`, the sum over the queries of
the blocks before; a window moves on by a block a step, and a block that leaves it has met all its queries.
-/

@[expose] public section

set_option maxRecDepth 16384

noncomputable section
namespace Cert.Bwd

open Idealize.ShloMosaic Idealize.ShloMosaic.TcCoe Idealize.SL.Sem Cert.KernelIdeal Cert.KernelIdeal.Gen Cert.Att Cert.Host
open Finset (range)

theorem zero_word : Ideal.ofBits .f32 0x00000000#32 = ((0 : ℝ) : EReal) := by
  simp [Ideal.ofBits, Ideal.ieee]

theorem pay112_apply (w : Fin 768) (l : Fin 1024) : k0_pay112 (F := Ideal) (ix2 w l) = ((0 : ℝ) : EReal) := by pointwise [k0_pay112, zero_word]
theorem pay113_apply (w : Fin 768) (l : Fin 1024) : k0_pay113 (F := Ideal) (ix2 w l) = ((0 : ℝ) : EReal) := by pointwise [k0_pay113, zero_word]
theorem pay114_apply (h : Fin 16) (w : Fin 576) (l : Fin 64) : k0_pay114 (F := Ideal) (ix3 h w l) = ((0 : ℝ) : EReal) := by pointwise [k0_pay114, zero_word]
theorem pay121_apply (w : Fin 256) (l : Fin 1024) : k0_pay121 (F := Ideal) (ix2 w l) = ((0 : ℝ) : EReal) := by pointwise [k0_pay121, zero_word]
theorem pay3_apply (w : Fin 256) (l : Fin 1024) : k0_pay3 (F := Ideal) (ix2 w l) = ((0 : ℝ) : EReal) := by pointwise [k0_pay3, zero_word]
theorem pay119_apply (x : Vec Ideal S256x1024 .f32) (y : Fin 256) (l : Fin 1024) : k0_pay119 (F := Ideal) x (ix2 y l) = x (ix2 y l) := by pointwise [k0_pay119]
theorem pay120_apply (x : Vec Ideal S256x1024 .f32) (y : Fin 256) (l : Fin 1024) : k0_pay120 (F := Ideal) x (ix2 y l) = x (ix2 y l) := by pointwise [k0_pay120]
theorem pay1_apply (x : Vec Ideal S256x1024 .f32) (y : Fin 256) (l : Fin 1024) : k0_pay1 (F := Ideal) x (ix2 y l) = x (ix2 y l) := by pointwise [k0_pay1]
theorem pay2_apply (x : Vec Ideal S256x1024 .f32) (y : Fin 256) (l : Fin 1024) : k0_pay2 (F := Ideal) x (ix2 y l) = x (ix2 y l) := by pointwise [k0_pay2]
theorem pay117_apply (x : Vec Ideal S256x1024 .f32) (y : Fin 256) (l : Fin 1024) : k0_pay117 (F := Ideal) x (ix2 y l) = x (ix2 y l) := by pointwise [k0_pay117]
theorem pay118_apply (x : Vec Ideal S256x1024 .f32) (y : Fin 256) (l : Fin 1024) : k0_pay118 (F := Ideal) x (ix2 y l) = x (ix2 y l) := by pointwise [k0_pay118]

/-- An accumulator a block on. -/
theorem moved_apply (f : ℕ → ℕ → ℕ → ℝ) (hf : ∀ i R l, ¬ inb i R → f i R l = 0) (n : ℕ) (x : Vec Ideal S768x1024 .f32)
    (hx : ∀ (w : Fin 768) (l : Fin 1024), x (ix2 w l) = ((∑ i ∈ range (256 * min (n + 1) 32), f i (256 * n + w.val) l.val : ℝ) : EReal))
    (a b d : FVec Ideal S256x1024 .f32) (ha : ∀ y l, a (ix2 y l) = rowsAt x 256 inb_S768x1024_S256x1024_256_0 (ix2 y l))
    (hb : ∀ y l, b (ix2 y l) = rowsAt x 512 inb_S768x1024_S256x1024_512_0 (ix2 y l)) (hd : ∀ y l, d (ix2 y l) = ((0 : ℝ) : EReal))
    (w : Fin 768) (l : Fin 1024) :
    stack3 (F := Ideal) (e := .f32) a b d (ix2 w l) = ((∑ i ∈ range (256 * min (n + 1) 32), f i (256 * (n + 1) + w.val) l.val : ℝ) : EReal) := by
  have hw := w.isLt
  rw [stack3_apply]
  split
  · rw [ha, rowsAt_apply _ _ (by omega), hx, show 256 * n + (256 + w.val) = 256 * (n + 1) + w.val by omega]
  · split
    · rw [hb, rowsAt_apply _ _ (by omega), hx, show 256 * n + (512 + (w.val - 256)) = 256 * (n + 1) + w.val by omega]
    · rw [hd, Finset.sum_eq_zero fun i hi => hf _ _ _ fun hin => ?_]
      rw [Finset.mem_range] at hi
      have h1 := hin.2.2
      omega

/-- The sum a block more. -/
theorem sum_block (f : ℕ → ℝ) (n : ℕ) (hn : n < 32) :
    (∑ i ∈ range (256 * min n 32), f i) + ∑ y ∈ range 256, f (256 * n + y) = ∑ i ∈ range (256 * min (n + 1) 32), f i := by
  rw [min_eq_left (by omega), min_eq_left (by omega), Nat.mul_succ, Finset.sum_range_add]

theorem sum_four (f : ℕ → ℝ) (n : ℕ) (hn : n < 32) :
    (∑ i ∈ range (4 * min n 32), f i) + ∑ y ∈ range 4, f (4 * n + y) = ∑ i ∈ range (4 * min (n + 1) 32), f i := by
  rw [min_eq_left (by omega), min_eq_left (by omega), Nat.mul_succ, Finset.sum_range_add]

/-- A block that leaves the window has met all its queries. -/
theorem sum_whole (f : ℕ → ℝ) (t : ℕ) (R : ℕ) (hR : R < 256 * t + 256) (hf : ∀ i, ¬ inb i R → f i = 0) :
    ∑ i ∈ range (256 * min (t + 1) 32), f i = ∑ i ∈ range 8192, f i := by
  refine Finset.sum_subset (fun i hi => ?_) fun i hi hn => hf i fun h => hn ?_
  · rw [Finset.mem_range] at *; omega
  · rw [Finset.mem_range] at *
    have h1 := h.2.1
    omega

variable (m : (ℓ : Loc nD τ sig) → Buf (Elt Ideal) ℓ) (c : Dev nD) {A : Arrs}

theorem stepK_idle (t : Fin cfg0.N) (ht : ¬ t.val < 32) (x : Vec Ideal S768x1024 .f32) : stepK m c t x = x := by
  unfold stepK mid17 upd
  exact if_neg fun h => ht ((runs_iff t).mp h)
theorem stepV_idle (t : Fin cfg0.N) (ht : ¬ t.val < 32) (x : Vec Ideal S768x1024 .f32) : stepV m c t x = x := by
  unfold stepV mid18 upd
  exact if_neg fun h => ht ((runs_iff t).mp h)

variable (I : InsAt m c A)
include I

theorem accK_step (t : Fin cfg0.N) (x : Vec Ideal S768x1024 .f32)
    (hx : ∀ (w : Fin 768) (l : Fin 1024), x (ix2 w l) = ((∑ i ∈ range (256 * min t.val 32), A.ds i (l.val / 64) (256 * t.val + w.val) * (A.q i l.val * (1 / 8)) : ℝ) : EReal))
    (w : Fin 768) (l : Fin 1024) :
    stepK m c t x (ix2 w l) = ((∑ i ∈ range (256 * min (t.val + 1) 32), A.ds i (l.val / 64) (256 * t.val + w.val) * (A.q i l.val * (1 / 8)) : ℝ) : EReal) := by
  by_cases ht : t.val < 32
  · rw [stepK_apply m c I t ht, hx, ← EReal.coe_add, sum_block _ _ ht]
  · rw [stepK_idle m c t ht, hx, min_eq_right (by omega), min_eq_right (by omega)]

theorem accV_step (t : Fin cfg0.N) (x : Vec Ideal S768x1024 .f32)
    (hx : ∀ (w : Fin 768) (l : Fin 1024), x (ix2 w l) = ((∑ i ∈ range (256 * min t.val 32), A.pt i (l.val / 64) (256 * t.val + w.val) * A.o i l.val : ℝ) : EReal))
    (w : Fin 768) (l : Fin 1024) :
    stepV m c t x (ix2 w l) = ((∑ i ∈ range (256 * min (t.val + 1) 32), A.pt i (l.val / 64) (256 * t.val + w.val) * A.o i l.val : ℝ) : EReal) := by
  by_cases ht : t.val < 32
  · rw [stepV_apply m c I t ht, hx, ← EReal.coe_add, sum_block _ _ ht]
  · rw [stepV_idle m c t ht, hx, min_eq_right (by omega), min_eq_right (by omega)]

omit I in
theorem acc_K (t : Fin cfg0.N) : (acc m c (t.val + 1)).1 = shiftK (stepK m c t (acc m c t.val).1) := congrArg (·.1) (acc_succ m c t)
omit I in
theorem acc_V (t : Fin cfg0.N) : (acc m c (t.val + 1)).2.1 = shiftV (stepV m c t (acc m c t.val).2.1) := congrArg (·.2.1) (acc_succ m c t)
omit I in
theorem acc_B (t : Fin cfg0.N) : (acc m c (t.val + 1)).2.2 = stepB m c t (acc m c t.val).2.2 := congrArg (·.2.2) (acc_succ m c t)

/-- The keys' accumulator before step `n`, -/
theorem accK_apply (n : ℕ) (hn : n ≤ 34) : ∀ (w : Fin 768) (l : Fin 1024),
    (acc m c n).1 (ix2 w l) = ((∑ i ∈ range (256 * min n 32), A.ds i (l.val / 64) (256 * n + w.val) * (A.q i l.val * (1 / 8)) : ℝ) : EReal) := by
  induction n with
  | zero => exact fun w l => (pay112_apply w l).trans (by simp)
  | succ n ih =>
    have hK := ih (by omega)
    have hn' : n < cfg0.N := lt_of_lt_of_eq (by omega) (show cfg0.N = 34 from N_0).symm
    have hs := accK_step m c I ⟨n, hn'⟩ _ hK
    have e := acc_K m c ⟨n, hn'⟩
    dsimp only at e hs
    intro w l
    rw [e]
    unfold shiftK
    exact moved_apply (fun i R l => A.ds i (l / 64) R * (A.q i l * (1 / 8))) (fun i R l h => by simp only [A.ds_out h, zero_mul]) n _
      hs _ _ _ (pay119_apply _) (pay120_apply _) pay121_apply w l

/-- the values' -/
theorem accV_apply (n : ℕ) (hn : n ≤ 34) : ∀ (w : Fin 768) (l : Fin 1024),
    (acc m c n).2.1 (ix2 w l) = ((∑ i ∈ range (256 * min n 32), A.pt i (l.val / 64) (256 * n + w.val) * A.o i l.val : ℝ) : EReal) := by
  induction n with
  | zero => exact fun w l => (pay113_apply w l).trans (by simp)
  | succ n ih =>
    have hV := ih (by omega)
    have hn' : n < cfg0.N := lt_of_lt_of_eq (by omega) (show cfg0.N = 34 from N_0).symm
    have hs := accV_step m c I ⟨n, hn'⟩ _ hV
    have e := acc_V m c ⟨n, hn'⟩
    dsimp only at e hs
    intro w l
    rw [e]
    unfold shiftV
    exact moved_apply (fun i R l => A.pt i (l / 64) R * A.o i l) (fun i R l h => by simp only [A.pt_out h, zero_mul]) n _
      hs _ _ _ (pay1_apply _) (pay2_apply _) pay3_apply w l

/-- and the bias gradient. -/
theorem accB_apply (n : ℕ) (hn : n ≤ 34) : ∀ (h : Fin 16) (j : Fin 576) (y : Fin 64),
    (acc m c n).2.2 (ix3 h j y) = ((∑ b ∈ range (4 * min n 32), A.ds (64 * b + y.val) h.val (64 * b + j.val) : ℝ) : EReal) := by
  induction n with
  | zero => exact fun h j y => (pay114_apply h j y).trans (by simp)
  | succ n ih =>
    have hB := ih (by omega)
    intro h j y
    rw [acc_B m c (⟨n, lt_of_lt_of_eq (by omega) (show cfg0.N = 34 from N_0).symm⟩ : Fin cfg0.N)]
    by_cases ht : n < 32
    · rw [stepB_apply m c I _ ht, hB, ← EReal.coe_add]
      exact congrArg _ (sum_four (fun b => A.ds (64 * b + y.val) h.val (64 * b + j.val)) n ht)
    · rw [stepB_idle m c _ (by show 32 ≤ n; omega), hB, min_eq_right (by omega), min_eq_right (by omega)]

/-- The keys' gradient a step leaves, -/
theorem outK_apply (t : Fin cfg0.N) (ht : 2 ≤ t.val) (y : Fin 256) (l : Fin 1024) :
    k0_pay117 (rowsAt (stepK m c t (acc m c t.val).1) 0 inb_S768x1024_S256x1024_0_0) (ix2 y l) = ((A.dk (256 * (t.val - 2) + y.val) l.val : ℝ) : EReal) := by
  have h34 := pt_lt t
  rw [pay117_apply, rowsAt_apply _ 0 (by omega), accK_step m c I t _ (accK_apply m c I t.val (by omega))]
  refine congrArg _ ?_
  show (∑ i ∈ range (256 * min (t.val + 1) 32), A.ds i (l.val / 64) (256 * t.val + (0 + y.val)) * (A.q i l.val * (1 / 8))) = _
  rw [sum_whole _ t.val (256 * t.val + (0 + y.val)) (by omega) fun i hi => by simp only [A.ds_out hi, zero_mul]]
  unfold Arrs.dk
  rw [show 256 * t.val + (0 + y.val) = 256 * (t.val - 2) + y.val + 512 by omega]
/-- and the values'. -/
theorem outV_apply (t : Fin cfg0.N) (ht : 2 ≤ t.val) (y : Fin 256) (l : Fin 1024) :
    k0_pay118 (rowsAt (stepV m c t (acc m c t.val).2.1) 0 inb_S768x1024_S256x1024_0_0) (ix2 y l) = ((A.dv (256 * (t.val - 2) + y.val) l.val : ℝ) : EReal) := by
  have h34 := pt_lt t
  rw [pay118_apply, rowsAt_apply _ 0 (by omega), accV_step m c I t _ (accV_apply m c I t.val (by omega))]
  refine congrArg _ ?_
  show (∑ i ∈ range (256 * min (t.val + 1) 32), A.pt i (l.val / 64) (256 * t.val + (0 + y.val)) * A.o i l.val) = _
  rw [sum_whole _ t.val (256 * t.val + (0 + y.val)) (by omega) fun i hi => by simp only [A.pt_out hi, zero_mul]]
  unfold Arrs.dv
  rw [show 256 * t.val + (0 + y.val) = 256 * (t.val - 2) + y.val + 512 by omega]

/-! ## The four results -/

theorem result_q : (dats m 0 c).arrAt 10 cfg0.N = fun y : S8192x1024.Idx => ((A.dq (y 0).val (y 1).val : ℝ) : EReal) := by
  refine (dats m 0 c).arrAt_eq_of_covers 10 _ (by decide +kernel) fun t hf y => ?_
  have h34 := pt_lt t
  have hlt : (lastQ t).val < 32 := by unfold lastQ; split <;> simp_all
  have hv : (lastQ t).val = min t.val 31 := by unfold lastQ; split <;> simp <;> omega
  rw [after_10]
  have h := stepQ_apply m c I (lastQ t) hlt (y 0) (y 1)
  rw [hv] at h
  have e := index_10 t
  blk_simp [e]
  refine Eq.trans (congrArg _ ?_) (h.trans ?_)
  · funext a; fin_cases a <;> rfl
  · rw [Nat.mul_comm]

theorem result_k : (dats m 0 c).arrAt 11 cfg0.N = fun y : S8192x1024.Idx => ((A.dk (y 0).val (y 1).val : ℝ) : EReal) := by
  refine (dats m 0 c).arrAt_eq_of_covers 11 _ (by decide +kernel) fun t hf y => ?_
  have h34 := pt_lt t
  have ht : 2 ≤ t.val := (by decide +kernel : ∀ t : Fin cfg0.N, (cfg0.win 11).flush t = true → 2 ≤ t.val) t hf
  rw [after_11]
  have h := outK_apply m c I t ht (y 0) (y 1)
  have e := index_11 t
  blk_simp [e]
  refine Eq.trans (congrArg _ ?_) (h.trans ?_)
  · funext a; fin_cases a <;> rfl
  · rw [Nat.mul_comm]

theorem result_v : (dats m 0 c).arrAt 12 cfg0.N = fun y : S8192x1024.Idx => ((A.dv (y 0).val (y 1).val : ℝ) : EReal) := by
  refine (dats m 0 c).arrAt_eq_of_covers 12 _ (by decide +kernel) fun t hf y => ?_
  have h34 := pt_lt t
  have ht : 2 ≤ t.val := (by decide +kernel : ∀ t : Fin cfg0.N, (cfg0.win 12).flush t = true → 2 ≤ t.val) t hf
  rw [after_12]
  have h := outV_apply m c I t ht (y 0) (y 1)
  have e := index_12 t
  blk_simp [e]
  refine Eq.trans (congrArg _ ?_) (h.trans ?_)
  · funext a; fin_cases a <;> rfl
  · rw [Nat.mul_comm]

theorem result_b : (dats m 0 c).arrAt 13 cfg0.N = fun y : S16x576x64.Idx => ((A.db (y 0).val (y 1).val (y 2).val : ℝ) : EReal) := by
  refine (dats m 0 c).arrAt_eq_of_covers 13 _ (by decide +kernel) fun t hf y => ?_
  have ht : t.val = 33 := (by decide +kernel : ∀ t : Fin cfg0.N, (cfg0.win 13).flush t = true → t.val = 33) t hf
  rw [after_13, ht]
  have h := accB_apply m c I 34 le_rfl (y 0) (y 1) (y 2)
  have e := index_13 t
  blk_simp [e]
  refine Eq.trans (congrArg _ ?_) (h.trans ?_)
  · funext a; fin_cases a <;> rfl
  · rfl

end Cert.Bwd
-- ==== Proof.KRun.lean ====
module

public import proofs.«01_k».proof.Proof.KAcc

/-!
# The kernel's run, its four results named
-/

@[expose] public section

noncomputable section
namespace Cert.Bwd

open Idealize.ShloMosaic Idealize.ShloMosaic.TcCoe Idealize.SL.Sem Cert.KernelIdeal Cert.KernelIdeal.Gen Cert.Att

variable (m : (ℓ : Loc nD τ sig) → Buf (Elt Ideal) ℓ) (ρ : Dev nD → PrngReg) (A : Dev nD → Arrs)

set_option maxHeartbeats 1000000 in
/-- On arguments that are real arrays the run ends with the four gradients, and the arguments as they were. -/
theorem run_values (I : ∀ c, InsAt m c (A c)) : θ_run defs (onTc (τ := τ) (main (F := Ideal))) ⟨m, fun _ => 0, ρ⟩ (fun r => ∀ c : Dev nD,
      r.2.mem ((c.tc : Thread nD τ).loc main_v88_0) = (fun y : S8192x1024.Idx => (((A c).dq (y 0).val (y 1).val : ℝ) : EReal))
      ∧ r.2.mem ((c.tc : Thread nD τ).loc main_v88_1) = (fun y : S8192x1024.Idx => (((A c).dk (y 0).val (y 1).val : ℝ) : EReal))
      ∧ r.2.mem ((c.tc : Thread nD τ).loc main_v88_2) = (fun y : S8192x1024.Idx => (((A c).dv (y 0).val (y 1).val : ℝ) : EReal))
      ∧ r.2.mem ((c.tc : Thread nD τ).loc main_v88_3) = (fun y : S16x576x64.Idx => (((A c).db (y 0).val (y 1).val (y 2).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (frame_ideal m ρ))
  obtain ⟨h1, h2⟩ := h
  have q : r.2.mem ((c.tc : Thread nD τ).loc main_v88_0) = (dats m 0 c).arrAt 10 cfg0.N := Pipeline.FramePost.out_eq h1 c 10
  have k : r.2.mem ((c.tc : Thread nD τ).loc main_v88_1) = (dats m 0 c).arrAt 11 cfg0.N := Pipeline.FramePost.out_eq h1 c 11
  have v : r.2.mem ((c.tc : Thread nD τ).loc main_v88_2) = (dats m 0 c).arrAt 12 cfg0.N := Pipeline.FramePost.out_eq h1 c 12
  have b : r.2.mem ((c.tc : Thread nD τ).loc main_v88_3) = (dats m 0 c).arrAt 13 cfg0.N := Pipeline.FramePost.out_eq h1 c 13
  rw [result_q m c (I c)] at q
  rw [result_k m c (I c)] at k
  rw [result_v m c (I c)] at v
  rw [result_b m c (I c)] at b
  exact ⟨q, k, v, b, h2.1 c⟩

end Cert.Bwd
-- ==== Proof.RAt.lean ====
module

public import proofs.«01_k».proof.Proof.HostAt
public import proofs.«01_k».proof.Proof.Gen.ReferenceIdeal.Run

/-!
# The plain computation's operations, at an index

What each operation of the plain computation gives at an index, for any operands.
-/

@[expose] public section

set_option maxRecDepth 16384

noncomputable section
namespace Cert.Plain

open Idealize.ShloMosaic Idealize.SL.Sem Cert.ReferenceIdeal Cert.ReferenceIdeal.Gen Cert.Att
open Finset (range)

abbrev T4 := FVec Ideal S128x16x64x576 .f32

def over (e : T4) (z : FVec Ideal S128x16x64x1 .f32) : T4 :=
  Host.divf e (broadcastInDim S128x16x64x576 ![0, 1, 2, 3] bcast_S128x16x64x1_S128x16x64x576_0_1_2_3 z)
theorem over_apply (e : T4) (z : FVec Ideal S128x16x64x1 .f32) (n : Fin 128) (h : Fin 16) (a : Fin 64) (j : Fin 576) :
    over e z (ix4 n h a j) = Ideal.div (e (ix4 n h a j)) (z (ix4 n h a 0)) := by
  pointwise [over]

def col (x : FVec Ideal S128x16x64 .f32) : FVec Ideal S128x16x64x1 .f32 :=
  broadcastInDim S128x16x64x1 ![0, 1, 2] bcast_S128x16x64_S128x16x64x1_0_1_2 x
theorem col_apply (x : FVec Ideal S128x16x64 .f32) (n : Fin 128) (h : Fin 16) (a : Fin 64) : col x (ix4 n h a 0) = x (ix3 n h a) := by
  pointwise [col]

def outs (x2 : FVec Ideal S8192x1024 .f32) : FVec Ideal S128x16x64x64 .f32 :=
  transpose S128x16x64x64 [0, 2, 3, 1] (shapeCast _ x2 shapeCasts_S8192x1024_S128x64x16x64) transposes_S128x64x16x64_S128x16x64x64_0_2_3_1
theorem outs_apply (x2 : FVec Ideal S8192x1024 .f32) (n : Fin 128) (h : Fin 16) (d a : Fin 64) :
    outs x2 (ix4 n h d a) = x2 (ix2 ⟨n.val * 64 + a.val, by omega⟩ ⟨h.val * 64 + d.val, by omega⟩) := by
  pointwise [outs]

def vc (x0 : FVec Ideal S8192x5760 .f32) : FVec Ideal S128x64x16x64 .f32 :=
  shapeCast _ (shapeCast _ (extractStridedSlice S8192x1024 ![0, 2048] x0 slices_S8192x5760_S8192x1024_0_2048) shapeCasts_S8192x1024_S8192x16x64) shapeCasts_S8192x16x64_S128x64x16x64
theorem vc_apply (x0 : FVec Ideal S8192x5760 .f32) (n : Fin 128) (r : Fin 64) (h : Fin 16) (d : Fin 64) :
    vc x0 (ix4 n r h d) = x0 (ix2 ⟨n.val * 64 + r.val, by omega⟩ ⟨2048 + (h.val * 64 + d.val), by omega⟩) := by
  pointwise [vc]

def dpOf (o : FVec Ideal S128x16x64x64 .f32) (v : FVec Ideal S128x576x16x64 .f32) : T4 :=
  Host.dotGeneral dot_S128x16x64x64_S128x576x16x64_S128x16x64x576_2_3_3_1_01_02 none o v
theorem dpOf_apply (o : FVec Ideal S128x16x64x64 .f32) (v : FVec Ideal S128x576x16x64 .f32) (n : Fin 128) (h : Fin 16) (a : Fin 64) (j : Fin 576) :
    dpOf o v (ix4 n h a j) = ∑ d, o (ix4 n h d a) * v (ix4 n j h d) := by
  pointwise [dpOf]

def dvBand (o : FVec Ideal S128x16x64x64 .f32) (p : T4) : FVec Ideal S128x576x16x64 .f32 :=
  transpose S128x576x16x64 [0, 3, 1, 2] (Host.dotGeneral dot_S128x16x64x64_S128x16x64x576_S128x16x64x576_3_2_2_3_01_01 none o p) transposes_S128x16x64x576_S128x576x16x64_0_3_1_2
theorem dvBand_apply (o : FVec Ideal S128x16x64x64 .f32) (p : T4) (n : Fin 128) (j : Fin 576) (h : Fin 16) (d : Fin 64) :
    dvBand o p (ix4 n j h d) = ∑ a, o (ix4 n h d a) * p (ix4 n h a j) := by
  pointwise [dvBand]

def dsOf (k : IVec S128x16x64x576 1) (dp e : T4) (z : FVec Ideal S128x16x64x1 .f32) : T4 :=
  select k (mulf (addf (over dp z) (broadcastInDim S128x16x64x576 ![0, 1, 2] bcast_S128x16x64_S128x16x64x576_0_1_2 (Host.reduceAdd (Host.negf (shapeCast _ (Host.reduceAdd (mulf (mulf dp (broadcastInDim S128x16x64x576 ![0, 1, 2, 3] bcast_S128x16x64x1_S128x16x64x576_0_1_2_3 (Host.divf (broadcastInDim S128x16x64x1 ![] bcast_S_S128x16x64x1 (constant (F := Ideal) S_ .f32 0x3F800000#32)) (mulf z z)))) e) (constant (F := Ideal) S_ .f32 0x00000000#32) reducesTo_S128x16x64x576_S128x16x64_d3 h_S_) shapeCasts_S128x16x64_S128x16x64x1)) (constant (F := Ideal) S_ .f32 0x00000000#32) reducesTo_S128x16x64x1_S128x16x64_d3 h_S_))) e) (broadcastInDim S128x16x64x576 ![] bcast_S_S128x16x64x576 (constant (F := Ideal) S_ .f32 0x00000000#32))

def dlOf (dp e : T4) (z : FVec Ideal S128x16x64x1 .f32) : FVec Ideal S128x16x64 .f32 :=
  Host.reduceAdd (mulf (mulf dp (broadcastInDim S128x16x64x576 ![0, 1, 2, 3] bcast_S128x16x64x1_S128x16x64x576_0_1_2_3 (Host.divf (broadcastInDim S128x16x64x1 ![] bcast_S_S128x16x64x1 (constant (F := Ideal) S_ .f32 0x3F800000#32)) (mulf z z)))) e) (constant (F := Ideal) S_ .f32 0x00000000#32) reducesTo_S128x16x64x576_S128x16x64_d3 h_S_
theorem dlOf_apply (dp e : T4) (z : FVec Ideal S128x16x64x1 .f32) (n : Fin 128) (h : Fin 16) (a : Fin 64) :
    dlOf dp e z (ix3 n h a) = ∑ j, dp (ix4 n h a j) * Ideal.div (Ideal.ofBits .f32 0x3F800000#32) (z (ix4 n h a 0) * z (ix4 n h a 0)) * e (ix4 n h a j) := by
  pointwise [dlOf]

def negRow (x : FVec Ideal S128x16x64 .f32) : T4 :=
  broadcastInDim S128x16x64x576 ![0, 1, 2] bcast_S128x16x64_S128x16x64x576_0_1_2 (Host.reduceAdd (Host.negf (shapeCast _ x shapeCasts_S128x16x64_S128x16x64x1)) (constant (F := Ideal) S_ .f32 0x00000000#32) reducesTo_S128x16x64x1_S128x16x64_d3 h_S_)
theorem negRow_apply (x : FVec Ideal S128x16x64 .f32) (n : Fin 128) (h : Fin 16) (a : Fin 64) (j : Fin 576) :
    negRow x (ix4 n h a j) = - x (ix3 n h a) := by
  pointwise [negRow]
  exact Fin.sum_univ_one _

theorem dsOf_apply (k : IVec S128x16x64x576 1) (dp e : T4) (z : FVec Ideal S128x16x64x1 .f32) (n : Fin 128) (h : Fin 16) (a : Fin 64) (j : Fin 576) (P : Prop) [Decidable P]
    (hk : k (ix4 n h a j) = BitVec.ofBool (decide P)) :
    dsOf k dp e z (ix4 n h a j) = if P then (over dp z (ix4 n h a j) + negRow (dlOf dp e z) (ix4 n h a j)) * e (ix4 n h a j) else Ideal.ofBits .f32 0x00000000#32 := by
  have : dsOf k dp e z = select k (mulf (addf (over dp z) (negRow (dlOf dp e z))) e) (broadcastInDim S128x16x64x576 ![] bcast_S_S128x16x64x576 (constant (F := Ideal) S_ .f32 0x00000000#32)) := rfl
  rw [this]
  generalize over dp z = u
  generalize negRow (dlOf dp e z) = w
  pointwise [hk]

def eighth (x : T4) : T4 := mulf x (broadcastInDim S128x16x64x576 ![] bcast_S_S128x16x64x576 (constant (F := Ideal) S_ .f32 0x3E000000#32))
theorem eighth_apply (x : T4) (n : Fin 128) (h : Fin 16) (a : Fin 64) (j : Fin 576) :
    eighth x (ix4 n h a j) = x (ix4 n h a j) * Ideal.ofBits .f32 0x3E000000#32 := by
  pointwise [eighth]

def dkBand (s : T4) (q : FVec Ideal S128x64x16x64 .f32) : FVec Ideal S128x576x16x64 .f32 :=
  transpose S128x576x16x64 [0, 2, 1, 3] (Host.dotGeneral dot_S128x16x64x576_S128x64x16x64_S128x16x576x64_2_1_3_3_01_02 none s q) transposes_S128x16x576x64_S128x576x16x64_0_2_1_3
theorem dkBand_apply (s : T4) (q : FVec Ideal S128x64x16x64 .f32) (n : Fin 128) (j : Fin 576) (h : Fin 16) (d : Fin 64) :
    dkBand s q (ix4 n j h d) = ∑ a, s (ix4 n h a j) * q (ix4 n a h d) := by
  pointwise [dkBand]

def dqOut (s : T4) (k : FVec Ideal S128x576x16x64 .f32) : FVec Ideal S8192x1024 .bf16 :=
  truncf .bf16 (shapeCast _ (shapeCast _ (transpose S128x64x16x64 [0, 2, 1, 3] (Host.dotGeneral dot_S128x16x64x576_S128x576x16x64_S128x16x64x64_3_1_2_3_01_02 none s k) transposes_S128x16x64x64_S128x64x16x64_0_2_1_3) shapeCasts_S128x64x16x64_S8192x16x64) shapeCasts_S8192x16x64_S8192x1024) bitsLt_bf16_f32
theorem dqOut_apply (s : T4) (k : FVec Ideal S128x576x16x64 .f32) (i : Fin 8192) (c : Fin 1024) :
    dqOut s k (ix2 i c) = ∑ j, s (ix4 ⟨i.val / 64, by omega⟩ ⟨c.val / 64, by omega⟩ ⟨i.val % 64, by omega⟩ j) * k (ix4 ⟨i.val / 64, by omega⟩ j ⟨c.val / 64, by omega⟩ ⟨c.val % 64, by omega⟩) := by
  pointwise [dqOut]

def rowsOut (y : FVec Ideal S136x64x16x64 .f32) : FVec Ideal S8192x1024 .bf16 :=
  truncf .bf16 (shapeCast _ (shapeCast _ (extractStridedSlice S128x64x16x64 ![8, 0, 0, 0] y slices_S136x64x16x64_S128x64x16x64_8_0_0_0) shapeCasts_S128x64x16x64_S8192x16x64) shapeCasts_S8192x16x64_S8192x1024) bitsLt_bf16_f32
theorem rowsOut_apply (y : FVec Ideal S136x64x16x64 .f32) (i : Fin 8192) (c : Fin 1024) :
    rowsOut y (ix2 i c) = y (ix4 ⟨8 + i.val / 64, by omega⟩ ⟨i.val % 64, by omega⟩ ⟨c.val / 64, by omega⟩ ⟨c.val % 64, by omega⟩) := by
  pointwise [rowsOut]

def dbOut (s : T4) : FVec Ideal S16x576x64 .f32 :=
  transpose S16x576x64 [0, 2, 1] (Host.reduceAdd (shapeCast _ (Host.reduceAdd s (constant (F := Ideal) S_ .f32 0x00000000#32) reducesTo_S128x16x64x576_S16x64x576_d0 h_S_) shapeCasts_S16x64x576_S1x16x64x576) (constant (F := Ideal) S_ .f32 0x00000000#32) reducesTo_S1x16x64x576_S16x64x576_d0 h_S_) transposes_S16x64x576_S16x576x64_0_2_1
theorem dbOut_apply (s : T4) (h : Fin 16) (j : Fin 576) (a : Fin 64) : dbOut s (ix3 h j a) = ∑ n, s (ix4 n h a j) := by
  pointwise [dbOut]
  exact Fin.sum_univ_one _

/-- The nine shifted blocks of a chunk's band, added up. -/
def nine (y : FVec Ideal S128x576x16x64 .f32) : FVec Ideal S136x64x16x64 .f32 :=
  (addf (addf (addf (addf (addf (addf (addf (addf (pad S136x64x16x64 ![8, 0, 0, 0] ![0, 0, 0, 0] ![0, 0, 0, 0] (extractStridedSlice S128x64x16x64 ![0, 512, 0, 0] y slices_S128x576x16x64_S128x64x16x64_0_512_0_0) (constant (F := Ideal) S_ .f32 0x00000000#32) pads_S128x64x16x64_S136x64x16x64_800_000_000_000 h_S_) (pad S136x64x16x64 ![7, 0, 0, 0] ![1, 0, 0, 0] ![0, 0, 0, 0] (extractStridedSlice S128x64x16x64 ![0, 448, 0, 0] y slices_S128x576x16x64_S128x64x16x64_0_448_0_0) (constant (F := Ideal) S_ .f32 0x00000000#32) pads_S128x64x16x64_S136x64x16x64_710_000_000_000 h_S_)) (pad S136x64x16x64 ![6, 0, 0, 0] ![2, 0, 0, 0] ![0, 0, 0, 0] (extractStridedSlice S128x64x16x64 ![0, 384, 0, 0] y slices_S128x576x16x64_S128x64x16x64_0_384_0_0) (constant (F := Ideal) S_ .f32 0x00000000#32) pads_S128x64x16x64_S136x64x16x64_620_000_000_000 h_S_)) (pad S136x64x16x64 ![5, 0, 0, 0] ![3, 0, 0, 0] ![0, 0, 0, 0] (extractStridedSlice S128x64x16x64 ![0, 320, 0, 0] y slices_S128x576x16x64_S128x64x16x64_0_320_0_0) (constant (F := Ideal) S_ .f32 0x00000000#32) pads_S128x64x16x64_S136x64x16x64_530_000_000_000 h_S_)) (pad S136x64x16x64 ![4, 0, 0, 0] ![4, 0, 0, 0] ![0, 0, 0, 0] (extractStridedSlice S128x64x16x64 ![0, 256, 0, 0] y slices_S128x576x16x64_S128x64x16x64_0_256_0_0) (constant (F := Ideal) S_ .f32 0x00000000#32) pads_S128x64x16x64_S136x64x16x64_440_000_000_000 h_S_)) (pad S136x64x16x64 ![3, 0, 0, 0] ![5, 0, 0, 0] ![0, 0, 0, 0] (extractStridedSlice S128x64x16x64 ![0, 192, 0, 0] y slices_S128x576x16x64_S128x64x16x64_0_192_0_0) (constant (F := Ideal) S_ .f32 0x00000000#32) pads_S128x64x16x64_S136x64x16x64_350_000_000_000 h_S_)) (pad S136x64x16x64 ![2, 0, 0, 0] ![6, 0, 0, 0] ![0, 0, 0, 0] (extractStridedSlice S128x64x16x64 ![0, 128, 0, 0] y slices_S128x576x16x64_S128x64x16x64_0_128_0_0) (constant (F := Ideal) S_ .f32 0x00000000#32) pads_S128x64x16x64_S136x64x16x64_260_000_000_000 h_S_)) (pad S136x64x16x64 ![1, 0, 0, 0] ![7, 0, 0, 0] ![0, 0, 0, 0] (extractStridedSlice S128x64x16x64 ![0, 64, 0, 0] y slices_S128x576x16x64_S128x64x16x64_0_64_0_0) (constant (F := Ideal) S_ .f32 0x00000000#32) pads_S128x64x16x64_S136x64x16x64_170_000_000_000 h_S_)) (pad S136x64x16x64 ![0, 0, 0, 0] ![8, 0, 0, 0] ![0, 0, 0, 0] (extractStridedSlice S128x64x16x64 ![0, 0, 0, 0] y slices_S128x576x16x64_S128x64x16x64_0_0_0_0) (constant (F := Ideal) S_ .f32 0x00000000#32) pads_S128x64x16x64_S136x64x16x64_080_000_000_000 h_S_))

/-- Block `lo` of the bands, moved down by `lo` chunks. -/
theorem piece_apply (y : FVec Ideal S128x576x16x64 .f32) (f : ℕ → ℕ → ℕ → ℕ → ℝ)
    (hy : ∀ (n : Fin 128) (j : Fin 576) (h : Fin 16) (d : Fin 64), y (ix4 n j h d) = ((f n j h d : ℝ) : EReal))
    (lo hi off : ℕ) (hs : S128x576x16x64.Slices ![0, off, 0, 0] S128x64x16x64)
    (hp : S128x64x16x64.Pads (![lo, 0, 0, 0] : Fin 4 → ℕ) ![hi, 0, 0, 0] ![0, 0, 0, 0] S136x64x16x64)
    (ho : off + 64 ≤ 576) (p e : ℕ) (hl : lo + e = 8) (hN : 8 + p < 136) (a : Fin 64) (h : Fin 16) (d : Fin 64) :
    pad S136x64x16x64 ![lo, 0, 0, 0] ![hi, 0, 0, 0] ![0, 0, 0, 0] (extractStridedSlice S128x64x16x64 ![0, off, 0, 0] y hs) (constant (F := Ideal) S_ .f32 0x00000000#32) hp h_S_ (ix4 ⟨8 + p, hN⟩ a h d)
      = ((if p + e < 128 then f (p + e) (off + a) h d else 0 : ℝ) : EReal) := by
  pointwise []
  by_cases hq : p + e < 128
  · rw [dif_pos (by omega), if_pos hq, hy]
    simp only
    rw [show 8 + p - lo = p + e by omega]
  · rw [dif_neg (by omega), if_neg hq, EReal.coe_zero]

theorem addf_at (x y : FVec Ideal S136x64x16x64 .f32) (i : S136x64x16x64.Idx) : addf x y i = x i + y i := rfl

/-- The nine blocks at a chunk of tokens. -/
theorem nine_apply (y : FVec Ideal S128x576x16x64 .f32) (f : ℕ → ℕ → ℕ → ℕ → ℝ)
    (hy : ∀ (n : Fin 128) (j : Fin 576) (h : Fin 16) (d : Fin 64), y (ix4 n j h d) = ((f n j h d : ℝ) : EReal))
    (p : ℕ) (hN : 8 + p < 136) (a : Fin 64) (h : Fin 16) (d : Fin 64) :
    nine y (ix4 ⟨8 + p, hN⟩ a h d) = ((∑ e ∈ range 9, (if p + e < 128 then f (p + e) (64 * (8 - e) + a) h d else 0) : ℝ) : EReal) := by
  unfold nine
  simp only [addf_at, Finset.sum_range_succ, Finset.sum_range_zero, zero_add, EReal.coe_add]
  rw [piece_apply y f hy 8 0 512 _ _ (by omega) p 0 rfl, piece_apply y f hy 7 1 448 _ _ (by omega) p 1 rfl,
    piece_apply y f hy 6 2 384 _ _ (by omega) p 2 rfl, piece_apply y f hy 5 3 320 _ _ (by omega) p 3 rfl,
    piece_apply y f hy 4 4 256 _ _ (by omega) p 4 rfl, piece_apply y f hy 3 5 192 _ _ (by omega) p 5 rfl,
    piece_apply y f hy 2 6 128 _ _ (by omega) p 6 rfl, piece_apply y f hy 1 7 64 _ _ (by omega) p 7 rfl,
    piece_apply y f hy 0 8 0 _ _ (by omega) p 8 rfl]

/-! ## Sums over the tokens by chunk -/

theorem sum_blocks (f : ℕ → ℝ) (m : ℕ) : ∑ i ∈ range (64 * m), f i = ∑ n ∈ range m, ∑ a ∈ range 64, f (64 * n + a) := by
  induction m with
  | zero => rfl
  | succ m ih => rw [Finset.sum_range_succ, Nat.mul_succ, Finset.sum_range_add, ih]

/-- Of all chunks the nine that meet a chunk's tokens count. -/
theorem sum_window (g : ℕ → ℝ) (p : ℕ) (hp : p < 128) (h0 : ∀ n, n < p ∨ p + 8 < n → g n = 0) :
    ∑ n ∈ range 128, g n = ∑ e ∈ range 9, (if p + e < 128 then g (p + e) else 0) := by
  have h1 : ∑ n ∈ range 128, g n = ∑ n ∈ range 136, (if n < 128 then g n else 0) := by
    rw [show 136 = 128 + 8 from rfl, Finset.sum_range_add, Finset.sum_congr rfl fun n hn => (if_pos (Finset.mem_range.1 hn)).symm,
      Finset.sum_eq_zero (s := range 8) fun n _ => if_neg (by omega), add_zero]
  have h2 : ∑ n ∈ Finset.Ico p (p + 9), (if n < 128 then g n else 0) = ∑ n ∈ range 136, (if n < 128 then g n else 0) := by
    refine Finset.sum_subset (fun n hn => ?_) (fun n _ hn => ?_)
    · have := Finset.mem_Ico.1 hn
      exact Finset.mem_range.2 (by omega)
    · rw [Finset.mem_Ico] at hn
      split
      · exact h0 n (by omega)
      · rfl
  rw [h1, ← h2, Finset.sum_Ico_eq_sum_range, show p + 9 - p = 9 by omega]

/-! ## Real numbers -/

theorem one_word : Ideal.ofBits .f32 0x3F800000#32 = ((1 : ℝ) : EReal) := by
  simp [Ideal.ofBits, Ideal.ieee, -EReal.coe_mul]; norm_num

theorem zero_word : Ideal.ofBits .f32 0x00000000#32 = ((0 : ℝ) : EReal) := by
  simp [Ideal.ofBits, Ideal.ieee, -EReal.coe_mul]

theorem eighth_word : Ideal.ofBits .f32 0x3E000000#32 = ((1 / 8 : ℝ) : EReal) := by
  simp [Ideal.ofBits, Ideal.ieee, -EReal.coe_mul]; norm_num

theorem over_real (e : T4) (z : FVec Ideal S128x16x64x1 .f32) (n : Fin 128) (h : Fin 16) (a : Fin 64) (j : Fin 576) (x y : ℝ) (hy : y ≠ 0)
    (he : e (ix4 n h a j) = (x : EReal)) (hz : z (ix4 n h a 0) = (y : EReal)) : over e z (ix4 n h a j) = ((x / y : ℝ) : EReal) := by
  rw [over_apply, he, hz, Ideal.div_coe hy, ← EReal.coe_mul, mul_one_div]

/-- The gradient of the scores. -/
theorem ds_real (A : Arrs) (k : IVec S128x16x64x576 1) (dp e : T4) (z : FVec Ideal S128x16x64x1 .f32) (u : ℝ) (hu : u ≠ 0) (n : Fin 128) (h : Fin 16) (a : Fin 64)
    (hk : ∀ j : Fin 576, k (ix4 n h a j) = BitVec.ofBool (decide (512 ≤ 64 * n.val + j.val)))
    (hd : ∀ j : Fin 576, dp (ix4 n h a j) = ((if 512 ≤ 64 * n.val + j.val then A.dp (64 * n.val + a.val) h.val (64 * n.val + j.val) else 0 : ℝ) : EReal))
    (he : ∀ j : Fin 576, e (ix4 n h a j) = ((A.E (64 * n.val + a.val) h.val (64 * n.val + j.val) * u : ℝ) : EReal))
    (hz : z (ix4 n h a 0) = ((A.Z (64 * n.val + a.val) h.val * u : ℝ) : EReal)) (j : Fin 576) :
    dsOf k dp e z (ix4 n h a j) = ((A.ds (64 * n.val + a.val) h.val (64 * n.val + j.val) : ℝ) : EReal) := by
  have hZ := (A.Z_pos (64 * n.val + a.val) h.val).ne'
  have hzu : A.Z (64 * n.val + a.val) h.val * u ≠ 0 := mul_ne_zero hZ hu
  rw [dsOf_apply k dp e z n h a j _ (hk j)]
  by_cases hp : 512 ≤ 64 * n.val + j.val
  · have hl : dlOf dp e z (ix3 n h a) = ((A.dl (64 * n.val + a.val) h.val / (A.Z (64 * n.val + a.val) h.val * u) : ℝ) : EReal) := by
      rw [dlOf_apply, sum_fin _ (fun i => A.dp (64 * n.val + a.val) h.val (64 * n.val + i) * A.pt (64 * n.val + a.val) h.val (64 * n.val + i)
        * (A.Z (64 * n.val + a.val) h.val * u)⁻¹) (fun i => by
          rw [hd, he, hz, one_word, ← EReal.coe_mul, Ideal.div_coe (mul_ne_zero hzu hzu), ← EReal.coe_mul, ← EReal.coe_mul, ← EReal.coe_mul, EReal.coe_eq_coe_iff]
          by_cases hi : 512 ≤ 64 * n.val + i.val
          · rw [if_pos hi]
            unfold Arrs.pt
            field_simp
          · rw [if_neg hi, A.pt_out (fun h => hi h.1)]
            simp), ← Finset.sum_mul]
      unfold Arrs.dl
      rw [show (64 * n.val + a.val) / 64 = n.val by omega, div_eq_mul_inv]
    rw [if_pos hp, negRow_apply, hl, over_real dp z n h a j _ _ hzu (hd j) hz, he, if_pos hp, ← EReal.coe_neg, ← EReal.coe_add, ← EReal.coe_mul, EReal.coe_eq_coe_iff]
    unfold Arrs.ds Arrs.pt
    field_simp
    ring
  · rw [if_neg hp, zero_word, A.ds_out (fun h => hp h.1)]

end Cert.Plain
-- ==== Proof.RValue.lean ====
module

public import proofs.«01_k».proof.Proof.RAt

/-!
# What the plain computation gives

On real arrays the plain computation's four results are the gradients of the queries, the keys, the values and the
biases, as `Cert.Att.Arrs` writes them.
-/

@[expose] public section

set_option maxRecDepth 16384

noncomputable section
namespace Cert.Plain

open Idealize.ShloMosaic Idealize.SL.Sem Cert.ReferenceIdeal Cert.ReferenceIdeal.Gen Cert.ReferenceIdeal.Value Cert.Att Cert.Host
open Finset (range)

/-- The row's largest score, bounded from below by −∞. -/
def least (s : FVec Ideal S128x16x64 .f32) : FVec Ideal S128x16x64 .f32 :=
  maximumf (broadcastInDim S128x16x64 ![] bcast_S_S128x16x64 (constant (F := Ideal) S_ .f32 0xFF800000#32)) s
theorem least_apply (s : FVec Ideal S128x16x64 .f32) (n : Fin 128) (h : Fin 16) (a : Fin 64) :
    least s (ix3 n h a) = max (Ideal.ofBits .f32 0xFF800000#32) (s (ix3 n h a)) := by
  pointwise [least]

theorem least_real (s : FVec Ideal S128x16x64 .f32) (n : Fin 128) (h : Fin 16) (a : Fin 64) (r : ℝ) (hs : s (ix3 n h a) = (r : EReal)) :
    least s (ix3 n h a) = (r : EReal) := by
  rw [least_apply, hs, show Ideal.ofBits .f32 0xFF800000#32 = (⊥ : EReal) from by simp [Ideal.ofBits, Ideal.ieee]]
  exact max_eq_right bot_le

def exps (x0 : FVec Ideal S8192x5760 .f32) (x1 : FVec Ideal S16x320 .f32) : T4 := sexp (score x0 x1) (least (smax (score x0 x1)))
def sums (x0 : FVec Ideal S8192x5760 .f32) (x1 : FVec Ideal S16x320 .f32) : FVec Ideal S128x16x64x1 .f32 := col (ssum (exps x0 x1))
def probs (x0 : FVec Ideal S8192x5760 .f32) (x1 : FVec Ideal S16x320 .f32) : T4 := over (exps x0 x1) (sums x0 x1)
def dprobs (x0 : FVec Ideal S8192x5760 .f32) (x2 : FVec Ideal S8192x1024 .f32) : T4 := dpOf (outs x2) (band (padded (vc x0)))
def dscores (x0 : FVec Ideal S8192x5760 .f32) (x1 : FVec Ideal S16x320 .f32) (x2 : FVec Ideal S8192x1024 .f32) : T4 :=
  dsOf mask (dprobs x0 x2) (exps x0 x1) (sums x0 x1)

section
variable (L : Valuation τ sig (Elt Ideal))

theorem v53_eq : res_main_v53 L = qc (L (Proc.devRef .tc main_arg0)) := rfl
theorem v52_eq : res_main_v52 L = band (padded (kc (L (Proc.devRef .tc main_arg0)))) := rfl
theorem v38_eq : res_main_v38 L = band (padded (vc (L (Proc.devRef .tc main_arg0)))) := rfl
theorem v74_1_eq : res_main_v74_1 L = mask := rfl
theorem v17_eq : res_main_v17 L = idx0 := rfl
theorem v74_0_eq : res_main_v74_0 L = score (L (Proc.devRef .tc main_arg0)) (L (Proc.devRef .tc main_arg1)) := by
  unfold res_main_v74_0
  rw [v53_eq, v52_eq, v74_1_eq, v17_eq]
  rfl
theorem v95_eq : res_main_v95 L = exps (L (Proc.devRef .tc main_arg0)) (L (Proc.devRef .tc main_arg1)) := by
  unfold res_main_v95 res_main_v75
  rw [v74_0_eq]
  rfl
theorem v97_eq : res_main_v97 L = sums (L (Proc.devRef .tc main_arg0)) (L (Proc.devRef .tc main_arg1)) := by
  unfold res_main_v97
  rw [v95_eq]
  rfl
theorem v99_eq : res_main_v99 L = probs (L (Proc.devRef .tc main_arg0)) (L (Proc.devRef .tc main_arg1)) := by
  unfold res_main_v99
  rw [v95_eq, v97_eq]
  rfl
theorem v107_eq : res_main_v107 L = outs (L (Proc.devRef .tc main_arg2)) := rfl
theorem v108_eq : res_main_v108 L = dprobs (L (Proc.devRef .tc main_arg0)) (L (Proc.devRef .tc main_arg2)) := by
  unfold res_main_v108
  rw [v107_eq, v38_eq]
  rfl
theorem v110_eq : res_main_v110 L = dvBand (outs (L (Proc.devRef .tc main_arg2))) (probs (L (Proc.devRef .tc main_arg0)) (L (Proc.devRef .tc main_arg1))) := by
  unfold res_main_v110
  rw [v107_eq, v99_eq]
  rfl
theorem v123_eq : res_main_v123 L = dscores (L (Proc.devRef .tc main_arg0)) (L (Proc.devRef .tc main_arg1)) (L (Proc.devRef .tc main_arg2)) := by
  unfold res_main_v123
  rw [v74_1_eq, v108_eq, v97_eq, v95_eq]
  rfl
theorem v128_eq : res_main_v128 L = eighth (dscores (L (Proc.devRef .tc main_arg0)) (L (Proc.devRef .tc main_arg1)) (L (Proc.devRef .tc main_arg2))) := by
  unfold res_main_v128
  rw [v123_eq]
  rfl
theorem v130_eq : res_main_v130 L = dkBand (eighth (dscores (L (Proc.devRef .tc main_arg0)) (L (Proc.devRef .tc main_arg1)) (L (Proc.devRef .tc main_arg2)))) (qc (L (Proc.devRef .tc main_arg0))) := by
  unfold res_main_v130
  rw [v128_eq, v53_eq]
  rfl
theorem v159_eq : res_main_v159 L = nine (res_main_v130 L) := rfl
theorem v188_eq : res_main_v188 L = nine (res_main_v110 L) := rfl
end

section
variable {A : Arrs} {x0 : FVec Ideal S8192x5760 .f32} {x1 : FVec Ideal S16x320 .f32} {x2 : FVec Ideal S8192x1024 .f32} (I : Ins A x0 x1 x2)
include I

theorem outs_real (n : Fin 128) (h : Fin 16) (d a : Fin 64) : outs x2 (ix4 n h d a) = ((A.o (64 * n.val + a.val) (64 * h.val + d.val) : ℝ) : EReal) := by
  rw [outs_apply, I.ho]
  simp only [Nat.mul_comm]

theorem vb_real (n : Fin 128) (j : Fin 576) (h : Fin 16) (d : Fin 64) :
    band (padded (vc x0)) (ix4 n j h d) = ((if 512 ≤ 64 * n.val + j.val then A.v (64 * n.val + j.val - 512) (64 * h.val + d.val) else 0 : ℝ) : EReal) := by
  rw [band_padded]
  by_cases hp : 512 ≤ 64 * n.val + j.val
  · rw [dif_pos hp, if_pos hp, vc_apply, I.hv _ _ (by simp only; omega) (by simp only; omega)]
    simp only
    rw [show (n.val + j.val / 64 - 8) * 64 + j.val % 64 = 64 * n.val + j.val - 512 by omega, show 2048 + (h.val * 64 + d.val) - 2048 = 64 * h.val + d.val by omega]
  · rw [dif_neg hp, if_neg hp, EReal.coe_zero]

theorem dprobs_real (n : Fin 128) (h : Fin 16) (a : Fin 64) (j : Fin 576) :
    dprobs x0 x2 (ix4 n h a j) = ((if 512 ≤ 64 * n.val + j.val then A.dp (64 * n.val + a.val) h.val (64 * n.val + j.val) else 0 : ℝ) : EReal) := by
  unfold dprobs
  rw [dpOf_apply]
  by_cases hp : 512 ≤ 64 * n.val + j.val
  · rw [sum_fin _ (fun d => A.v (64 * n.val + j.val - 512) (64 * h.val + d) * A.o (64 * n.val + a.val) (64 * h.val + d)) (fun d => by
      rw [outs_real I, vb_real I, if_pos hp, ← EReal.coe_mul, mul_comm]), if_pos hp]
    rfl
  · rw [sum_fin _ (fun d => 0) (fun d => by rw [outs_real I, vb_real I, if_neg hp, ← EReal.coe_mul, mul_zero]), if_neg hp, Finset.sum_const_zero]

theorem row_real (n : Fin 128) (h : Fin 16) (a : Fin 64) : ∃ u : ℝ, u ≠ 0 ∧
    (∀ j : Fin 576, exps x0 x1 (ix4 n h a j) = ((A.E (64 * n.val + a.val) h.val (64 * n.val + j.val) * u : ℝ) : EReal))
    ∧ sums x0 x1 (ix4 n h a 0) = ((A.Z (64 * n.val + a.val) h.val * u : ℝ) : EReal) := by
  obtain ⟨r, hr⟩ := smax_real I n h a
  have hl := least_real _ n h a r hr
  refine ⟨Real.exp (-r), (Real.exp_pos _).ne', fun j => sexp_real I _ r n h a hl j, ?_⟩
  unfold sums
  rw [col_apply]
  exact ssum_real I _ r n h a hl

theorem probs_real (n : Fin 128) (h : Fin 16) (a : Fin 64) (j : Fin 576) :
    probs x0 x1 (ix4 n h a j) = ((A.pt (64 * n.val + a.val) h.val (64 * n.val + j.val) : ℝ) : EReal) := by
  obtain ⟨u, hu, he, hz⟩ := row_real I n h a
  unfold probs
  rw [over_real _ _ n h a j _ _ (mul_ne_zero (A.Z_pos _ _).ne' hu) (he j) hz, mul_div_mul_right _ _ hu]
  rfl

theorem dscores_real (n : Fin 128) (h : Fin 16) (a : Fin 64) (j : Fin 576) :
    dscores x0 x1 x2 (ix4 n h a j) = ((A.ds (64 * n.val + a.val) h.val (64 * n.val + j.val) : ℝ) : EReal) := by
  obtain ⟨u, hu, he, hz⟩ := row_real I n h a
  exact ds_real A _ _ _ _ u hu n h a (fun j => mask_apply n h a j) (fun j => dprobs_real I n h a j) he hz j

theorem eighth_real (n : Fin 128) (h : Fin 16) (a : Fin 64) (j : Fin 576) :
    eighth (dscores x0 x1 x2) (ix4 n h a j) = ((A.ds (64 * n.val + a.val) h.val (64 * n.val + j.val) * (1 / 8) : ℝ) : EReal) := by
  rw [eighth_apply, dscores_real I, eighth_word, ← EReal.coe_mul]

/-- The queries' gradient. -/
theorem value_q (i : Fin 8192) (c : Fin 1024) :
    dqOut (eighth (dscores x0 x1 x2)) (band (padded (kc x0))) (ix2 i c) = ((A.dq i.val c.val : ℝ) : EReal) := by
  have hi : 64 * (i.val / 64) + i.val % 64 = i.val := by omega
  have hc : 64 * (c.val / 64) + c.val % 64 = c.val := by omega
  rw [dqOut_apply, sum_fin _ (fun j => A.ds i.val (c.val / 64) (64 * (i.val / 64) + j) * A.k (64 * (i.val / 64) + j - 512) c.val * (1 / 8)) (fun j => by
    rw [eighth_real I, kb_real I, ← EReal.coe_mul, EReal.coe_eq_coe_iff]
    simp only
    rw [hi, hc]
    split
    · ring
    · rw [A.ds_out (fun h => absurd h.1 ‹_›)]
      simp), ← Finset.sum_mul]
  rfl

theorem dkBand_real (n : Fin 128) (j : Fin 576) (h : Fin 16) (d : Fin 64) :
    dkBand (eighth (dscores x0 x1 x2)) (qc x0) (ix4 n j h d)
      = ((∑ a ∈ range 64, A.ds (64 * n.val + a) h.val (64 * n.val + j.val) * (A.q (64 * n.val + a) (64 * h.val + d.val) * (1 / 8)) : ℝ) : EReal) := by
  rw [dkBand_apply]
  refine sum_fin _ _ fun a => ?_
  rw [eighth_real I, qc_real I, ← EReal.coe_mul]
  ring_nf

theorem dvBand_real (n : Fin 128) (j : Fin 576) (h : Fin 16) (d : Fin 64) :
    dvBand (outs x2) (probs x0 x1) (ix4 n j h d)
      = ((∑ a ∈ range 64, A.pt (64 * n.val + a) h.val (64 * n.val + j.val) * A.o (64 * n.val + a) (64 * h.val + d.val) : ℝ) : EReal) := by
  rw [dvBand_apply]
  refine sum_fin _ _ fun a => ?_
  rw [outs_real I, probs_real I, ← EReal.coe_mul, mul_comm]

omit I in
/-- The nine blocks of a chunk of tokens add up what all chunks of queries give a token. -/
theorem rows_real (y : FVec Ideal S128x576x16x64 .f32) (w : ℕ → ℕ → ℕ → ℕ → ℝ)
    (hw : ∀ i h R c, ¬ inb i R → w i h R c = 0)
    (hy : ∀ (n : Fin 128) (j : Fin 576) (h : Fin 16) (d : Fin 64),
      y (ix4 n j h d) = ((∑ a ∈ range 64, w (64 * n.val + a) h.val (64 * n.val + j.val) (64 * h.val + d.val) : ℝ) : EReal))
    (r : Fin 8192) (c : Fin 1024) :
    rowsOut (nine y) (ix2 r c) = ((∑ i ∈ range 8192, w i (c.val / 64) (r.val + 512) c.val : ℝ) : EReal) := by
  have hr : 64 * (r.val / 64) + r.val % 64 = r.val := by omega
  have hc : 64 * (c.val / 64) + c.val % 64 = c.val := by omega
  rw [rowsOut_apply, nine_apply y (fun n j h d => ∑ a ∈ range 64, w (64 * n + a) h (64 * n + j) (64 * h + d)) hy,
    sum_blocks _ 128, sum_window _ (r.val / 64) (by omega), EReal.coe_eq_coe_iff]
  · refine Finset.sum_congr rfl fun e he => ?_
    have := Finset.mem_range.1 he
    simp only
    split
    · rw [hc, show 64 * (r.val / 64 + e) + (64 * (8 - e) + r.val % 64) = r.val + 512 by omega]
    · rfl
  · intro n hn
    refine Finset.sum_eq_zero fun a ha => hw _ _ _ _ fun h => ?_
    have := Finset.mem_range.1 ha
    have h1 := h.2.1
    have h2 := h.2.2
    omega

/-- The keys' gradient. -/
theorem value_k (r : Fin 8192) (c : Fin 1024) :
    rowsOut (nine (dkBand (eighth (dscores x0 x1 x2)) (qc x0))) (ix2 r c) = ((A.dk r.val c.val : ℝ) : EReal) :=
  rows_real _ (fun i h R c => A.ds i h R * (A.q i c * (1 / 8))) (fun i h R c hn => by rw [A.ds_out hn, zero_mul]) (fun n j h d => dkBand_real I n j h d) r c

/-- The values' gradient. -/
theorem value_v (r : Fin 8192) (c : Fin 1024) :
    rowsOut (nine (dvBand (outs x2) (probs x0 x1))) (ix2 r c) = ((A.dv r.val c.val : ℝ) : EReal) :=
  rows_real _ (fun i h R c => A.pt i h R * A.o i c) (fun i h R c hn => by rw [A.pt_out hn, zero_mul]) (fun n j h d => dvBand_real I n j h d) r c

/-- The biases' gradient. -/
theorem value_b (h : Fin 16) (j : Fin 576) (a : Fin 64) :
    dbOut (dscores x0 x1 x2) (ix3 h j a) = ((A.db h.val j.val a.val : ℝ) : EReal) := by
  rw [dbOut_apply]
  exact sum_fin _ (fun n => A.ds (64 * n + a.val) h.val (64 * n + j.val)) fun n => dscores_real I n h a j

end

/-! ## The four results of a run -/

section
variable (L : Valuation τ sig (Elt Ideal)) {A : Arrs}
  (I : Ins A (L (Proc.devRef .tc main_arg0)) (L (Proc.devRef .tc main_arg1)) (L (Proc.devRef .tc main_arg2)))
include I

theorem result_q : dqOut (res_main_v128 L) (res_main_v52 L) = fun y : S8192x1024.Idx => ((A.dq (y 0).val (y 1).val : ℝ) : EReal) := by
  rw [v128_eq, v52_eq]
  funext y
  rw [eq_ix2 y]
  exact value_q I (y 0) (y 1)

theorem result_k : rowsOut (res_main_v159 L) = fun y : S8192x1024.Idx => ((A.dk (y 0).val (y 1).val : ℝ) : EReal) := by
  rw [v159_eq, v130_eq]
  funext y
  rw [eq_ix2 y]
  exact value_k I (y 0) (y 1)

theorem result_v : rowsOut (res_main_v188 L) = fun y : S8192x1024.Idx => ((A.dv (y 0).val (y 1).val : ℝ) : EReal) := by
  rw [v188_eq, v110_eq]
  funext y
  rw [eq_ix2 y]
  exact value_v I (y 0) (y 1)

theorem result_b : dbOut (res_main_v123 L) = fun y : S16x576x64.Idx => ((A.db (y 0).val (y 1).val (y 2).val : ℝ) : EReal) := by
  rw [v123_eq]
  funext y
  rw [eq_ix3 y]
  exact value_b I (y 0) (y 1) (y 2)

end

end Cert.Plain
-- ==== Proof.Pre.lean ====
module

public import proofs.«01_k».proof.Pre_finite
public import proofs.«01_k».proof.Proof.HostAt
public import Idealize.ShloMosaic.Lib.ReduceAll

/-!
# The precondition

The precondition is one bit that says of every element of the three arguments that its absolute value is below
infinity. So the arguments are arrays of real numbers.
-/

@[expose] public section

set_option maxRecDepth 16384

noncomputable section
namespace Cert.Finite

open Idealize.ShloMosaic Idealize.SL.Sem Cert.Att

instance facts : Cert.Pre_finite.Facts where
  bcast_S_S8192x5760 := by decide
  reducesTo_S8192x5760_S_d0_1 := by decide
  h_S_ := by decide
  bcast_S_S16x320 := by decide
  reducesTo_S16x320_S_d0_1 := by decide
  bcast_S_S8192x1024 := by decide
  reducesTo_S8192x1024_S_d0_1 := by decide

/-- An extended real whose absolute value is below infinity is a real number. -/
theorem real_of_lt (x : EReal) (h : max x (-x) < ⊤) : x = ((x.toReal : ℝ) : EReal) := by
  refine (EReal.coe_toReal (fun e => ?_) (fun e => ?_)).symm
  · rw [e] at h
    exact absurd h (by simp)
  · rw [e] at h
    exact absurd h (by simp)

instance : Subsingleton Cert.Pre_finite.S_.Idx := ⟨fun a b => funext fun i => i.elim0⟩

theorem bits_and (x y : BitVec 1) (h : x &&& y = 1#1) : x = 1#1 ∧ y = 1#1 := by
  revert x y
  decide

/-- The test of one array. -/
theorem all_real {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi (cmpf .olt (Host.absf x) (broadcastInDim s ![] hb (constant (F := Ideal) Cert.Pre_finite.S_ .f32 0x7F800000#32)))
      (constantI Cert.Pre_finite.S_ 1 1#1) hr hu j = 1#1) (i : s.Idx) : x i = (((x i).toReal : ℝ) : EReal) := by
  have e := Host.reduce_andi_all _ _ hr hu j h i
  refine real_of_lt _ ?_
  have e' : Ideal.cmp .olt (max (x i) (-(x i))) (Ideal.ofBits .f32 0x7F800000#32) = 1#1 := e
  rw [show Ideal.ofBits .f32 0x7F800000#32 = (⊤ : EReal) from by simp [Ideal.ofBits, Ideal.ieee]] at e'
  by_contra hn
  rw [Ideal.cmp] at e'
  simp only [hn, decide_false] at e'
  exact absurd e' (by decide)

/-- The arrays behind three arguments. -/
def arrs (x0 : FVec Ideal Cert.Pre_finite.S8192x5760 .f32) (x1 : FVec Ideal Cert.Pre_finite.S16x320 .f32) (x2 : FVec Ideal Cert.Pre_finite.S8192x1024 .f32) : Arrs where
  q i l := if h : i < 8192 ∧ l < 1024 then (x0 (ix2 ⟨i, h.1⟩ ⟨l, by omega⟩)).toReal else 0
  k i l := if h : i < 8192 ∧ l < 1024 then (x0 (ix2 ⟨i, h.1⟩ ⟨1024 + l, by omega⟩)).toReal else 0
  v i l := if h : i < 8192 ∧ l < 1024 then (x0 (ix2 ⟨i, h.1⟩ ⟨2048 + l, by omega⟩)).toReal else 0
  o i l := if h : i < 8192 ∧ l < 1024 then (x2 (ix2 ⟨i, h.1⟩ ⟨l, h.2⟩)).toReal else 0
  b h c j := if hh : h < 16 then (x1 (ix2 ⟨h, hh⟩ ⟨min 319 (c + 575 - j), by omega⟩)).toReal else 0

/-- Under the precondition the arguments are those arrays. -/
theorem ins (x0 : FVec Ideal Cert.Pre_finite.S8192x5760 .f32) (x1 : FVec Ideal Cert.Pre_finite.S16x320 .f32) (x2 : FVec Ideal Cert.Pre_finite.S8192x1024 .f32)
    (h : Cert.Pre_finite.fn (F := Ideal) x0 x1 x2 = fun _ => 1#1) : Cert.Host.Ins (arrs x0 x1 x2) x0 x1 x2 := by
  have e := congrFun h ix0
  obtain ⟨e01, e2⟩ := bits_and _ _ e
  obtain ⟨e0, e1⟩ := bits_and _ _ e01
  have r0 := all_real x0 _ _ _ ix0 e0
  have r1 := all_real x1 _ _ _ ix0 e1
  have r2 := all_real x2 _ _ _ ix0 e2
  constructor
  · intro i l hl
    show _ = (((if h : i.val < 8192 ∧ l.val < 1024 then (x0 (ix2 ⟨i.val, h.1⟩ ⟨l.val, by omega⟩)).toReal else 0 : ℝ)) : EReal)
    rw [dif_pos ⟨i.isLt, hl⟩]
    exact r0 _
  · intro i l hl hl'
    show _ = (((if h : i.val < 8192 ∧ l.val - 1024 < 1024 then (x0 (ix2 ⟨i.val, h.1⟩ ⟨1024 + (l.val - 1024), by omega⟩)).toReal else 0 : ℝ)) : EReal)
    rw [dif_pos ⟨i.isLt, by omega⟩, Cert.Host.ix2_congr x0 (a := i) (b := l) (a' := i) (b' := ⟨1024 + (l.val - 1024), by omega⟩) rfl (by simp only; omega)]
    exact r0 _
  · intro i l hl hl'
    show _ = (((if h : i.val < 8192 ∧ l.val - 2048 < 1024 then (x0 (ix2 ⟨i.val, h.1⟩ ⟨2048 + (l.val - 2048), by omega⟩)).toReal else 0 : ℝ)) : EReal)
    rw [dif_pos ⟨i.isLt, by omega⟩, Cert.Host.ix2_congr x0 (a := i) (b := l) (a' := i) (b' := ⟨2048 + (l.val - 2048), by omega⟩) rfl (by simp only; omega)]
    exact r0 _
  · intro i l
    show _ = (((if h : i.val < 8192 ∧ l.val < 1024 then (x2 (ix2 ⟨i.val, h.1⟩ ⟨l.val, h.2⟩)).toReal else 0 : ℝ)) : EReal)
    rw [dif_pos ⟨i.isLt, l.isLt⟩]
    exact r2 _
  · intro h c j e hc hj he
    show _ = (((if hh : h.val < 16 then (x1 (ix2 ⟨h.val, hh⟩ ⟨min 319 (c + 575 - j), by omega⟩)).toReal else 0 : ℝ)) : EReal)
    rw [dif_pos h.isLt, Cert.Host.ix2_congr x1 (a := h) (b := e) (a' := h) (b' := ⟨min 319 (c + 575 - j), by omega⟩) rfl he]
    exact r1 _

end Cert.Finite
-- ==== Proof.Prod2.lean ====
module

public import proofs.«01_k».proof.Defs
public import proofs.«01_k».proof.Proof.Pre
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit.Geometry
public import Idealize.ShloMosaic.Lib.Pipeline.ValueKit.Acc

/-!
# The gradients of the gate and of the up projection

One call multiplies the block's gradient with the output projection and differentiates the activation. Its formula for
the gate's gradient has one term where the derivative of a product has two: they agree when the gradient of the
activation, times the up projection, is a real number.
-/

@[expose] public section

set_option maxRecDepth 16384

noncomputable section
namespace Cert.Prod2

open Idealize.ShloMosaic Idealize.ShloMosaic.TcCoe Idealize.SL.Sem Cert.Kernel2Ideal Cert.Kernel2Ideal.Gen

instance facts : Cert.Pre_finite2.Facts where
  bitsLt_bf16_f32 := by decide
  bcast_S_S8192x2048 := by decide
  reducesTo_S8192x2048_S_d0_1 := by decide
  h_S_ := by decide
  bcast_S_S5632x2048 := by decide
  reducesTo_S5632x2048_S_d0_1 := by decide
  bcast_S_S8192x5632 := by decide
  reducesTo_S8192x5632_S_d0_1 := by decide

/-- What the precondition says of the three arguments that it reads -/
theorem real (x0 : FVec Ideal S8192x2048 .bf16) (x1 : FVec Ideal S5632x2048 .bf16) (x2 x3 : FVec Ideal S8192x5632 .bf16)
    (h : Cert.Pre_finite2.fn (F := Ideal) x0 x1 x2 x3 = fun _ => 1#1) :
    (∀ i, ∃ r : ℝ, (x0 i : EReal) = r) ∧ (∀ i, ∃ r : ℝ, (x1 i : EReal) = r) ∧ ∀ i, ∃ r : ℝ, (x3 i : EReal) = r := by
  have e := congrFun h ix0
  obtain ⟨e01, e2⟩ := Cert.Finite.bits_and _ _ e
  obtain ⟨e0, e1⟩ := Cert.Finite.bits_and _ _ e01
  exact ⟨fun i => ⟨_, Cert.Finite.all_real x0 _ _ _ ix0 e0 i⟩, fun i => ⟨_, Cert.Finite.all_real x1 _ _ _ ix0 e1 i⟩,
    fun i => ⟨_, Cert.Finite.all_real x3 _ _ _ ix0 e2 i⟩⟩

/-- A sum of products of real numbers is a real number. -/
theorem sum_real {n : Nat} (f g : Fin n → EReal) (hf : ∀ k, ∃ r : ℝ, f k = r) (hg : ∀ k, ∃ r : ℝ, g k = r) : ∃ r : ℝ, ∑ k, f k * g k = r := by
  choose a ha using hf
  choose b hb using hg
  refine ⟨∑ k, a k * b k, ?_⟩
  rw [Cert.Att.coe_sum]
  exact Finset.sum_congr rfl fun k _ => by rw [ha, hb, EReal.coe_mul]

/-- The gate's gradient as the kernel writes it: of the activation's gradient `d`, the gate and the up projection -/
def dgate (d g u : EReal) : EReal := d * u * (Ideal.logistic g * (1 + g * (1 - Ideal.logistic g)))

/-- The up projection's gradient -/
def dup (d g : EReal) : EReal := d * g * Ideal.logistic g

/-- The two ways to write the gate's gradient; the gate itself may be infinite. -/
theorem dgate_eq (d g u : EReal) (h : ∃ r : ℝ, d * u = r) :
    d * u * Ideal.logistic g + g * (d * u) * (Ideal.logistic g * (1 - Ideal.logistic g)) = dgate d g u := by
  obtain ⟨p, hp⟩ := h
  unfold dgate
  rw [hp]
  induction g using EReal.rec with
  | bot => simp
  | top =>
    rw [Ideal.logistic_top, show (1 : EReal) - 1 = 0 from by rw [← EReal.coe_one, ← EReal.coe_sub, sub_self, EReal.coe_zero]]
    simp
  | coe x =>
    rw [Ideal.logistic_coe]
    generalize (1 + Real.exp (-x))⁻¹ = s
    norm_cast
    ring

/-- The product of an array and a transposed one, at an index -/
def out (a : FVec Ideal S8192x2048 .bf16) (b : FVec Ideal S5632x2048 .bf16) (y : S8192x5632.Idx) : EReal :=
  ∑ k : Fin 2048, a (ix2 (y 0) k) * b (ix2 (y 1) k)

/-- The product of two tiles, at an index -/
def part (a : FVec Ideal S2048x2048 .bf16) (b : FVec Ideal S512x2048 .bf16) (i : Fin 2048) (j : Fin 512) : EReal :=
  ∑ k : Fin 2048, a (ix2 i k) * b (ix2 j k)

theorem pay_gate (a : FVec Ideal S2048x2048 .bf16) (b : FVec Ideal S512x2048 .bf16) (g u : FVec Ideal S2048x512 .bf16) (i : Fin 2048) (j : Fin 512) :
    (k0_pay4 (F := Ideal) a b g u (ix2 i j) : EReal) = dgate (part a b i j) (g (ix2 i j)) (u (ix2 i j)) := by
  unfold dgate part
  pointwise [k0_pay4, k0_pay1, k0_pay2, k0_pay3]

theorem pay_up (a : FVec Ideal S2048x2048 .bf16) (b : FVec Ideal S512x2048 .bf16) (g : FVec Ideal S2048x512 .bf16) (i : Fin 2048) (j : Fin 512) :
    (k0_pay5 (F := Ideal) a b g (ix2 i j) : EReal) = dup (part a b i j) (g (ix2 i j)) := by
  unfold dup part
  pointwise [k0_pay5, k0_pay1, k0_pay2, k0_pay3]

theorem index_0 : ∀ t : Fin cfg0.N, win0_0.index t = ![t.val / 11, 0] := by decide +kernel
theorem index_1 : ∀ t : Fin cfg0.N, win0_1.index t = ![t.val % 11, 0] := by decide +kernel
theorem index_2 : ∀ t : Fin cfg0.N, win0_2.index t = ![t.val / 11, t.val % 11] := by decide +kernel
theorem index_3 : ∀ t : Fin cfg0.N, win0_3.index t = ![t.val / 11, t.val % 11] := by decide +kernel
theorem index_4 : ∀ t : Fin cfg0.N, win0_4.index t = ![t.val / 11, t.val % 11] := by decide +kernel
theorem index_5 : ∀ t : Fin cfg0.N, win0_5.index t = ![t.val / 11, t.val % 11] := by decide +kernel

variable (m : (ℓ : Loc nD τ sig) → Buf (Elt Ideal) ℓ) (c : Dev nD)

/-- The activation's gradient, of the arguments that the memory holds -/
abbrev dact (y : S8192x5632.Idx) : EReal := out (m ((c.tc : Thread nD τ).loc main_arg0)) (m ((c.tc : Thread nD τ).loc main_arg1)) y

/-- The results -/
abbrev resg : FVec Ideal S8192x5632 .bf16 := fun y => dgate (dact m c y) (m ((c.tc : Thread nD τ).loc main_arg2) y) (m ((c.tc : Thread nD τ).loc main_arg3) y)
abbrev resu : FVec Ideal S8192x5632 .bf16 := fun y => dup (dact m c y) (m ((c.tc : Thread nD τ).loc main_arg2) y)

/-- A product of tiles is a tile of the product. -/
theorem part_dact (t : Fin cfg0.N) (i : Fin 2048) (j : Fin 512) (y : S8192x5632.Idx)
    (h0 : (y 0).val = t.val / 11 * 2048 + i.val) (h1 : (y 1).val = t.val % 11 * 512 + j.val) :
    part (iblk m c 0 t) (iblk m c 1 t) i j = dact m c y := by
  unfold part dact out
  have e0 := index_0 t
  have e1 := index_1 t
  rw [← V_main_arg0 m c, ← V_main_arg1 m c]
  refine Finset.sum_congr rfl fun k _ => congrArg₂ (· * ·) ?_ ?_
    <;> blk_simp [iblk] <;> refine congrArg _ ?_ <;> blk_ext [e0, e1, h0, h1]

/-- Tiles of the gate and of the up projection -/
theorem tile_gate (t : Fin cfg0.N) (i : Fin 2048) (j : Fin 512) (y : S8192x5632.Idx)
    (h0 : (y 0).val = t.val / 11 * 2048 + i.val) (h1 : (y 1).val = t.val % 11 * 512 + j.val) :
    (iblk m c 2 t : FVec Ideal S2048x512 .bf16) (ix2 i j) = m ((c.tc : Thread nD τ).loc main_arg2) y := by
  have e2 := index_2 t
  rw [← V_main_arg2 m c]
  blk_simp [iblk]
  refine congrArg _ ?_
  blk_ext [e2, h0, h1]

theorem tile_up (t : Fin cfg0.N) (i : Fin 2048) (j : Fin 512) (y : S8192x5632.Idx)
    (h0 : (y 0).val = t.val / 11 * 2048 + i.val) (h1 : (y 1).val = t.val % 11 * 512 + j.val) :
    (iblk m c 3 t : FVec Ideal S2048x512 .bf16) (ix2 i j) = m ((c.tc : Thread nD τ).loc main_arg3) y := by
  have e3 := index_3 t
  rw [← V_main_arg3 m c]
  blk_simp [iblk]
  refine congrArg _ ?_
  blk_ext [e3, h0, h1]

/-- The kernel's result arrays hold the results after the run. -/
theorem value_gate : (dats m 0 c).arrAt 4 cfg0.N = resg m c := by
  refine (dats m 0 c).arrAt_eq_of_covers 4 _ (by decide +kernel) fun t hf y => ?_
  blk_simp
  rw [after0_4]
  frame_out
  change S2048x512.Idx at y
  obtain ⟨i, j, rfl⟩ : ∃ (i : Fin 2048) (j : Fin 512), y = ix2 i j := ⟨y 0, y 1, eq_ix2 y⟩
  have e4 := index_4 t
  exact (pay_gate _ _ _ _ i j).trans (congr (congrArg₂ dgate (part_dact m c t i j _ (by blk_simp [e4]) (by blk_simp [e4]))
    (tile_gate m c t i j _ (by blk_simp [e4]) (by blk_simp [e4]))) (tile_up m c t i j _ (by blk_simp [e4]) (by blk_simp [e4])))

theorem value_up : (dats m 0 c).arrAt 5 cfg0.N = resu m c := by
  refine (dats m 0 c).arrAt_eq_of_covers 5 _ (by decide +kernel) fun t hf y => ?_
  blk_simp
  rw [after0_5]
  frame_out
  change S2048x512.Idx at y
  obtain ⟨i, j, rfl⟩ : ∃ (i : Fin 2048) (j : Fin 512), y = ix2 i j := ⟨y 0, y 1, eq_ix2 y⟩
  have e5 := index_5 t
  exact (pay_up _ _ _ i j).trans (congrArg₂ dup (part_dact m c t i j _ (by blk_simp [e5]) (by blk_simp [e5]))
    (tile_gate m c t i j _ (by blk_simp [e5]) (by blk_simp [e5])))

/-- The call computes what the reference does. -/
theorem algebraic : Cert.algebraic_Kernel2Ideal_Reference2Ideal_pre_finite2 := by
  intro m g m' g' hpre hagree
  refine ⟨resg m, resu m, ?_, ?_⟩
  · exact (θ_run defs _ _).mono (fun r h c => ⟨(h c).1.trans (value_gate m c), (h c).2.1.trans (value_up m c), (h c).2.2⟩) (Value.run_blocks m g)
  · refine (θ_run Cert.Reference2Ideal.defs _ _).mono (fun r h c => ⟨(h c).1.trans ?_, (h c).2.1.trans ?_, (h c).2.2⟩)
      (Cert.Reference2Ideal.Value.run (F := Ideal) m' g')
    · rw [(hagree c).1, (hagree c).2.1, (hagree c).2.2.1, (hagree c).2.2.2]
      funext y
      obtain ⟨r0, r1, r3⟩ := real _ _ _ _ (hpre c)
      obtain ⟨d, hd⟩ : ∃ r : ℝ, dact m c y = r := sum_real _ _ (fun k => r0 _) (fun k => r1 _)
      obtain ⟨u, hu⟩ := r3 y
      have e := dgate_eq (dact m c y) (m ((c.tc : Thread nD τ).loc main_arg2) y) (m ((c.tc : Thread nD τ).loc main_arg3) y) ⟨d * u, by rw [hd, hu, EReal.coe_mul]⟩
      refine Eq.trans ?_ e
      rw [eq_ix2 y]
      unfold dact out
      pointwise []
      rfl
    · rw [(hagree c).1, (hagree c).2.1, (hagree c).2.2.1]
      funext y
      rw [eq_ix2 y]
      unfold resu dup dact out
      pointwise []
      exact (mul_comm _ _).trans (mul_assoc _ _ _).symm

/-- The reference's frame -/
theorem frame_reference : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

end Cert.Prod2
end
-- ==== Proof.Prod3.lean ====
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit.Geometry
public import Idealize.ShloMosaic.Lib.Pipeline.ValueKit.Acc

/-!
# The gradient that the gate's and the up projection's inputs share

The call adds two products, tile by tile; each tile is a pair of whole contractions.
-/

@[expose] public section

set_option maxRecDepth 16384

noncomputable section
namespace Cert.Prod3

open Idealize.ShloMosaic Idealize.ShloMosaic.TcCoe Idealize.SL.Sem Cert.Kernel3Ideal Cert.Kernel3Ideal.Gen

/-- `a b + a' b'`, at an index -/
def out (a : FVec Ideal S8192x5632 .bf16) (b : FVec Ideal S5632x2048 .bf16) (a' : FVec Ideal S8192x5632 .bf16) (b' : FVec Ideal S5632x2048 .bf16) :
    FVec Ideal S8192x2048 .bf16 := fun y =>
  (∑ k : Fin 5632, a (ix2 (y 0) k) * b (ix2 k (y 1))) + ∑ k : Fin 5632, a' (ix2 (y 0) k) * b' (ix2 k (y 1))

/-- What the body stores, at an index of the tile -/
theorem pay (a : FVec Ideal S512x5632 .bf16) (b : FVec Ideal S5632x512 .bf16) (a' : FVec Ideal S512x5632 .bf16) (b' : FVec Ideal S5632x512 .bf16)
    (i j : Fin 512) : k0_pay1 a b a' b' (ix2 i j)
      = (∑ k : Fin 5632, a (ix2 i k) * b (ix2 k j)) + ∑ k : Fin 5632, a' (ix2 i k) * b' (ix2 k j) := by
  pointwise [k0_pay1]

theorem index_0 : ∀ t : Fin cfg0.N, win0_0.index t = ![t.val / 4, 0] := by decide +kernel
theorem index_1 : ∀ t : Fin cfg0.N, win0_1.index t = ![0, t.val % 4] := by decide +kernel
theorem index_2 : ∀ t : Fin cfg0.N, win0_2.index t = ![t.val / 4, 0] := by decide +kernel
theorem index_3 : ∀ t : Fin cfg0.N, win0_3.index t = ![0, t.val % 4] := by decide +kernel
theorem index_4 : ∀ t : Fin cfg0.N, win0_4.index t = ![t.val / 4, t.val % 4] := by decide +kernel

variable (m : (ℓ : Loc nD τ sig) → Buf (Elt Ideal) ℓ) (c : Dev nD)

/-- The result of the arguments that the memory holds -/
abbrev res : FVec Ideal S8192x2048 .bf16 :=
  out (m ((c.tc : Thread nD τ).loc main_arg0)) (m ((c.tc : Thread nD τ).loc main_arg1)) (m ((c.tc : Thread nD τ).loc main_arg2)) (m ((c.tc : Thread nD τ).loc main_arg3))

/-- is what the kernel's result array holds after the run. -/
theorem value : (dats m 0 c).arrAt 4 cfg0.N = res m c := by
  refine (dats m 0 c).arrAt_eq_of_covers 4 _ (by decide +kernel) fun t hf y => ?_
  blk_simp
  rw [after0_4]
  frame_out
  change S512x512.Idx at y
  obtain ⟨i, j, rfl⟩ : ∃ i j : Fin 512, y = ix2 i j := ⟨y 0, y 1, eq_ix2 y⟩
  refine (pay _ _ _ _ i j).trans ?_
  unfold res out
  have e0 := index_0 t
  have e1 := index_1 t
  have e2 := index_2 t
  have e3 := index_3 t
  have e4 := index_4 t
  rw [← V_main_arg0 m c, ← V_main_arg1 m c, ← V_main_arg2 m c, ← V_main_arg3 m c]
  refine congrArg₂ (· + ·) (Finset.sum_congr rfl fun k _ => congrArg₂ (· * ·) ?_ ?_) (Finset.sum_congr rfl fun k _ => congrArg₂ (· * ·) ?_ ?_)
    <;> blk_simp [iblk] <;> refine congrArg _ ?_ <;> blk_ext [e0, e1, e2, e3, e4]

/-- The call computes what the reference does. -/
theorem algebraic : Cert.algebraic_Kernel3Ideal_Reference3Ideal := by
  intro m g m' g' _ hagree
  refine ⟨res m, ?_, ?_⟩
  · exact (θ_run defs _ _).mono (fun r h c => ⟨(h c).1.trans (value m c), (h c).2⟩) (Value.run_blocks m g)
  · refine (θ_run Cert.Reference3Ideal.defs _ _).mono (fun r h c => ⟨(h c).1.trans ?_, (h c).2⟩) (Cert.Reference3Ideal.Value.run (F := Ideal) m' g')
    rw [(hagree c).1, (hagree c).2.1, (hagree c).2.2.1, (hagree c).2.2.2]
    funext y
    rw [eq_ix2 y]
    unfold res out
    pointwise []
    rw [add_comm]

/-- The reference's frame -/
theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

end Cert.Prod3
end
-- ==== Proof.Prod4.lean ====
module

public import proofs.«01_k».proof.Defs
public import proofs.«01_k».proof.Proof.Gen.Kernel4Ideal.Frame
public import proofs.«01_k».proof.Proof.Gen.Reference4Ideal.Run
public import proofs.«01_k».proof.Proof.Gen.Reference4DownIdeal.Run
public import Idealize.ShloMosaic.Lib.Pointwise
public import Idealize.ShloMosaic.Lib.Pipeline.ValueKit.Geometry
public import Idealize.ShloMosaic.Lib.Pipeline.ValueKit.Acc
public import Idealize.ShloMosaic.Lib.Pipeline.Value

/-!
# The gradient of the gate's weights

The grid adds up the contraction in eight steps, in an accumulator that the first step of a tile sets to zero.
-/

@[expose] public section

set_option maxRecDepth 16384

noncomputable section
namespace Cert.Prod4

open Idealize.ShloMosaic Idealize.ShloMosaic.TcCoe Idealize.SL.Sem Cert.Kernel4Ideal Cert.Kernel4Ideal.Gen

/-- The product of a transposed array and another, at an index -/
def out (a : FVec Ideal S8192x5632 .bf16) (b : FVec Ideal S8192x2048 .bf16) : FVec Ideal S5632x2048 .bf16 := fun y =>
  ∑ k : Fin 8192, a (ix2 k (y 0)) * b (ix2 k (y 1))

/-- What one step adds to the accumulator -/
def part (a : FVec Ideal S1024x1408 .bf16) (b : FVec Ideal S1024x2048 .bf16) (y : S1408x2048.Idx) : EReal :=
  ∑ k : Fin 1024, a (ix2 k (y 0)) * b (ix2 k (y 1))

theorem zero (y : S1408x2048.Idx) : (k0_pay1 (F := Ideal) y : EReal) = 0 := by
  rw [eq_ix2 y]
  pointwise [k0_pay1]

theorem step (x : FVec Ideal S1408x2048 .f32) (a : FVec Ideal S1024x1408 .bf16) (b : FVec Ideal S1024x2048 .bf16) (y : S1408x2048.Idx) :
    (k0_pay2 (F := Ideal) x a b y : EReal) = x y + part a b y := by
  rw [eq_ix2 y]
  unfold part
  pointwise [k0_pay2]

theorem last (x : FVec Ideal S1408x2048 .f32) (y : S1408x2048.Idx) : (k0_pay3 (F := Ideal) x y : EReal) = x y := by
  rw [eq_ix2 y]
  pointwise [k0_pay3]

theorem index_0 : ∀ t : Fin cfg0.N, win0_0.index t = ![t.val % 8, t.val / 8] := by decide +kernel
theorem index_1 : ∀ t : Fin cfg0.N, win0_1.index t = ![t.val % 8, 0] := by decide +kernel
theorem index_2 : ∀ t : Fin cfg0.N, win0_2.index t = ![t.val / 8, 0] := by decide +kernel

variable (m : (ℓ : Loc nD τ sig) → Buf (Elt Ideal) ℓ) (c : Dev nD)

theorem point_lt (t : Fin cfg0.N) (s : Fin 8) : 8 * (t.val / 8) + s.val < cfg0.N := by
  have h := lt_of_lt_of_eq t.isLt (show cfg0.N = 32 from N_0)
  exact lt_of_lt_of_eq (by omega) (show cfg0.N = 32 from N_0).symm

/-- What the accumulator holds after a tile's last step -/
theorem scratch (t : Fin cfg0.N) (h : t.val % 8 = 7) (y : S1408x2048.Idx) :
    ((outsAt0 m c t.val t.isLt).2 y : EReal)
      = ∑ s : Fin 8, part (iblk m c 0 ⟨8 * (t.val / 8) + s.val, point_lt t s⟩)
          (iblk m c 1 ⟨8 * (t.val / 8) + s.val, point_lt t s⟩) y := by
  have e := Pipeline.eq_sum_fin_of_reset_step_apply_of_flush (M := EReal) (fun n h => (outsAt0 m c n h).2) 8 (fun _ => 0)
    (fun t y => part (iblk m c 0 t) (iblk m c 1 t) y)
    (fun t h y => by
      rw [outsAt0_A m c t h (by omega)]
      frame_out
      rw [step, zero])
    (fun t h y => by
      by_cases h7 : t.val % 8 = 7
      · rw [outsAt0_C m c t h h7]
        frame_out
        rw [step, (Memref.isWhole_whole _).read_unread]
      · rw [outsAt0_B m c t h h7]
        frame_out
        rw [step, (Memref.isWhole_whole _).read_unread]) t h y
  rw [zero_add] at e
  exact e

/-- The last step writes it back. -/
theorem written (t : Fin cfg0.N) (h : t.val % 8 = 7) (y : S1408x2048.Idx) :
    ((outsAt0 m c t.val t.isLt).1 y : EReal) = (outsAt0 m c t.val t.isLt).2 y := by
  rw [outsAt0_C m c t (by omega) h]
  frame_out
  rw [last]

/-- The result of the arguments that the memory holds -/
abbrev res : FVec Ideal S5632x2048 .bf16 := out (m ((c.tc : Thread nD τ).loc main_arg0)) (m ((c.tc : Thread nD τ).loc main_arg1))

/-- is what the kernel's result array holds after the run. -/
theorem value : (dats m 0 c).arrAt 2 cfg0.N = res m c := by
  refine (dats m 0 c).arrAt_eq_of_covers 2 _ (by decide +kernel) fun t hf y => ?_
  have h7 : t.val % 8 = 7 := (flush0_2 t).mp hf
  blk_simp
  rw [after0_2]
  change S1408x2048.Idx at y
  refine (written m c t h7 y).trans ((scratch m c t h7 y).trans ?_)
  obtain ⟨i, j, rfl⟩ : ∃ (i : Fin 1408) (j : Fin 2048), y = ix2 i j := ⟨y 0, y 1, eq_ix2 y⟩
  unfold part res out
  have e2 := index_2 t
  rw [← V_main_arg0 m c, ← V_main_arg1 m c]
  refine Fin.sum_mul_add_congr (fun s k hl => congrArg₂ (· * ·) ?_ ?_)
  all_goals
    have e0 := index_0 ⟨8 * (t.val / 8) + s.val, point_lt t s⟩
    have e1 := index_1 ⟨8 * (t.val / 8) + s.val, point_lt t s⟩
    have es : (8 * (t.val / 8) + s.val) % 8 = s.val := by have := s.isLt; omega
    have ed : (8 * (t.val / 8) + s.val) / 8 = t.val / 8 := by have := s.isLt; omega
    blk_simp [iblk]
    refine congrArg _ ?_
    blk_ext [e0, e1, e2, es, ed]

/-- The run -/
theorem run (ρ : Dev nD → PrngReg) : θ_run defs (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The call computes what the reference does. -/
theorem algebraic : Cert.algebraic_Kernel4Ideal_Reference4Ideal := by
  intro m g m' g' _ hagree
  refine ⟨res m, ?_, ?_⟩
  · exact run m g
  · refine (θ_run Cert.Reference4Ideal.defs _ _).mono (fun r h c => ⟨(h c).1.trans ?_, (h c).2⟩) (Cert.Reference4Ideal.Value.run (F := Ideal) m' g')
    rw [(hagree c).1, (hagree c).2]
    funext y
    rw [eq_ix2 y]
    unfold res out
    pointwise []

/-- Of other arguments it is the gradient of the output projection's weights. -/
theorem algebraic_down : Cert.algebraic_Kernel4Ideal_Reference4DownIdeal := by
  intro m g m' g' _ hagree
  refine ⟨res m, ?_, ?_⟩
  · exact run m g
  · refine (θ_run Cert.Reference4DownIdeal.defs _ _).mono (fun r h c => ⟨(h c).1.trans ?_, (h c).2⟩) (Cert.Reference4DownIdeal.Value.run (F := Ideal) m' g')
    rw [(hagree c).1, (hagree c).2]
    funext y
    rw [eq_ix2 y]
    unfold res out
    pointwise []
    exact Finset.sum_congr rfl fun k _ => mul_comm _ _

/-- The reference's frame -/
theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The reference's frame -/
theorem frame_reference_down : Cert.quiescent_Reference4DownIdeal := fun m ρ _ =>
  (θ_run Cert.Reference4DownIdeal.defs _ _).mono (fun r h => ⟨fun c => (h c).2, Idealize.ShloMosaic.sem_eq_zero_of_no_sems (by decide) r.2⟩)
    (Cert.Reference4DownIdeal.Value.run (F := Ideal) m ρ)

end Cert.Prod4
end
-- ==== Proof.Prod5.lean ====
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit.Geometry
public import Idealize.ShloMosaic.Lib.Pipeline.ValueKit.Acc

/-!
# The gate, the up projection and their activation

One call computes two products with the transposed weights, tile by tile, and from them the activation.
-/

@[expose] public section

set_option maxRecDepth 16384

noncomputable section
namespace Cert.Prod5

open Idealize.ShloMosaic Idealize.ShloMosaic.TcCoe Idealize.SL.Sem Cert.Kernel5Ideal Cert.Kernel5Ideal.Gen

/-- The product of an array and a transposed one, at an index -/
def out (a : FVec Ideal S8192x2048 .bf16) (b : FVec Ideal S5632x2048 .bf16) : FVec Ideal S8192x5632 .bf16 := fun y =>
  ∑ k : Fin 2048, a (ix2 (y 0) k) * b (ix2 (y 1) k)

/-- The activation of a gate and an up projection -/
def act (g u : EReal) : EReal := g * Ideal.logistic g * u

/-- The product of two tiles, at an index -/
def part (a : FVec Ideal S2048x2048 .bf16) (b : FVec Ideal S512x2048 .bf16) (i : Fin 2048) (j : Fin 512) : EReal :=
  ∑ k : Fin 2048, a (ix2 i k) * b (ix2 j k)

theorem pay_gate (a : FVec Ideal S2048x2048 .bf16) (b : FVec Ideal S512x2048 .bf16) (i : Fin 2048) (j : Fin 512) :
    (k0_pay3 (F := Ideal) a b (ix2 i j) : EReal) = part a b i j := by
  unfold part
  pointwise [k0_pay3, k0_pay1]

theorem pay_up (a : FVec Ideal S2048x2048 .bf16) (b : FVec Ideal S512x2048 .bf16) (i : Fin 2048) (j : Fin 512) :
    (k0_pay4 (F := Ideal) a b (ix2 i j) : EReal) = part a b i j := by
  unfold part
  pointwise [k0_pay4, k0_pay2]

theorem pay_act (a : FVec Ideal S2048x2048 .bf16) (b b' : FVec Ideal S512x2048 .bf16) (i : Fin 2048) (j : Fin 512) :
    (k0_pay5 (F := Ideal) a b b' (ix2 i j) : EReal) = act (part a b i j) (part a b' i j) := by
  unfold act part
  pointwise [k0_pay5, k0_pay1, k0_pay2]

theorem index_0 : ∀ t : Fin cfg0.N, win0_0.index t = ![t.val / 11, 0] := by decide +kernel
theorem index_1 : ∀ t : Fin cfg0.N, win0_1.index t = ![t.val % 11, 0] := by decide +kernel
theorem index_2 : ∀ t : Fin cfg0.N, win0_2.index t = ![t.val % 11, 0] := by decide +kernel
theorem index_3 : ∀ t : Fin cfg0.N, win0_3.index t = ![t.val / 11, t.val % 11] := by decide +kernel
theorem index_4 : ∀ t : Fin cfg0.N, win0_4.index t = ![t.val / 11, t.val % 11] := by decide +kernel
theorem index_5 : ∀ t : Fin cfg0.N, win0_5.index t = ![t.val / 11, t.val % 11] := by decide +kernel

variable (m : (ℓ : Loc nD τ sig) → Buf (Elt Ideal) ℓ) (c : Dev nD)

/-- The results of the arguments that the memory holds -/
abbrev gate : FVec Ideal S8192x5632 .bf16 := out (m ((c.tc : Thread nD τ).loc main_arg0)) (m ((c.tc : Thread nD τ).loc main_arg1))
abbrev up : FVec Ideal S8192x5632 .bf16 := out (m ((c.tc : Thread nD τ).loc main_arg0)) (m ((c.tc : Thread nD τ).loc main_arg2))
abbrev acts : FVec Ideal S8192x5632 .bf16 := fun y => act (gate m c y) (up m c y)

/-- A product of tiles is a tile of the product. -/
theorem part_gate (t : Fin cfg0.N) (i : Fin 2048) (j : Fin 512) (y : S8192x5632.Idx)
    (h0 : (y 0).val = t.val / 11 * 2048 + i.val) (h1 : (y 1).val = t.val % 11 * 512 + j.val) :
    part (iblk m c 0 t) (iblk m c 1 t) i j = gate m c y := by
  unfold part gate out
  have e0 := index_0 t
  have e1 := index_1 t
  rw [← V_main_arg0 m c, ← V_main_arg1 m c]
  refine Finset.sum_congr rfl fun k _ => congrArg₂ (· * ·) ?_ ?_
    <;> blk_simp [iblk] <;> refine congrArg _ ?_ <;> blk_ext [e0, e1, h0, h1]

theorem part_up (t : Fin cfg0.N) (i : Fin 2048) (j : Fin 512) (y : S8192x5632.Idx)
    (h0 : (y 0).val = t.val / 11 * 2048 + i.val) (h1 : (y 1).val = t.val % 11 * 512 + j.val) :
    part (iblk m c 0 t) (iblk m c 2 t) i j = up m c y := by
  unfold part up out
  have e0 := index_0 t
  have e2 := index_2 t
  rw [← V_main_arg0 m c, ← V_main_arg2 m c]
  refine Finset.sum_congr rfl fun k _ => congrArg₂ (· * ·) ?_ ?_
    <;> blk_simp [iblk] <;> refine congrArg _ ?_ <;> blk_ext [e0, e2, h0, h1]

/-- The kernel's result arrays hold them after the run. -/
theorem value_gate : (dats m 0 c).arrAt 3 cfg0.N = gate m c := by
  refine (dats m 0 c).arrAt_eq_of_covers 3 _ (by decide +kernel) fun t hf y => ?_
  blk_simp
  rw [after0_3]
  frame_out
  change S2048x512.Idx at y
  obtain ⟨i, j, rfl⟩ : ∃ (i : Fin 2048) (j : Fin 512), y = ix2 i j := ⟨y 0, y 1, eq_ix2 y⟩
  have e3 := index_3 t
  exact (pay_gate _ _ i j).trans (part_gate m c t i j _ (by blk_simp [e3]) (by blk_simp [e3]))

theorem value_up : (dats m 0 c).arrAt 4 cfg0.N = up m c := by
  refine (dats m 0 c).arrAt_eq_of_covers 4 _ (by decide +kernel) fun t hf y => ?_
  blk_simp
  rw [after0_4]
  frame_out
  change S2048x512.Idx at y
  obtain ⟨i, j, rfl⟩ : ∃ (i : Fin 2048) (j : Fin 512), y = ix2 i j := ⟨y 0, y 1, eq_ix2 y⟩
  have e4 := index_4 t
  exact (pay_up _ _ i j).trans (part_up m c t i j _ (by blk_simp [e4]) (by blk_simp [e4]))

theorem value_act : (dats m 0 c).arrAt 5 cfg0.N = acts m c := by
  refine (dats m 0 c).arrAt_eq_of_covers 5 _ (by decide +kernel) fun t hf y => ?_
  blk_simp
  rw [after0_5]
  frame_out
  change S2048x512.Idx at y
  obtain ⟨i, j, rfl⟩ : ∃ (i : Fin 2048) (j : Fin 512), y = ix2 i j := ⟨y 0, y 1, eq_ix2 y⟩
  have e5 := index_5 t
  exact (pay_act _ _ _ i j).trans (congrArg₂ act (part_gate m c t i j _ (by blk_simp [e5]) (by blk_simp [e5]))
    (part_up m c t i j _ (by blk_simp [e5]) (by blk_simp [e5])))

/-- The call computes what the reference does. -/
theorem algebraic : Cert.algebraic_Kernel5Ideal_Reference5Ideal := by
  intro m g m' g' _ hagree
  refine ⟨gate m, up m, acts m, ?_, ?_⟩
  · exact (θ_run defs _ _).mono (fun r h c => ⟨(h c).1.trans (value_gate m c), (h c).2.1.trans (value_up m c), (h c).2.2.1.trans (value_act m c), (h c).2.2.2⟩)
      (Value.run_blocks m g)
  · refine (θ_run Cert.Reference5Ideal.defs _ _).mono (fun r h c => ⟨(h c).1.trans ?_, (h c).2.1.trans ?_, (h c).2.2.1.trans ?_, (h c).2.2.2⟩)
      (Cert.Reference5Ideal.Value.run (F := Ideal) m' g')
    · rw [(hagree c).1, (hagree c).2.1]
      funext y
      rw [eq_ix2 y]
      unfold gate out
      pointwise []
    · rw [(hagree c).1, (hagree c).2.2]
      funext y
      rw [eq_ix2 y]
      unfold up out
      pointwise []
    · rw [(hagree c).1, (hagree c).2.1, (hagree c).2.2]
      funext y
      rw [eq_ix2 y]
      unfold acts act gate up out
      pointwise []
      rfl

/-- The reference's frame -/
theorem frame_reference : Cert.quiescent_Reference5Ideal := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

end Cert.Prod5
end
-- ==== Proof.Prod6.lean ====
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit.Geometry
public import Idealize.ShloMosaic.Lib.Pipeline.ValueKit.Acc

/-!
# The feed-forward's output projection

Every tile is one whole contraction.
-/

@[expose] public section

set_option maxRecDepth 16384

noncomputable section
namespace Cert.Prod6

open Idealize.ShloMosaic Idealize.ShloMosaic.TcCoe Idealize.SL.Sem Cert.Kernel6Ideal Cert.Kernel6Ideal.Gen

/-- The product, at an index -/
def out (a : FVec Ideal S8192x5632 .bf16) (b : FVec Ideal S5632x2048 .bf16) : FVec Ideal S8192x2048 .f32 := fun y =>
  ∑ k : Fin 5632, a (ix2 (y 0) k) * b (ix2 k (y 1))

/-- What the body stores, at an index of the tile -/
theorem pay (a : FVec Ideal S512x5632 .bf16) (b : FVec Ideal S5632x2048 .bf16) (i : Fin 512) (j : Fin 2048) :
    (k0_pay1 (F := Ideal) a b (ix2 i j) : EReal) = ∑ k : Fin 5632, a (ix2 i k) * b (ix2 k j) := by
  pointwise [k0_pay1]

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel

variable (m : (ℓ : Loc nD τ sig) → Buf (Elt Ideal) ℓ) (c : Dev nD)

/-- The result of the arguments that the memory holds -/
abbrev res : FVec Ideal S8192x2048 .f32 := out (m ((c.tc : Thread nD τ).loc main_arg0)) (m ((c.tc : Thread nD τ).loc main_arg1))

/-- is what the kernel's result array holds after the run. -/
theorem value : (dats m 0 c).arrAt 2 cfg0.N = res m c := by
  refine (dats m 0 c).arrAt_eq_of_covers 2 _ (by decide +kernel) fun t hf y => ?_
  blk_simp
  rw [after0_2]
  frame_out
  change S512x2048.Idx at y
  obtain ⟨i, j, rfl⟩ : ∃ (i : Fin 512) (j : Fin 2048), y = ix2 i j := ⟨y 0, y 1, eq_ix2 y⟩
  refine (pay _ _ i j).trans ?_
  unfold res out
  have e0 := index_0 t
  have e1 := index_1 t
  have e2 := index_2 t
  rw [← V_main_arg0 m c, ← V_main_arg1 m c]
  refine Finset.sum_congr rfl fun k _ => congrArg₂ (· * ·) ?_ ?_ <;> blk_simp [iblk] <;> refine congrArg _ ?_ <;> blk_ext [e0, e1, e2]

/-- The call computes what the reference does. -/
theorem algebraic : Cert.algebraic_Kernel6Ideal_Reference6Ideal := by
  intro m g m' g' _ hagree
  refine ⟨res m, ?_, ?_⟩
  · exact (θ_run defs _ _).mono (fun r h c => ⟨(h c).1.trans (value m c), (h c).2⟩) (Value.run_blocks m g)
  · refine (θ_run Cert.Reference6Ideal.defs _ _).mono (fun r h c => ⟨(h c).1.trans ?_, (h c).2⟩) (Cert.Reference6Ideal.Value.run (F := Ideal) m' g')
    rw [(hagree c).1, (hagree c).2]
    funext y
    rw [eq_ix2 y]
    unfold res out
    pointwise []

/-- The reference's frame -/
theorem frame_reference : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

end Cert.Prod6
end
-- ==== Proof.Prod7.lean ====
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit.Geometry
public import Idealize.ShloMosaic.Lib.Pipeline.ValueKit.Acc

/-!
# The input projection

Every tile is one whole contraction.
-/

@[expose] public section

set_option maxRecDepth 16384

noncomputable section
namespace Cert.Prod7

open Idealize.ShloMosaic Idealize.ShloMosaic.TcCoe Idealize.SL.Sem Cert.Kernel7Ideal Cert.Kernel7Ideal.Gen

/-- The product, at an index -/
def out (a : FVec Ideal S8192x2048 .bf16) (b : FVec Ideal S5760x2048 .bf16) : FVec Ideal S8192x5760 .f32 := fun y =>
  ∑ k : Fin 2048, a (ix2 (y 0) k) * b (ix2 (y 1) k)

/-- What the body stores, at an index of the tile -/
theorem pay (a : FVec Ideal S1024x2048 .bf16) (b : FVec Ideal S1920x2048 .bf16) (i : Fin 1024) (j : Fin 1920) :
    (k0_pay1 (F := Ideal) a b (ix2 i j) : EReal) = ∑ k : Fin 2048, a (ix2 i k) * b (ix2 j k) := by
  pointwise [k0_pay1]

theorem index_0 : ∀ t : Fin cfg0.N, win0_0.index t = ![t.val / 3, 0] := by decide +kernel
theorem index_1 : ∀ t : Fin cfg0.N, win0_1.index t = ![t.val % 3, 0] := by decide +kernel
theorem index_2 : ∀ t : Fin cfg0.N, win0_2.index t = ![t.val / 3, t.val % 3] := by decide +kernel

variable (m : (ℓ : Loc nD τ sig) → Buf (Elt Ideal) ℓ) (c : Dev nD)

/-- The result of the arguments that the memory holds -/
abbrev res : FVec Ideal S8192x5760 .f32 := out (m ((c.tc : Thread nD τ).loc main_arg0)) (m ((c.tc : Thread nD τ).loc main_arg1))

/-- is what the kernel's result array holds after the run. -/
theorem value : (dats m 0 c).arrAt 2 cfg0.N = res m c := by
  refine (dats m 0 c).arrAt_eq_of_covers 2 _ (by decide +kernel) fun t hf y => ?_
  blk_simp
  rw [after0_2]
  frame_out
  change S1024x1920.Idx at y
  obtain ⟨i, j, rfl⟩ : ∃ (i : Fin 1024) (j : Fin 1920), y = ix2 i j := ⟨y 0, y 1, eq_ix2 y⟩
  refine (pay _ _ i j).trans ?_
  unfold res out
  have e0 := index_0 t
  have e1 := index_1 t
  have e2 := index_2 t
  rw [← V_main_arg0 m c, ← V_main_arg1 m c]
  refine Finset.sum_congr rfl fun k _ => congrArg₂ (· * ·) ?_ ?_ <;> blk_simp [iblk] <;> refine congrArg _ ?_ <;> blk_ext [e0, e1, e2]

/-- The call computes what the reference does. -/
theorem algebraic : Cert.algebraic_Kernel7Ideal_Reference7Ideal := by
  intro m g m' g' _ hagree
  refine ⟨res m, ?_, ?_⟩
  · exact (θ_run defs _ _).mono (fun r h c => ⟨(h c).1.trans (value m c), (h c).2⟩) (Value.run_blocks m g)
  · refine (θ_run Cert.Reference7Ideal.defs _ _).mono (fun r h c => ⟨(h c).1.trans ?_, (h c).2⟩) (Cert.Reference7Ideal.Value.run (F := Ideal) m' g')
    rw [(hagree c).1, (hagree c).2]
    funext y
    rw [eq_ix2 y]
    unfold res out
    pointwise []

/-- The reference's frame -/
theorem frame_reference : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

end Cert.Prod7
end
-- ==== Proof.Prod8.lean ====
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit.Geometry
public import Idealize.ShloMosaic.Lib.Pipeline.ValueKit.Acc

/-!
# The gradient of the input projection's argument

Every tile is one whole contraction.
-/

@[expose] public section

set_option maxRecDepth 16384

noncomputable section
namespace Cert.Prod8

open Idealize.ShloMosaic Idealize.ShloMosaic.TcCoe Idealize.SL.Sem Cert.Kernel8Ideal Cert.Kernel8Ideal.Gen

/-- The product, at an index -/
def out (a : FVec Ideal S8192x5760 .bf16) (b : FVec Ideal S5760x2048 .bf16) : FVec Ideal S8192x2048 .bf16 := fun y =>
  ∑ k : Fin 5760, a (ix2 (y 0) k) * b (ix2 k (y 1))

/-- What the body stores, at an index of the tile -/
theorem pay (a : FVec Ideal S512x5760 .bf16) (b : FVec Ideal S5760x2048 .bf16) (i : Fin 512) (j : Fin 2048) :
    (k0_pay1 (F := Ideal) a b (ix2 i j) : EReal) = ∑ k : Fin 5760, a (ix2 i k) * b (ix2 k j) := by
  pointwise [k0_pay1]

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel

variable (m : (ℓ : Loc nD τ sig) → Buf (Elt Ideal) ℓ) (c : Dev nD)

/-- The result of the arguments that the memory holds -/
abbrev res : FVec Ideal S8192x2048 .bf16 := out (m ((c.tc : Thread nD τ).loc main_arg0)) (m ((c.tc : Thread nD τ).loc main_arg1))

/-- is what the kernel's result array holds after the run. -/
theorem value : (dats m 0 c).arrAt 2 cfg0.N = res m c := by
  refine (dats m 0 c).arrAt_eq_of_covers 2 _ (by decide +kernel) fun t hf y => ?_
  blk_simp
  rw [after0_2, outsAt0]
  frame_out
  change S512x2048.Idx at y
  obtain ⟨i, j, rfl⟩ : ∃ (i : Fin 512) (j : Fin 2048), y = ix2 i j := ⟨y 0, y 1, eq_ix2 y⟩
  refine (pay _ _ i j).trans ?_
  unfold res out
  have e0 := index_0 t
  have e1 := index_1 t
  have e2 := index_2 t
  rw [← V_main_arg0 m c, ← V_main_arg1 m c]
  refine Finset.sum_congr rfl fun k _ => congrArg₂ (· * ·) ?_ ?_ <;> blk_simp [iblk] <;> refine congrArg _ ?_ <;> blk_ext [e0, e1, e2]

/-- The call computes what the reference does. -/
theorem algebraic : Cert.algebraic_Kernel8Ideal_Reference8Ideal := by
  intro m g m' g' _ hagree
  refine ⟨res m, ?_, ?_⟩
  · exact (θ_run defs _ _).mono (fun r h c => ⟨(h c).1.trans (value m c), (h c).2⟩) (Value.run_blocks m g)
  · refine (θ_run Cert.Reference8Ideal.defs _ _).mono (fun r h c => ⟨(h c).1.trans ?_, (h c).2⟩) (Cert.Reference8Ideal.Value.run (F := Ideal) m' g')
    rw [(hagree c).1, (hagree c).2.1]
    funext y
    rw [eq_ix2 y]
    unfold res out
    pointwise []

/-- The reference's frame -/
theorem frame_reference : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

end Cert.Prod8
end
-- ==== Proof.Prod9.lean ====
module

public import proofs.«01_k».proof.Defs
public import proofs.«01_k».proof.Proof.Gen.Kernel9Ideal.Frame
public import proofs.«01_k».proof.Proof.Gen.Reference9Ideal.Run
public import Idealize.ShloMosaic.Lib.Pointwise
public import Idealize.ShloMosaic.Lib.Pipeline.ValueKit.Geometry
public import Idealize.ShloMosaic.Lib.Pipeline.ValueKit.Acc
public import Idealize.ShloMosaic.Lib.Pipeline.Value

/-!
# The gradient of the input projection's weights

The grid adds up the contraction in eight steps, in an accumulator that the first step of a tile sets to zero.
-/

@[expose] public section

set_option maxRecDepth 16384

noncomputable section
namespace Cert.Prod9

open Idealize.ShloMosaic Idealize.ShloMosaic.TcCoe Idealize.SL.Sem Cert.Kernel9Ideal Cert.Kernel9Ideal.Gen

/-- The product of a transposed array and another, at an index -/
def out (a : FVec Ideal S8192x5760 .bf16) (b : FVec Ideal S8192x2048 .bf16) : FVec Ideal S5760x2048 .bf16 := fun y =>
  ∑ k : Fin 8192, a (ix2 k (y 0)) * b (ix2 k (y 1))

/-- What one step adds to the accumulator -/
def part (a : FVec Ideal S1024x1152 .bf16) (b : FVec Ideal S1024x2048 .bf16) (y : S1152x2048.Idx) : EReal :=
  ∑ k : Fin 1024, a (ix2 k (y 0)) * b (ix2 k (y 1))

theorem zero (y : S1152x2048.Idx) : (k0_pay1 (F := Ideal) y : EReal) = 0 := by
  rw [eq_ix2 y]
  pointwise [k0_pay1]

theorem step (x : FVec Ideal S1152x2048 .f32) (a : FVec Ideal S1024x1152 .bf16) (b : FVec Ideal S1024x2048 .bf16) (y : S1152x2048.Idx) :
    (k0_pay2 (F := Ideal) x a b y : EReal) = x y + part a b y := by
  rw [eq_ix2 y]
  unfold part
  pointwise [k0_pay2]

theorem last (x : FVec Ideal S1152x2048 .f32) (y : S1152x2048.Idx) : (k0_pay3 (F := Ideal) x y : EReal) = x y := by
  rw [eq_ix2 y]
  pointwise [k0_pay3]

theorem index_0 : ∀ t : Fin cfg0.N, win0_0.index t = ![t.val % 8, t.val / 8] := by decide +kernel
theorem index_1 : ∀ t : Fin cfg0.N, win0_1.index t = ![t.val % 8, 0] := by decide +kernel
theorem index_2 : ∀ t : Fin cfg0.N, win0_2.index t = ![t.val / 8, 0] := by decide +kernel

variable (m : (ℓ : Loc nD τ sig) → Buf (Elt Ideal) ℓ) (c : Dev nD)

theorem point_lt (t : Fin cfg0.N) (s : Fin 8) : 8 * (t.val / 8) + s.val < cfg0.N := by
  have h := lt_of_lt_of_eq t.isLt (show cfg0.N = 40 from N_0)
  exact lt_of_lt_of_eq (by omega) (show cfg0.N = 40 from N_0).symm

/-- What the accumulator holds after a tile's last step -/
theorem scratch (t : Fin cfg0.N) (h : t.val % 8 = 7) (y : S1152x2048.Idx) :
    ((outsAt0 m c t.val t.isLt).2 y : EReal)
      = ∑ s : Fin 8, part (iblk m c 0 ⟨8 * (t.val / 8) + s.val, point_lt t s⟩)
          (iblk m c 1 ⟨8 * (t.val / 8) + s.val, point_lt t s⟩) y := by
  have e := Pipeline.eq_sum_fin_of_reset_step_apply_of_flush (M := EReal) (fun n h => (outsAt0 m c n h).2) 8 (fun _ => 0)
    (fun t y => part (iblk m c 0 t) (iblk m c 1 t) y)
    (fun t h y => by
      rw [outsAt0_A m c t h (by omega)]
      frame_out
      rw [step, zero])
    (fun t h y => by
      by_cases h7 : t.val % 8 = 7
      · rw [outsAt0_C m c t h h7]
        frame_out
        rw [step, (Memref.isWhole_whole _).read_unread]
      · rw [outsAt0_B m c t h h7]
        frame_out
        rw [step, (Memref.isWhole_whole _).read_unread]) t h y
  rw [zero_add] at e
  exact e

/-- The last step writes it back. -/
theorem written (t : Fin cfg0.N) (h : t.val % 8 = 7) (y : S1152x2048.Idx) :
    ((outsAt0 m c t.val t.isLt).1 y : EReal) = (outsAt0 m c t.val t.isLt).2 y := by
  rw [outsAt0_C m c t (by omega) h]
  frame_out
  rw [last]

/-- The result of the arguments that the memory holds -/
abbrev res : FVec Ideal S5760x2048 .bf16 := out (m ((c.tc : Thread nD τ).loc main_arg0)) (m ((c.tc : Thread nD τ).loc main_arg1))

/-- is what the kernel's result array holds after the run. -/
theorem value : (dats m 0 c).arrAt 2 cfg0.N = res m c := by
  refine (dats m 0 c).arrAt_eq_of_covers 2 _ (by decide +kernel) fun t hf y => ?_
  have h7 : t.val % 8 = 7 := (flush0_2 t).mp hf
  blk_simp
  rw [after0_2]
  change S1152x2048.Idx at y
  refine (written m c t h7 y).trans ((scratch m c t h7 y).trans ?_)
  obtain ⟨i, j, rfl⟩ : ∃ (i : Fin 1152) (j : Fin 2048), y = ix2 i j := ⟨y 0, y 1, eq_ix2 y⟩
  unfold part res out
  have e2 := index_2 t
  rw [← V_main_arg0 m c, ← V_main_arg1 m c]
  refine Fin.sum_mul_add_congr (fun s k hl => congrArg₂ (· * ·) ?_ ?_)
  all_goals
    have e0 := index_0 ⟨8 * (t.val / 8) + s.val, point_lt t s⟩
    have e1 := index_1 ⟨8 * (t.val / 8) + s.val, point_lt t s⟩
    have es : (8 * (t.val / 8) + s.val) % 8 = s.val := by have := s.isLt; omega
    have ed : (8 * (t.val / 8) + s.val) / 8 = t.val / 8 := by have := s.isLt; omega
    blk_simp [iblk]
    refine congrArg _ ?_
    blk_ext [e0, e1, e2, es, ed]

/-- The run -/
theorem run (ρ : Dev nD → PrngReg) : θ_run defs (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The call computes what the reference does. -/
theorem algebraic : Cert.algebraic_Kernel9Ideal_Reference9Ideal := by
  intro m g m' g' _ hagree
  refine ⟨res m, ?_, ?_⟩
  · exact run m g
  · refine (θ_run Cert.Reference9Ideal.defs _ _).mono (fun r h c => ⟨(h c).1.trans ?_, (h c).2⟩) (Cert.Reference9Ideal.Value.run (F := Ideal) m' g')
    rw [(hagree c).1, (hagree c).2]
    funext y
    rw [eq_ix2 y]
    unfold res out
    pointwise []

/-- The reference's frame -/
theorem frame_reference : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

end Cert.Prod9
end
-- ==== Proof.Prod10.lean ====
module

public import proofs.«01_k».proof.Defs
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit.Geometry
public import Idealize.ShloMosaic.Lib.Pipeline.ValueKit.Acc

/-!
# The output projection

Every tile is one whole contraction.
-/

@[expose] public section

set_option maxRecDepth 16384

noncomputable section
namespace Cert.Prod10

open Idealize.ShloMosaic Idealize.ShloMosaic.TcCoe Idealize.SL.Sem Cert.Kernel10Ideal Cert.Kernel10Ideal.Gen

/-- The product, at an index -/
def out (a : FVec Ideal S8192x2048 .bf16) (b : FVec Ideal S2048x2048 .bf16) : FVec Ideal S8192x2048 .f32 := fun y =>
  ∑ k : Fin 2048, a (ix2 (y 0) k) * b (ix2 k (y 1))

/-- What the body stores, at an index of the tile -/
theorem pay (a : FVec Ideal S1024x2048 .bf16) (b : FVec Ideal S2048x2048 .bf16) (i : Fin 1024) (j : Fin 2048) :
    (k0_pay1 (F := Ideal) a b (ix2 i j) : EReal) = ∑ k : Fin 2048, a (ix2 i k) * b (ix2 k j) := by
  pointwise [k0_pay1]

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel

variable (m : (ℓ : Loc nD τ sig) → Buf (Elt Ideal) ℓ) (c : Dev nD)

/-- The result of the arguments that the memory holds -/
abbrev res : FVec Ideal S8192x2048 .f32 := out (m ((c.tc : Thread nD τ).loc main_arg0)) (m ((c.tc : Thread nD τ).loc main_arg1))

/-- is what the kernel's result array holds after the run. -/
theorem value : (dats m 0 c).arrAt 2 cfg0.N = res m c := by
  refine (dats m 0 c).arrAt_eq_of_covers 2 _ (by decide +kernel) fun t hf y => ?_
  blk_simp
  rw [after0_2]
  frame_out
  change S1024x2048.Idx at y
  obtain ⟨i, j, rfl⟩ : ∃ (i : Fin 1024) (j : Fin 2048), y = ix2 i j := ⟨y 0, y 1, eq_ix2 y⟩
  refine (pay _ _ i j).trans ?_
  unfold res out
  have e0 := index_0 t
  have e1 := index_1 t
  have e2 := index_2 t
  rw [← V_main_arg0 m c, ← V_main_arg1 m c]
  refine Finset.sum_congr rfl fun k _ => congrArg₂ (· * ·) ?_ ?_ <;> blk_simp [iblk] <;> refine congrArg _ ?_ <;> blk_ext [e0, e1, e2]

/-- The call computes what the reference does. -/
theorem algebraic : Cert.algebraic_Kernel10Ideal_Reference10Ideal := by
  intro m g m' g' _ hagree
  refine ⟨res m, ?_, ?_⟩
  · exact (θ_run defs _ _).mono (fun r h c => ⟨(h c).1.trans (value m c), (h c).2⟩) (Value.run_blocks m g)
  · refine (θ_run Cert.Reference10Ideal.defs _ _).mono (fun r h c => ⟨(h c).1.trans ?_, (h c).2⟩) (Cert.Reference10Ideal.Value.run (F := Ideal) m' g')
    rw [(hagree c).1, (hagree c).2]
    funext y
    rw [eq_ix2 y]
    unfold res out
    pointwise []

/-- The reference's frame -/
theorem frame_reference : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

end Cert.Prod10
end
-- ==== Proof.Prod11.lean ====
module

public import proofs.«01_k».proof.Defs
public import proofs.«01_k».proof.Proof.Gen.Kernel11Ideal.Value
public import proofs.«01_k».proof.Proof.Gen.Reference11Ideal.Run
public import Idealize.ShloMosaic.Lib.Pointwise
public import Idealize.ShloMosaic.Lib.Pipeline.ValueKit.Geometry
public import Idealize.ShloMosaic.Lib.Pipeline.ValueKit.Acc

/-!
# The gradient of the output projection's argument

Every tile is one whole contraction.
-/

@[expose] public section

set_option maxRecDepth 16384

noncomputable section
namespace Cert.Prod11

open Idealize.ShloMosaic Idealize.ShloMosaic.TcCoe Idealize.SL.Sem Cert.Kernel11Ideal Cert.Kernel11Ideal.Gen

/-- The product, at an index -/
def out (a : FVec Ideal S8192x2048 .bf16) (b : FVec Ideal S2048x2048 .bf16) : FVec Ideal S8192x2048 .bf16 := fun y =>
  ∑ k : Fin 2048, a (ix2 (y 0) k) * b (ix2 (y 1) k)

/-- What the body stores, at an index of the tile -/
theorem pay (a : FVec Ideal S1024x2048 .bf16) (b : FVec Ideal S2048x2048 .bf16) (i : Fin 1024) (j : Fin 2048) :
    (k0_pay1 (F := Ideal) a b (ix2 i j) : EReal) = ∑ k : Fin 2048, a (ix2 i k) * b (ix2 j k) := by
  pointwise [k0_pay1]

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel

variable (m : (ℓ : Loc nD τ sig) → Buf (Elt Ideal) ℓ) (c : Dev nD)

/-- The result of the arguments that the memory holds -/
abbrev res : FVec Ideal S8192x2048 .bf16 := out (m ((c.tc : Thread nD τ).loc main_arg0)) (m ((c.tc : Thread nD τ).loc main_arg1))

/-- is what the kernel's result array holds after the run. -/
theorem value : (dats m 0 c).arrAt 2 cfg0.N = res m c := by
  refine (dats m 0 c).arrAt_eq_of_covers 2 _ (by decide +kernel) fun t hf y => ?_
  blk_simp
  rw [after0_2, outsAt0]
  frame_out
  change S1024x2048.Idx at y
  obtain ⟨i, j, rfl⟩ : ∃ (i : Fin 1024) (j : Fin 2048), y = ix2 i j := ⟨y 0, y 1, eq_ix2 y⟩
  refine (pay _ _ i j).trans ?_
  unfold res out
  have e0 := index_0 t
  have e1 := index_1 t
  have e2 := index_2 t
  rw [← V_main_arg0 m c, ← V_main_arg1 m c]
  refine Finset.sum_congr rfl fun k _ => congrArg₂ (· * ·) ?_ ?_ <;> blk_simp [iblk] <;> refine congrArg _ ?_ <;> blk_ext [e0, e1, e2]

/-- The call computes what the reference does. -/
theorem algebraic : Cert.algebraic_Kernel11Ideal_Reference11Ideal := by
  intro m g m' g' _ hagree
  refine ⟨res m, ?_, ?_⟩
  · exact (θ_run defs _ _).mono (fun r h c => ⟨(h c).1.trans (value m c), (h c).2⟩) (Value.run_blocks m g)
  · refine (θ_run Cert.Reference11Ideal.defs _ _).mono (fun r h c => ⟨(h c).1.trans ?_, (h c).2⟩) (Cert.Reference11Ideal.Value.run (F := Ideal) m' g')
    rw [(hagree c).1, (hagree c).2.1]
    funext y
    rw [eq_ix2 y]
    unfold res out
    pointwise []

/-- The reference's frame -/
theorem frame_reference : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

end Cert.Prod11
end
-- ==== Proof.Prod12.lean ====
module

public import proofs.«01_k».proof.Defs
public import proofs.«01_k».proof.Proof.Gen.Kernel12Ideal.Frame
public import proofs.«01_k».proof.Proof.Gen.Reference12Ideal.Run
public import Idealize.ShloMosaic.Lib.Pointwise
public import Idealize.ShloMosaic.Lib.Pipeline.ValueKit.Geometry
public import Idealize.ShloMosaic.Lib.Pipeline.ValueKit.Acc
public import Idealize.ShloMosaic.Lib.Pipeline.Value

/-!
# The gradient of the output projection's weights

The grid adds up the contraction in eight steps, in an accumulator that the first step of a tile sets to zero.
-/

@[expose] public section

set_option maxRecDepth 16384

noncomputable section
namespace Cert.Prod12

open Idealize.ShloMosaic Idealize.ShloMosaic.TcCoe Idealize.SL.Sem Cert.Kernel12Ideal Cert.Kernel12Ideal.Gen

/-- The product of a transposed array and another, at an index -/
def out (a : FVec Ideal S8192x2048 .bf16) (b : FVec Ideal S8192x2048 .bf16) : FVec Ideal S2048x2048 .bf16 := fun y =>
  ∑ k : Fin 8192, a (ix2 k (y 0)) * b (ix2 k (y 1))

/-- What one step adds to the accumulator -/
def part (a : FVec Ideal S1024x1024 .bf16) (b : FVec Ideal S1024x2048 .bf16) (y : S1024x2048.Idx) : EReal :=
  ∑ k : Fin 1024, a (ix2 k (y 0)) * b (ix2 k (y 1))

theorem zero (y : S1024x2048.Idx) : (k0_pay1 (F := Ideal) y : EReal) = 0 := by
  rw [eq_ix2 y]
  pointwise [k0_pay1]

theorem step (x : FVec Ideal S1024x2048 .f32) (a : FVec Ideal S1024x1024 .bf16) (b : FVec Ideal S1024x2048 .bf16) (y : S1024x2048.Idx) :
    (k0_pay2 (F := Ideal) x a b y : EReal) = x y + part a b y := by
  rw [eq_ix2 y]
  unfold part
  pointwise [k0_pay2]

theorem last (x : FVec Ideal S1024x2048 .f32) (y : S1024x2048.Idx) : (k0_pay3 (F := Ideal) x y : EReal) = x y := by
  rw [eq_ix2 y]
  pointwise [k0_pay3]

theorem index_0 : ∀ t : Fin cfg0.N, win0_0.index t = ![t.val % 8, t.val / 8] := by decide +kernel
theorem index_1 : ∀ t : Fin cfg0.N, win0_1.index t = ![t.val % 8, 0] := by decide +kernel
theorem index_2 : ∀ t : Fin cfg0.N, win0_2.index t = ![t.val / 8, 0] := by decide +kernel

variable (m : (ℓ : Loc nD τ sig) → Buf (Elt Ideal) ℓ) (c : Dev nD)

theorem point_lt (t : Fin cfg0.N) (s : Fin 8) : 8 * (t.val / 8) + s.val < cfg0.N := by
  have h := lt_of_lt_of_eq t.isLt (show cfg0.N = 16 from N_0)
  exact lt_of_lt_of_eq (by omega) (show cfg0.N = 16 from N_0).symm

/-- What the accumulator holds after a tile's last step -/
theorem scratch (t : Fin cfg0.N) (h : t.val % 8 = 7) (y : S1024x2048.Idx) :
    ((outsAt0 m c t.val t.isLt).2 y : EReal)
      = ∑ s : Fin 8, part (iblk m c 0 ⟨8 * (t.val / 8) + s.val, point_lt t s⟩)
          (iblk m c 1 ⟨8 * (t.val / 8) + s.val, point_lt t s⟩) y := by
  have e := Pipeline.eq_sum_fin_of_reset_step_apply_of_flush (M := EReal) (fun n h => (outsAt0 m c n h).2) 8 (fun _ => 0)
    (fun t y => part (iblk m c 0 t) (iblk m c 1 t) y)
    (fun t h y => by
      rw [outsAt0_A m c t h (by omega)]
      frame_out
      rw [step, zero])
    (fun t h y => by
      by_cases h7 : t.val % 8 = 7
      · rw [outsAt0_C m c t h h7]
        frame_out
        rw [step, (Memref.isWhole_whole _).read_unread]
      · rw [outsAt0_B m c t h h7]
        frame_out
        rw [step, (Memref.isWhole_whole _).read_unread]) t h y
  rw [zero_add] at e
  exact e

/-- The last step writes it back. -/
theorem written (t : Fin cfg0.N) (h : t.val % 8 = 7) (y : S1024x2048.Idx) :
    ((outsAt0 m c t.val t.isLt).1 y : EReal) = (outsAt0 m c t.val t.isLt).2 y := by
  rw [outsAt0_C m c t (by omega) h]
  frame_out
  rw [last]

/-- The result of the arguments that the memory holds -/
abbrev res : FVec Ideal S2048x2048 .bf16 := out (m ((c.tc : Thread nD τ).loc main_arg0)) (m ((c.tc : Thread nD τ).loc main_arg1))

/-- is what the kernel's result array holds after the run. -/
theorem value : (dats m 0 c).arrAt 2 cfg0.N = res m c := by
  refine (dats m 0 c).arrAt_eq_of_covers 2 _ (by decide +kernel) fun t hf y => ?_
  have h7 : t.val % 8 = 7 := (flush0_2 t).mp hf
  blk_simp
  rw [after0_2]
  change S1024x2048.Idx at y
  refine (written m c t h7 y).trans ((scratch m c t h7 y).trans ?_)
  obtain ⟨i, j, rfl⟩ : ∃ (i : Fin 1024) (j : Fin 2048), y = ix2 i j := ⟨y 0, y 1, eq_ix2 y⟩
  unfold part res out
  have e2 := index_2 t
  rw [← V_main_arg0 m c, ← V_main_arg1 m c]
  refine Fin.sum_mul_add_congr (fun s k hl => congrArg₂ (· * ·) ?_ ?_)
  all_goals
    have e0 := index_0 ⟨8 * (t.val / 8) + s.val, point_lt t s⟩
    have e1 := index_1 ⟨8 * (t.val / 8) + s.val, point_lt t s⟩
    have es : (8 * (t.val / 8) + s.val) % 8 = s.val := by have := s.isLt; omega
    have ed : (8 * (t.val / 8) + s.val) / 8 = t.val / 8 := by have := s.isLt; omega
    blk_simp [iblk]
    refine congrArg _ ?_
    blk_ext [e0, e1, e2, es, ed]

/-- The run -/
theorem run (ρ : Dev nD → PrngReg) : θ_run defs (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The call computes what the reference does. -/
theorem algebraic : Cert.algebraic_Kernel12Ideal_Reference12Ideal := by
  intro m g m' g' _ hagree
  refine ⟨res m, ?_, ?_⟩
  · exact run m g
  · refine (θ_run Cert.Reference12Ideal.defs _ _).mono (fun r h c => ⟨(h c).1.trans ?_, (h c).2⟩) (Cert.Reference12Ideal.Value.run (F := Ideal) m' g')
    rw [(hagree c).1, (hagree c).2]
    funext y
    rw [eq_ix2 y]
    unfold res out
    pointwise []
    exact Finset.sum_congr rfl fun k _ => mul_comm _ _

/-- The reference's frame -/
theorem frame_reference : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

end Cert.Prod12
end
-- ==== Proof.Norm.lean ====
module

public import proofs.«01_k».proof.Proof.Math
public import Idealize.ShloMosaic.Lib.Pointwise
public import Idealize.ShloMosaic.Lib.WritesUnit
public import Idealize.ShloMosaic.Lib.Pipeline.ValueKit.Geometry
public import Idealize.ShloMosaic.Lib.Pipeline.ValueKit.Acc
public import Idealize.ShloMosaic.Lib.Pipeline.ValueKit.Tiles

/-!
# The gradient of a norm

A row of a norm's input and of the gradient of its normed row, as families of numbers; and an array of eight rows
that is written a row at a time.
-/

@[expose] public section

noncomputable section
namespace Cert.Norm

open Idealize.ShloMosaic

/-- The constant of a word -/
abbrev word (b : BitVec 32) : EReal := Ideal.ofBits .f32 b

theorem word_width : word 1157627904#32 = ((2048 : ℝ) : EReal) := by
  simp [word, Ideal.ofBits, Ideal.ieee, -EReal.coe_mul]; norm_num

theorem word_half : word 3204448256#32 = ((-(1 / 2) : ℝ) : EReal) := by
  simp [word, Ideal.ofBits, Ideal.ieee, -EReal.coe_mul]; norm_num

theorem word_eps : ∃ e : ℝ, 0 < e ∧ word 897988541#32 = (e : EReal) := by
  refine ⟨_, ?_, by simp [word, Ideal.ofBits, Ideal.ieee, -EReal.coe_mul]; rfl⟩
  positivity

/-- The mean of a row's squares, and the small constant -/
def mean (f : Fin 2048 → EReal) : EReal := Ideal.div (∑ k, f k * f k) (word 1157627904#32) + word 897988541#32

/-- What a row is multiplied with -/
def root (f : Fin 2048 → EReal) : EReal := Ideal.rsqrt (mean f)

/-- The gradient of a row, of the gradient of the normed row: as the kernels write it -/
def back (f g : Fin 2048 → EReal) (j : Fin 2048) : EReal :=
  root f * (g j - f j * root f * Ideal.div (∑ k, g k * (f k * root f)) (word 1157627904#32))

/-- What the derivative of the mean contributes -/
def tail (f g : Fin 2048 → EReal) : EReal :=
  Ideal.div ((∑ k, f k * g k) * (word 3204448256#32 * Ideal.div (root f) (mean f))) (word 1157627904#32)

/-- The same by the derivative's rules -/
def rule (f g : Fin 2048 → EReal) (j : Fin 2048) : EReal :=
  g j * root f + f j * ∑ _ : Fin 1, tail f g + (∑ _ : Fin 1, tail f g) * f j

theorem square_nonneg (e : EReal) : 0 ≤ e * e := by
  rcases le_total 0 e with h | h
  · exact EReal.mul_nonneg h h
  · have h' : 0 ≤ -e := EReal.neg_nonneg.mpr h
    exact le_of_le_of_eq (mul_nonneg h' h') (neg_mul_neg e e)

/-- A sum of squares is infinite if a term is. -/
theorem squares_top {n : Nat} (f : Fin n → EReal) (k : Fin n) (h : f k * f k = ⊤) : ∑ k, f k * f k = ⊤ := by
  refine top_le_iff.mp (h ▸ Finset.single_le_sum (f := fun k => f k * f k) (fun s _ => square_nonneg (f s)) (Finset.mem_univ k))

/-- A positive real factor moves out of a sum. -/
theorem sum_factor {n : Nat} (f : Fin n → EReal) (r : ℝ) (h : 0 ≤ r) : ∑ k, f k * (r : EReal) = (∑ k, f k) * r := by
  classical
  refine Finset.induction_on (Finset.univ : Finset (Fin n)) (by simp) fun a S ha ih => ?_
  rw [Finset.sum_insert ha, Finset.sum_insert ha, ih, EReal.right_distrib_of_nonneg_of_ne_top (EReal.coe_nonneg.mpr h) (EReal.coe_ne_top r)]

/-- Twice a number -/
theorem twice (x : EReal) : x + x = ((2 : ℝ) : EReal) * x := by
  have h := EReal.right_distrib_of_nonneg (a := 1) (b := 1) (c := x) zero_le_one zero_le_one
  rw [one_mul] at h
  rw [← h, ← EReal.coe_one, ← EReal.coe_add]
  norm_num

section Width

variable {n : Nat} (W : BitVec 32)

/-- The same of rows of any width, which the word `W` stands for -/
def meanOf (f : Fin n → EReal) : EReal := Ideal.div (∑ k, f k * f k) (word W) + word 897988541#32
def rootOf (f : Fin n → EReal) : EReal := Ideal.rsqrt (meanOf W f)
def backOf (f g : Fin n → EReal) (j : Fin n) : EReal :=
  rootOf W f * (g j - f j * rootOf W f * Ideal.div (∑ k, g k * (f k * rootOf W f)) (word W))
def tailOf (f g : Fin n → EReal) : EReal :=
  Ideal.div ((∑ k, f k * g k) * (word 3204448256#32 * Ideal.div (rootOf W f) (meanOf W f))) (word W)
def ruleOf (f g : Fin n → EReal) (j : Fin n) : EReal :=
  g j * rootOf W f + f j * ∑ _ : Fin 1, tailOf W f g + (∑ _ : Fin 1, tailOf W f g) * f j

variable (w : ℝ) (hw : 0 < w) (hW : word W = (w : EReal)) (f g : Fin n → EReal)
include hw hW

/-- The factor is zero, or the row is real, the factor a positive real and the mean the inverse of its square. -/
theorem root_cases :
    (rootOf W f = 0 ∧ meanOf W f = ⊤) ∨ (∀ k, ∃ r : ℝ, f k = r) ∧
      ∃ r q : ℝ, 0 < r ∧ q ≠ 0 ∧ r * r = 1 / q ∧ rootOf W f = r ∧ meanOf W f = q := by
  obtain ⟨e, he, hx⟩ := word_eps
  have h1 : 0 < 1 / w := one_div_pos.mpr hw
  by_cases hf : ∀ k, ∃ r : ℝ, f k = r
  · refine .inr ⟨hf, ?_⟩
    choose a ha using hf
    have hs : ∑ k, f k * f k = ((∑ k, a k * a k : ℝ) : EReal) := by
      rw [Cert.Att.coe_sum]; exact Finset.sum_congr rfl fun k _ => by rw [ha, EReal.coe_mul]
    have hp : 0 < (∑ k, a k * a k) * (1 / w) + e :=
      add_pos_of_nonneg_of_pos (mul_nonneg (Finset.sum_nonneg fun k _ => mul_self_nonneg _) h1.le) he
    have hm : meanOf W f = (((∑ k, a k * a k) * (1 / w) + e : ℝ) : EReal) := by
      rw [meanOf, hs, hW, Ideal.div_coe hw.ne', hx, ← EReal.coe_mul, ← EReal.coe_add]
    exact ⟨_, _, inv_pos.mpr (Real.sqrt_pos.mpr hp), hp.ne', (mul_inv _ _).symm.trans ((congrArg _ (Real.mul_self_sqrt hp.le)).trans (one_div _).symm),
      by rw [rootOf, hm, Ideal.rsqrt_coe, if_neg (not_lt.mpr hp.le), if_neg hp.ne'], hm⟩
  · left
    obtain ⟨k, hk⟩ := not_forall.mp hf
    have ht : f k * f k = ⊤ := by
      induction h : f k with
      | bot => rfl
      | top => rfl
      | coe r => exact absurd ⟨r, h⟩ hk
    have hm : meanOf W f = ⊤ := by
      rw [meanOf, squares_top f k ht, hW, hx, Ideal.div_coe hw.ne', EReal.top_mul_coe_of_pos h1, EReal.top_add_coe]
    exact ⟨by rw [rootOf, hm, Ideal.rsqrt_top], hm⟩

/-- The two are equal, also at infinite elements: both are the gradient of the normed row times the factor, and a real
    multiple of one sum. -/
theorem ruleOf_eq (j : Fin n) : ruleOf W f g j = backOf W f g j := by
  rcases root_cases W w hw hW f with ⟨hi, hm⟩ | ⟨-, r, q, hr, hq, hrq, hi, hm⟩
  · have ht : tailOf W f g = 0 := by
      rw [tailOf, hi, hm, hW, Ideal.div_coe hw.ne', Ideal.div, if_neg EReal.top_ne_zero, zero_mul, mul_zero, mul_zero, zero_mul]
    rw [ruleOf, backOf, ht, hi]
    simp
  · have hd : ∑ k, g k * (f k * rootOf W f) = (∑ k, f k * g k) * r := by
      rw [hi, ← sum_factor _ _ hr.le]
      exact Finset.sum_congr rfl fun k _ => by rw [← mul_assoc, mul_comm (g k)]
    rw [ruleOf, backOf, tailOf, hd, hm, hi, hW, word_half, Ideal.div_coe hq, Fin.sum_univ_one, Ideal.div_coe hw.ne', Ideal.div_coe hw.ne', sub_eq_add_neg,
      EReal.left_distrib_of_nonneg_of_ne_top (EReal.coe_nonneg.mpr hr.le) (EReal.coe_ne_top r), add_assoc, mul_comm (g j), mul_comm _ (f j), twice]
    congr 1
    generalize ∑ k, f k * g k = s
    have el : ((2 : ℝ) : EReal) * (f j * (s * (((-(1 / 2) : ℝ) : EReal) * ((r : EReal) * ((1 / q : ℝ) : EReal))) * ((1 / w : ℝ) : EReal)))
        = f j * s * ((2 * -(1 / 2) * (r * (1 / q)) * (1 / w) : ℝ) : EReal) := by
      simp only [EReal.coe_mul]
      ac_rfl
    have er : (r : EReal) * (f j * (r : EReal) * (s * (r : EReal) * ((1 / w : ℝ) : EReal))) = f j * s * ((r * (r * r) * (1 / w) : ℝ) : EReal) := by
      simp only [EReal.coe_mul]
      ac_rfl
    rw [el]
    refine Eq.trans ?_ (mul_neg (r : EReal) _).symm
    rw [er, ← mul_neg, ← EReal.coe_neg, hrq]
    congr 2
    ring

/-- The gradient is real where that of the normed row is; and zero where the row has an infinite element. -/
theorem back_real (hg : ∀ k, ∃ r : ℝ, g k = r) (j : Fin n) :
    (∃ r : ℝ, backOf W f g j = r) ∧ ((∃ r : ℝ, f j = r) ∨ backOf W f g j = 0) := by
  rcases root_cases W w hw hW f with ⟨hi, hm⟩ | ⟨hf, r, q, hr, hq, hrq, hi, hm⟩
  · have h : backOf W f g j = 0 := by rw [backOf, hi, zero_mul]
    exact ⟨⟨0, h⟩, .inr h⟩
  · refine ⟨?_, .inl (hf j)⟩
    choose a ha using hf
    choose b hb using hg
    have hs : ∑ k, g k * (f k * rootOf W f) = ((∑ k, b k * (a k * r) : ℝ) : EReal) := by
      rw [Cert.Att.coe_sum]; exact Finset.sum_congr rfl fun k _ => by rw [ha, hb, hi, ← EReal.coe_mul, ← EReal.coe_mul]
    rw [backOf, hs, hi, ha, hb, hW, Ideal.div_coe hw.ne', ← EReal.coe_mul, ← EReal.coe_mul, ← EReal.coe_mul, ← EReal.coe_sub, ← EReal.coe_mul]
    exact ⟨_, rfl⟩

end Width

theorem rule_eq (f g : Fin 2048 → EReal) (j : Fin 2048) : rule f g j = back f g j :=
  ruleOf_eq 1157627904#32 2048 (by norm_num) word_width f g j

/-- The gradient of a normed row -/
def up {n : Nat} (dh : FVec Ideal ⟨2, ![n, 2048]⟩ .bf16) (sc g : FVec Ideal ⟨2, ![1, 2048]⟩ .f32) (i : Fin n) (k : Fin 2048) : EReal :=
  dh (ix2 i k) * (1 + sc (ix2 0 k)) * g (ix2 0 k)

/-- The terms of the three sums over rows -/
def termA {n : Nat} (x : FVec Ideal ⟨2, ![n, 2048]⟩ .f32) (g : FVec Ideal ⟨2, ![1, 2048]⟩ .f32) (dh : FVec Ideal ⟨2, ![n, 2048]⟩ .bf16) (i : Fin n) (j : Fin 2048) : EReal :=
  dh (ix2 i j) * (x (ix2 i j) * root (fun k => x (ix2 i k)) * g (ix2 0 j))
def termC {n : Nat} (x : FVec Ideal ⟨2, ![n, 2048]⟩ .f32) (sc : FVec Ideal ⟨2, ![1, 2048]⟩ .f32) (dh : FVec Ideal ⟨2, ![n, 2048]⟩ .bf16) (i : Fin n) (j : Fin 2048) : EReal :=
  dh (ix2 i j) * (1 + sc (ix2 0 j)) * (x (ix2 i j) * root (fun k => x (ix2 i k)))

/-- The gradient of the norm's input, added to another one -/
def dxAt {n : Nat} (x : FVec Ideal ⟨2, ![n, 2048]⟩ .f32) (g sc : FVec Ideal ⟨2, ![1, 2048]⟩ .f32) (dh : FVec Ideal ⟨2, ![n, 2048]⟩ .bf16) (d : FVec Ideal ⟨2, ![n, 2048]⟩ .f32)
    (i : Fin n) (j : Fin 2048) : EReal := d (ix2 i j) + back (fun k => x (ix2 i k)) (up dh sc g i) j

/-- The gradient of the input by the derivative's rules -/
theorem dx_rule (x : FVec Ideal ⟨2, ![8192, 2048]⟩ .f32) (g sc : FVec Ideal ⟨2, ![1, 2048]⟩ .f32) (dh : FVec Ideal ⟨2, ![8192, 2048]⟩ .bf16) (d : FVec Ideal ⟨2, ![8192, 2048]⟩ .f32)
    (i : Fin 8192) (j : Fin 2048) :
    d (ix2 i j) + rule (fun k => x (ix2 i k)) (up dh sc g i) j = dxAt x g sc dh d i j := by
  rw [dxAt, rule_eq]

/-- Four numbers in rows 0 to 3, zero below -/
def row (i : Fin 8) (a b c d : EReal) : EReal := if i.val = 3 then d else if i.val = 2 then c else if i.val = 1 then b else if i.val = 0 then a else 0

theorem row_congr (i : Fin 8) {a b c d a' b' c' d' : EReal} (ha : a = a') (hb : b = b') (hc : c = c') (hd : d = d') :
    row i a b c d = row i a' b' c' d' := by rw [ha, hb, hc, hd]

/-- Sums go by rows. -/
theorem sum_row {n : Nat} (i : Fin 8) (a b c d : Fin n → EReal) :
    ∑ s, row i (a s) (b s) (c s) (d s) = row i (∑ s, a s) (∑ s, b s) (∑ s, c s) (∑ s, d s) := by
  unfold row
  split_ifs <;> first | rfl | exact Finset.sum_const_zero

section Rows

variable {Val : EltTy → Type} {e : EltTy} {w : Nat}

abbrev S8 (w : Nat) : Shape := ⟨2, ![8, w]⟩

/-- A load of one row -/
theorem ld_row (X : (S8 w).Idx → Val e) (k : Nat) (hk : k < 8) (inb) (j : Fin w) :
    View.ld X (Rect.unit (s := S8 w) ![k, 0] ![1, w] inb) (ix2 0 j) = X (ix2 ⟨k, hk⟩ j) :=
  View.ld_unit_apply_of X _ _ inb _ _ (Fin.forall_fin_two.mpr ⟨(Nat.add_zero _).symm, (Nat.zero_add _).symm⟩)

/-- A store of one row, the last of several, read at an index -/
theorem read_row {sig : RefSig} {κ : Kind} {sp : Space} (v : View sig κ sp (S8 w) e) (f : v.ty.Contents Val) (k : Nat) (inb)
    (x : (Rect.unit (s := S8 w) ![k, 0] ![1, w] inb).shape.Idx → Val e) (L : List (View.Piece Val (S8 w) e)) (i : Fin 8) (j : Fin w) :
    v.read Val (v.writes Val f ((⟨Rect.unit (s := S8 w) ![k, 0] ![1, w] inb, x⟩ : View.Piece Val (S8 w) e) :: L)) (ix2 i j)
      = if i.val = k then x (ix2 0 j) else v.read Val (v.writes Val f L) (ix2 i j) := by
  split_ifs with h
  · exact View.read_writes_cons_rows_of_mem v f inb x L _ (ix2 0 j) rfl h rfl
  · exact View.read_writes_cons_rows_of_not_mem v f (W := 1) inb x L _ rfl rfl (by have : (ix2 i j : (S8 w).Idx) 0 = i := rfl; rw [this]; omega)

theorem canon_row [∀ e, Nonempty (Val e)] {sig : RefSig} {κ : Kind} {sp : Space} (v : View sig κ sp (S8 w) e) (k : Nat) (inb)
    (x : (Rect.unit (s := S8 w) ![k, 0] ![1, w] inb).shape.Idx → Val e) (L : List (View.Piece Val (S8 w) e)) (i : Fin 8) (j : Fin w) :
    View.canon ((⟨Rect.unit (s := S8 w) ![k, 0] ![1, w] inb, x⟩ : View.Piece Val (S8 w) e) :: L) (ix2 i j)
      = if i.val = k then x (ix2 0 j) else View.canon L (ix2 i j) := by
  rw [← View.read_writes_junk_apply_eq_canon v, read_row, View.read_writes_junk_apply_eq_canon v]

end Rows

/-- Rows added to what an array held -/
theorem add_rows (i : Fin 8) (p : Fin 8 → EReal) (a b c : EReal) :
    (if i.val = 2 then p 2 + c else if i.val = 1 then p 1 + b else if i.val = 0 then p 0 + a else p i) = p i + row i a b c 0 := by
  fin_cases i <;> simp [row]

theorem add_rows2 (i : Fin 8) (p : Fin 8 → EReal) (a b : EReal) :
    (if i.val = 1 then p 1 + b else if i.val = 0 then p 0 + a else p i) = p i + row i a b 0 0 := by
  fin_cases i <;> simp [row]

theorem add_rows4 (i : Fin 8) (p : Fin 8 → EReal) (a b c d : EReal) :
    (if i.val = 3 then p 3 + d else if i.val = 2 then p 2 + c else if i.val = 1 then p 1 + b else if i.val = 0 then p 0 + a else p i)
      = p i + row i a b c d := by
  fin_cases i <;> simp [row]

end Cert.Norm
end
-- ==== Proof.Prod13.lean ====
module

public import proofs.«01_k».proof.Defs
public import proofs.«01_k».proof.Proof.Norm
public import proofs.«01_k».proof.Proof.Gen.Kernel13Ideal.Value
public import proofs.«01_k».proof.Proof.Gen.Reference13Ideal.Run
public import Idealize.ShloMosaic.Lib.Pointwise
public import Idealize.ShloMosaic.Lib.Pipeline.ReadBack
public import Idealize.ShloMosaic.Lib.Pipeline.ValueKit.Geometry
public import Idealize.ShloMosaic.Lib.Pipeline.ValueKit.Acc

/-!
# The gradient of the first norm

Every step of the grid takes 256 rows. The gradients of the norm's scale and of its modulation add up over the steps in
rows 0 to 2 of one array, which the first step sets to zero.
-/

@[expose] public section

set_option maxRecDepth 16384

noncomputable section
namespace Cert.Prod13

open Idealize.ShloMosaic Idealize.ShloMosaic.TcCoe Idealize.SL.Sem Cert.Kernel13Ideal Cert.Kernel13Ideal.Gen Cert.Norm

/-- The results, of the arguments -/
def outx (x : FVec Ideal S8192x2048 .f32) (g sc : FVec Ideal S1x2048 .f32) (dh : FVec Ideal S8192x2048 .bf16) (d : FVec Ideal S8192x2048 .f32) :
    FVec Ideal S8192x2048 .f32 := fun y => dxAt x g sc dh d (y 0) (y 1)
def outs (x : FVec Ideal S8192x2048 .f32) (g sc : FVec Ideal S1x2048 .f32) (dh : FVec Ideal S8192x2048 .bf16) : FVec Ideal S8x2048 .f32 := fun y =>
  row (y 0) (∑ i, termA x g dh i (y 1)) (∑ i : Fin 8192, dh (ix2 i (y 1))) (∑ i, termC x sc dh i (y 1)) 0

section Pays

variable (x : FVec Ideal S256x2048 .f32) (g sc : FVec Ideal S1x2048 .f32) (dh : FVec Ideal S256x2048 .bf16)

theorem pay_dx (d : FVec Ideal S256x2048 .f32) (i : Fin 256) (j : Fin 2048) :
    (k0_pay8 (F := Ideal) x g dh sc d (ix2 i j) : EReal) = dxAt x g sc dh d i j := by
  unfold dxAt up back root mean
  pointwise [k0_pay8, k0_pay7, k0_pay6, k0_pay5, k0_pay4]

theorem pay_a (p : FVec Ideal S1x2048 .f32) (j : Fin 2048) :
    (k0_pay1 (F := Ideal) g (k0_pay4 (F := Ideal) dh) (k0_pay6 (F := Ideal) x) p (ix2 0 j) : EReal) = p (ix2 0 j) + ∑ i, termA x g dh i j := by
  unfold termA root mean
  pointwise [k0_pay1, k0_pay4, k0_pay6, k0_pay5]

theorem pay_b (p : FVec Ideal S1x2048 .f32) (j : Fin 2048) :
    (k0_pay2 (F := Ideal) (k0_pay4 (F := Ideal) dh) p (ix2 0 j) : EReal) = p (ix2 0 j) + ∑ i, dh (ix2 i j) := by
  pointwise [k0_pay2, k0_pay4]

theorem pay_c (p : FVec Ideal S1x2048 .f32) (j : Fin 2048) :
    (k0_pay3 (F := Ideal) (k0_pay6 (F := Ideal) x) (k0_pay7 (F := Ideal) dh sc) p (ix2 0 j) : EReal) = p (ix2 0 j) + ∑ i, termC x sc dh i j := by
  unfold termC root mean
  pointwise [k0_pay3, k0_pay7, k0_pay4, k0_pay6, k0_pay5]

theorem zero (y : S8x2048.Idx) : (k0_pay9 (F := Ideal) y : EReal) = 0 := by
  rw [eq_ix2 y]
  pointwise [k0_pay9]

end Pays

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![0, 0] := by decide +kernel

variable (m : (ℓ : Loc nD τ sig) → Buf (Elt Ideal) ℓ) (c : Dev nD)

/-- What a step adds to the array of sums -/
def term (t : Fin cfg0.N) (y : S8x2048.Idx) : EReal :=
  row (y 0) (∑ i, termA (iblk m c 0 t) (iblk m c 1 t) (iblk m c 4 t) i (y 1)) (∑ i, (iblk m c 4 t : FVec Ideal S256x2048 .bf16) (ix2 i (y 1)))
    (∑ i, termC (iblk m c 0 t) (iblk m c 2 t) (iblk m c 4 t) i (y 1)) 0

theorem step_A (t : Fin cfg0.N) (h : t.val % 32 = 0) (y : S8x2048.Idx) : ((outsAt0 m c t.val t.isLt).2 y : EReal) = 0 + term m c t y := by
  obtain ⟨i, j, rfl⟩ : ∃ (i : Fin 8) (j : Fin 2048), y = ix2 i j := ⟨y 0, y 1, eq_ix2 y⟩
  rw [outsAt0_A m c t h]
  frame_out
  simp (disch := decide) only [↓ View.readCov_skip, ↓ View.readCov_cons_toLoadRect, ↓ View.readCov_fill]
  rw [canon_row (ms0_7 t).view, canon_row (ms0_7 t).view, canon_row (ms0_7 t).view, pay_a, pay_b, pay_c, View.canon_cons_unit_lit _ _ _ (by decide)]
  exact (add_rows i (fun i => k0_pay9 (F := Ideal) (ix2 i j)) _ _ _).trans (congrArg (· + _) (zero (ix2 i j)))

theorem step_B (t : Fin cfg0.N) (h : ¬ t.val % 32 = 0) (y : S8x2048.Idx) :
    ((outsAt0 m c t.val t.isLt).2 y : EReal) = (outsAt0 m c (t.val - 1) (Nat.lt_of_le_of_lt (Nat.sub_le _ _) t.isLt)).2 y + term m c t y := by
  obtain ⟨i, j, rfl⟩ : ∃ (i : Fin 8) (j : Fin 2048), y = ix2 i j := ⟨y 0, y 1, eq_ix2 y⟩
  rw [outsAt0_B m c t h]
  frame_out
  rw [read_row, read_row, read_row, pay_a, pay_b, pay_c, View.writes_nil, (hs0_7 t).read_unread,
    ld_row _ 2 (by decide), ld_row _ 1 (by decide), ld_row _ 0 (by decide)]
  exact add_rows i (fun i => (outsAt0 m c (t.val - 1) (Nat.lt_of_le_of_lt (Nat.sub_le _ _) t.isLt)).2 (ix2 i j)) _ _ _

/-- Tiles of the arguments -/
theorem tile_x (t : Fin cfg0.N) (i : Fin 256) (j : Fin 2048) (n : Fin 8192) (h : n.val = t.val * 256 + i.val) :
    (iblk m c 0 t : FVec Ideal S256x2048 .f32) (ix2 i j) = m ((c.tc : Thread nD τ).loc main_arg0) (ix2 n j) := by
  have e := index_0 t
  rw [← V_main_arg0 m c]
  blk_simp [iblk]
  refine congrArg _ ?_
  blk_ext [e, h]

theorem tile_g (t : Fin cfg0.N) (j : Fin 2048) :
    (iblk m c 1 t : FVec Ideal S1x2048 .f32) (ix2 0 j) = m ((c.tc : Thread nD τ).loc main_arg1) (ix2 0 j) := by
  have e := index_1 t
  rw [← V_main_arg1 m c]
  blk_simp [iblk]
  refine congrArg _ ?_
  blk_ext [e]

theorem tile_sc (t : Fin cfg0.N) (j : Fin 2048) :
    (iblk m c 2 t : FVec Ideal S1x2048 .f32) (ix2 0 j) = m ((c.tc : Thread nD τ).loc main_arg2) (ix2 0 j) := by
  have e := index_2 t
  rw [← V_main_arg2 m c]
  blk_simp [iblk]
  refine congrArg _ ?_
  blk_ext [e]

theorem tile_dh (t : Fin cfg0.N) (i : Fin 256) (j : Fin 2048) (n : Fin 8192) (h : n.val = t.val * 256 + i.val) :
    (iblk m c 4 t : FVec Ideal S256x2048 .bf16) (ix2 i j) = m ((c.tc : Thread nD τ).loc main_arg4) (ix2 n j) := by
  have e := index_4 t
  rw [← V_main_arg4 m c]
  blk_simp [iblk]
  refine congrArg _ ?_
  blk_ext [e, h]

theorem tile_d (t : Fin cfg0.N) (i : Fin 256) (j : Fin 2048) (n : Fin 8192) (h : n.val = t.val * 256 + i.val) :
    (iblk m c 5 t : FVec Ideal S256x2048 .f32) (ix2 i j) = m ((c.tc : Thread nD τ).loc main_arg5) (ix2 n j) := by
  have e := index_5 t
  rw [← V_main_arg5 m c]
  blk_simp [iblk]
  refine congrArg _ ?_
  blk_ext [e, h]

/-- The results, of the arguments that the memory holds -/
abbrev resx : FVec Ideal S8192x2048 .f32 := outx (m ((c.tc : Thread nD τ).loc main_arg0)) (m ((c.tc : Thread nD τ).loc main_arg1))
  (m ((c.tc : Thread nD τ).loc main_arg2)) (m ((c.tc : Thread nD τ).loc main_arg4)) (m ((c.tc : Thread nD τ).loc main_arg5))
abbrev ress : FVec Ideal S8x2048 .f32 := outs (m ((c.tc : Thread nD τ).loc main_arg0)) (m ((c.tc : Thread nD τ).loc main_arg1))
  (m ((c.tc : Thread nD τ).loc main_arg2)) (m ((c.tc : Thread nD τ).loc main_arg4))

/-- A row of the input -/
theorem tile_row (t : Fin cfg0.N) (i : Fin 256) (n : Fin 8192) (h : n.val = t.val * 256 + i.val) :
    (fun k => (iblk m c 0 t : FVec Ideal S256x2048 .f32) (ix2 i k)) = fun k => m ((c.tc : Thread nD τ).loc main_arg0) (ix2 n k) :=
  funext fun k => tile_x m c t i k n h

/-- A term of a sum -/
theorem term_a (t : Fin cfg0.N) (i : Fin 256) (j : Fin 2048) (n : Fin 8192) (h : n.val = t.val * 256 + i.val) :
    termA (iblk m c 0 t) (iblk m c 1 t) (iblk m c 4 t) i j
      = termA (m ((c.tc : Thread nD τ).loc main_arg0)) (m ((c.tc : Thread nD τ).loc main_arg1)) (m ((c.tc : Thread nD τ).loc main_arg4)) n j := by
  unfold termA
  rw [tile_row m c t i n h, tile_x m c t i j n h, tile_dh m c t i j n h, tile_g]

theorem term_c (t : Fin cfg0.N) (i : Fin 256) (j : Fin 2048) (n : Fin 8192) (h : n.val = t.val * 256 + i.val) :
    termC (iblk m c 0 t) (iblk m c 2 t) (iblk m c 4 t) i j
      = termC (m ((c.tc : Thread nD τ).loc main_arg0)) (m ((c.tc : Thread nD τ).loc main_arg2)) (m ((c.tc : Thread nD τ).loc main_arg4)) n j := by
  unfold termC
  rw [tile_row m c t i n h, tile_x m c t i j n h, tile_dh m c t i j n h, tile_sc]

theorem tile_dx (t : Fin cfg0.N) (i : Fin 256) (j : Fin 2048) (n : Fin 8192) (h : n.val = t.val * 256 + i.val) :
    dxAt (iblk m c 0 t) (iblk m c 1 t) (iblk m c 2 t) (iblk m c 4 t) (iblk m c 5 t) i j
      = dxAt (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) n j := by
  have eu : up (iblk m c 4 t) (iblk m c 2 t) (iblk m c 1 t) i
      = up (m ((c.tc : Thread nD τ).loc main_arg4)) (m ((c.tc : Thread nD τ).loc main_arg2)) (m ((c.tc : Thread nD τ).loc main_arg1)) n :=
    funext fun k => by unfold up; rw [tile_dh m c t i k n h, tile_sc, tile_g]
  unfold dxAt
  rw [tile_row m c t i n h, eu, tile_d m c t i j n h]

/-- One entry of the input's gradient -/
theorem tile_out (t : Fin cfg0.N) (i : Fin 256) (j : Fin 2048) (y : S8192x2048.Idx) (h0 : (y 0).val = t.val * 256 + i.val) (h1 : (y 1).val = j.val) :
    (k0_pay8 (F := Ideal) (iblk m c 0 t) (iblk m c 1 t) (iblk m c 4 t) (iblk m c 2 t) (iblk m c 5 t) (ix2 i j) : EReal) = resx m c y := by
  obtain ⟨n, l, rfl⟩ : ∃ (n : Fin 8192) (l : Fin 2048), y = ix2 n l := ⟨y 0, y 1, eq_ix2 y⟩
  obtain rfl : l = j := Fin.ext h1
  exact (pay_dx _ _ _ _ _ i l).trans (tile_dx m c t i l n h0)

/-- The kernel's result arrays hold the results after the run. -/
theorem value_x : (dats m 0 c).arrAt 6 cfg0.N = resx m c := by
  refine (dats m 0 c).arrAt_eq_of_covers 6 _ (by decide +kernel) fun t hf y => ?_
  blk_simp
  rw [after0_6]
  change S256x2048.Idx at y
  have e := index_6 t
  obtain ⟨i, j, rfl⟩ : ∃ (i : Fin 256) (j : Fin 2048), y = ix2 i j := ⟨y 0, y 1, eq_ix2 y⟩
  have hv : ((outsAt0 m c t.val t.isLt).1 (ix2 i j) : EReal)
      = k0_pay8 (F := Ideal) (iblk m c 0 t) (iblk m c 1 t) (iblk m c 4 t) (iblk m c 2 t) (iblk m c 5 t) (ix2 i j) := by
    by_cases h : t.val % 32 = 0
    · rw [outsAt0_A m c t h]; frame_out
    · rw [outsAt0_B m c t h]; frame_out
  exact hv.trans (tile_out m c t i j _ (by blk_simp [e]) (by blk_simp [e]))

theorem point_lt (t : Fin cfg0.N) (s : Fin 32) : 32 * (t.val / 32) + s.val < cfg0.N := by
  have h := lt_of_lt_of_eq t.isLt (show cfg0.N = 32 from N_0)
  exact lt_of_lt_of_eq (by omega) (show cfg0.N = 32 from N_0).symm

/-- The array of sums after the last step -/
theorem sums (t : Fin cfg0.N) (h : t.val % 32 = 31) (y : S8x2048.Idx) : ((outsAt0 m c t.val t.isLt).2 y : EReal) = ress m c y := by
  have e := Pipeline.eq_sum_fin_of_reset_step_apply_of_flush (M := EReal) (fun n h => (outsAt0 m c n h).2) 32 (fun _ => 0)
    (term m c) (step_A m c) (step_B m c) t h y
  rw [zero_add] at e
  refine e.trans ?_
  unfold term ress outs
  refine (sum_row (n := 32) (y 0) _ _ _ (fun _ => 0)).trans (row_congr _ ?_ ?_ ?_ Finset.sum_const_zero)
  all_goals
    refine Fin.sum_mul_add_congr fun s k hl => ?_
    have hk : (⟨s.val * 256 + k.val, hl⟩ : Fin 8192).val = (⟨32 * (t.val / 32) + s.val, point_lt t s⟩ : Fin cfg0.N).val * 256 + k.val := by
      have h := lt_of_lt_of_eq t.isLt (show cfg0.N = 32 from N_0)
      show s.val * 256 + k.val = (32 * (t.val / 32) + s.val) * 256 + k.val
      omega
  · exact term_a m c _ k (y 1) _ hk
  · exact tile_dh m c _ k (y 1) _ hk
  · exact term_c m c _ k (y 1) _ hk

theorem value_s : (dats m 0 c).arrAt 7 cfg0.N = ress m c := by
  refine (dats m 0 c).arrAt_eq_of_covers 7 _ (by decide +kernel) fun t hf y => ?_
  have h7 : t.val % 32 = 31 := (flush0_7 t).mp hf
  blk_simp
  rw [after0_7]
  change S8x2048.Idx at y
  refine (sums m c t h7 y).trans (congrArg _ ?_)
  have e := index_7 t
  rw [eq_ix2 y]
  blk_ext [e]

/-- The call computes what the reference does. -/
theorem algebraic : Cert.algebraic_Kernel13Ideal_Reference13Ideal := by
  intro m g m' g' _ hagree
  refine ⟨resx m, ress m, ?_, ?_⟩
  · exact (θ_run defs _ _).mono (fun r h c => ⟨(h c).1.trans (value_x m c), (h c).2.1.trans (value_s m c), (h c).2.2⟩) (Value.run_blocks m g)
  · refine (θ_run Cert.Reference13Ideal.defs _ _).mono (fun r h c => ⟨(h c).1.trans ?_, (h c).2.1.trans ?_, (h c).2.2⟩)
      (Cert.Reference13Ideal.Value.run (F := Ideal) m' g')
    · unfold Cert.Reference13Ideal.Value.res_main_v48
      rw [(hagree c).1, (hagree c).2.1, (hagree c).2.2.1, (hagree c).2.2.2.2.1, (hagree c).2.2.2.2.2]
      funext y
      obtain ⟨i, j, rfl⟩ : ∃ (i : Fin 8192) (j : Fin 2048), y = ix2 i j := ⟨y 0, y 1, eq_ix2 y⟩
      refine Eq.trans ?_ (dx_rule _ _ _ _ _ i j)
      unfold rule tail root mean up
      pointwise []
    · rw [(hagree c).1, (hagree c).2.1, (hagree c).2.2.1, (hagree c).2.2.2.2.1]
      funext y
      obtain ⟨i, j, rfl⟩ : ∃ (i : Fin 8) (j : Fin 2048), y = ix2 i j := ⟨y 0, y 1, eq_ix2 y⟩
      unfold ress outs row termA termC root mean
      fin_cases i <;> pointwise [] <;> refine Finset.sum_congr rfl fun k _ => ?_
      · exact mul_comm _ _
      · exact mul_comm _ _

/-- The reference's frame -/
theorem frame_reference : Cert.quiescent_Reference13Ideal := fun m ρ _ =>
  (θ_run Cert.Reference13Ideal.defs _ _).mono (fun r h => ⟨fun c => (h c).2.2, Idealize.ShloMosaic.sem_eq_zero_of_no_sems (by decide) r.2⟩)
    (Cert.Reference13Ideal.Value.run (F := Ideal) m ρ)

end Cert.Prod13
end
-- ==== Proof.Prod14.lean ====
module

public import proofs.«01_k».proof.Defs
public import proofs.«01_k».proof.Proof.Norm
public import proofs.«01_k».proof.Proof.Gen.Kernel14Ideal.Value
public import proofs.«01_k».proof.Proof.Gen.Reference14Ideal.Run
public import Idealize.ShloMosaic.Lib.Pointwise
public import Idealize.ShloMosaic.Lib.Pipeline.ReadBack
public import Idealize.ShloMosaic.Lib.Pipeline.ValueKit.Geometry
public import Idealize.ShloMosaic.Lib.Pipeline.ValueKit.Acc

/-!
# The gradient of the second norm and of the residual before it

Every step of the grid takes 256 rows. The gradients of the norm's scale and of its modulation add up over the steps in
rows 0 to 2 of one array, the gradient of the gate in row 3. The first step sets that array to zero.
-/

@[expose] public section

set_option maxRecDepth 16384

noncomputable section
namespace Cert.Prod14

open Idealize.ShloMosaic Idealize.ShloMosaic.TcCoe Idealize.SL.Sem Cert.Kernel14Ideal Cert.Kernel14Ideal.Gen Cert.Norm

/-- The results, of the arguments -/
def outx (x : FVec Ideal S8192x2048 .f32) (g sc : FVec Ideal S1x2048 .f32) (dh : FVec Ideal S8192x2048 .bf16) (d : FVec Ideal S8192x2048 .f32) :
    FVec Ideal S8192x2048 .f32 := fun y => dxAt x g sc dh d (y 0) (y 1)
def outm (x : FVec Ideal S8192x2048 .f32) (g sc : FVec Ideal S1x2048 .f32) (dh : FVec Ideal S8192x2048 .bf16) (d : FVec Ideal S8192x2048 .f32)
    (gt : FVec Ideal S1x2048 .f32) : FVec Ideal S8192x2048 .bf16 := fun y => gt (ix2 0 (y 1)) * dxAt x g sc dh d (y 0) (y 1)
def outs (x : FVec Ideal S8192x2048 .f32) (g sc : FVec Ideal S1x2048 .f32) (dh : FVec Ideal S8192x2048 .bf16) (d u : FVec Ideal S8192x2048 .f32) :
    FVec Ideal S8x2048 .f32 := fun y =>
  row (y 0) (∑ i, termA x g dh i (y 1)) (∑ i : Fin 8192, dh (ix2 i (y 1))) (∑ i, termC x sc dh i (y 1))
    (∑ i : Fin 8192, dxAt x g sc dh d i (y 1) * u (ix2 i (y 1)))

section Pays

variable (x : FVec Ideal S256x2048 .f32) (g sc : FVec Ideal S1x2048 .f32) (dh : FVec Ideal S256x2048 .bf16)

theorem pay_dx (d : FVec Ideal S256x2048 .f32) (i : Fin 256) (j : Fin 2048) :
    (k0_pay6 (F := Ideal) x g dh sc d (ix2 i j) : EReal) = dxAt x g sc dh d i j := by
  unfold dxAt up back root mean
  pointwise [k0_pay6, k0_pay5, k0_pay4, k0_pay3, k0_pay2]

theorem pay_m (v : FVec Ideal S256x2048 .f32) (gt : FVec Ideal S1x2048 .f32) (i : Fin 256) (j : Fin 2048) :
    (k0_pay1 (F := Ideal) v (k0_pay12 (F := Ideal) gt) (ix2 i j) : EReal) = gt (ix2 0 j) * v (ix2 i j) := by
  pointwise [k0_pay1, k0_pay12]

theorem pay_a (p : FVec Ideal S1x2048 .f32) (j : Fin 2048) :
    (k0_pay8 (F := Ideal) g (k0_pay2 (F := Ideal) dh) (k0_pay4 (F := Ideal) x) p (ix2 0 j) : EReal) = p (ix2 0 j) + ∑ i, termA x g dh i j := by
  unfold termA root mean
  pointwise [k0_pay8, k0_pay4, k0_pay3, k0_pay2]

theorem pay_b (p : FVec Ideal S1x2048 .f32) (j : Fin 2048) :
    (k0_pay9 (F := Ideal) (k0_pay2 (F := Ideal) dh) p (ix2 0 j) : EReal) = p (ix2 0 j) + ∑ i, dh (ix2 i j) := by
  pointwise [k0_pay9, k0_pay2]

theorem pay_c (p : FVec Ideal S1x2048 .f32) (j : Fin 2048) :
    (k0_pay10 (F := Ideal) (k0_pay4 (F := Ideal) x) (k0_pay5 (F := Ideal) dh sc) p (ix2 0 j) : EReal) = p (ix2 0 j) + ∑ i, termC x sc dh i j := by
  unfold termC root mean
  pointwise [k0_pay10, k0_pay5, k0_pay4, k0_pay3, k0_pay2]

theorem pay_d (v : FVec Ideal S256x2048 .f32) (p : FVec Ideal S1x2048 .f32) (u : FVec Ideal S256x2048 .f32) (j : Fin 2048) :
    (k0_pay11 (F := Ideal) v p u (ix2 0 j) : EReal) = p (ix2 0 j) + ∑ i : Fin 256, v (ix2 i j) * u (ix2 i j) := by
  pointwise [k0_pay11]

theorem zero (y : S8x2048.Idx) : (k0_pay7 (F := Ideal) y : EReal) = 0 := by
  rw [eq_ix2 y]
  pointwise [k0_pay7]

end Pays

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![0, 0] := by decide +kernel
theorem index_8 : ∀ t : Fin cfg0.N, win0_8.index t = ![t.val, 0] := by decide +kernel
theorem index_9 : ∀ t : Fin cfg0.N, win0_9.index t = ![t.val, 0] := by decide +kernel
theorem index_10 : ∀ t : Fin cfg0.N, win0_10.index t = ![0, 0] := by decide +kernel

variable (m : (ℓ : Loc nD τ sig) → Buf (Elt Ideal) ℓ) (c : Dev nD)

/-- The input's gradient on a step's rows -/
abbrev dx (t : Fin cfg0.N) : FVec Ideal S256x2048 .f32 := k0_pay6 (iblk m c 0 t) (iblk m c 1 t) (iblk m c 4 t) (iblk m c 2 t) (iblk m c 5 t)

/-- What a step adds to the array of sums -/
def term (t : Fin cfg0.N) (y : S8x2048.Idx) : EReal :=
  row (y 0) (∑ i, termA (iblk m c 0 t) (iblk m c 1 t) (iblk m c 4 t) i (y 1)) (∑ i, (iblk m c 4 t : FVec Ideal S256x2048 .bf16) (ix2 i (y 1)))
    (∑ i, termC (iblk m c 0 t) (iblk m c 2 t) (iblk m c 4 t) i (y 1))
    (∑ i : Fin 256, dx m c t (ix2 i (y 1)) * (iblk m c 6 t : FVec Ideal S256x2048 .f32) (ix2 i (y 1)))

theorem step_A (t : Fin cfg0.N) (h : t.val % 32 = 0) (y : S8x2048.Idx) : ((outsAt0 m c t.val t.isLt).2.2 y : EReal) = 0 + term m c t y := by
  obtain ⟨i, j, rfl⟩ : ∃ (i : Fin 8) (j : Fin 2048), y = ix2 i j := ⟨y 0, y 1, eq_ix2 y⟩
  rw [outsAt0_A m c t h]
  frame_out
  simp (disch := decide) only [↓ View.readCov_skip, ↓ View.readCov_cons_toLoadRect, ↓ View.readCov_fill]
  rw [canon_row (ms0_10 t).view, canon_row (ms0_10 t).view, canon_row (ms0_10 t).view, canon_row (ms0_10 t).view, pay_a, pay_b, pay_c, pay_d, View.canon_cons_unit_lit _ _ _ (by decide)]
  exact (add_rows4 i (fun i => k0_pay7 (F := Ideal) (ix2 i j)) _ _ _ _).trans (congrArg (· + _) (zero (ix2 i j)))

theorem step_B (t : Fin cfg0.N) (h : ¬ t.val % 32 = 0) (y : S8x2048.Idx) :
    ((outsAt0 m c t.val t.isLt).2.2 y : EReal) = (outsAt0 m c (t.val - 1) (Nat.lt_of_le_of_lt (Nat.sub_le _ _) t.isLt)).2.2 y + term m c t y := by
  obtain ⟨i, j, rfl⟩ : ∃ (i : Fin 8) (j : Fin 2048), y = ix2 i j := ⟨y 0, y 1, eq_ix2 y⟩
  rw [outsAt0_B m c t h]
  frame_out
  rw [read_row, read_row, read_row, read_row, pay_a, pay_b, pay_c, pay_d, View.writes_nil, (hs0_10 t).read_unread,
    ld_row _ 3 (by decide), ld_row _ 2 (by decide), ld_row _ 1 (by decide), ld_row _ 0 (by decide)]
  exact add_rows4 i (fun i => (outsAt0 m c (t.val - 1) (Nat.lt_of_le_of_lt (Nat.sub_le _ _) t.isLt)).2.2 (ix2 i j)) _ _ _ _

/-- Tiles of the arguments -/
theorem tile_x (t : Fin cfg0.N) (i : Fin 256) (j : Fin 2048) (n : Fin 8192) (h : n.val = t.val * 256 + i.val) :
    (iblk m c 0 t : FVec Ideal S256x2048 .f32) (ix2 i j) = m ((c.tc : Thread nD τ).loc main_arg0) (ix2 n j) := by
  have e := index_0 t
  rw [← V_main_arg0 m c]
  blk_simp [iblk]
  refine congrArg _ ?_
  blk_ext [e, h]

theorem tile_g (t : Fin cfg0.N) (j : Fin 2048) :
    (iblk m c 1 t : FVec Ideal S1x2048 .f32) (ix2 0 j) = m ((c.tc : Thread nD τ).loc main_arg1) (ix2 0 j) := by
  have e := index_1 t
  rw [← V_main_arg1 m c]
  blk_simp [iblk]
  refine congrArg _ ?_
  blk_ext [e]

theorem tile_sc (t : Fin cfg0.N) (j : Fin 2048) :
    (iblk m c 2 t : FVec Ideal S1x2048 .f32) (ix2 0 j) = m ((c.tc : Thread nD τ).loc main_arg2) (ix2 0 j) := by
  have e := index_2 t
  rw [← V_main_arg2 m c]
  blk_simp [iblk]
  refine congrArg _ ?_
  blk_ext [e]

theorem tile_dh (t : Fin cfg0.N) (i : Fin 256) (j : Fin 2048) (n : Fin 8192) (h : n.val = t.val * 256 + i.val) :
    (iblk m c 4 t : FVec Ideal S256x2048 .bf16) (ix2 i j) = m ((c.tc : Thread nD τ).loc main_arg4) (ix2 n j) := by
  have e := index_4 t
  rw [← V_main_arg4 m c]
  blk_simp [iblk]
  refine congrArg _ ?_
  blk_ext [e, h]

theorem tile_d (t : Fin cfg0.N) (i : Fin 256) (j : Fin 2048) (n : Fin 8192) (h : n.val = t.val * 256 + i.val) :
    (iblk m c 5 t : FVec Ideal S256x2048 .f32) (ix2 i j) = m ((c.tc : Thread nD τ).loc main_arg5) (ix2 n j) := by
  have e := index_5 t
  rw [← V_main_arg5 m c]
  blk_simp [iblk]
  refine congrArg _ ?_
  blk_ext [e, h]

theorem tile_u (t : Fin cfg0.N) (i : Fin 256) (j : Fin 2048) (n : Fin 8192) (h : n.val = t.val * 256 + i.val) :
    (iblk m c 6 t : FVec Ideal S256x2048 .f32) (ix2 i j) = m ((c.tc : Thread nD τ).loc main_arg6) (ix2 n j) := by
  have e := index_6 t
  rw [← V_main_arg6 m c]
  blk_simp [iblk]
  refine congrArg _ ?_
  blk_ext [e, h]

theorem tile_gt (t : Fin cfg0.N) (j : Fin 2048) :
    (iblk m c 7 t : FVec Ideal S1x2048 .f32) (ix2 0 j) = m ((c.tc : Thread nD τ).loc main_arg7) (ix2 0 j) := by
  have e := index_7 t
  rw [← V_main_arg7 m c]
  blk_simp [iblk]
  refine congrArg _ ?_
  blk_ext [e]

/-- The results, of the arguments that the memory holds -/
abbrev resx : FVec Ideal S8192x2048 .f32 := outx (m ((c.tc : Thread nD τ).loc main_arg0)) (m ((c.tc : Thread nD τ).loc main_arg1))
  (m ((c.tc : Thread nD τ).loc main_arg2)) (m ((c.tc : Thread nD τ).loc main_arg4)) (m ((c.tc : Thread nD τ).loc main_arg5))
abbrev resm : FVec Ideal S8192x2048 .bf16 := outm (m ((c.tc : Thread nD τ).loc main_arg0)) (m ((c.tc : Thread nD τ).loc main_arg1))
  (m ((c.tc : Thread nD τ).loc main_arg2)) (m ((c.tc : Thread nD τ).loc main_arg4)) (m ((c.tc : Thread nD τ).loc main_arg5))
  (m ((c.tc : Thread nD τ).loc main_arg7))
abbrev ress : FVec Ideal S8x2048 .f32 := outs (m ((c.tc : Thread nD τ).loc main_arg0)) (m ((c.tc : Thread nD τ).loc main_arg1))
  (m ((c.tc : Thread nD τ).loc main_arg2)) (m ((c.tc : Thread nD τ).loc main_arg4)) (m ((c.tc : Thread nD τ).loc main_arg5))
  (m ((c.tc : Thread nD τ).loc main_arg6))

/-- A row of the input -/
theorem tile_row (t : Fin cfg0.N) (i : Fin 256) (n : Fin 8192) (h : n.val = t.val * 256 + i.val) :
    (fun k => (iblk m c 0 t : FVec Ideal S256x2048 .f32) (ix2 i k)) = fun k => m ((c.tc : Thread nD τ).loc main_arg0) (ix2 n k) :=
  funext fun k => tile_x m c t i k n h

/-- A term of a sum -/
theorem term_a (t : Fin cfg0.N) (i : Fin 256) (j : Fin 2048) (n : Fin 8192) (h : n.val = t.val * 256 + i.val) :
    termA (iblk m c 0 t) (iblk m c 1 t) (iblk m c 4 t) i j
      = termA (m ((c.tc : Thread nD τ).loc main_arg0)) (m ((c.tc : Thread nD τ).loc main_arg1)) (m ((c.tc : Thread nD τ).loc main_arg4)) n j := by
  unfold termA
  rw [tile_row m c t i n h, tile_x m c t i j n h, tile_dh m c t i j n h, tile_g]

theorem term_c (t : Fin cfg0.N) (i : Fin 256) (j : Fin 2048) (n : Fin 8192) (h : n.val = t.val * 256 + i.val) :
    termC (iblk m c 0 t) (iblk m c 2 t) (iblk m c 4 t) i j
      = termC (m ((c.tc : Thread nD τ).loc main_arg0)) (m ((c.tc : Thread nD τ).loc main_arg2)) (m ((c.tc : Thread nD τ).loc main_arg4)) n j := by
  unfold termC
  rw [tile_row m c t i n h, tile_x m c t i j n h, tile_dh m c t i j n h, tile_sc]

theorem tile_dx (t : Fin cfg0.N) (i : Fin 256) (j : Fin 2048) (n : Fin 8192) (h : n.val = t.val * 256 + i.val) :
    dxAt (iblk m c 0 t) (iblk m c 1 t) (iblk m c 2 t) (iblk m c 4 t) (iblk m c 5 t) i j
      = dxAt (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) n j := by
  have eu : up (iblk m c 4 t) (iblk m c 2 t) (iblk m c 1 t) i
      = up (m ((c.tc : Thread nD τ).loc main_arg4)) (m ((c.tc : Thread nD τ).loc main_arg2)) (m ((c.tc : Thread nD τ).loc main_arg1)) n :=
    funext fun k => by unfold up; rw [tile_dh m c t i k n h, tile_sc, tile_g]
  unfold dxAt
  rw [tile_row m c t i n h, eu, tile_d m c t i j n h]

/-- One entry of the input's gradient -/
theorem tile_out (t : Fin cfg0.N) (i : Fin 256) (j : Fin 2048) (y : S8192x2048.Idx) (h0 : (y 0).val = t.val * 256 + i.val) (h1 : (y 1).val = j.val) :
    (dx m c t (ix2 i j) : EReal) = resx m c y := by
  obtain ⟨n, l, rfl⟩ : ∃ (n : Fin 8192) (l : Fin 2048), y = ix2 n l := ⟨y 0, y 1, eq_ix2 y⟩
  obtain rfl : l = j := Fin.ext h1
  exact (pay_dx _ _ _ _ _ i l).trans (tile_dx m c t i l n h0)

theorem tile_outm (t : Fin cfg0.N) (i : Fin 256) (j : Fin 2048) (y : S8192x2048.Idx) (h0 : (y 0).val = t.val * 256 + i.val) (h1 : (y 1).val = j.val) :
    (k0_pay1 (F := Ideal) (dx m c t) (k0_pay12 (F := Ideal) (iblk m c 7 t)) (ix2 i j) : EReal) = resm m c y := by
  obtain ⟨n, l, rfl⟩ : ∃ (n : Fin 8192) (l : Fin 2048), y = ix2 n l := ⟨y 0, y 1, eq_ix2 y⟩
  obtain rfl : l = j := Fin.ext h1
  exact (pay_m _ _ i l).trans (congrArg₂ (fun a b : EReal => a * b) (tile_gt m c t l) (tile_out m c t i l _ h0 h1))

/-- The kernel's result arrays hold the results after the run. -/
theorem value_x : (dats m 0 c).arrAt 8 cfg0.N = resx m c := by
  refine (dats m 0 c).arrAt_eq_of_covers 8 _ (by decide +kernel) fun t hf y => ?_
  blk_simp
  rw [after0_8]
  change S256x2048.Idx at y
  have e := index_8 t
  obtain ⟨i, j, rfl⟩ : ∃ (i : Fin 256) (j : Fin 2048), y = ix2 i j := ⟨y 0, y 1, eq_ix2 y⟩
  have hv : ((outsAt0 m c t.val t.isLt).1 (ix2 i j) : EReal) = dx m c t (ix2 i j) := by
    by_cases h : t.val % 32 = 0
    · rw [outsAt0_A m c t h]; frame_out
    · rw [outsAt0_B m c t h]; frame_out
  exact hv.trans (tile_out m c t i j _ (by blk_simp [e]) (by blk_simp [e]))

theorem value_m : (dats m 0 c).arrAt 9 cfg0.N = resm m c := by
  refine (dats m 0 c).arrAt_eq_of_covers 9 _ (by decide +kernel) fun t hf y => ?_
  blk_simp
  rw [after0_9]
  change S256x2048.Idx at y
  have e := index_9 t
  obtain ⟨i, j, rfl⟩ : ∃ (i : Fin 256) (j : Fin 2048), y = ix2 i j := ⟨y 0, y 1, eq_ix2 y⟩
  have hv : ((outsAt0 m c t.val t.isLt).2.1 (ix2 i j) : EReal) = k0_pay1 (F := Ideal) (dx m c t) (k0_pay12 (F := Ideal) (iblk m c 7 t)) (ix2 i j) := by
    by_cases h : t.val % 32 = 0
    · rw [outsAt0_A m c t h]; frame_out
    · rw [outsAt0_B m c t h]; frame_out
  exact hv.trans (tile_outm m c t i j _ (by blk_simp [e]) (by blk_simp [e]))

theorem point_lt (t : Fin cfg0.N) (s : Fin 32) : 32 * (t.val / 32) + s.val < cfg0.N := by
  have h := lt_of_lt_of_eq t.isLt (show cfg0.N = 32 from N_0)
  exact lt_of_lt_of_eq (by omega) (show cfg0.N = 32 from N_0).symm

/-- The array of sums after the last step -/
theorem sums (t : Fin cfg0.N) (h : t.val % 32 = 31) (y : S8x2048.Idx) : ((outsAt0 m c t.val t.isLt).2.2 y : EReal) = ress m c y := by
  have e := Pipeline.eq_sum_fin_of_reset_step_apply_of_flush (M := EReal) (fun n h => ((outsAt0 m c n h).2.2 : S8x2048.Idx → EReal)) 32 (fun _ => 0)
    (term m c) (step_A m c) (step_B m c) t h y
  rw [zero_add] at e
  refine e.trans ?_
  unfold term ress outs
  refine (sum_row (n := 32) (y 0) _ _ _ _).trans (row_congr _ ?_ ?_ ?_ ?_)
  all_goals
    refine Fin.sum_mul_add_congr fun s k hl => ?_
    have hk : (⟨s.val * 256 + k.val, hl⟩ : Fin 8192).val = (⟨32 * (t.val / 32) + s.val, point_lt t s⟩ : Fin cfg0.N).val * 256 + k.val := by
      have h := lt_of_lt_of_eq t.isLt (show cfg0.N = 32 from N_0)
      show s.val * 256 + k.val = (32 * (t.val / 32) + s.val) * 256 + k.val
      omega
  · exact term_a m c _ k (y 1) _ hk
  · exact tile_dh m c _ k (y 1) _ hk
  · exact term_c m c _ k (y 1) _ hk
  · exact congrArg₂ (fun a b : EReal => a * b) ((pay_dx _ _ _ _ _ k (y 1)).trans (tile_dx m c _ k (y 1) _ hk)) (tile_u m c _ k (y 1) _ hk)

theorem value_s : (dats m 0 c).arrAt 10 cfg0.N = ress m c := by
  refine (dats m 0 c).arrAt_eq_of_covers 10 _ (by decide +kernel) fun t hf y => ?_
  have h7 : t.val % 32 = 31 := (flush0_10 t).mp hf
  blk_simp
  rw [after0_10]
  change S8x2048.Idx at y
  refine (sums m c t h7 y).trans (congrArg _ ?_)
  have e := index_10 t
  rw [eq_ix2 y]
  blk_ext [e]

/-- The call computes what the reference does. -/
theorem algebraic : Cert.algebraic_Kernel14Ideal_Reference14Ideal := by
  intro m g m' g' _ hagree
  refine ⟨resx m, resm m, ress m, ?_, ?_⟩
  · exact (θ_run defs _ _).mono (fun r h c => ⟨(h c).1.trans (value_x m c), (h c).2.1.trans (value_m m c), (h c).2.2.1.trans (value_s m c), (h c).2.2.2⟩)
      (Value.run_blocks m g)
  · refine (θ_run Cert.Reference14Ideal.defs _ _).mono (fun r h c => ⟨(h c).1.trans ?_, (h c).2.1.trans ?_, (h c).2.2.1.trans ?_, (h c).2.2.2⟩)
      (Cert.Reference14Ideal.Value.run (F := Ideal) m' g')
    all_goals
      obtain ⟨a0, a1, a2, a3, a4, a5, a6, a7⟩ := hagree c
    · unfold Cert.Reference14Ideal.Value.res_main_v48
      rw [a0, a1, a2, a4, a5]
      funext y
      obtain ⟨i, j, rfl⟩ : ∃ (i : Fin 8192) (j : Fin 2048), y = ix2 i j := ⟨y 0, y 1, eq_ix2 y⟩
      refine Eq.trans ?_ (dx_rule _ _ _ _ _ i j)
      unfold rule tail root mean up
      pointwise []
    · unfold Cert.Reference14Ideal.Value.res_main_v56
      rw [a0, a1, a2, a4, a5, a7]
      funext y
      obtain ⟨i, j, rfl⟩ : ∃ (i : Fin 8192) (j : Fin 2048), y = ix2 i j := ⟨y 0, y 1, eq_ix2 y⟩
      refine Eq.trans ?_ (congrArg (fun a : EReal => _ * a) (dx_rule _ _ _ _ _ i j))
      unfold rule tail root mean up
      pointwise []
    · unfold Cert.Reference14Ideal.Value.res_main_v58
      rw [a0, a1, a2, a4, a5, a6]
      funext y
      obtain ⟨i, j, rfl⟩ : ∃ (i : Fin 8) (j : Fin 2048), y = ix2 i j := ⟨y 0, y 1, eq_ix2 y⟩
      unfold ress outs row termA termC root mean
      fin_cases i <;> pointwise [] <;> refine Finset.sum_congr rfl fun k _ => ?_
      · exact mul_comm _ _
      · exact mul_comm _ _
      · refine congrArg (fun a : EReal => a * _) (Eq.trans ?_ (dx_rule _ _ _ _ _ k j))
        unfold rule tail root mean up
        pointwise []

/-- The reference's frame -/
theorem frame_reference : Cert.quiescent_Reference14Ideal := fun m ρ _ =>
  (θ_run Cert.Reference14Ideal.defs _ _).mono (fun r h => ⟨fun c => (h c).2.2.2, Idealize.ShloMosaic.sem_eq_zero_of_no_sems (by decide) r.2⟩)
    (Cert.Reference14Ideal.Value.run (F := Ideal) m ρ)

end Cert.Prod14
end
-- ==== Proof.Prod15.lean ====
module

public import proofs.«01_k».proof.Defs
public import proofs.«01_k».proof.Proof.Norm
public import proofs.«01_k».proof.Proof.Gen.Kernel15Ideal.Value
public import proofs.«01_k».proof.Proof.Gen.Reference15Ideal.Run
public import Idealize.ShloMosaic.Lib.Pointwise
public import Idealize.ShloMosaic.Lib.Pipeline.ReadBack
public import Idealize.ShloMosaic.Lib.Pipeline.ValueKit.Geometry
public import Idealize.ShloMosaic.Lib.Pipeline.ValueKit.Acc

/-!
# The loss and its gradient

Every step of the grid takes 256 rows. The gradients of the norm's scale and of the gate and the loss by columns add up
over the steps in rows 0 to 2 of one array, which the first step sets to zero.
-/

@[expose] public section

set_option maxRecDepth 16384

noncomputable section
namespace Cert.Prod15

open Idealize.ShloMosaic Idealize.ShloMosaic.TcCoe Idealize.SL.Sem Cert.Kernel15Ideal Cert.Kernel15Ideal.Gen Cert.Norm

/-- A row of the last residual -/
def mix {n : Nat} (x u : FVec Ideal ⟨2, ![n, 2048]⟩ .f32) (v : FVec Ideal ⟨2, ![1, 2048]⟩ .f32) (i : Fin n) (k : Fin 2048) : EReal :=
  x (ix2 i k) + v (ix2 0 k) * u (ix2 i k)

/-- The error of a normed row -/
def err {n : Nat} (x u : FVec Ideal ⟨2, ![n, 2048]⟩ .f32) (v g : FVec Ideal ⟨2, ![1, 2048]⟩ .f32) (p : FVec Ideal ⟨2, ![n, 2048]⟩ .f32) (i : Fin n) (k : Fin 2048) : EReal :=
  mix x u v i k * root (mix x u v i) * g (ix2 0 k) - p (ix2 i k)

/-- Its share of the loss's gradient -/
def dy {n : Nat} (x u : FVec Ideal ⟨2, ![n, 2048]⟩ .f32) (v g : FVec Ideal ⟨2, ![1, 2048]⟩ .f32) (p : FVec Ideal ⟨2, ![n, 2048]⟩ .f32) (i : Fin n) (k : Fin 2048) : EReal :=
  err x u v g p i k * word 973078528#32

/-- The gradient of the residual -/
def dr {n : Nat} (x u : FVec Ideal ⟨2, ![n, 2048]⟩ .f32) (v g : FVec Ideal ⟨2, ![1, 2048]⟩ .f32) (p : FVec Ideal ⟨2, ![n, 2048]⟩ .f32) (i : Fin n) (j : Fin 2048) : EReal :=
  back (mix x u v i) (fun k => dy x u v g p i k * g (ix2 0 k)) j

/-- The terms of the sums over rows -/
def termA {n : Nat} (x u : FVec Ideal ⟨2, ![n, 2048]⟩ .f32) (v g : FVec Ideal ⟨2, ![1, 2048]⟩ .f32) (p : FVec Ideal ⟨2, ![n, 2048]⟩ .f32) (i : Fin n) (j : Fin 2048) : EReal :=
  dy x u v g p i j * (mix x u v i j * root (mix x u v i))
def termB {n : Nat} (x u : FVec Ideal ⟨2, ![n, 2048]⟩ .f32) (v g : FVec Ideal ⟨2, ![1, 2048]⟩ .f32) (p : FVec Ideal ⟨2, ![n, 2048]⟩ .f32) (i : Fin n) (j : Fin 2048) : EReal :=
  dr x u v g p i j * u (ix2 i j)
def termC {n : Nat} (x u : FVec Ideal ⟨2, ![n, 2048]⟩ .f32) (v g : FVec Ideal ⟨2, ![1, 2048]⟩ .f32) (p : FVec Ideal ⟨2, ![n, 2048]⟩ .f32) (i : Fin n) (j : Fin 2048) : EReal :=
  err x u v g p i j * err x u v g p i j

/-- The derivative of the loss by an error is the error over the width. -/
theorem share (e : EReal) : Ideal.div (word 1056964608#32) (word 1157627904#32) * (word 1073741824#32 * e) = e * word 973078528#32 := by
  have h1 : word 1056964608#32 = ((1 / 2 : ℝ) : EReal) := by
    simp [word, Ideal.ofBits, Ideal.ieee, -EReal.coe_mul]; norm_num
  have h2 : word 1073741824#32 = ((2 : ℝ) : EReal) := by
    simp [word, Ideal.ofBits, Ideal.ieee, -EReal.coe_mul]; norm_num
  have h3 : word 973078528#32 = ((1 / 2048 : ℝ) : EReal) := by
    simp [word, Ideal.ofBits, Ideal.ieee, -EReal.coe_mul]; norm_num
  rw [h1, h2, h3, word_width, Ideal.div_coe (by norm_num : (2048 : ℝ) ≠ 0), ← mul_assoc, ← EReal.coe_mul, ← EReal.coe_mul, mul_comm]
  congr 2
  norm_num

/-- Sums of squares may be scaled term by term. -/
theorem sum_scale {n : Nat} (f : Fin n → EReal) (h : ∀ s, 0 ≤ f s) (w : EReal) : ∑ s, f s * w = (∑ s, f s) * w := by
  classical
  refine Finset.induction_on (Finset.univ : Finset (Fin n)) (by simp) fun a S ha ih => ?_
  rw [Finset.sum_insert ha, Finset.sum_insert ha, ih, EReal.right_distrib_of_nonneg (h a) (Finset.sum_nonneg fun s _ => h s)]

/-- The gradient of the residual by the derivative's rules -/
theorem dr_rule (x u : FVec Ideal S8192x2048 .f32) (v g : FVec Ideal S1x2048 .f32) (p : FVec Ideal S8192x2048 .f32) (i : Fin 8192) (j : Fin 2048) :
    rule (mix x u v i) (fun k => Ideal.div (word 1056964608#32) (word 1157627904#32) * (word 1073741824#32 * err x u v g p i k) * g (ix2 0 k)) j
      = dr x u v g p i j := by
  simp only [share, rule_eq]
  rfl

/-- The results, of the arguments -/
def outx (x u : FVec Ideal S8192x2048 .f32) (v g : FVec Ideal S1x2048 .f32) (p : FVec Ideal S8192x2048 .f32) :
    FVec Ideal S8192x2048 .f32 := fun y => dr x u v g p (y 0) (y 1)
def outm (x u : FVec Ideal S8192x2048 .f32) (v g : FVec Ideal S1x2048 .f32) (p : FVec Ideal S8192x2048 .f32) :
    FVec Ideal S8192x2048 .bf16 := fun y => v (ix2 0 (y 1)) * dr x u v g p (y 0) (y 1)
def outs (x u : FVec Ideal S8192x2048 .f32) (v g : FVec Ideal S1x2048 .f32) (p : FVec Ideal S8192x2048 .f32) : FVec Ideal S8x2048 .f32 := fun y =>
  row (y 0) (∑ i, termA x u v g p i (y 1)) (∑ i, termB x u v g p i (y 1)) ((∑ i, termC x u v g p i (y 1)) * word 964689920#32) 0

section Pays

variable (x u : FVec Ideal S256x2048 .f32) (v g : FVec Ideal S1x2048 .f32) (p : FVec Ideal S256x2048 .f32)

theorem pay_dx (i : Fin 256) (j : Fin 2048) : (k0_pay11 (F := Ideal) u g x v p (ix2 i j) : EReal) = dr x u v g p i j := by
  unfold dr dy err back root mean mix
  pointwise [k0_pay11, k0_pay10, k0_pay9, k0_pay8, k0_pay7, k0_pay6]

theorem pay_m (d : FVec Ideal S256x2048 .f32) (i : Fin 256) (j : Fin 2048) :
    (k0_pay1 (F := Ideal) d (k0_pay12 (F := Ideal) v) (ix2 i j) : EReal) = v (ix2 0 j) * d (ix2 i j) := by
  pointwise [k0_pay1, k0_pay12]

theorem pay_a (q : FVec Ideal S1x2048 .f32) (j : Fin 2048) :
    (k0_pay3 (F := Ideal) (k0_pay8 (F := Ideal) u x v) (k0_pay10 (F := Ideal) u g x v p) q (ix2 0 j) : EReal) = q (ix2 0 j) + ∑ i, termA x u v g p i j := by
  unfold termA dy err root mean mix
  pointwise [k0_pay3, k0_pay10, k0_pay9, k0_pay8, k0_pay7, k0_pay6]

theorem pay_b (q : FVec Ideal S1x2048 .f32) (j : Fin 2048) :
    (k0_pay4 (F := Ideal) u (k0_pay11 (F := Ideal) u g x v p) q (ix2 0 j) : EReal) = q (ix2 0 j) + ∑ i, termB x u v g p i j := by
  have h : (k0_pay4 (F := Ideal) u (k0_pay11 (F := Ideal) u g x v p) q (ix2 0 j) : EReal)
      = q (ix2 0 j) + ∑ i : Fin 256, k0_pay11 (F := Ideal) u g x v p (ix2 i j) * u (ix2 i j) := by
    generalize k0_pay11 (F := Ideal) u g x v p = d
    pointwise [k0_pay4]
  exact h.trans (congrArg (q (ix2 0 j) + ·) (Finset.sum_congr rfl fun i _ => congrArg (fun a : EReal => a * _) (pay_dx x u v g p i j)))

theorem pay_c (q : FVec Ideal S1x2048 .f32) (j : Fin 2048) :
    (k0_pay5 (F := Ideal) (k0_pay9 (F := Ideal) u g x v p) q (ix2 0 j) : EReal) = q (ix2 0 j) + (∑ i, termC x u v g p i j) * word 964689920#32 := by
  unfold termC err root mean mix
  pointwise [k0_pay5, k0_pay9, k0_pay8, k0_pay7, k0_pay6]

theorem zero (y : S8x2048.Idx) : (k0_pay2 (F := Ideal) y : EReal) = 0 := by
  rw [eq_ix2 y]
  pointwise [k0_pay2]

end Pays

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![0, 0] := by decide +kernel

variable (m : (ℓ : Loc nD τ sig) → Buf (Elt Ideal) ℓ) (c : Dev nD)

/-- The residual's gradient on a step's rows -/
abbrev dx (t : Fin cfg0.N) : FVec Ideal S256x2048 .f32 := k0_pay11 (iblk m c 1 t) (iblk m c 3 t) (iblk m c 0 t) (iblk m c 2 t) (iblk m c 4 t)

/-- What a step adds to the array of sums -/
def term (t : Fin cfg0.N) (y : S8x2048.Idx) : EReal :=
  row (y 0) (∑ i, termA (iblk m c 0 t) (iblk m c 1 t) (iblk m c 2 t) (iblk m c 3 t) (iblk m c 4 t) i (y 1))
    (∑ i, termB (iblk m c 0 t) (iblk m c 1 t) (iblk m c 2 t) (iblk m c 3 t) (iblk m c 4 t) i (y 1))
    ((∑ i, termC (iblk m c 0 t) (iblk m c 1 t) (iblk m c 2 t) (iblk m c 3 t) (iblk m c 4 t) i (y 1)) * word 964689920#32) 0

theorem step_A (t : Fin cfg0.N) (h : t.val % 32 = 0) (y : S8x2048.Idx) : ((outsAt0 m c t.val t.isLt).2.2 y : EReal) = 0 + term m c t y := by
  obtain ⟨i, j, rfl⟩ : ∃ (i : Fin 8) (j : Fin 2048), y = ix2 i j := ⟨y 0, y 1, eq_ix2 y⟩
  rw [outsAt0_A m c t h]
  frame_out
  simp (disch := decide) only [↓ View.readCov_skip, ↓ View.readCov_cons_toLoadRect, ↓ View.readCov_fill]
  rw [canon_row (ms0_7 t).view, canon_row (ms0_7 t).view, canon_row (ms0_7 t).view, pay_a, pay_b, pay_c, View.canon_cons_unit_lit _ _ _ (by decide)]
  exact (add_rows i (fun i => k0_pay2 (F := Ideal) (ix2 i j)) _ _ _).trans (congrArg (· + _) (zero (ix2 i j)))

theorem step_B (t : Fin cfg0.N) (h : ¬ t.val % 32 = 0) (y : S8x2048.Idx) :
    ((outsAt0 m c t.val t.isLt).2.2 y : EReal) = (outsAt0 m c (t.val - 1) (Nat.lt_of_le_of_lt (Nat.sub_le _ _) t.isLt)).2.2 y + term m c t y := by
  obtain ⟨i, j, rfl⟩ : ∃ (i : Fin 8) (j : Fin 2048), y = ix2 i j := ⟨y 0, y 1, eq_ix2 y⟩
  rw [outsAt0_B m c t h]
  frame_out
  rw [read_row, read_row, read_row, pay_a, pay_b, pay_c, View.writes_nil, (hs0_7 t).read_unread,
    ld_row _ 2 (by decide), ld_row _ 1 (by decide), ld_row _ 0 (by decide)]
  exact add_rows i (fun i => (outsAt0 m c (t.val - 1) (Nat.lt_of_le_of_lt (Nat.sub_le _ _) t.isLt)).2.2 (ix2 i j)) _ _ _

/-- Tiles of the arguments -/
theorem tile_x (t : Fin cfg0.N) (i : Fin 256) (j : Fin 2048) (n : Fin 8192) (h : n.val = t.val * 256 + i.val) :
    (iblk m c 0 t : FVec Ideal S256x2048 .f32) (ix2 i j) = m ((c.tc : Thread nD τ).loc main_arg0) (ix2 n j) := by
  have e := index_0 t
  rw [← V_main_arg0 m c]
  blk_simp [iblk]
  refine congrArg _ ?_
  blk_ext [e, h]

theorem tile_u (t : Fin cfg0.N) (i : Fin 256) (j : Fin 2048) (n : Fin 8192) (h : n.val = t.val * 256 + i.val) :
    (iblk m c 1 t : FVec Ideal S256x2048 .f32) (ix2 i j) = m ((c.tc : Thread nD τ).loc main_arg1) (ix2 n j) := by
  have e := index_1 t
  rw [← V_main_arg1 m c]
  blk_simp [iblk]
  refine congrArg _ ?_
  blk_ext [e, h]

theorem tile_v (t : Fin cfg0.N) (j : Fin 2048) :
    (iblk m c 2 t : FVec Ideal S1x2048 .f32) (ix2 0 j) = m ((c.tc : Thread nD τ).loc main_arg2) (ix2 0 j) := by
  have e := index_2 t
  rw [← V_main_arg2 m c]
  blk_simp [iblk]
  refine congrArg _ ?_
  blk_ext [e]

theorem tile_g (t : Fin cfg0.N) (j : Fin 2048) :
    (iblk m c 3 t : FVec Ideal S1x2048 .f32) (ix2 0 j) = m ((c.tc : Thread nD τ).loc main_arg3) (ix2 0 j) := by
  have e := index_3 t
  rw [← V_main_arg3 m c]
  blk_simp [iblk]
  refine congrArg _ ?_
  blk_ext [e]

theorem tile_p (t : Fin cfg0.N) (i : Fin 256) (j : Fin 2048) (n : Fin 8192) (h : n.val = t.val * 256 + i.val) :
    (iblk m c 4 t : FVec Ideal S256x2048 .f32) (ix2 i j) = m ((c.tc : Thread nD τ).loc main_arg4) (ix2 n j) := by
  have e := index_4 t
  rw [← V_main_arg4 m c]
  blk_simp [iblk]
  refine congrArg _ ?_
  blk_ext [e, h]

/-- The results, of the arguments that the memory holds -/
abbrev resx : FVec Ideal S8192x2048 .f32 := outx (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))
abbrev resm : FVec Ideal S8192x2048 .bf16 := outm (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))
abbrev ress : FVec Ideal S8x2048 .f32 := outs (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

/-- A step's rows of the residual, of the errors, of its gradient and of the terms of the sums -/
theorem tile_mix (t : Fin cfg0.N) (i : Fin 256) (n : Fin 8192) (h : n.val = t.val * 256 + i.val) :
    mix (iblk m c 0 t) (iblk m c 1 t) (iblk m c 2 t) i = mix (m ((c.tc : Thread nD τ).loc main_arg0)) (m ((c.tc : Thread nD τ).loc main_arg1)) (m ((c.tc : Thread nD τ).loc main_arg2)) n :=
  funext fun k => by unfold mix; rw [tile_x m c t i k n h, tile_u m c t i k n h, tile_v]

theorem tile_err (t : Fin cfg0.N) (i : Fin 256) (j : Fin 2048) (n : Fin 8192) (h : n.val = t.val * 256 + i.val) :
    err (iblk m c 0 t) (iblk m c 1 t) (iblk m c 2 t) (iblk m c 3 t) (iblk m c 4 t) i j = err (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) n j := by
  unfold err
  rw [tile_mix m c t i n h, tile_g, tile_p m c t i j n h]

theorem tile_dy (t : Fin cfg0.N) (i : Fin 256) (j : Fin 2048) (n : Fin 8192) (h : n.val = t.val * 256 + i.val) :
    dy (iblk m c 0 t) (iblk m c 1 t) (iblk m c 2 t) (iblk m c 3 t) (iblk m c 4 t) i j = dy (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) n j := by
  unfold dy
  rw [tile_err m c t i j n h]

theorem tile_dx (t : Fin cfg0.N) (i : Fin 256) (j : Fin 2048) (n : Fin 8192) (h : n.val = t.val * 256 + i.val) :
    dr (iblk m c 0 t) (iblk m c 1 t) (iblk m c 2 t) (iblk m c 3 t) (iblk m c 4 t) i j = dr (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) n j := by
  unfold dr
  rw [tile_mix m c t i n h]
  exact congrArg (fun f => back _ f j) (funext fun k => by rw [tile_dy m c t i k n h, tile_g])

theorem term_a (t : Fin cfg0.N) (i : Fin 256) (j : Fin 2048) (n : Fin 8192) (h : n.val = t.val * 256 + i.val) :
    termA (iblk m c 0 t) (iblk m c 1 t) (iblk m c 2 t) (iblk m c 3 t) (iblk m c 4 t) i j = termA (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) n j := by
  unfold termA
  rw [tile_mix m c t i n h, tile_dy m c t i j n h]

theorem term_b (t : Fin cfg0.N) (i : Fin 256) (j : Fin 2048) (n : Fin 8192) (h : n.val = t.val * 256 + i.val) :
    termB (iblk m c 0 t) (iblk m c 1 t) (iblk m c 2 t) (iblk m c 3 t) (iblk m c 4 t) i j = termB (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) n j := by
  unfold termB
  rw [tile_dx m c t i j n h, tile_u m c t i j n h]

theorem term_c (t : Fin cfg0.N) (i : Fin 256) (j : Fin 2048) (n : Fin 8192) (h : n.val = t.val * 256 + i.val) :
    termC (iblk m c 0 t) (iblk m c 1 t) (iblk m c 2 t) (iblk m c 3 t) (iblk m c 4 t) i j = termC (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) n j := by
  unfold termC
  rw [tile_err m c t i j n h]

/-- One entry of the residual's gradient -/
theorem tile_out (t : Fin cfg0.N) (i : Fin 256) (j : Fin 2048) (y : S8192x2048.Idx) (h0 : (y 0).val = t.val * 256 + i.val) (h1 : (y 1).val = j.val) :
    (dx m c t (ix2 i j) : EReal) = resx m c y := by
  obtain ⟨n, l, rfl⟩ : ∃ (n : Fin 8192) (l : Fin 2048), y = ix2 n l := ⟨y 0, y 1, eq_ix2 y⟩
  obtain rfl : l = j := Fin.ext h1
  exact (pay_dx _ _ _ _ _ i l).trans (tile_dx m c t i l n h0)

theorem tile_outm (t : Fin cfg0.N) (i : Fin 256) (j : Fin 2048) (y : S8192x2048.Idx) (h0 : (y 0).val = t.val * 256 + i.val) (h1 : (y 1).val = j.val) :
    (k0_pay1 (F := Ideal) (dx m c t) (k0_pay12 (F := Ideal) (iblk m c 2 t)) (ix2 i j) : EReal) = resm m c y := by
  obtain ⟨n, l, rfl⟩ : ∃ (n : Fin 8192) (l : Fin 2048), y = ix2 n l := ⟨y 0, y 1, eq_ix2 y⟩
  obtain rfl : l = j := Fin.ext h1
  exact (pay_m _ _ i l).trans (congrArg₂ (fun a b : EReal => a * b) (tile_v m c t l) (tile_out m c t i l _ h0 h1))

/-- The kernel's result arrays hold the results after the run. -/
theorem value_x : (dats m 0 c).arrAt 5 cfg0.N = resx m c := by
  refine (dats m 0 c).arrAt_eq_of_covers 5 _ (by decide +kernel) fun t hf y => ?_
  blk_simp
  rw [after0_5]
  change S256x2048.Idx at y
  have e := index_5 t
  obtain ⟨i, j, rfl⟩ : ∃ (i : Fin 256) (j : Fin 2048), y = ix2 i j := ⟨y 0, y 1, eq_ix2 y⟩
  have hv : ((outsAt0 m c t.val t.isLt).1 (ix2 i j) : EReal) = dx m c t (ix2 i j) := by
    by_cases h : t.val % 32 = 0
    · rw [outsAt0_A m c t h]; frame_out
    · rw [outsAt0_B m c t h]; frame_out
  exact hv.trans (tile_out m c t i j _ (by blk_simp [e]) (by blk_simp [e]))

theorem value_m : (dats m 0 c).arrAt 6 cfg0.N = resm m c := by
  refine (dats m 0 c).arrAt_eq_of_covers 6 _ (by decide +kernel) fun t hf y => ?_
  blk_simp
  rw [after0_6]
  change S256x2048.Idx at y
  have e := index_6 t
  obtain ⟨i, j, rfl⟩ : ∃ (i : Fin 256) (j : Fin 2048), y = ix2 i j := ⟨y 0, y 1, eq_ix2 y⟩
  have hv : ((outsAt0 m c t.val t.isLt).2.1 (ix2 i j) : EReal) = k0_pay1 (F := Ideal) (dx m c t) (k0_pay12 (F := Ideal) (iblk m c 2 t)) (ix2 i j) := by
    by_cases h : t.val % 32 = 0
    · rw [outsAt0_A m c t h]; frame_out
    · rw [outsAt0_B m c t h]; frame_out
  exact hv.trans (tile_outm m c t i j _ (by blk_simp [e]) (by blk_simp [e]))

theorem point_lt (t : Fin cfg0.N) (s : Fin 32) : 32 * (t.val / 32) + s.val < cfg0.N := by
  have h := lt_of_lt_of_eq t.isLt (show cfg0.N = 32 from N_0)
  exact lt_of_lt_of_eq (by omega) (show cfg0.N = 32 from N_0).symm

/-- The array of sums after the last step -/
theorem sums (t : Fin cfg0.N) (h : t.val % 32 = 31) (y : S8x2048.Idx) : ((outsAt0 m c t.val t.isLt).2.2 y : EReal) = ress m c y := by
  have e := Pipeline.eq_sum_fin_of_reset_step_apply_of_flush (M := EReal) (fun n h => ((outsAt0 m c n h).2.2 : S8x2048.Idx → EReal)) 32 (fun _ => 0)
    (term m c) (step_A m c) (step_B m c) t h y
  rw [zero_add] at e
  refine e.trans ?_
  unfold term ress outs
  refine (sum_row (n := 32) (y 0) _ _ _ (fun _ => 0)).trans (row_congr _ ?_ ?_ ?_ Finset.sum_const_zero)
  rotate_left 2
  · refine (sum_scale _ (fun s => Finset.sum_nonneg fun k _ => square_nonneg _) _).trans (congrArg (fun a : EReal => a * _) ?_)
    refine Fin.sum_mul_add_congr fun s k hl => term_c m c _ k (y 1) _ ?_
    have h := lt_of_lt_of_eq t.isLt (show cfg0.N = 32 from N_0)
    show s.val * 256 + k.val = (32 * (t.val / 32) + s.val) * 256 + k.val
    omega
  all_goals
    refine Fin.sum_mul_add_congr fun s k hl => ?_
    have hk : (⟨s.val * 256 + k.val, hl⟩ : Fin 8192).val = (⟨32 * (t.val / 32) + s.val, point_lt t s⟩ : Fin cfg0.N).val * 256 + k.val := by
      have h := lt_of_lt_of_eq t.isLt (show cfg0.N = 32 from N_0)
      show s.val * 256 + k.val = (32 * (t.val / 32) + s.val) * 256 + k.val
      omega
  · exact term_a m c _ k (y 1) _ hk
  · exact term_b m c _ k (y 1) _ hk

theorem value_s : (dats m 0 c).arrAt 7 cfg0.N = ress m c := by
  refine (dats m 0 c).arrAt_eq_of_covers 7 _ (by decide +kernel) fun t hf y => ?_
  have h7 : t.val % 32 = 31 := (flush0_7 t).mp hf
  blk_simp
  rw [after0_7]
  change S8x2048.Idx at y
  refine (sums m c t h7 y).trans (congrArg _ ?_)
  have e := index_7 t
  rw [eq_ix2 y]
  blk_ext [e]

set_option maxHeartbeats 2000000 in
/-- The call computes what the reference does. -/
theorem algebraic : Cert.algebraic_Kernel15Ideal_Reference15Ideal := by
  intro m g m' g' _ hagree
  refine ⟨resx m, resm m, ress m, ?_, ?_⟩
  · exact (θ_run defs _ _).mono (fun r h c => ⟨(h c).1.trans (value_x m c), (h c).2.1.trans (value_m m c), (h c).2.2.1.trans (value_s m c), (h c).2.2.2⟩)
      (Value.run_blocks m g)
  · refine (θ_run Cert.Reference15Ideal.defs _ _).mono (fun r h c => ⟨(h c).1.trans ?_, (h c).2.1.trans ?_, (h c).2.2.1.trans ?_, (h c).2.2.2⟩)
      (Cert.Reference15Ideal.Value.run (F := Ideal) m' g')
    all_goals
      obtain ⟨a0, a1, a2, a3, a4⟩ := hagree c
    · unfold Cert.Reference15Ideal.Value.res_main_v51
      rw [a0, a1, a2, a3, a4]
      funext y
      obtain ⟨i, j, rfl⟩ : ∃ (i : Fin 8192) (j : Fin 2048), y = ix2 i j := ⟨y 0, y 1, eq_ix2 y⟩
      refine Eq.trans ?_ (dr_rule _ _ _ _ _ i j)
      unfold rule tail err root mean mix
      pointwise []
    · unfold Cert.Reference15Ideal.Value.res_main_v78
      rw [a0, a1, a2, a3, a4]
      funext y
      obtain ⟨i, j, rfl⟩ : ∃ (i : Fin 8192) (j : Fin 2048), y = ix2 i j := ⟨y 0, y 1, eq_ix2 y⟩
      refine Eq.trans ?_ (congrArg (fun a : EReal => _ * a) (dr_rule _ _ _ _ _ i j))
      unfold rule tail err root mean mix
      pointwise []
    · unfold Cert.Reference15Ideal.Value.res_main_v80
      rw [a0, a1, a2, a3, a4]
      funext y
      obtain ⟨i, j, rfl⟩ : ∃ (i : Fin 8) (j : Fin 2048), y = ix2 i j := ⟨y 0, y 1, eq_ix2 y⟩
      unfold ress outs row termA termB termC
      fin_cases i <;> pointwise []
      · refine Finset.sum_congr rfl fun k _ => ?_
        rw [dy, ← share, mul_comm]
        rfl
      · refine Finset.sum_congr rfl fun k _ => congrArg (fun a : EReal => a * _) (Eq.trans ?_ (dr_rule _ _ _ _ _ k j))
        unfold rule tail err root mean mix
        pointwise []
      · rfl

/-- The reference's frame -/
theorem frame_reference : Cert.quiescent_Reference15Ideal := fun m ρ _ =>
  (θ_run Cert.Reference15Ideal.defs _ _).mono (fun r h => ⟨fun c => (h c).2.2.2, Idealize.ShloMosaic.sem_eq_zero_of_no_sems (by decide) r.2⟩)
    (Cert.Reference15Ideal.Value.run (F := Ideal) m ρ)

end Cert.Prod15
end
-- ==== Proof.Adam.lean ====
module

public import Idealize.ShloMosaic.Lib.Pointwise
public import Idealize.ShloMosaic.Lib.Pipeline.ValueKit.Geometry

/-!
# The optimiser's step on one element

From a gradient, a weight and the two moments: the new moments, and what the weight changes by.
-/

@[expose] public section

noncomputable section
namespace Cert.Adam

open Idealize.ShloMosaic

/-- The constant of a word -/
abbrev word (b : BitVec 32) : EReal := (Scalar.ofBits .f32 b : Ideal .f32)

/-- The new first moment -/
def first (g m : EReal) : EReal := word 0x3F666666#32 * m + word 0x3DCCCCCD#32 * g

/-- The new second moment -/
def second (g v : EReal) : EReal := word 0x3F7FBE77#32 * v + word 0x3A83126F#32 * (g * g)

/-- The change of the weight -/
def delta (g w m v : EReal) : EReal :=
  word 0xBA83126F#32 * (Ideal.div (Ideal.div (first g m) (word 0x3F26BD02#32))
    (Ideal.sqrt (Ideal.div (second g v) (word 0x3C231ACC#32)) + word 0x322BCC77#32) + word 0x3C23D70A#32 * w)

end Cert.Adam
-- ==== Proof.Prod16.lean ====
module

public import proofs.«01_k».proof.Defs
public import proofs.«01_k».proof.Proof.Adam
public import proofs.«01_k».proof.Proof.Gen.Kernel16Ideal.Value
public import proofs.«01_k».proof.Proof.Gen.Reference16Ideal.Run
public import Idealize.ShloMosaic.Lib.Pointwise
public import Idealize.ShloMosaic.Lib.Pipeline.ValueKit.Geometry
public import Idealize.ShloMosaic.Lib.Pipeline.ValueKit.Acc

/-!
# The optimiser's step on the gate's and the up projection's weights

Each grid step takes one block of the received parts, adds them, and steps the block's weights.
-/

@[expose] public section

set_option maxRecDepth 16384

noncomputable section
namespace Cert.Prod16

open Idealize.ShloMosaic Idealize.ShloMosaic.TcCoe Idealize.SL.Sem Cert.Kernel16Ideal Cert.Kernel16Ideal.Gen Cert.Adam

theorem pay_first (g a : FVec Ideal S704x512 .f32) (i : Fin 704) (j : Fin 512) :
    (k0_pay1 (F := Ideal) g a (ix2 i j) : EReal) = first (g (ix2 i j)) (a (ix2 i j)) := by
  unfold first
  pointwise [k0_pay1]

theorem pay_second (g a : FVec Ideal S704x512 .f32) (i : Fin 704) (j : Fin 512) :
    (k0_pay2 (F := Ideal) g a (ix2 i j) : EReal) = second (g (ix2 i j)) (a (ix2 i j)) := by
  unfold second
  pointwise [k0_pay2]

theorem pay_delta (g a b w : FVec Ideal S704x512 .f32) (i : Fin 704) (j : Fin 512) :
    (k0_pay3 (F := Ideal) g a b w (ix2 i j) : EReal) = delta (g (ix2 i j)) (w (ix2 i j)) (a (ix2 i j)) (b (ix2 i j)) := by
  unfold delta first second
  pointwise [k0_pay3, k0_pay1, k0_pay2]

theorem index_0 : ∀ t : Fin cfg0.N, win0_0.index t = ![0, 0, t.val] := by decide +kernel
theorem index_1 : ∀ t : Fin cfg0.N, win0_1.index t = ![0, t.val] := by decide +kernel
theorem index_2 : ∀ t : Fin cfg0.N, win0_2.index t = ![0, t.val] := by decide +kernel
theorem index_3 : ∀ t : Fin cfg0.N, win0_3.index t = ![0, t.val] := by decide +kernel
theorem index_4 : ∀ t : Fin cfg0.N, win0_4.index t = ![0, t.val] := by decide +kernel
theorem index_5 : ∀ t : Fin cfg0.N, win0_5.index t = ![0, t.val] := by decide +kernel
theorem index_6 : ∀ t : Fin cfg0.N, win0_6.index t = ![0, t.val] := by decide +kernel
theorem index_7 : ∀ t : Fin cfg0.N, win0_7.index t = ![0, t.val] := by decide +kernel

variable (m : (ℓ : Loc nD τ sig) → Buf (Elt Ideal) ℓ) (c : Dev nD)

/-- The arguments that the memory holds, and the results of them -/
abbrev weight : FVec Ideal S704x2048 .f32 := m ((c.tc : Thread nD τ).loc main_arg1)
abbrev old_first : FVec Ideal S704x2048 .f32 := m ((c.tc : Thread nD τ).loc main_arg2)
abbrev old_second : FVec Ideal S704x2048 .f32 := m ((c.tc : Thread nD τ).loc main_arg3)
def grad : FVec Ideal S704x2048 .f32 := fun y => ∑ k : Fin 8, (m ((c.tc : Thread nD τ).loc main_arg0) : FVec Ideal S8x704x2048 .bf16) (ix3 k (y 0) (y 1))
abbrev new_first : FVec Ideal S704x2048 .f32 := fun y => first (grad m c y) (old_first m c y)
abbrev new_second : FVec Ideal S704x2048 .f32 := fun y => second (grad m c y) (old_second m c y)
abbrev change : FVec Ideal S704x2048 .f32 := fun y => delta (grad m c y) (weight m c y) (old_first m c y) (old_second m c y)

/-- The blocks that the body reads are blocks of them. -/
theorem tile_weight (t : Fin cfg0.N) (i : Fin 704) (j : Fin 512) (y : S704x2048.Idx)
    (h0 : (y 0).val = i.val) (h1 : (y 1).val = t.val * 512 + j.val) :
    iblk m c 1 t (ix2 i j) = weight m c y := by
  have e := index_1 t
  rw [weight, ← V_main_arg1 m c]
  blk_simp [iblk]
  refine congrArg _ ?_
  blk_ext [e, h0, h1]

theorem tile_first (t : Fin cfg0.N) (i : Fin 704) (j : Fin 512) (y : S704x2048.Idx)
    (h0 : (y 0).val = i.val) (h1 : (y 1).val = t.val * 512 + j.val) :
    iblk m c 2 t (ix2 i j) = old_first m c y := by
  have e := index_2 t
  rw [old_first, ← V_main_arg2 m c]
  blk_simp [iblk]
  refine congrArg _ ?_
  blk_ext [e, h0, h1]

theorem tile_second (t : Fin cfg0.N) (i : Fin 704) (j : Fin 512) (y : S704x2048.Idx)
    (h0 : (y 0).val = i.val) (h1 : (y 1).val = t.val * 512 + j.val) :
    iblk m c 3 t (ix2 i j) = old_second m c y := by
  have e := index_3 t
  rw [old_second, ← V_main_arg3 m c]
  blk_simp [iblk]
  refine congrArg _ ?_
  blk_ext [e, h0, h1]

theorem tile_part (k : Fin 8) (t : Fin cfg0.N) (i : Fin 704) (j : Fin 512) (y : S704x2048.Idx)
    (h0 : (y 0).val = i.val) (h1 : (y 1).val = t.val * 512 + j.val) :
    iblk m c 0 t (ix3 k i j) = (m ((c.tc : Thread nD τ).loc main_arg0) : FVec Ideal S8x704x2048 .bf16) (ix3 k (y 0) (y 1)) := by
  have e := index_0 t
  rw [← V_main_arg0 m c]
  blk_simp [iblk]
  refine congrArg _ ?_
  blk_ext [e, h0, h1]

theorem tile_grad (t : Fin cfg0.N) (i : Fin 704) (j : Fin 512) (y : S704x2048.Idx)
    (h0 : (y 0).val = i.val) (h1 : (y 1).val = t.val * 512 + j.val) :
    k0_pay5 (iblk m c 0 t) (iblk m c 1 t) (iblk m c 2 t) (iblk m c 3 t) (ix2 i j) = grad m c y := by
  unfold grad k0_pay5
  simp only [← tile_part m c _ t i j y h0 h1]
  rw [Fin.sum_univ_eight]
  pointwise [k0_pay4]

/-- The kernel's result arrays hold them after the run. -/
theorem value_grad : (dats m 0 c).arrAt 4 cfg0.N = grad m c := by
  refine (dats m 0 c).arrAt_eq_of_covers 4 _ (by decide +kernel) fun t hf y => ?_
  blk_simp
  rw [after0_4]
  frame_out
  change S704x512.Idx at y
  obtain ⟨i, j, rfl⟩ : ∃ (i : Fin 704) (j : Fin 512), y = ix2 i j := ⟨y 0, y 1, eq_ix2 y⟩
  have e := index_4 t
  exact tile_grad m c t i j _ (by blk_simp [e]) (by blk_simp [e])

theorem value_change : (dats m 0 c).arrAt 5 cfg0.N = change m c := by
  refine (dats m 0 c).arrAt_eq_of_covers 5 _ (by decide +kernel) fun t hf y => ?_
  blk_simp
  rw [after0_5]
  frame_out
  change S704x512.Idx at y
  obtain ⟨i, j, rfl⟩ : ∃ (i : Fin 704) (j : Fin 512), y = ix2 i j := ⟨y 0, y 1, eq_ix2 y⟩
  have e := index_5 t
  exact (pay_delta _ _ _ _ i j).trans (congr (congr (congrArg₂ delta (tile_grad m c t i j _ (by blk_simp [e]) (by blk_simp [e])) (tile_weight m c t i j _ (by blk_simp [e]) (by blk_simp [e]))) (tile_first m c t i j _ (by blk_simp [e]) (by blk_simp [e]))) (tile_second m c t i j _ (by blk_simp [e]) (by blk_simp [e])))

theorem value_first : (dats m 0 c).arrAt 6 cfg0.N = new_first m c := by
  refine (dats m 0 c).arrAt_eq_of_covers 6 _ (by decide +kernel) fun t hf y => ?_
  blk_simp
  rw [after0_6]
  frame_out
  change S704x512.Idx at y
  obtain ⟨i, j, rfl⟩ : ∃ (i : Fin 704) (j : Fin 512), y = ix2 i j := ⟨y 0, y 1, eq_ix2 y⟩
  have e := index_6 t
  exact (pay_first _ _ i j).trans (congrArg₂ first (tile_grad m c t i j _ (by blk_simp [e]) (by blk_simp [e])) (tile_first m c t i j _ (by blk_simp [e]) (by blk_simp [e])))

theorem value_second : (dats m 0 c).arrAt 7 cfg0.N = new_second m c := by
  refine (dats m 0 c).arrAt_eq_of_covers 7 _ (by decide +kernel) fun t hf y => ?_
  blk_simp
  rw [after0_7]
  frame_out
  change S704x512.Idx at y
  obtain ⟨i, j, rfl⟩ : ∃ (i : Fin 704) (j : Fin 512), y = ix2 i j := ⟨y 0, y 1, eq_ix2 y⟩
  have e := index_7 t
  exact (pay_second _ _ i j).trans (congrArg₂ second (tile_grad m c t i j _ (by blk_simp [e]) (by blk_simp [e])) (tile_second m c t i j _ (by blk_simp [e]) (by blk_simp [e])))

/-- The call computes what the reference does. -/
theorem algebraic : Cert.algebraic_Kernel16Ideal_Reference16Ideal := by
  intro m g m' g' _ hagree
  refine ⟨grad m, change m, new_first m, new_second m, ?_, ?_⟩
  · exact (θ_run defs _ _).mono (fun r h c => ⟨(h c).1.trans (value_grad m c), (h c).2.1.trans (value_change m c), (h c).2.2.1.trans (value_first m c), (h c).2.2.2.1.trans (value_second m c), (h c).2.2.2.2⟩)
      (Value.run_blocks m g)
  · refine (θ_run Cert.Reference16Ideal.defs _ _).mono (fun r h c => ⟨(h c).1.trans ?_, (h c).2.1.trans ?_, (h c).2.2.1.trans ?_, (h c).2.2.2.1.trans ?_, (h c).2.2.2.2⟩)
      (Cert.Reference16Ideal.Value.run (F := Ideal) m' g')
    all_goals
      simp only [(hagree c).1, (hagree c).2.1, (hagree c).2.2.1, (hagree c).2.2.2]
      funext y
      rw [eq_ix2 y]
      try unfold change
      try unfold new_first
      try unfold new_second
      try unfold delta
      try unfold first
      try unfold second
      unfold grad
      pointwise []

/-- The reference's frame -/
theorem frame_reference : Cert.quiescent_Reference16Ideal := fun m ρ _ =>
  (θ_run Cert.Reference16Ideal.defs _ _).mono (fun r h => ⟨fun c => (h c).2.2.2.2, Idealize.ShloMosaic.sem_eq_zero_of_no_sems (by decide) r.2⟩)
    (Cert.Reference16Ideal.Value.run (F := Ideal) m ρ)

end Cert.Prod16
-- ==== Proof.Prod17.lean ====
module

public import proofs.«01_k».proof.Defs
public import proofs.«01_k».proof.Proof.Adam
public import proofs.«01_k».proof.Proof.Gen.Kernel17Ideal.Value
public import proofs.«01_k».proof.Proof.Gen.Reference17Ideal.Run
public import Idealize.ShloMosaic.Lib.Pointwise
public import Idealize.ShloMosaic.Lib.Pipeline.ValueKit.Geometry
public import Idealize.ShloMosaic.Lib.Pipeline.ValueKit.Acc

/-!
# The optimiser's step on the down projection's weights

Each grid step takes one block of the received parts, adds them, and steps the block's weights.
-/

@[expose] public section

set_option maxRecDepth 16384

noncomputable section
namespace Cert.Prod17

open Idealize.ShloMosaic Idealize.ShloMosaic.TcCoe Idealize.SL.Sem Cert.Kernel17Ideal Cert.Kernel17Ideal.Gen Cert.Adam

theorem pay_first (g a : FVec Ideal S176x2048 .f32) (i : Fin 176) (j : Fin 2048) :
    (k0_pay1 (F := Ideal) g a (ix2 i j) : EReal) = first (g (ix2 i j)) (a (ix2 i j)) := by
  unfold first
  pointwise [k0_pay1]

theorem pay_second (g a : FVec Ideal S176x2048 .f32) (i : Fin 176) (j : Fin 2048) :
    (k0_pay2 (F := Ideal) g a (ix2 i j) : EReal) = second (g (ix2 i j)) (a (ix2 i j)) := by
  unfold second
  pointwise [k0_pay2]

theorem pay_delta (g a b w : FVec Ideal S176x2048 .f32) (i : Fin 176) (j : Fin 2048) :
    (k0_pay3 (F := Ideal) g a b w (ix2 i j) : EReal) = delta (g (ix2 i j)) (w (ix2 i j)) (a (ix2 i j)) (b (ix2 i j)) := by
  unfold delta first second
  pointwise [k0_pay3, k0_pay1, k0_pay2]

theorem index_0 : ∀ t : Fin cfg0.N, win0_0.index t = ![0, t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![t.val, 0] := by decide +kernel

variable (m : (ℓ : Loc nD τ sig) → Buf (Elt Ideal) ℓ) (c : Dev nD)

/-- The arguments that the memory holds, and the results of them -/
abbrev weight : FVec Ideal S704x2048 .f32 := m ((c.tc : Thread nD τ).loc main_arg1)
abbrev old_first : FVec Ideal S704x2048 .f32 := m ((c.tc : Thread nD τ).loc main_arg2)
abbrev old_second : FVec Ideal S704x2048 .f32 := m ((c.tc : Thread nD τ).loc main_arg3)
def grad : FVec Ideal S704x2048 .f32 := fun y => ∑ k : Fin 8, (m ((c.tc : Thread nD τ).loc main_arg0) : FVec Ideal S8x704x2048 .bf16) (ix3 k (y 0) (y 1))
abbrev new_first : FVec Ideal S704x2048 .f32 := fun y => first (grad m c y) (old_first m c y)
abbrev new_second : FVec Ideal S704x2048 .f32 := fun y => second (grad m c y) (old_second m c y)
abbrev change : FVec Ideal S704x2048 .f32 := fun y => delta (grad m c y) (weight m c y) (old_first m c y) (old_second m c y)

/-- The blocks that the body reads are blocks of them. -/
theorem tile_weight (t : Fin cfg0.N) (i : Fin 176) (j : Fin 2048) (y : S704x2048.Idx)
    (h0 : (y 0).val = t.val * 176 + i.val) (h1 : (y 1).val = j.val) :
    iblk m c 1 t (ix2 i j) = weight m c y := by
  have e := index_1 t
  rw [weight, ← V_main_arg1 m c]
  blk_simp [iblk]
  refine congrArg _ ?_
  blk_ext [e, h0, h1]

theorem tile_first (t : Fin cfg0.N) (i : Fin 176) (j : Fin 2048) (y : S704x2048.Idx)
    (h0 : (y 0).val = t.val * 176 + i.val) (h1 : (y 1).val = j.val) :
    iblk m c 2 t (ix2 i j) = old_first m c y := by
  have e := index_2 t
  rw [old_first, ← V_main_arg2 m c]
  blk_simp [iblk]
  refine congrArg _ ?_
  blk_ext [e, h0, h1]

theorem tile_second (t : Fin cfg0.N) (i : Fin 176) (j : Fin 2048) (y : S704x2048.Idx)
    (h0 : (y 0).val = t.val * 176 + i.val) (h1 : (y 1).val = j.val) :
    iblk m c 3 t (ix2 i j) = old_second m c y := by
  have e := index_3 t
  rw [old_second, ← V_main_arg3 m c]
  blk_simp [iblk]
  refine congrArg _ ?_
  blk_ext [e, h0, h1]

theorem tile_part (k : Fin 8) (t : Fin cfg0.N) (i : Fin 176) (j : Fin 2048) (y : S704x2048.Idx)
    (h0 : (y 0).val = t.val * 176 + i.val) (h1 : (y 1).val = j.val) :
    iblk m c 0 t (ix3 k i j) = (m ((c.tc : Thread nD τ).loc main_arg0) : FVec Ideal S8x704x2048 .bf16) (ix3 k (y 0) (y 1)) := by
  have e := index_0 t
  rw [← V_main_arg0 m c]
  blk_simp [iblk]
  refine congrArg _ ?_
  blk_ext [e, h0, h1]

theorem tile_grad (t : Fin cfg0.N) (i : Fin 176) (j : Fin 2048) (y : S704x2048.Idx)
    (h0 : (y 0).val = t.val * 176 + i.val) (h1 : (y 1).val = j.val) :
    k0_pay5 (iblk m c 0 t) (iblk m c 1 t) (iblk m c 2 t) (iblk m c 3 t) (ix2 i j) = grad m c y := by
  unfold grad k0_pay5
  simp only [← tile_part m c _ t i j y h0 h1]
  rw [Fin.sum_univ_eight]
  pointwise [k0_pay4]

/-- The kernel's result arrays hold them after the run. -/
theorem value_grad : (dats m 0 c).arrAt 4 cfg0.N = grad m c := by
  refine (dats m 0 c).arrAt_eq_of_covers 4 _ (by decide +kernel) fun t hf y => ?_
  blk_simp
  rw [after0_4]
  frame_out
  change S176x2048.Idx at y
  obtain ⟨i, j, rfl⟩ : ∃ (i : Fin 176) (j : Fin 2048), y = ix2 i j := ⟨y 0, y 1, eq_ix2 y⟩
  have e := index_4 t
  exact tile_grad m c t i j _ (by blk_simp [e]) (by blk_simp [e])

theorem value_change : (dats m 0 c).arrAt 5 cfg0.N = change m c := by
  refine (dats m 0 c).arrAt_eq_of_covers 5 _ (by decide +kernel) fun t hf y => ?_
  blk_simp
  rw [after0_5]
  frame_out
  change S176x2048.Idx at y
  obtain ⟨i, j, rfl⟩ : ∃ (i : Fin 176) (j : Fin 2048), y = ix2 i j := ⟨y 0, y 1, eq_ix2 y⟩
  have e := index_5 t
  exact (pay_delta _ _ _ _ i j).trans (congr (congr (congrArg₂ delta (tile_grad m c t i j _ (by blk_simp [e]) (by blk_simp [e])) (tile_weight m c t i j _ (by blk_simp [e]) (by blk_simp [e]))) (tile_first m c t i j _ (by blk_simp [e]) (by blk_simp [e]))) (tile_second m c t i j _ (by blk_simp [e]) (by blk_simp [e])))

theorem value_first : (dats m 0 c).arrAt 6 cfg0.N = new_first m c := by
  refine (dats m 0 c).arrAt_eq_of_covers 6 _ (by decide +kernel) fun t hf y => ?_
  blk_simp
  rw [after0_6]
  frame_out
  change S176x2048.Idx at y
  obtain ⟨i, j, rfl⟩ : ∃ (i : Fin 176) (j : Fin 2048), y = ix2 i j := ⟨y 0, y 1, eq_ix2 y⟩
  have e := index_6 t
  exact (pay_first _ _ i j).trans (congrArg₂ first (tile_grad m c t i j _ (by blk_simp [e]) (by blk_simp [e])) (tile_first m c t i j _ (by blk_simp [e]) (by blk_simp [e])))

theorem value_second : (dats m 0 c).arrAt 7 cfg0.N = new_second m c := by
  refine (dats m 0 c).arrAt_eq_of_covers 7 _ (by decide +kernel) fun t hf y => ?_
  blk_simp
  rw [after0_7]
  frame_out
  change S176x2048.Idx at y
  obtain ⟨i, j, rfl⟩ : ∃ (i : Fin 176) (j : Fin 2048), y = ix2 i j := ⟨y 0, y 1, eq_ix2 y⟩
  have e := index_7 t
  exact (pay_second _ _ i j).trans (congrArg₂ second (tile_grad m c t i j _ (by blk_simp [e]) (by blk_simp [e])) (tile_second m c t i j _ (by blk_simp [e]) (by blk_simp [e])))

/-- The call computes what the reference does. -/
theorem algebraic : Cert.algebraic_Kernel17Ideal_Reference17Ideal := by
  intro m g m' g' _ hagree
  refine ⟨grad m, change m, new_first m, new_second m, ?_, ?_⟩
  · exact (θ_run defs _ _).mono (fun r h c => ⟨(h c).1.trans (value_grad m c), (h c).2.1.trans (value_change m c), (h c).2.2.1.trans (value_first m c), (h c).2.2.2.1.trans (value_second m c), (h c).2.2.2.2⟩)
      (Value.run_blocks m g)
  · refine (θ_run Cert.Reference17Ideal.defs _ _).mono (fun r h c => ⟨(h c).1.trans ?_, (h c).2.1.trans ?_, (h c).2.2.1.trans ?_, (h c).2.2.2.1.trans ?_, (h c).2.2.2.2⟩)
      (Cert.Reference17Ideal.Value.run (F := Ideal) m' g')
    all_goals
      simp only [(hagree c).1, (hagree c).2.1, (hagree c).2.2.1, (hagree c).2.2.2]
      funext y
      rw [eq_ix2 y]
      try unfold change
      try unfold new_first
      try unfold new_second
      try unfold delta
      try unfold first
      try unfold second
      unfold grad
      pointwise []

/-- The reference's frame -/
theorem frame_reference : Cert.quiescent_Reference17Ideal := fun m ρ _ =>
  (θ_run Cert.Reference17Ideal.defs _ _).mono (fun r h => ⟨fun c => (h c).2.2.2.2, Idealize.ShloMosaic.sem_eq_zero_of_no_sems (by decide) r.2⟩)
    (Cert.Reference17Ideal.Value.run (F := Ideal) m ρ)

end Cert.Prod17
-- ==== Proof.Prod18.lean ====
module

public import proofs.«01_k».proof.Defs
public import proofs.«01_k».proof.Proof.Adam
public import proofs.«01_k».proof.Proof.Gen.Kernel18Ideal.Value
public import proofs.«01_k».proof.Proof.Gen.Reference18Ideal.Run
public import Idealize.ShloMosaic.Lib.Pointwise
public import Idealize.ShloMosaic.Lib.Pipeline.ValueKit.Geometry
public import Idealize.ShloMosaic.Lib.Pipeline.ValueKit.Acc

/-!
# The optimiser's step on the input projection's weights

Each grid step takes one block of the received parts, adds them, and steps the block's weights.
-/

@[expose] public section

set_option maxRecDepth 16384

noncomputable section
namespace Cert.Prod18

open Idealize.ShloMosaic Idealize.ShloMosaic.TcCoe Idealize.SL.Sem Cert.Kernel18Ideal Cert.Kernel18Ideal.Gen Cert.Adam

theorem pay_first (g a : FVec Ideal S706x512 .f32) (i : Fin 706) (j : Fin 512) :
    (k0_pay1 (F := Ideal) g a (ix2 i j) : EReal) = first (g (ix2 i j)) (a (ix2 i j)) := by
  unfold first
  pointwise [k0_pay1]

theorem pay_second (g a : FVec Ideal S706x512 .f32) (i : Fin 706) (j : Fin 512) :
    (k0_pay2 (F := Ideal) g a (ix2 i j) : EReal) = second (g (ix2 i j)) (a (ix2 i j)) := by
  unfold second
  pointwise [k0_pay2]

theorem pay_delta (g a b w : FVec Ideal S706x512 .f32) (i : Fin 706) (j : Fin 512) :
    (k0_pay3 (F := Ideal) g a b w (ix2 i j) : EReal) = delta (g (ix2 i j)) (w (ix2 i j)) (a (ix2 i j)) (b (ix2 i j)) := by
  unfold delta first second
  pointwise [k0_pay3, k0_pay1, k0_pay2]

theorem index_0 : ∀ t : Fin cfg0.N, win0_0.index t = ![0, 0, t.val] := by decide +kernel
theorem index_1 : ∀ t : Fin cfg0.N, win0_1.index t = ![0, t.val] := by decide +kernel
theorem index_2 : ∀ t : Fin cfg0.N, win0_2.index t = ![0, t.val] := by decide +kernel
theorem index_3 : ∀ t : Fin cfg0.N, win0_3.index t = ![0, t.val] := by decide +kernel
theorem index_4 : ∀ t : Fin cfg0.N, win0_4.index t = ![0, t.val] := by decide +kernel
theorem index_5 : ∀ t : Fin cfg0.N, win0_5.index t = ![0, t.val] := by decide +kernel
theorem index_6 : ∀ t : Fin cfg0.N, win0_6.index t = ![0, t.val] := by decide +kernel
theorem index_7 : ∀ t : Fin cfg0.N, win0_7.index t = ![0, t.val] := by decide +kernel

variable (m : (ℓ : Loc nD τ sig) → Buf (Elt Ideal) ℓ) (c : Dev nD)

/-- The arguments that the memory holds, and the results of them -/
abbrev weight : FVec Ideal S706x2048 .f32 := m ((c.tc : Thread nD τ).loc main_arg1)
abbrev old_first : FVec Ideal S706x2048 .f32 := m ((c.tc : Thread nD τ).loc main_arg2)
abbrev old_second : FVec Ideal S706x2048 .f32 := m ((c.tc : Thread nD τ).loc main_arg3)
def grad : FVec Ideal S706x2048 .f32 := fun y => ∑ k : Fin 8, (m ((c.tc : Thread nD τ).loc main_arg0) : FVec Ideal S8x706x2048 .bf16) (ix3 k (y 0) (y 1))
abbrev new_first : FVec Ideal S706x2048 .f32 := fun y => first (grad m c y) (old_first m c y)
abbrev new_second : FVec Ideal S706x2048 .f32 := fun y => second (grad m c y) (old_second m c y)
abbrev change : FVec Ideal S706x2048 .f32 := fun y => delta (grad m c y) (weight m c y) (old_first m c y) (old_second m c y)

/-- The blocks that the body reads are blocks of them. -/
theorem tile_weight (t : Fin cfg0.N) (i : Fin 706) (j : Fin 512) (y : S706x2048.Idx)
    (h0 : (y 0).val = i.val) (h1 : (y 1).val = t.val * 512 + j.val) :
    iblk m c 1 t (ix2 i j) = weight m c y := by
  have e := index_1 t
  rw [weight, ← V_main_arg1 m c]
  blk_simp [iblk]
  refine congrArg _ ?_
  blk_ext [e, h0, h1]

theorem tile_first (t : Fin cfg0.N) (i : Fin 706) (j : Fin 512) (y : S706x2048.Idx)
    (h0 : (y 0).val = i.val) (h1 : (y 1).val = t.val * 512 + j.val) :
    iblk m c 2 t (ix2 i j) = old_first m c y := by
  have e := index_2 t
  rw [old_first, ← V_main_arg2 m c]
  blk_simp [iblk]
  refine congrArg _ ?_
  blk_ext [e, h0, h1]

theorem tile_second (t : Fin cfg0.N) (i : Fin 706) (j : Fin 512) (y : S706x2048.Idx)
    (h0 : (y 0).val = i.val) (h1 : (y 1).val = t.val * 512 + j.val) :
    iblk m c 3 t (ix2 i j) = old_second m c y := by
  have e := index_3 t
  rw [old_second, ← V_main_arg3 m c]
  blk_simp [iblk]
  refine congrArg _ ?_
  blk_ext [e, h0, h1]

theorem tile_part (k : Fin 8) (t : Fin cfg0.N) (i : Fin 706) (j : Fin 512) (y : S706x2048.Idx)
    (h0 : (y 0).val = i.val) (h1 : (y 1).val = t.val * 512 + j.val) :
    iblk m c 0 t (ix3 k i j) = (m ((c.tc : Thread nD τ).loc main_arg0) : FVec Ideal S8x706x2048 .bf16) (ix3 k (y 0) (y 1)) := by
  have e := index_0 t
  rw [← V_main_arg0 m c]
  blk_simp [iblk]
  refine congrArg _ ?_
  blk_ext [e, h0, h1]

theorem tile_grad (t : Fin cfg0.N) (i : Fin 706) (j : Fin 512) (y : S706x2048.Idx)
    (h0 : (y 0).val = i.val) (h1 : (y 1).val = t.val * 512 + j.val) :
    k0_pay5 (iblk m c 0 t) (iblk m c 1 t) (iblk m c 2 t) (iblk m c 3 t) (ix2 i j) = grad m c y := by
  unfold grad k0_pay5
  simp only [← tile_part m c _ t i j y h0 h1]
  rw [Fin.sum_univ_eight]
  pointwise [k0_pay4]

/-- The kernel's result arrays hold them after the run. -/
theorem value_grad : (dats m 0 c).arrAt 4 cfg0.N = grad m c := by
  refine (dats m 0 c).arrAt_eq_of_covers 4 _ (by decide +kernel) fun t hf y => ?_
  blk_simp
  rw [after0_4]
  frame_out
  change S706x512.Idx at y
  obtain ⟨i, j, rfl⟩ : ∃ (i : Fin 706) (j : Fin 512), y = ix2 i j := ⟨y 0, y 1, eq_ix2 y⟩
  have e := index_4 t
  exact tile_grad m c t i j _ (by blk_simp [e]) (by blk_simp [e])

theorem value_change : (dats m 0 c).arrAt 5 cfg0.N = change m c := by
  refine (dats m 0 c).arrAt_eq_of_covers 5 _ (by decide +kernel) fun t hf y => ?_
  blk_simp
  rw [after0_5]
  frame_out
  change S706x512.Idx at y
  obtain ⟨i, j, rfl⟩ : ∃ (i : Fin 706) (j : Fin 512), y = ix2 i j := ⟨y 0, y 1, eq_ix2 y⟩
  have e := index_5 t
  exact (pay_delta _ _ _ _ i j).trans (congr (congr (congrArg₂ delta (tile_grad m c t i j _ (by blk_simp [e]) (by blk_simp [e])) (tile_weight m c t i j _ (by blk_simp [e]) (by blk_simp [e]))) (tile_first m c t i j _ (by blk_simp [e]) (by blk_simp [e]))) (tile_second m c t i j _ (by blk_simp [e]) (by blk_simp [e])))

theorem value_first : (dats m 0 c).arrAt 6 cfg0.N = new_first m c := by
  refine (dats m 0 c).arrAt_eq_of_covers 6 _ (by decide +kernel) fun t hf y => ?_
  blk_simp
  rw [after0_6]
  frame_out
  change S706x512.Idx at y
  obtain ⟨i, j, rfl⟩ : ∃ (i : Fin 706) (j : Fin 512), y = ix2 i j := ⟨y 0, y 1, eq_ix2 y⟩
  have e := index_6 t
  exact (pay_first _ _ i j).trans (congrArg₂ first (tile_grad m c t i j _ (by blk_simp [e]) (by blk_simp [e])) (tile_first m c t i j _ (by blk_simp [e]) (by blk_simp [e])))

theorem value_second : (dats m 0 c).arrAt 7 cfg0.N = new_second m c := by
  refine (dats m 0 c).arrAt_eq_of_covers 7 _ (by decide +kernel) fun t hf y => ?_
  blk_simp
  rw [after0_7]
  frame_out
  change S706x512.Idx at y
  obtain ⟨i, j, rfl⟩ : ∃ (i : Fin 706) (j : Fin 512), y = ix2 i j := ⟨y 0, y 1, eq_ix2 y⟩
  have e := index_7 t
  exact (pay_second _ _ i j).trans (congrArg₂ second (tile_grad m c t i j _ (by blk_simp [e]) (by blk_simp [e])) (tile_second m c t i j _ (by blk_simp [e]) (by blk_simp [e])))

/-- The call computes what the reference does. -/
theorem algebraic : Cert.algebraic_Kernel18Ideal_Reference18Ideal := by
  intro m g m' g' _ hagree
  refine ⟨grad m, change m, new_first m, new_second m, ?_, ?_⟩
  · exact (θ_run defs _ _).mono (fun r h c => ⟨(h c).1.trans (value_grad m c), (h c).2.1.trans (value_change m c), (h c).2.2.1.trans (value_first m c), (h c).2.2.2.1.trans (value_second m c), (h c).2.2.2.2⟩)
      (Value.run_blocks m g)
  · refine (θ_run Cert.Reference18Ideal.defs _ _).mono (fun r h c => ⟨(h c).1.trans ?_, (h c).2.1.trans ?_, (h c).2.2.1.trans ?_, (h c).2.2.2.1.trans ?_, (h c).2.2.2.2⟩)
      (Cert.Reference18Ideal.Value.run (F := Ideal) m' g')
    all_goals
      simp only [(hagree c).1, (hagree c).2.1, (hagree c).2.2.1, (hagree c).2.2.2]
      funext y
      rw [eq_ix2 y]
      try unfold change
      try unfold new_first
      try unfold new_second
      try unfold delta
      try unfold first
      try unfold second
      unfold grad
      pointwise []

/-- The reference's frame -/
theorem frame_reference : Cert.quiescent_Reference18Ideal := fun m ρ _ =>
  (θ_run Cert.Reference18Ideal.defs _ _).mono (fun r h => ⟨fun c => (h c).2.2.2.2, Idealize.ShloMosaic.sem_eq_zero_of_no_sems (by decide) r.2⟩)
    (Cert.Reference18Ideal.Value.run (F := Ideal) m ρ)

end Cert.Prod18
-- ==== Proof.Prod19.lean ====
module

public import proofs.«01_k».proof.Defs
public import proofs.«01_k».proof.Proof.Adam
public import proofs.«01_k».proof.Proof.Gen.Kernel19Ideal.Value
public import proofs.«01_k».proof.Proof.Gen.Reference19Ideal.Run
public import Idealize.ShloMosaic.Lib.Pointwise
public import Idealize.ShloMosaic.Lib.Pipeline.ValueKit.Geometry
public import Idealize.ShloMosaic.Lib.Pipeline.ValueKit.Acc

/-!
# The optimiser's step on the output projection's weights

Each grid step takes one block of the received parts, adds them, and steps the block's weights.
-/

@[expose] public section

set_option maxRecDepth 16384

noncomputable section
namespace Cert.Prod19

open Idealize.ShloMosaic Idealize.ShloMosaic.TcCoe Idealize.SL.Sem Cert.Kernel19Ideal Cert.Kernel19Ideal.Gen Cert.Adam

theorem pay_first (g a : FVec Ideal S128x2048 .f32) (i : Fin 128) (j : Fin 2048) :
    (k0_pay1 (F := Ideal) g a (ix2 i j) : EReal) = first (g (ix2 i j)) (a (ix2 i j)) := by
  unfold first
  pointwise [k0_pay1]

theorem pay_second (g a : FVec Ideal S128x2048 .f32) (i : Fin 128) (j : Fin 2048) :
    (k0_pay2 (F := Ideal) g a (ix2 i j) : EReal) = second (g (ix2 i j)) (a (ix2 i j)) := by
  unfold second
  pointwise [k0_pay2]

theorem pay_delta (g a b w : FVec Ideal S128x2048 .f32) (i : Fin 128) (j : Fin 2048) :
    (k0_pay3 (F := Ideal) g a b w (ix2 i j) : EReal) = delta (g (ix2 i j)) (w (ix2 i j)) (a (ix2 i j)) (b (ix2 i j)) := by
  unfold delta first second
  pointwise [k0_pay3, k0_pay1, k0_pay2]

theorem index_0 : ∀ t : Fin cfg0.N, win0_0.index t = ![0, t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![t.val, 0] := by decide +kernel

variable (m : (ℓ : Loc nD τ sig) → Buf (Elt Ideal) ℓ) (c : Dev nD)

/-- The arguments that the memory holds, and the results of them -/
abbrev weight : FVec Ideal S256x2048 .f32 := m ((c.tc : Thread nD τ).loc main_arg1)
abbrev old_first : FVec Ideal S256x2048 .f32 := m ((c.tc : Thread nD τ).loc main_arg2)
abbrev old_second : FVec Ideal S256x2048 .f32 := m ((c.tc : Thread nD τ).loc main_arg3)
def grad : FVec Ideal S256x2048 .f32 := fun y => ∑ k : Fin 8, (m ((c.tc : Thread nD τ).loc main_arg0) : FVec Ideal S8x256x2048 .bf16) (ix3 k (y 0) (y 1))
abbrev new_first : FVec Ideal S256x2048 .f32 := fun y => first (grad m c y) (old_first m c y)
abbrev new_second : FVec Ideal S256x2048 .f32 := fun y => second (grad m c y) (old_second m c y)
abbrev change : FVec Ideal S256x2048 .f32 := fun y => delta (grad m c y) (weight m c y) (old_first m c y) (old_second m c y)

/-- The blocks that the body reads are blocks of them. -/
theorem tile_weight (t : Fin cfg0.N) (i : Fin 128) (j : Fin 2048) (y : S256x2048.Idx)
    (h0 : (y 0).val = t.val * 128 + i.val) (h1 : (y 1).val = j.val) :
    iblk m c 1 t (ix2 i j) = weight m c y := by
  have e := index_1 t
  rw [weight, ← V_main_arg1 m c]
  blk_simp [iblk]
  refine congrArg _ ?_
  blk_ext [e, h0, h1]

theorem tile_first (t : Fin cfg0.N) (i : Fin 128) (j : Fin 2048) (y : S256x2048.Idx)
    (h0 : (y 0).val = t.val * 128 + i.val) (h1 : (y 1).val = j.val) :
    iblk m c 2 t (ix2 i j) = old_first m c y := by
  have e := index_2 t
  rw [old_first, ← V_main_arg2 m c]
  blk_simp [iblk]
  refine congrArg _ ?_
  blk_ext [e, h0, h1]

theorem tile_second (t : Fin cfg0.N) (i : Fin 128) (j : Fin 2048) (y : S256x2048.Idx)
    (h0 : (y 0).val = t.val * 128 + i.val) (h1 : (y 1).val = j.val) :
    iblk m c 3 t (ix2 i j) = old_second m c y := by
  have e := index_3 t
  rw [old_second, ← V_main_arg3 m c]
  blk_simp [iblk]
  refine congrArg _ ?_
  blk_ext [e, h0, h1]

theorem tile_part (k : Fin 8) (t : Fin cfg0.N) (i : Fin 128) (j : Fin 2048) (y : S256x2048.Idx)
    (h0 : (y 0).val = t.val * 128 + i.val) (h1 : (y 1).val = j.val) :
    iblk m c 0 t (ix3 k i j) = (m ((c.tc : Thread nD τ).loc main_arg0) : FVec Ideal S8x256x2048 .bf16) (ix3 k (y 0) (y 1)) := by
  have e := index_0 t
  rw [← V_main_arg0 m c]
  blk_simp [iblk]
  refine congrArg _ ?_
  blk_ext [e, h0, h1]

theorem tile_grad (t : Fin cfg0.N) (i : Fin 128) (j : Fin 2048) (y : S256x2048.Idx)
    (h0 : (y 0).val = t.val * 128 + i.val) (h1 : (y 1).val = j.val) :
    k0_pay5 (iblk m c 0 t) (iblk m c 1 t) (iblk m c 2 t) (iblk m c 3 t) (ix2 i j) = grad m c y := by
  unfold grad k0_pay5
  simp only [← tile_part m c _ t i j y h0 h1]
  rw [Fin.sum_univ_eight]
  pointwise [k0_pay4]

/-- The kernel's result arrays hold them after the run. -/
theorem value_grad : (dats m 0 c).arrAt 4 cfg0.N = grad m c := by
  refine (dats m 0 c).arrAt_eq_of_covers 4 _ (by decide +kernel) fun t hf y => ?_
  blk_simp
  rw [after0_4]
  frame_out
  change S128x2048.Idx at y
  obtain ⟨i, j, rfl⟩ : ∃ (i : Fin 128) (j : Fin 2048), y = ix2 i j := ⟨y 0, y 1, eq_ix2 y⟩
  have e := index_4 t
  exact tile_grad m c t i j _ (by blk_simp [e]) (by blk_simp [e])

theorem value_change : (dats m 0 c).arrAt 5 cfg0.N = change m c := by
  refine (dats m 0 c).arrAt_eq_of_covers 5 _ (by decide +kernel) fun t hf y => ?_
  blk_simp
  rw [after0_5]
  frame_out
  change S128x2048.Idx at y
  obtain ⟨i, j, rfl⟩ : ∃ (i : Fin 128) (j : Fin 2048), y = ix2 i j := ⟨y 0, y 1, eq_ix2 y⟩
  have e := index_5 t
  exact (pay_delta _ _ _ _ i j).trans (congr (congr (congrArg₂ delta (tile_grad m c t i j _ (by blk_simp [e]) (by blk_simp [e])) (tile_weight m c t i j _ (by blk_simp [e]) (by blk_simp [e]))) (tile_first m c t i j _ (by blk_simp [e]) (by blk_simp [e]))) (tile_second m c t i j _ (by blk_simp [e]) (by blk_simp [e])))

theorem value_first : (dats m 0 c).arrAt 6 cfg0.N = new_first m c := by
  refine (dats m 0 c).arrAt_eq_of_covers 6 _ (by decide +kernel) fun t hf y => ?_
  blk_simp
  rw [after0_6]
  frame_out
  change S128x2048.Idx at y
  obtain ⟨i, j, rfl⟩ : ∃ (i : Fin 128) (j : Fin 2048), y = ix2 i j := ⟨y 0, y 1, eq_ix2 y⟩
  have e := index_6 t
  exact (pay_first _ _ i j).trans (congrArg₂ first (tile_grad m c t i j _ (by blk_simp [e]) (by blk_simp [e])) (tile_first m c t i j _ (by blk_simp [e]) (by blk_simp [e])))

theorem value_second : (dats m 0 c).arrAt 7 cfg0.N = new_second m c := by
  refine (dats m 0 c).arrAt_eq_of_covers 7 _ (by decide +kernel) fun t hf y => ?_
  blk_simp
  rw [after0_7]
  frame_out
  change S128x2048.Idx at y
  obtain ⟨i, j, rfl⟩ : ∃ (i : Fin 128) (j : Fin 2048), y = ix2 i j := ⟨y 0, y 1, eq_ix2 y⟩
  have e := index_7 t
  exact (pay_second _ _ i j).trans (congrArg₂ second (tile_grad m c t i j _ (by blk_simp [e]) (by blk_simp [e])) (tile_second m c t i j _ (by blk_simp [e]) (by blk_simp [e])))

/-- The call computes what the reference does. -/
theorem algebraic : Cert.algebraic_Kernel19Ideal_Reference19Ideal := by
  intro m g m' g' _ hagree
  refine ⟨grad m, change m, new_first m, new_second m, ?_, ?_⟩
  · exact (θ_run defs _ _).mono (fun r h c => ⟨(h c).1.trans (value_grad m c), (h c).2.1.trans (value_change m c), (h c).2.2.1.trans (value_first m c), (h c).2.2.2.1.trans (value_second m c), (h c).2.2.2.2⟩)
      (Value.run_blocks m g)
  · refine (θ_run Cert.Reference19Ideal.defs _ _).mono (fun r h c => ⟨(h c).1.trans ?_, (h c).2.1.trans ?_, (h c).2.2.1.trans ?_, (h c).2.2.2.1.trans ?_, (h c).2.2.2.2⟩)
      (Cert.Reference19Ideal.Value.run (F := Ideal) m' g')
    all_goals
      simp only [(hagree c).1, (hagree c).2.1, (hagree c).2.2.1, (hagree c).2.2.2]
      funext y
      rw [eq_ix2 y]
      try unfold change
      try unfold new_first
      try unfold new_second
      try unfold delta
      try unfold first
      try unfold second
      unfold grad
      pointwise []

/-- The reference's frame -/
theorem frame_reference : Cert.quiescent_Reference19Ideal := fun m ρ _ =>
  (θ_run Cert.Reference19Ideal.defs _ _).mono (fun r h => ⟨fun c => (h c).2.2.2.2, Idealize.ShloMosaic.sem_eq_zero_of_no_sems (by decide) r.2⟩)
    (Cert.Reference19Ideal.Value.run (F := Ideal) m ρ)

end Cert.Prod19
-- ==== Proof.Prod20.lean ====
module

public import proofs.«01_k».proof.Defs
public import proofs.«01_k».proof.Proof.Adam
public import proofs.«01_k».proof.Proof.Gen.Kernel20Ideal.Value
public import proofs.«01_k».proof.Proof.Gen.Reference20Ideal.Run
public import Idealize.ShloMosaic.Lib.Pointwise
public import Idealize.ShloMosaic.Lib.Pipeline.ValueKit.Geometry
public import Idealize.ShloMosaic.Lib.Pipeline.ValueKit.Acc

/-!
# The optimiser's step on the conditioning's weights

Each grid step takes one block of the gradient, and steps the block's weights.
-/

@[expose] public section

set_option maxRecDepth 16384

noncomputable section
namespace Cert.Prod20

open Idealize.ShloMosaic Idealize.ShloMosaic.TcCoe Idealize.SL.Sem Cert.Kernel20Ideal Cert.Kernel20Ideal.Gen Cert.Adam

theorem pay_first (g a : FVec Ideal S256x1536 .f32) (i : Fin 256) (j : Fin 1536) :
    (k0_pay1 (F := Ideal) g a (ix2 i j) : EReal) = first (g (ix2 i j)) (a (ix2 i j)) := by
  unfold first
  pointwise [k0_pay1]

theorem pay_second (g a : FVec Ideal S256x1536 .f32) (i : Fin 256) (j : Fin 1536) :
    (k0_pay2 (F := Ideal) g a (ix2 i j) : EReal) = second (g (ix2 i j)) (a (ix2 i j)) := by
  unfold second
  pointwise [k0_pay2]

theorem pay_delta (g a b w : FVec Ideal S256x1536 .f32) (i : Fin 256) (j : Fin 1536) :
    (k0_pay3 (F := Ideal) g a b w (ix2 i j) : EReal) = delta (g (ix2 i j)) (w (ix2 i j)) (a (ix2 i j)) (b (ix2 i j)) := by
  unfold delta first second
  pointwise [k0_pay3, k0_pay1, k0_pay2]

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![t.val, 0] := by decide +kernel

variable (m : (ℓ : Loc nD τ sig) → Buf (Elt Ideal) ℓ) (c : Dev nD)

/-- The arguments that the memory holds, and the results of them -/
abbrev weight : FVec Ideal S2048x1536 .f32 := m ((c.tc : Thread nD τ).loc main_arg1)
abbrev old_first : FVec Ideal S2048x1536 .f32 := m ((c.tc : Thread nD τ).loc main_arg2)
abbrev old_second : FVec Ideal S2048x1536 .f32 := m ((c.tc : Thread nD τ).loc main_arg3)
def grad : FVec Ideal S2048x1536 .f32 := m ((c.tc : Thread nD τ).loc main_arg0)
abbrev new_first : FVec Ideal S2048x1536 .f32 := fun y => first (grad m c y) (old_first m c y)
abbrev new_second : FVec Ideal S2048x1536 .f32 := fun y => second (grad m c y) (old_second m c y)
abbrev change : FVec Ideal S2048x1536 .f32 := fun y => delta (grad m c y) (weight m c y) (old_first m c y) (old_second m c y)

/-- The blocks that the body reads are blocks of them. -/
theorem tile_weight (t : Fin cfg0.N) (i : Fin 256) (j : Fin 1536) (y : S2048x1536.Idx)
    (h0 : (y 0).val = t.val * 256 + i.val) (h1 : (y 1).val = j.val) :
    iblk m c 1 t (ix2 i j) = weight m c y := by
  have e := index_1 t
  rw [weight, ← V_main_arg1 m c]
  blk_simp [iblk]
  refine congrArg _ ?_
  blk_ext [e, h0, h1]

theorem tile_first (t : Fin cfg0.N) (i : Fin 256) (j : Fin 1536) (y : S2048x1536.Idx)
    (h0 : (y 0).val = t.val * 256 + i.val) (h1 : (y 1).val = j.val) :
    iblk m c 2 t (ix2 i j) = old_first m c y := by
  have e := index_2 t
  rw [old_first, ← V_main_arg2 m c]
  blk_simp [iblk]
  refine congrArg _ ?_
  blk_ext [e, h0, h1]

theorem tile_second (t : Fin cfg0.N) (i : Fin 256) (j : Fin 1536) (y : S2048x1536.Idx)
    (h0 : (y 0).val = t.val * 256 + i.val) (h1 : (y 1).val = j.val) :
    iblk m c 3 t (ix2 i j) = old_second m c y := by
  have e := index_3 t
  rw [old_second, ← V_main_arg3 m c]
  blk_simp [iblk]
  refine congrArg _ ?_
  blk_ext [e, h0, h1]

theorem tile_grad (t : Fin cfg0.N) (i : Fin 256) (j : Fin 1536) (y : S2048x1536.Idx)
    (h0 : (y 0).val = t.val * 256 + i.val) (h1 : (y 1).val = j.val) :
    iblk m c 0 t (ix2 i j) = grad m c y := by
  have e := index_0 t
  rw [grad, ← V_main_arg0 m c]
  blk_simp [iblk]
  refine congrArg _ ?_
  blk_ext [e, h0, h1]

/-- The kernel's result arrays hold them after the run. -/
theorem value_grad : (dats m 0 c).arrAt 4 cfg0.N = grad m c := by
  refine (dats m 0 c).arrAt_eq_of_covers 4 _ (by decide +kernel) fun t hf y => ?_
  blk_simp
  rw [after0_4]
  frame_out
  change S256x1536.Idx at y
  obtain ⟨i, j, rfl⟩ : ∃ (i : Fin 256) (j : Fin 1536), y = ix2 i j := ⟨y 0, y 1, eq_ix2 y⟩
  have e := index_4 t
  exact tile_grad m c t i j _ (by blk_simp [e]) (by blk_simp [e])

theorem value_change : (dats m 0 c).arrAt 5 cfg0.N = change m c := by
  refine (dats m 0 c).arrAt_eq_of_covers 5 _ (by decide +kernel) fun t hf y => ?_
  blk_simp
  rw [after0_5]
  frame_out
  change S256x1536.Idx at y
  obtain ⟨i, j, rfl⟩ : ∃ (i : Fin 256) (j : Fin 1536), y = ix2 i j := ⟨y 0, y 1, eq_ix2 y⟩
  have e := index_5 t
  exact (pay_delta _ _ _ _ i j).trans (congr (congr (congrArg₂ delta (tile_grad m c t i j _ (by blk_simp [e]) (by blk_simp [e])) (tile_weight m c t i j _ (by blk_simp [e]) (by blk_simp [e]))) (tile_first m c t i j _ (by blk_simp [e]) (by blk_simp [e]))) (tile_second m c t i j _ (by blk_simp [e]) (by blk_simp [e])))

theorem value_first : (dats m 0 c).arrAt 6 cfg0.N = new_first m c := by
  refine (dats m 0 c).arrAt_eq_of_covers 6 _ (by decide +kernel) fun t hf y => ?_
  blk_simp
  rw [after0_6]
  frame_out
  change S256x1536.Idx at y
  obtain ⟨i, j, rfl⟩ : ∃ (i : Fin 256) (j : Fin 1536), y = ix2 i j := ⟨y 0, y 1, eq_ix2 y⟩
  have e := index_6 t
  exact (pay_first _ _ i j).trans (congrArg₂ first (tile_grad m c t i j _ (by blk_simp [e]) (by blk_simp [e])) (tile_first m c t i j _ (by blk_simp [e]) (by blk_simp [e])))

theorem value_second : (dats m 0 c).arrAt 7 cfg0.N = new_second m c := by
  refine (dats m 0 c).arrAt_eq_of_covers 7 _ (by decide +kernel) fun t hf y => ?_
  blk_simp
  rw [after0_7]
  frame_out
  change S256x1536.Idx at y
  obtain ⟨i, j, rfl⟩ : ∃ (i : Fin 256) (j : Fin 1536), y = ix2 i j := ⟨y 0, y 1, eq_ix2 y⟩
  have e := index_7 t
  exact (pay_second _ _ i j).trans (congrArg₂ second (tile_grad m c t i j _ (by blk_simp [e]) (by blk_simp [e])) (tile_second m c t i j _ (by blk_simp [e]) (by blk_simp [e])))

/-- The call computes what the reference does. -/
theorem algebraic : Cert.algebraic_Kernel20Ideal_Reference20Ideal := by
  intro m g m' g' _ hagree
  refine ⟨grad m, change m, new_first m, new_second m, ?_, ?_⟩
  · exact (θ_run defs _ _).mono (fun r h c => ⟨(h c).1.trans (value_grad m c), (h c).2.1.trans (value_change m c), (h c).2.2.1.trans (value_first m c), (h c).2.2.2.1.trans (value_second m c), (h c).2.2.2.2⟩)
      (Value.run_blocks m g)
  · refine (θ_run Cert.Reference20Ideal.defs _ _).mono (fun r h c => ⟨(h c).1.trans ?_, (h c).2.1.trans ?_, (h c).2.2.1.trans ?_, (h c).2.2.2.1.trans ?_, (h c).2.2.2.2⟩)
      (Cert.Reference20Ideal.Value.run (F := Ideal) m' g')
    all_goals
      simp only [(hagree c).1, (hagree c).2.1, (hagree c).2.2.1, (hagree c).2.2.2]
      funext y
      rw [eq_ix2 y]
      try unfold change
      try unfold new_first
      try unfold new_second
      try unfold delta
      try unfold first
      try unfold second
      unfold grad
      pointwise []

/-- The reference's frame -/
theorem frame_reference : Cert.quiescent_Reference20Ideal := fun m ρ _ =>
  (θ_run Cert.Reference20Ideal.defs _ _).mono (fun r h => ⟨fun c => (h c).2.2.2.2, Idealize.ShloMosaic.sem_eq_zero_of_no_sems (by decide) r.2⟩)
    (Cert.Reference20Ideal.Value.run (F := Ideal) m ρ)

end Cert.Prod20
-- ==== Proof.Mixer.lean ====
module

public import proofs.«01_k».proof.Proof.Norm
public import proofs.«01_k».proof.Proof.Prod2

/-!
# The gated norm of a mixer's rows
-/

@[expose] public section

noncomputable section
namespace Cert.Mixer

open Idealize.ShloMosaic Cert.Norm

/-- The word of the width, 1024 -/
abbrev W : BitVec 32 := 1149239296#32

theorem word_W : word 1149239296#32 = ((1024 : ℝ) : EReal) := by
  simp [word, Ideal.ofBits, Ideal.ieee, -EReal.coe_mul]; norm_num

/-- A column to the right -/
def right {n : Nat} (o : Nat) (j : Fin 1024) (h : o + 1024 ≤ n := by decide) : Fin n := ⟨o + j.val, by omega⟩

theorem right_val {n : Nat} (o : Nat) (j : Fin 1024) (h : o + 1024 ≤ n) : (right (n := n) o j h).val = o + j.val := rfl

/-- A column of the left half -/
def left (j : Fin 1024) : Fin 2048 := ⟨j.val, by omega⟩

theorem right_left (j : Fin 1024) (h) : right 0 j h = left j := Fin.ext (Nat.zero_add _)

/-- A load of columns to the right -/
theorem ld_right {Val : EltTy → Type} {e : EltTy} {w : Nat} (X : Shape.Idx ⟨2, ![w, 2048]⟩ → Val e) (o : Nat) (ho : o + 1024 ≤ 2048) (inb) (i : Fin w) (j : Fin 1024) :
    View.ld X (Rect.unit (s := ⟨2, ![w, 2048]⟩) ![0, o] ![w, 1024] inb) (ix2 i j) = X (ix2 i (right o j ho)) :=
  View.ld_unit_apply_of X _ _ inb _ _ (Fin.forall_fin_two.mpr ⟨(Nat.zero_add _).symm, rfl⟩)

/-- A gated element -/
def gate (y z : EReal) : EReal := y * (z * Ideal.logistic z)

/-- A normed row -/
def normed (f : Fin 1024 → EReal) (j : Fin 1024) : EReal := f j * rootOf W f

/-- A normed, scaled and modulated element of a row -/
def modulated (f : Fin 2048 → EReal) (g sc sh : EReal) (j : Fin 2048) : EReal := f j * root f * g * (1 + sc) + sh

variable (y z g : Fin 1024 → EReal) (j : Fin 1024)

/-- The gradient of the gated row, of that of the normed row -/
def turned : EReal := backOf W (fun k => gate (y k) (z k)) g j

/-- The gradients of a gated row and of its gate -/
def dyAt : EReal := turned y z g j * (z j * Ideal.logistic (z j))
def dzAt : EReal := Cert.Prod2.dgate (turned y z g j) (z j) (y j)

/-- Where an infinite element is gated to a real number, the gate is infinite or zero. -/
theorem cases_gate (y z : EReal) (h : ∃ r : ℝ, gate y z = r) (hy : ¬ ∃ r : ℝ, y = r) : z = ⊥ ∨ z = ⊤ ∨ z = 0 := by
  induction z using EReal.rec with
  | bot => exact .inl rfl
  | top => exact .inr (.inl rfl)
  | coe x =>
    refine .inr (.inr ?_)
    by_contra hx
    obtain ⟨r, hr⟩ := h
    have hs : 0 < (1 + Real.exp (-x))⁻¹ := by positivity
    rw [gate, Ideal.logistic_coe, ← EReal.coe_mul] at hr
    have hn : x * (1 + Real.exp (-x))⁻¹ ≠ 0 := mul_ne_zero (fun e => hx (by rw [e, EReal.coe_zero])) hs.ne'
    induction y using EReal.rec with
    | coe q => exact hy ⟨q, rfl⟩
    | bot =>
      rcases lt_or_gt_of_ne hn with hl | hl
      · rw [EReal.bot_mul_coe_of_neg hl] at hr; exact (EReal.coe_ne_top r) hr.symm
      · rw [EReal.bot_mul_coe_of_pos hl] at hr; exact (EReal.coe_ne_bot r) hr.symm
    | top =>
      rcases lt_or_gt_of_ne hn with hl | hl
      · rw [EReal.top_mul_coe_of_neg hl] at hr; exact (EReal.coe_ne_bot r) hr.symm
      · rw [EReal.top_mul_coe_of_pos hl] at hr; exact (EReal.coe_ne_top r) hr.symm

/-- The gate's gradient by the derivative's rules -/
theorem dz_rule (hg : ∀ k, ∃ r : ℝ, g k = r) :
    y j * turned y z g j * Ideal.logistic (z j) + z j * (y j * turned y z g j) * (Ideal.logistic (z j) * (1 - Ideal.logistic (z j))) = dzAt y z g j := by
  obtain ⟨⟨p, hp⟩, hz⟩ := back_real W 1024 (by norm_num) word_W (fun k => gate (y k) (z k)) g hg j
  replace hp : turned y z g j = p := hp
  rw [mul_comm (y j)]
  by_cases hy : ∃ r : ℝ, turned y z g j * y j = r
  · exact Cert.Prod2.dgate_eq _ _ _ hy
  · have hc : z j = ⊥ ∨ z j = ⊤ ∨ z j = 0 := by
      rcases hz with ⟨r, hr⟩ | h0
      · refine cases_gate (y j) (z j) ⟨r, hr⟩ fun ⟨q, hq⟩ => hy ⟨p * q, by rw [hp, hq, EReal.coe_mul]⟩
      · exact absurd ⟨0, by rw [show turned y z g j = 0 from h0, zero_mul, EReal.coe_zero]⟩ hy
    unfold dzAt Cert.Prod2.dgate
    rcases hc with h | h | h <;> rw [h]
    · simp
    · rw [Ideal.logistic_top, show (1 : EReal) - 1 = 0 from by rw [← EReal.coe_one, ← EReal.coe_sub, sub_self, EReal.coe_zero]]
      simp
    · simp

end Cert.Mixer
end
-- ==== Proof.Prod21.lean ====
module

public import proofs.«01_k».proof.Defs
public import proofs.«01_k».proof.Proof.Pre
public import proofs.«01_k».proof.Proof.Norm
public import proofs.«01_k».proof.Proof.Mixer
public import proofs.«01_k».proof.Proof.Gen.Pre_finite21
public import proofs.«01_k».proof.Proof.Gen.Kernel21Ideal.Value
public import proofs.«01_k».proof.Proof.Gen.Reference21Ideal.Run
public import Idealize.ShloMosaic.Lib.Pointwise
public import Idealize.ShloMosaic.Lib.Pipeline.ReadBack
public import Idealize.ShloMosaic.Lib.Pipeline.ValueKit.Geometry
public import Idealize.ShloMosaic.Lib.Pipeline.ValueKit.Acc

/-!
# The gradient of the mixers' output norms

Every step of the grid takes 512 rows. The gradients of the two norms' scales add up over the steps in rows 0 and 1 of
one array, which the first step sets to zero. The gate's gradient is written as one product where the derivative's rules
give two terms: they agree when the gradient of the normed rows and the scale are real numbers.
-/

@[expose] public section

set_option maxRecDepth 16384

noncomputable section
namespace Cert.Prod21

open Idealize.ShloMosaic Idealize.ShloMosaic.TcCoe Idealize.SL.Sem Cert.Kernel21Ideal Cert.Kernel21Ideal.Gen Cert.Norm Cert.Mixer

section Pays

variable (z y : FVec Ideal S512x1024 .f32) (d : FVec Ideal S512x1024 .bf16) (g : FVec Ideal S1x1024 .f32)

theorem pay_a (i : Fin 512) (j : Fin 1024) :
    (k0_pay5 (F := Ideal) y d g (ix2 i j) : EReal) = backOf W (fun k => y (ix2 i k)) (fun k => d (ix2 i k) * g (ix2 0 k)) j := by
  unfold backOf rootOf meanOf
  pointwise [k0_pay5, k0_pay4, k0_pay3, k0_pay2]

theorem pay_y (i : Fin 512) (j : Fin 1024) :
    (k0_pay14 (F := Ideal) (k0_pay7 (F := Ideal) z) (k0_pay8 (F := Ideal) z y) (k0_pay9 (F := Ideal) d) (k0_pay10 (F := Ideal) z y) (Scalar.ofBits .f32 0x44800000#32) g (ix2 i j) : EReal)
      = dyAt (fun k => y (ix2 i k)) (fun k => z (ix2 i k)) (fun k => d (ix2 i k) * g (ix2 0 k)) j := by
  unfold dyAt turned backOf rootOf meanOf gate
  pointwise [k0_pay14, k0_pay13, k0_pay12, k0_pay11, k0_pay10, k0_pay9, k0_pay8, k0_pay7, k0_pay6]

theorem pay_z (i : Fin 512) (j : Fin 1024) :
    (k0_pay15 (F := Ideal) z y (k0_pay6 (F := Ideal) z) (k0_pay8 (F := Ideal) z y) (k0_pay9 (F := Ideal) d) (k0_pay10 (F := Ideal) z y) (Scalar.ofBits .f32 0x44800000#32) g (ix2 i j) : EReal)
      = dzAt (fun k => y (ix2 i k)) (fun k => z (ix2 i k)) (fun k => d (ix2 i k) * g (ix2 0 k)) j := by
  unfold dzAt turned Cert.Prod2.dgate backOf rootOf meanOf gate
  pointwise [k0_pay15, k0_pay13, k0_pay12, k0_pay11, k0_pay10, k0_pay9, k0_pay8, k0_pay7, k0_pay6]

theorem pay_sa (p : FVec Ideal S1x1024 .f32) (j : Fin 1024) :
    (k0_pay17 (F := Ideal) (k0_pay2 (F := Ideal) d) (k0_pay4 (F := Ideal) y) p (ix2 0 j) : EReal)
      = p (ix2 0 j) + ∑ i : Fin 512, d (ix2 i j) * normed (fun k => y (ix2 i k)) j := by
  unfold normed rootOf meanOf
  pointwise [k0_pay17, k0_pay4, k0_pay3, k0_pay2]

theorem pay_sy (p : FVec Ideal S1x1024 .f32) (j : Fin 1024) :
    (k0_pay1 (F := Ideal) (k0_pay9 (F := Ideal) d) (k0_pay12 (F := Ideal) (k0_pay8 (F := Ideal) z y) (k0_pay10 (F := Ideal) z y) (Scalar.ofBits .f32 0x44800000#32)) p (ix2 0 j) : EReal)
      = p (ix2 0 j) + ∑ i : Fin 512, d (ix2 i j) * normed (fun k => gate (y (ix2 i k)) (z (ix2 i k))) j := by
  unfold normed rootOf meanOf gate
  pointwise [k0_pay1, k0_pay12, k0_pay11, k0_pay10, k0_pay9, k0_pay8, k0_pay7, k0_pay6]

theorem zero (y : S8x1024.Idx) : (k0_pay16 (F := Ideal) y : EReal) = 0 := by
  rw [eq_ix2 y]
  pointwise [k0_pay16]

end Pays

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 3] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![t.val, 0] := by decide +kernel
theorem index_7 : ∀ t : Fin cfg0.N, win0_7.index t = ![t.val, 0] := by decide +kernel
theorem index_8 : ∀ t : Fin cfg0.N, win0_8.index t = ![t.val, 0] := by decide +kernel
theorem index_9 : ∀ t : Fin cfg0.N, win0_9.index t = ![0, 0] := by decide +kernel

variable (m : (ℓ : Loc nD τ sig) → Buf (Elt Ideal) ℓ) (c : Dev nD)

/-- The arguments that the memory holds -/
abbrev A0 : FVec Ideal S8192x2048 .bf16 := m ((c.tc : Thread nD τ).loc main_arg0)
abbrev A1 : FVec Ideal S8192x1024 .f32 := m ((c.tc : Thread nD τ).loc main_arg1)
abbrev A2 : FVec Ideal S8192x1024 .f32 := m ((c.tc : Thread nD τ).loc main_arg2)
abbrev A3 : FVec Ideal S8192x5760 .f32 := m ((c.tc : Thread nD τ).loc main_arg3)
abbrev A4 : FVec Ideal S1x1024 .f32 := m ((c.tc : Thread nD τ).loc main_arg4)
abbrev A5 : FVec Ideal S1x1024 .f32 := m ((c.tc : Thread nD τ).loc main_arg5)

/-- Tiles of the arguments -/
theorem tile_d (t : Fin cfg0.N) (i : Fin 512) (j : Fin 2048) (n : Fin 8192) (h : n.val = t.val * 512 + i.val) :
    (iblk m c 0 t : FVec Ideal S512x2048 .bf16) (ix2 i j) = A0 m c (ix2 n j) := by
  have e := index_0 t
  unfold A0
  rw [← V_main_arg0 m c]
  blk_simp [iblk]
  refine congrArg _ ?_
  blk_ext [e, h]

theorem tile_a (t : Fin cfg0.N) (i : Fin 512) (j : Fin 1024) (n : Fin 8192) (h : n.val = t.val * 512 + i.val) :
    (iblk m c 1 t : FVec Ideal S512x1024 .f32) (ix2 i j) = A1 m c (ix2 n j) := by
  have e := index_1 t
  unfold A1
  rw [← V_main_arg1 m c]
  blk_simp [iblk]
  refine congrArg _ ?_
  blk_ext [e, h]

theorem tile_y (t : Fin cfg0.N) (i : Fin 512) (j : Fin 1024) (n : Fin 8192) (h : n.val = t.val * 512 + i.val) :
    (iblk m c 2 t : FVec Ideal S512x1024 .f32) (ix2 i j) = A2 m c (ix2 n j) := by
  have e := index_2 t
  unfold A2
  rw [← V_main_arg2 m c]
  blk_simp [iblk]
  refine congrArg _ ?_
  blk_ext [e, h]

theorem tile_z (t : Fin cfg0.N) (i : Fin 512) (j : Fin 1024) (n : Fin 8192) (h : n.val = t.val * 512 + i.val) :
    (X0_3 m c t : FVec Ideal S512x1024 .f32) (ix2 i j) = A3 m c (ix2 n (right 3072 j)) := by
  have e := index_3 t
  unfold A3 X0_3
  rw [← V_main_arg3 m c]
  unfold Pipeline.Window.fill
  rw [dif_pos (moved0_3 t (ix2 i j))]
  blk_simp [iblk]
  refine congrArg _ ?_
  blk_ext [e, h, right_val]

theorem tile_ga (t : Fin cfg0.N) (j : Fin 1024) : (iblk m c 4 t : FVec Ideal S1x1024 .f32) (ix2 0 j) = A4 m c (ix2 0 j) := by
  have e := index_4 t
  unfold A4
  rw [← V_main_arg4 m c]
  blk_simp [iblk]
  refine congrArg _ ?_
  blk_ext [e]

theorem tile_gs (t : Fin cfg0.N) (j : Fin 1024) : (iblk m c 5 t : FVec Ideal S1x1024 .f32) (ix2 0 j) = A5 m c (ix2 0 j) := by
  have e := index_5 t
  unfold A5
  rw [← V_main_arg5 m c]
  blk_simp [iblk]
  refine congrArg _ ?_
  blk_ext [e]

/-- Rows of the arguments: of the gradient, in front of either norm; of the norms' inputs; of the gate -/
abbrev ra (n : Fin 8192) (k : Fin 1024) : EReal := A1 m c (ix2 n k)
abbrev ry (n : Fin 8192) (k : Fin 1024) : EReal := A2 m c (ix2 n k)
abbrev rz (n : Fin 8192) (k : Fin 1024) : EReal := A3 m c (ix2 n (right 3072 k))
abbrev da (n : Fin 8192) (k : Fin 1024) : EReal := A0 m c (ix2 n (left k))
abbrev ds (n : Fin 8192) (k : Fin 1024) : EReal := A0 m c (ix2 n (right 1024 k))
abbrev ga (n : Fin 8192) (k : Fin 1024) : EReal := da m c n k * A4 m c (ix2 0 k)
abbrev gs (n : Fin 8192) (k : Fin 1024) : EReal := ds m c n k * A5 m c (ix2 0 k)

/-- The terms of the two sums over rows -/
def termA (n : Fin 8192) (j : Fin 1024) : EReal := da m c n j * normed (ra m c n) j
def termS (n : Fin 8192) (j : Fin 1024) : EReal := ds m c n j * normed (fun k => gate (ry m c n k) (rz m c n k)) j

/-- The results -/
abbrev resa : FVec Ideal S8192x1024 .f32 := fun y => backOf W (ra m c (y 0)) (ga m c (y 0)) (y 1)
abbrev resy : FVec Ideal S8192x1024 .f32 := fun y => dyAt (ry m c (y 0)) (rz m c (y 0)) (gs m c (y 0)) (y 1)
abbrev resz : FVec Ideal S8192x1024 .bf16 := fun y => dzAt (ry m c (y 0)) (rz m c (y 0)) (gs m c (y 0)) (y 1)
abbrev ress : FVec Ideal S8x1024 .f32 := fun y => row (y 0) (∑ n, termA m c n (y 1)) (∑ n, termS m c n (y 1)) 0 0

/-- The row of the arrays that a row of a tile is -/
def at' (t : Fin cfg0.N) (i : Fin 512) : Fin 8192 :=
  ⟨t.val * 512 + i.val, by have h := lt_of_lt_of_eq t.isLt (show cfg0.N = 16 from N_0); omega⟩

/-- The two halves of a tile of the gradient -/
abbrev left_d (t : Fin cfg0.N) : FVec Ideal S512x1024 .bf16 :=
  View.ld (iblk m c 0 t : FVec Ideal S512x2048 .bf16) (Rect.unit ![0, 0] ![512, 1024] inb_S512x2048_S512x1024_0_0)
abbrev right_d (t : Fin cfg0.N) : FVec Ideal S512x1024 .bf16 :=
  View.ld (iblk m c 0 t : FVec Ideal S512x2048 .bf16) (Rect.unit ![0, 1024] ![512, 1024] inb_S512x2048_S512x1024_0_1024)

section Tiles

variable (t : Fin cfg0.N) (i : Fin 512) (k : Fin 1024)

theorem row_da : (left_d m c t (ix2 i k) : EReal) = da m c (at' t i) k :=
  (ld_right (iblk m c 0 t : FVec Ideal S512x2048 .bf16) 0 (by decide) _ i k).trans ((tile_d m c t i _ (at' t i) rfl).trans (by rw [right_left]))
theorem row_ds : (right_d m c t (ix2 i k) : EReal) = ds m c (at' t i) k :=
  (ld_right (iblk m c 0 t : FVec Ideal S512x2048 .bf16) 1024 (by decide) _ i k).trans (tile_d m c t i _ (at' t i) rfl)
theorem row_a : (fun k => (iblk m c 1 t : FVec Ideal S512x1024 .f32) (ix2 i k)) = ra m c (at' t i) := funext fun k => tile_a m c t i k _ rfl
theorem row_y : (fun k => (iblk m c 2 t : FVec Ideal S512x1024 .f32) (ix2 i k)) = ry m c (at' t i) := funext fun k => tile_y m c t i k _ rfl
theorem row_z : (fun k => (X0_3 m c t : FVec Ideal S512x1024 .f32) (ix2 i k)) = rz m c (at' t i) := funext fun k => tile_z m c t i k _ rfl
theorem row_ga : (fun k => (left_d m c t (ix2 i k) * (iblk m c 4 t : FVec Ideal S1x1024 .f32) (ix2 0 k) : EReal)) = ga m c (at' t i) :=
  funext fun k => congrArg₂ (· * ·) (row_da m c t i k) (tile_ga m c t k)
theorem row_gs : (fun k => (right_d m c t (ix2 i k) * (iblk m c 5 t : FVec Ideal S1x1024 .f32) (ix2 0 k) : EReal)) = gs m c (at' t i) :=
  funext fun k => congrArg₂ (· * ·) (row_ds m c t i k) (tile_gs m c t k)
theorem row_yz : (fun k => gate ((iblk m c 2 t : FVec Ideal S512x1024 .f32) (ix2 i k)) ((X0_3 m c t : FVec Ideal S512x1024 .f32) (ix2 i k)))
    = fun k => gate (ry m c (at' t i) k) (rz m c (at' t i) k) :=
  funext fun k => congrArg₂ gate (tile_y m c t i k _ rfl) (tile_z m c t i k _ rfl)

end Tiles

/-- What a step adds to the array of sums -/
def term (t : Fin cfg0.N) (y : S8x1024.Idx) : EReal :=
  row (y 0) (∑ i, termA m c (at' t i) (y 1)) (∑ i, termS m c (at' t i) (y 1)) 0 0

theorem add_a (t : Fin cfg0.N) (p : FVec Ideal S1x1024 .f32) (j : Fin 1024) :
    (k0_pay17 (F := Ideal) (k0_pay2 (F := Ideal) (left_d m c t)) (k0_pay4 (F := Ideal) (iblk m c 1 t)) p (ix2 0 j) : EReal)
      = p (ix2 0 j) + ∑ i, termA m c (at' t i) j :=
  (pay_sa _ _ p j).trans (congrArg _ (Finset.sum_congr rfl fun i _ => congrArg₂ (· * ·) (row_da m c t i j) (congrArg (normed · j) (row_a m c t i))))

theorem add_s (t : Fin cfg0.N) (p : FVec Ideal S1x1024 .f32) (j : Fin 1024) :
    (k0_pay1 (F := Ideal) (k0_pay9 (F := Ideal) (right_d m c t)) (k0_pay12 (F := Ideal) (k0_pay8 (F := Ideal) (X0_3 m c t) (iblk m c 2 t))
      (k0_pay10 (F := Ideal) (X0_3 m c t) (iblk m c 2 t)) (FloatOps.ofBits .f32 0x44800000#32)) p (ix2 0 j) : EReal)
      = p (ix2 0 j) + ∑ i, termS m c (at' t i) j :=
  (pay_sy _ _ _ p j).trans (congrArg _ (Finset.sum_congr rfl fun i _ => congrArg₂ (· * ·) (row_ds m c t i j) (congrArg (normed · j) (row_yz m c t i))))

theorem step_A (t : Fin cfg0.N) (h : t.val % 16 = 0) (y : S8x1024.Idx) : ((outsAt0 m c t.val t.isLt).2.2.2 y : EReal) = 0 + term m c t y := by
  obtain ⟨i, j, rfl⟩ : ∃ (i : Fin 8) (j : Fin 1024), y = ix2 i j := ⟨y 0, y 1, eq_ix2 y⟩
  rw [outsAt0_A m c t h]
  frame_out
  simp (disch := decide) only [↓ View.readCov_skip, ↓ View.readCov_cons_toLoadRect, ↓ View.readCov_fill]
  rw [canon_row (ms0_9 t).view, canon_row (ms0_9 t).view, add_a, add_s, View.canon_cons_unit_lit _ _ _ (by decide)]
  exact (add_rows2 i (fun i => k0_pay16 (F := Ideal) (ix2 i j)) _ _).trans (congrArg (· + _) (zero (ix2 i j)))

theorem step_B (t : Fin cfg0.N) (h : ¬ t.val % 16 = 0) (y : S8x1024.Idx) :
    ((outsAt0 m c t.val t.isLt).2.2.2 y : EReal) = (outsAt0 m c (t.val - 1) (Nat.lt_of_le_of_lt (Nat.sub_le _ _) t.isLt)).2.2.2 y + term m c t y := by
  obtain ⟨i, j, rfl⟩ : ∃ (i : Fin 8) (j : Fin 1024), y = ix2 i j := ⟨y 0, y 1, eq_ix2 y⟩
  rw [outsAt0_B m c t h]
  frame_out
  rw [read_row, read_row, add_a, add_s, View.writes_nil, (hs0_9 t).read_unread, ld_row _ 1 (by decide), ld_row _ 0 (by decide)]
  exact add_rows2 i (fun i => (outsAt0 m c (t.val - 1) (Nat.lt_of_le_of_lt (Nat.sub_le _ _) t.isLt)).2.2.2 (ix2 i j)) _ _

/-- What a step leaves in the other three tiles -/
theorem step_rows (t : Fin cfg0.N) (i : Fin 512) (j : Fin 1024) :
    ((outsAt0 m c t.val t.isLt).1 (ix2 i j) : EReal) = resa m c (ix2 (at' t i) j) ∧ ((outsAt0 m c t.val t.isLt).2.1 (ix2 i j) : EReal) = resy m c (ix2 (at' t i) j)
      ∧ ((outsAt0 m c t.val t.isLt).2.2.1 (ix2 i j) : EReal) = resz m c (ix2 (at' t i) j) := by
  have ha := (pay_a (iblk m c 1 t) (left_d m c t) (iblk m c 4 t) i j).trans (congrArg₂ (backOf W · · j) (row_a m c t i) (row_ga m c t i))
  have hy := pay_y (X0_3 m c t) (iblk m c 2 t) (right_d m c t) (iblk m c 5 t) i j
  have hz := pay_z (X0_3 m c t) (iblk m c 2 t) (right_d m c t) (iblk m c 5 t) i j
  rw [row_y, row_z, row_gs] at hy hz
  by_cases h : t.val % 16 = 0
  · rw [outsAt0_A m c t h]; frame_out; exact ⟨ha, hy, hz⟩
  · rw [outsAt0_B m c t h]; frame_out; exact ⟨ha, hy, hz⟩

/-- The kernel's result arrays hold the results after the run. -/
theorem at_row (t : Fin cfg0.N) (i : Fin 512) (j : Fin 1024) (y : S8192x1024.Idx) (h0 : (y 0).val = t.val * 512 + i.val) (h1 : (y 1).val = j.val) :
    ix2 (at' t i) j = y := by
  obtain ⟨n, l, rfl⟩ : ∃ (n : Fin 8192) (l : Fin 1024), y = ix2 n l := ⟨y 0, y 1, eq_ix2 y⟩
  obtain rfl : n = at' t i := Fin.ext h0
  obtain rfl : l = j := Fin.ext h1
  rfl

theorem value_a : (dats m 0 c).arrAt 6 cfg0.N = resa m c := by
  refine (dats m 0 c).arrAt_eq_of_covers 6 _ (by decide +kernel) fun t hf y => ?_
  blk_simp
  rw [after0_6]
  change S512x1024.Idx at y
  have e := index_6 t
  obtain ⟨i, j, rfl⟩ : ∃ (i : Fin 512) (j : Fin 1024), y = ix2 i j := ⟨y 0, y 1, eq_ix2 y⟩
  exact (step_rows m c t i j).1.trans (congrArg (resa m c) (at_row t i j _ (by blk_simp [e]) (by blk_simp [e])))

theorem value_y : (dats m 0 c).arrAt 7 cfg0.N = resy m c := by
  refine (dats m 0 c).arrAt_eq_of_covers 7 _ (by decide +kernel) fun t hf y => ?_
  blk_simp
  rw [after0_7]
  change S512x1024.Idx at y
  have e := index_7 t
  obtain ⟨i, j, rfl⟩ : ∃ (i : Fin 512) (j : Fin 1024), y = ix2 i j := ⟨y 0, y 1, eq_ix2 y⟩
  exact (step_rows m c t i j).2.1.trans (congrArg (resy m c) (at_row t i j _ (by blk_simp [e]) (by blk_simp [e])))

theorem value_z : (dats m 0 c).arrAt 8 cfg0.N = resz m c := by
  refine (dats m 0 c).arrAt_eq_of_covers 8 _ (by decide +kernel) fun t hf y => ?_
  blk_simp
  rw [after0_8]
  change S512x1024.Idx at y
  have e := index_8 t
  obtain ⟨i, j, rfl⟩ : ∃ (i : Fin 512) (j : Fin 1024), y = ix2 i j := ⟨y 0, y 1, eq_ix2 y⟩
  exact (step_rows m c t i j).2.2.trans (congrArg (resz m c) (at_row t i j _ (by blk_simp [e]) (by blk_simp [e])))

theorem point_lt (t : Fin cfg0.N) (s : Fin 16) : 16 * (t.val / 16) + s.val < cfg0.N := by
  have h := lt_of_lt_of_eq t.isLt (show cfg0.N = 16 from N_0)
  exact lt_of_lt_of_eq (by omega) (show cfg0.N = 16 from N_0).symm

/-- The array of sums after the last step -/
theorem sums (t : Fin cfg0.N) (h : t.val % 16 = 15) (y : S8x1024.Idx) : ((outsAt0 m c t.val t.isLt).2.2.2 y : EReal) = ress m c y := by
  have e := Pipeline.eq_sum_fin_of_reset_step_apply_of_flush (M := EReal) (fun n h => ((outsAt0 m c n h).2.2.2 : S8x1024.Idx → EReal)) 16 (fun _ => 0)
    (term m c) (step_A m c) (step_B m c) t h y
  rw [zero_add] at e
  refine e.trans ?_
  unfold term ress
  refine (sum_row (n := 16) (y 0) _ _ (fun _ => 0) (fun _ => 0)).trans (row_congr _ ?_ ?_ Finset.sum_const_zero Finset.sum_const_zero)
  all_goals
    refine Fin.sum_mul_add_congr fun s k hl => ?_
    have hk : at' ⟨16 * (t.val / 16) + s.val, point_lt t s⟩ k = (⟨s.val * 512 + k.val, hl⟩ : Fin 8192) := by
      have h := lt_of_lt_of_eq t.isLt (show cfg0.N = 16 from N_0)
      refine Fin.ext ?_
      show (16 * (t.val / 16) + s.val) * 512 + k.val = s.val * 512 + k.val
      omega
    first | exact congrArg (termA m c · (y 1)) hk | exact congrArg (termS m c · (y 1)) hk

theorem value_s : (dats m 0 c).arrAt 9 cfg0.N = ress m c := by
  refine (dats m 0 c).arrAt_eq_of_covers 9 _ (by decide +kernel) fun t hf y => ?_
  have h9 : t.val % 16 = 15 := (flush0_9 t).mp hf
  blk_simp
  rw [after0_9]
  change S8x1024.Idx at y
  refine (sums m c t h9 y).trans (congrArg _ ?_)
  have e := index_9 t
  rw [eq_ix2 y]
  blk_ext [e]

/-- What the precondition says: the gradient of the gated and normed row, times the scale, is real. -/
theorem real (x0 : FVec Ideal S8192x2048 .bf16) (x1 x2 : FVec Ideal S8192x1024 .f32) (x3 : FVec Ideal S8192x5760 .f32) (x4 x5 : FVec Ideal S1x1024 .f32)
    (h : Cert.Pre_finite21.fn (F := Ideal) x0 x1 x2 x3 x4 x5 = fun _ => 1#1) (n : Fin 8192) (k : Fin 1024) :
    ∃ r : ℝ, (x0 (ix2 n (right 1024 k)) * x5 (ix2 0 k) : EReal) = r := by
  obtain ⟨e0, e1⟩ := Cert.Finite.bits_and _ _ (congrFun h ix0)
  have h0 := Cert.Finite.all_real _ _ _ _ ix0 e0 (ix2 n k)
  have h1 := Cert.Finite.all_real x5 _ _ _ ix0 e1 (ix2 0 k)
  have hx : ∀ v : EReal, v = x0 (ix2 n (right 1024 k)) → v = ((v.toReal : ℝ) : EReal) → ∃ r : ℝ, (x0 (ix2 n (right 1024 k)) : EReal) = r :=
    fun v e hv => ⟨_, e ▸ hv⟩
  obtain ⟨r, hr⟩ := hx _ (by pointwise [right]) h0
  exact ⟨r * (x5 (ix2 0 k)).toReal, by rw [hr, h1, EReal.coe_mul]; rfl⟩

/-- The gradient of a normed row by the rules of differentiation -/
theorem rule_eq (f g : Fin 1024 → EReal) (j : Fin 1024) : ruleOf W f g j = backOf W f g j := ruleOf_eq W 1024 (by norm_num) word_W f g j

set_option maxHeartbeats 4000000 in
/-- The call computes what the reference does. -/
theorem algebraic : Cert.algebraic_Kernel21Ideal_Reference21Ideal_pre_finite21 := by
  intro m g m' g' hpre hagree
  refine ⟨resa m, resy m, resz m, ress m, ?_, ?_⟩
  · exact (θ_run defs _ _).mono (fun r h c => ⟨(h c).1.trans (value_a m c), (h c).2.1.trans (value_y m c), (h c).2.2.1.trans (value_z m c),
      (h c).2.2.2.1.trans (value_s m c), (h c).2.2.2.2⟩) (Value.run_blocks m g)
  · refine (θ_run Cert.Reference21Ideal.defs _ _).mono (fun r h c => ⟨(h c).1.trans ?_, (h c).2.1.trans ?_, (h c).2.2.1.trans ?_, (h c).2.2.2.1.trans ?_, (h c).2.2.2.2⟩)
      (Cert.Reference21Ideal.Value.run (F := Ideal) m' g')
    · unfold Cert.Reference21Ideal.Value.res_main_v35
      rw [(hagree c).1, (hagree c).2.1, (hagree c).2.2.2.2.1]
      funext y
      obtain ⟨i, j, rfl⟩ : ∃ (i : Fin 8192) (j : Fin 1024), y = ix2 i j := ⟨y 0, y 1, eq_ix2 y⟩
      refine Eq.trans ?_ (rule_eq (ra m c i) (ga m c i) j)
      unfold ruleOf tailOf rootOf meanOf
      pointwise []
      rfl
    · unfold Cert.Reference21Ideal.Value.res_main_v76
      rw [(hagree c).1, (hagree c).2.2.1, (hagree c).2.2.2.1, (hagree c).2.2.2.2.2]
      funext y
      obtain ⟨i, j, rfl⟩ : ∃ (i : Fin 8192) (j : Fin 1024), y = ix2 i j := ⟨y 0, y 1, eq_ix2 y⟩
      refine Eq.trans ?_ (congrArg (· * (rz m c i j * Ideal.logistic (rz m c i j))) (rule_eq (fun k => gate (ry m c i k) (rz m c i k)) (gs m c i) j))
      unfold ruleOf tailOf rootOf meanOf gate
      pointwise []
      rfl
    · unfold Cert.Reference21Ideal.Value.res_main_v78
      rw [(hagree c).1, (hagree c).2.2.1, (hagree c).2.2.2.1, (hagree c).2.2.2.2.2]
      funext y
      obtain ⟨i, j, rfl⟩ : ∃ (i : Fin 8192) (j : Fin 1024), y = ix2 i j := ⟨y 0, y 1, eq_ix2 y⟩
      refine Eq.trans ?_ (dz_rule (ry m c i) (rz m c i) (gs m c i) j fun k => real _ _ _ _ _ _ (hpre c) i k)
      unfold turned
      rw [← rule_eq]
      unfold ruleOf tailOf rootOf meanOf gate
      pointwise []
      rfl
    · rw [(hagree c).1, (hagree c).2.1, (hagree c).2.2.1, (hagree c).2.2.2.1]
      funext y
      obtain ⟨i, j, rfl⟩ : ∃ (i : Fin 8) (j : Fin 1024), y = ix2 i j := ⟨y 0, y 1, eq_ix2 y⟩
      unfold ress row termA termS normed rootOf meanOf gate
      fin_cases i <;> pointwise [] <;> refine Finset.sum_congr rfl fun k _ => ?_
      · exact mul_comm _ _
      · exact mul_comm _ _

/-- The reference's frame -/
theorem frame_reference : Cert.quiescent_Reference21Ideal := fun m ρ _ =>
  (θ_run Cert.Reference21Ideal.defs _ _).mono (fun r h => ⟨fun c => (h c).2.2.2.2, Idealize.ShloMosaic.sem_eq_zero_of_no_sems (by decide) r.2⟩)
    (Cert.Reference21Ideal.Value.run (F := Ideal) m ρ)

end Cert.Prod21
end
-- ==== Proof.Prod22.lean ====
module

public import proofs.«01_k».proof.Defs
public import proofs.«01_k».proof.Proof.Mixer
public import proofs.«01_k».proof.Proof.Gen.Kernel22Ideal.Value
public import proofs.«01_k».proof.Proof.Gen.Reference22Ideal.Run
public import Idealize.ShloMosaic.Lib.Pointwise
public import Idealize.ShloMosaic.Lib.Pipeline.ReadBack
public import Idealize.ShloMosaic.Lib.Pipeline.ValueKit.Geometry

/-!
# The first norm

Every step of the grid norms and modulates 512 rows.
-/

@[expose] public section

set_option maxRecDepth 16384

noncomputable section
namespace Cert.Prod22

open Idealize.ShloMosaic Idealize.ShloMosaic.TcCoe Idealize.SL.Sem Cert.Kernel22Ideal Cert.Kernel22Ideal.Gen Cert.Norm Cert.Mixer

theorem pay (x : FVec Ideal S512x2048 .f32) (g sc sh : FVec Ideal S1x2048 .f32) (i : Fin 512) (j : Fin 2048) :
    (k0_pay1 (F := Ideal) x g sc sh (ix2 i j) : EReal) = modulated (fun k => x (ix2 i k)) (g (ix2 0 j)) (sc (ix2 0 j)) (sh (ix2 0 j)) j := by
  unfold modulated root mean
  pointwise [k0_pay1]

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![t.val, 0] := by decide +kernel

variable (m : (ℓ : Loc nD τ sig) → Buf (Elt Ideal) ℓ) (c : Dev nD)

/-- The arguments that the memory holds -/
abbrev A0 : FVec Ideal S8192x2048 .f32 := m ((c.tc : Thread nD τ).loc main_arg0)
abbrev A1 : FVec Ideal S1x2048 .f32 := m ((c.tc : Thread nD τ).loc main_arg1)
abbrev A2 : FVec Ideal S1x2048 .f32 := m ((c.tc : Thread nD τ).loc main_arg2)
abbrev A3 : FVec Ideal S1x2048 .f32 := m ((c.tc : Thread nD τ).loc main_arg3)

/-- The result -/
def res : FVec Ideal S8192x2048 .bf16 := fun y =>
  modulated (fun k => A0 m c (ix2 (y 0) k)) (A1 m c (ix2 0 (y 1))) (A2 m c (ix2 0 (y 1))) (A3 m c (ix2 0 (y 1))) (y 1)

/-- The row of the arguments that is a tile's row -/
def at' (t : Fin cfg0.N) (i : Fin 512) : Fin 8192 := ⟨t.val * 512 + i.val, by have h := lt_of_lt_of_eq t.isLt (show cfg0.N = 16 from N_0); omega⟩

theorem at_row (t : Fin cfg0.N) (i : Fin 512) (j : Fin 2048) (y : S8192x2048.Idx) (h0 : (y 0).val = t.val * 512 + i.val) (h1 : (y 1).val = j.val) :
    ix2 (at' t i) j = y := by
  obtain ⟨n, l, rfl⟩ : ∃ (n : Fin 8192) (l : Fin 2048), y = ix2 n l := ⟨y 0, y 1, eq_ix2 y⟩
  obtain rfl : n = at' t i := Fin.ext h0
  obtain rfl : l = j := Fin.ext h1
  rfl

theorem tile_x (t : Fin cfg0.N) (i : Fin 512) (j : Fin 2048) :
    (iblk m c 0 t : FVec Ideal S512x2048 .f32) (ix2 i j) = A0 m c (ix2 (at' t i) j) := by
  have e := index_0 t
  unfold A0
  rw [← V_main_arg0 m c]
  blk_simp [iblk]
  refine congrArg _ ?_
  blk_ext [e, at']

theorem tile_g (t : Fin cfg0.N) (j : Fin 2048) : (iblk m c 1 t : FVec Ideal S1x2048 .f32) (ix2 0 j) = A1 m c (ix2 0 j) := by
  have e := index_1 t
  unfold A1
  rw [← V_main_arg1 m c]
  blk_simp [iblk]
  refine congrArg _ ?_
  blk_ext [e]

theorem tile_sc (t : Fin cfg0.N) (j : Fin 2048) : (iblk m c 2 t : FVec Ideal S1x2048 .f32) (ix2 0 j) = A2 m c (ix2 0 j) := by
  have e := index_2 t
  unfold A2
  rw [← V_main_arg2 m c]
  blk_simp [iblk]
  refine congrArg _ ?_
  blk_ext [e]

theorem tile_sh (t : Fin cfg0.N) (j : Fin 2048) : (iblk m c 3 t : FVec Ideal S1x2048 .f32) (ix2 0 j) = A3 m c (ix2 0 j) := by
  have e := index_3 t
  unfold A3
  rw [← V_main_arg3 m c]
  blk_simp [iblk]
  refine congrArg _ ?_
  blk_ext [e]

/-- The kernel's result array holds the result after the run. -/
theorem value : (dats m 0 c).arrAt 4 cfg0.N = res m c := by
  refine (dats m 0 c).arrAt_eq_of_covers 4 _ (by decide +kernel) fun t hf y => ?_
  blk_simp
  rw [after0_4]
  change S512x2048.Idx at y
  have e := index_4 t
  obtain ⟨i, j, rfl⟩ : ∃ (i : Fin 512) (j : Fin 2048), y = ix2 i j := ⟨y 0, y 1, eq_ix2 y⟩
  frame_out
  refine (pay _ _ _ _ i j).trans (Eq.trans ?_ (congrArg (res m c) (at_row t i j _ (by blk_simp [e]) (by blk_simp [e]))))
  rw [funext (tile_x m c t i), tile_g, tile_sc, tile_sh]
  rfl

/-- The call computes what the reference does. -/
theorem algebraic : Cert.algebraic_Kernel22Ideal_Reference22Ideal := by
  intro m g m' g' _ hagree
  refine ⟨res m, ?_, ?_⟩
  · exact (θ_run defs _ _).mono (fun r h c => ⟨(h c).1.trans (value m c), (h c).2⟩) (Value.run_blocks m g)
  · refine (θ_run Cert.Reference22Ideal.defs _ _).mono (fun r h c => ⟨(h c).1.trans ?_, (h c).2⟩)
      (Cert.Reference22Ideal.Value.run (F := Ideal) m' g')
    rw [(hagree c).1, (hagree c).2.1, (hagree c).2.2.1, (hagree c).2.2.2]
    funext y
    obtain ⟨i, j, rfl⟩ : ∃ (i : Fin 8192) (j : Fin 2048), y = ix2 i j := ⟨y 0, y 1, eq_ix2 y⟩
    unfold res modulated root mean
    pointwise []

/-- The reference's frame -/
theorem frame_reference : Cert.quiescent_Reference22Ideal := fun m ρ _ =>
  (θ_run Cert.Reference22Ideal.defs _ _).mono (fun r h => ⟨fun c => (h c).2, Idealize.ShloMosaic.sem_eq_zero_of_no_sems (by decide) r.2⟩)
    (Cert.Reference22Ideal.Value.run (F := Ideal) m ρ)

end Cert.Prod22
end
-- ==== Proof.Prod23.lean ====
module

public import proofs.«01_k».proof.Defs
public import proofs.«01_k».proof.Proof.Mixer
public import proofs.«01_k».proof.Proof.Gen.Kernel23Ideal.Value
public import proofs.«01_k».proof.Proof.Gen.Reference23Ideal.Run
public import Idealize.ShloMosaic.Lib.Pointwise
public import Idealize.ShloMosaic.Lib.Pipeline.ReadBack
public import Idealize.ShloMosaic.Lib.Pipeline.ValueKit.Geometry

/-!
# The second norm

Every step of the grid adds the gated output of the mixers to 512 rows, and norms and modulates the sum.
-/

@[expose] public section

set_option maxRecDepth 16384

noncomputable section
namespace Cert.Prod23

open Idealize.ShloMosaic Idealize.ShloMosaic.TcCoe Idealize.SL.Sem Cert.Kernel23Ideal Cert.Kernel23Ideal.Gen Cert.Norm Cert.Mixer

theorem pay_sum (x : FVec Ideal S512x2048 .f32) (gt : FVec Ideal S1x2048 .f32) (mix : FVec Ideal S512x2048 .f32) (i : Fin 512) (j : Fin 2048) :
    (k0_pay1 (F := Ideal) x gt mix (ix2 i j) : EReal) = x (ix2 i j) + gt (ix2 0 j) * mix (ix2 i j) := by
  pointwise [k0_pay1]

theorem pay (x : FVec Ideal S512x2048 .f32) (gt : FVec Ideal S1x2048 .f32) (mix : FVec Ideal S512x2048 .f32) (g sc sh : FVec Ideal S1x2048 .f32) (i : Fin 512) (j : Fin 2048) :
    (k0_pay2 (F := Ideal) x gt mix g sc sh (ix2 i j) : EReal)
      = modulated (fun k => k0_pay1 (F := Ideal) x gt mix (ix2 i k)) (g (ix2 0 j)) (sc (ix2 0 j)) (sh (ix2 0 j)) j := by
  unfold modulated root mean
  pointwise [k0_pay2, k0_pay1]

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![t.val, 0] := by decide +kernel
theorem index_5 : ∀ t : Fin cfg0.N, win0_5.index t = ![0, 0] := by decide +kernel
theorem index_6 : ∀ t : Fin cfg0.N, win0_6.index t = ![t.val, 0] := by decide +kernel
theorem index_7 : ∀ t : Fin cfg0.N, win0_7.index t = ![t.val, 0] := by decide +kernel

variable (m : (ℓ : Loc nD τ sig) → Buf (Elt Ideal) ℓ) (c : Dev nD)

/-- The arguments that the memory holds -/
abbrev A0 : FVec Ideal S8192x2048 .f32 := m ((c.tc : Thread nD τ).loc main_arg0)
abbrev A1 : FVec Ideal S1x2048 .f32 := m ((c.tc : Thread nD τ).loc main_arg1)
abbrev A2 : FVec Ideal S1x2048 .f32 := m ((c.tc : Thread nD τ).loc main_arg2)
abbrev A3 : FVec Ideal S1x2048 .f32 := m ((c.tc : Thread nD τ).loc main_arg3)
abbrev A4 : FVec Ideal S8192x2048 .f32 := m ((c.tc : Thread nD τ).loc main_arg4)
abbrev A5 : FVec Ideal S1x2048 .f32 := m ((c.tc : Thread nD τ).loc main_arg5)

/-- The results: the sum, and it normed and modulated -/
def sum : FVec Ideal S8192x2048 .f32 := fun y => A0 m c y + A5 m c (ix2 0 (y 1)) * A4 m c y
def res : FVec Ideal S8192x2048 .bf16 := fun y =>
  modulated (fun k => sum m c (ix2 (y 0) k)) (A1 m c (ix2 0 (y 1))) (A2 m c (ix2 0 (y 1))) (A3 m c (ix2 0 (y 1))) (y 1)

/-- The row of the arguments that is a tile's row -/
def at' (t : Fin cfg0.N) (i : Fin 512) : Fin 8192 := ⟨t.val * 512 + i.val, by have h := lt_of_lt_of_eq t.isLt (show cfg0.N = 16 from N_0); omega⟩

theorem at_row (t : Fin cfg0.N) (i : Fin 512) (j : Fin 2048) (y : S8192x2048.Idx) (h0 : (y 0).val = t.val * 512 + i.val) (h1 : (y 1).val = j.val) :
    ix2 (at' t i) j = y := by
  obtain ⟨n, l, rfl⟩ : ∃ (n : Fin 8192) (l : Fin 2048), y = ix2 n l := ⟨y 0, y 1, eq_ix2 y⟩
  obtain rfl : n = at' t i := Fin.ext h0
  obtain rfl : l = j := Fin.ext h1
  rfl

theorem tile_x (t : Fin cfg0.N) (i : Fin 512) (j : Fin 2048) :
    (iblk m c 0 t : FVec Ideal S512x2048 .f32) (ix2 i j) = A0 m c (ix2 (at' t i) j) := by
  have e := index_0 t
  unfold A0
  rw [← V_main_arg0 m c]
  blk_simp [iblk]
  refine congrArg _ ?_
  blk_ext [e, at']

theorem tile_g (t : Fin cfg0.N) (j : Fin 2048) : (iblk m c 1 t : FVec Ideal S1x2048 .f32) (ix2 0 j) = A1 m c (ix2 0 j) := by
  have e := index_1 t
  unfold A1
  rw [← V_main_arg1 m c]
  blk_simp [iblk]
  refine congrArg _ ?_
  blk_ext [e]

theorem tile_sc (t : Fin cfg0.N) (j : Fin 2048) : (iblk m c 2 t : FVec Ideal S1x2048 .f32) (ix2 0 j) = A2 m c (ix2 0 j) := by
  have e := index_2 t
  unfold A2
  rw [← V_main_arg2 m c]
  blk_simp [iblk]
  refine congrArg _ ?_
  blk_ext [e]

theorem tile_sh (t : Fin cfg0.N) (j : Fin 2048) : (iblk m c 3 t : FVec Ideal S1x2048 .f32) (ix2 0 j) = A3 m c (ix2 0 j) := by
  have e := index_3 t
  unfold A3
  rw [← V_main_arg3 m c]
  blk_simp [iblk]
  refine congrArg _ ?_
  blk_ext [e]

theorem tile_mix (t : Fin cfg0.N) (i : Fin 512) (j : Fin 2048) :
    (iblk m c 4 t : FVec Ideal S512x2048 .f32) (ix2 i j) = A4 m c (ix2 (at' t i) j) := by
  have e := index_4 t
  unfold A4
  rw [← V_main_arg4 m c]
  blk_simp [iblk]
  refine congrArg _ ?_
  blk_ext [e, at']

theorem tile_gt (t : Fin cfg0.N) (j : Fin 2048) : (iblk m c 5 t : FVec Ideal S1x2048 .f32) (ix2 0 j) = A5 m c (ix2 0 j) := by
  have e := index_5 t
  unfold A5
  rw [← V_main_arg5 m c]
  blk_simp [iblk]
  refine congrArg _ ?_
  blk_ext [e]

/-- A tile's sum -/
theorem tile_sum (t : Fin cfg0.N) (i : Fin 512) (j : Fin 2048) :
    (k0_pay1 (F := Ideal) (iblk m c 0 t) (iblk m c 5 t) (iblk m c 4 t) (ix2 i j) : EReal) = sum m c (ix2 (at' t i) j) := by
  rw [pay_sum, tile_x, tile_gt, tile_mix]
  rfl

/-- The kernel's result arrays hold the results after the run. -/
theorem value_sum : (dats m 0 c).arrAt 7 cfg0.N = sum m c := by
  refine (dats m 0 c).arrAt_eq_of_covers 7 _ (by decide +kernel) fun t hf y => ?_
  blk_simp
  rw [after0_7]
  change S512x2048.Idx at y
  have e := index_7 t
  obtain ⟨i, j, rfl⟩ : ∃ (i : Fin 512) (j : Fin 2048), y = ix2 i j := ⟨y 0, y 1, eq_ix2 y⟩
  frame_out
  exact ((tile_sum m c t i j).trans (congrArg (sum m c) (at_row t i j _ (by blk_simp [e]) (by blk_simp [e]))))

theorem value : (dats m 0 c).arrAt 6 cfg0.N = res m c := by
  refine (dats m 0 c).arrAt_eq_of_covers 6 _ (by decide +kernel) fun t hf y => ?_
  blk_simp
  rw [after0_6]
  change S512x2048.Idx at y
  have e := index_6 t
  obtain ⟨i, j, rfl⟩ : ∃ (i : Fin 512) (j : Fin 2048), y = ix2 i j := ⟨y 0, y 1, eq_ix2 y⟩
  frame_out
  refine (pay _ _ _ _ _ _ i j).trans (Eq.trans ?_ (congrArg (res m c) (at_row t i j _ (by blk_simp [e]) (by blk_simp [e]))))
  rw [funext (tile_sum m c t i), tile_g, tile_sc, tile_sh]
  rfl

/-- The call computes what the reference does. -/
theorem algebraic : Cert.algebraic_Kernel23Ideal_Reference23Ideal := by
  intro m g m' g' _ hagree
  refine ⟨res m, sum m, ?_, ?_⟩
  · exact (θ_run defs _ _).mono (fun r h c => ⟨(h c).1.trans (value m c), (h c).2.1.trans (value_sum m c), (h c).2.2⟩) (Value.run_blocks m g)
  · refine (θ_run Cert.Reference23Ideal.defs _ _).mono (fun r h c => ⟨(h c).1.trans ?_, (h c).2.1.trans ?_, (h c).2.2⟩)
      (Cert.Reference23Ideal.Value.run (F := Ideal) m' g')
    all_goals
      simp only [(hagree c).1, (hagree c).2.1, (hagree c).2.2.1, (hagree c).2.2.2.1, (hagree c).2.2.2.2.1, (hagree c).2.2.2.2.2]
      funext y
      obtain ⟨i, j, rfl⟩ : ∃ (i : Fin 8192) (j : Fin 2048), y = ix2 i j := ⟨y 0, y 1, eq_ix2 y⟩
    · unfold res modulated root mean sum
      pointwise []
    · unfold sum
      pointwise []

/-- The reference's frame -/
theorem frame_reference : Cert.quiescent_Reference23Ideal := fun m ρ _ =>
  (θ_run Cert.Reference23Ideal.defs _ _).mono (fun r h => ⟨fun c => (h c).2.2, Idealize.ShloMosaic.sem_eq_zero_of_no_sems (by decide) r.2⟩)
    (Cert.Reference23Ideal.Value.run (F := Ideal) m ρ)

end Cert.Prod23
end
-- ==== Proof.Prod24.lean ====
module

public import proofs.«01_k».proof.Defs
public import proofs.«01_k».proof.Proof.Mixer
public import proofs.«01_k».proof.Proof.Gen.Kernel24Ideal.Value
public import proofs.«01_k».proof.Proof.Gen.Reference24Ideal.Run
public import Idealize.ShloMosaic.Lib.Pointwise
public import Idealize.ShloMosaic.Lib.Pipeline.ReadBack
public import Idealize.ShloMosaic.Lib.Pipeline.ValueKit.Geometry

/-!
# The norms of the mixers' outputs

Every step of the grid norms 512 rows of the attention's output, and 512 gated rows of the recurrence's.
-/

@[expose] public section

set_option maxRecDepth 16384

noncomputable section
namespace Cert.Prod24

open Idealize.ShloMosaic Idealize.ShloMosaic.TcCoe Idealize.SL.Sem Cert.Kernel24Ideal Cert.Kernel24Ideal.Gen Cert.Norm Cert.Mixer

theorem pay_a (x : FVec Ideal S512x1024 .f32) (g : FVec Ideal S1x1024 .f32) (i : Fin 512) (j : Fin 1024) :
    (k0_pay1 (F := Ideal) x g (ix2 i j) : EReal) = normed (fun k => x (ix2 i k)) j * g (ix2 0 j) := by
  unfold normed rootOf meanOf
  pointwise [k0_pay1]

theorem pay_y (z y : FVec Ideal S512x1024 .f32) (g : FVec Ideal S1x1024 .f32) (i : Fin 512) (j : Fin 1024) :
    (k0_pay2 (F := Ideal) z y g (ix2 i j) : EReal) = normed (fun k => gate (y (ix2 i k)) (z (ix2 i k))) j * g (ix2 0 j) := by
  unfold normed rootOf meanOf gate
  pointwise [k0_pay2]

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 3] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![t.val, 0] := by decide +kernel

variable (m : (ℓ : Loc nD τ sig) → Buf (Elt Ideal) ℓ) (c : Dev nD)

/-- The arguments that the memory holds -/
abbrev A0 : FVec Ideal S8192x1024 .f32 := m ((c.tc : Thread nD τ).loc main_arg0)
abbrev A1 : FVec Ideal S8192x1024 .f32 := m ((c.tc : Thread nD τ).loc main_arg1)
abbrev A2 : FVec Ideal S8192x5760 .f32 := m ((c.tc : Thread nD τ).loc main_arg2)
abbrev A3 : FVec Ideal S1x1024 .f32 := m ((c.tc : Thread nD τ).loc main_arg3)
abbrev A4 : FVec Ideal S1x1024 .f32 := m ((c.tc : Thread nD τ).loc main_arg4)

/-- The halves of a row of the result, and the result -/
def half (n : Fin 8192) (j : Fin 1024) : EReal := normed (fun k => A0 m c (ix2 n k)) j * A3 m c (ix2 0 j)
def other (n : Fin 8192) (j : Fin 1024) : EReal := normed (fun k => gate (A1 m c (ix2 n k)) (A2 m c (ix2 n (right 3072 k)))) j * A4 m c (ix2 0 j)
def res : FVec Ideal S8192x2048 .bf16 := fun y =>
  if h : (y 1).val < 1024 then half m c (y 0) ⟨(y 1).val, h⟩ else other m c (y 0) ⟨(y 1).val - 1024, by have := (y 1).isLt; change (y 1).val < 2048 at this; omega⟩

/-- The row of the arguments that is a tile's row -/
def at' (t : Fin cfg0.N) (i : Fin 512) : Fin 8192 := ⟨t.val * 512 + i.val, by have h := lt_of_lt_of_eq t.isLt (show cfg0.N = 16 from N_0); omega⟩

theorem at_row (t : Fin cfg0.N) (i : Fin 512) (j : Fin 2048) (y : S8192x2048.Idx) (h0 : (y 0).val = t.val * 512 + i.val) (h1 : (y 1).val = j.val) :
    ix2 (at' t i) j = y := by
  obtain ⟨n, l, rfl⟩ : ∃ (n : Fin 8192) (l : Fin 2048), y = ix2 n l := ⟨y 0, y 1, eq_ix2 y⟩
  obtain rfl : n = at' t i := Fin.ext h0
  obtain rfl : l = j := Fin.ext h1
  rfl

theorem tile_a (t : Fin cfg0.N) (i : Fin 512) (j : Fin 1024) :
    (iblk m c 0 t : FVec Ideal S512x1024 .f32) (ix2 i j) = A0 m c (ix2 (at' t i) j) := by
  have e := index_0 t
  unfold A0
  rw [← V_main_arg0 m c]
  blk_simp [iblk]
  refine congrArg _ ?_
  blk_ext [e, at']

theorem tile_y (t : Fin cfg0.N) (i : Fin 512) (j : Fin 1024) :
    (iblk m c 1 t : FVec Ideal S512x1024 .f32) (ix2 i j) = A1 m c (ix2 (at' t i) j) := by
  have e := index_1 t
  unfold A1
  rw [← V_main_arg1 m c]
  blk_simp [iblk]
  refine congrArg _ ?_
  blk_ext [e, at']

theorem tile_z (t : Fin cfg0.N) (i : Fin 512) (j : Fin 1024) :
    (X0_2 m c t : FVec Ideal S512x1024 .f32) (ix2 i j) = A2 m c (ix2 (at' t i) (right 3072 j)) := by
  have e := index_2 t
  unfold A2 X0_2
  rw [← V_main_arg2 m c]
  unfold Pipeline.Window.fill
  rw [dif_pos (moved0_2 t (ix2 i j))]
  blk_simp [iblk]
  refine congrArg _ ?_
  blk_ext [e, at', right_val]

theorem tile_ga (t : Fin cfg0.N) (j : Fin 1024) : (iblk m c 3 t : FVec Ideal S1x1024 .f32) (ix2 0 j) = A3 m c (ix2 0 j) := by
  have e := index_3 t
  unfold A3
  rw [← V_main_arg3 m c]
  blk_simp [iblk]
  refine congrArg _ ?_
  blk_ext [e]

theorem tile_gs (t : Fin cfg0.N) (j : Fin 1024) : (iblk m c 4 t : FVec Ideal S1x1024 .f32) (ix2 0 j) = A4 m c (ix2 0 j) := by
  have e := index_4 t
  unfold A4
  rw [← V_main_arg4 m c]
  blk_simp [iblk]
  refine congrArg _ ?_
  blk_ext [e]

/-- A tile's row in halves -/
theorem tile_half (t : Fin cfg0.N) (i : Fin 512) (j : Fin 1024) :
    (k0_pay1 (F := Ideal) (iblk m c 0 t) (iblk m c 3 t) (ix2 i j) : EReal) = half m c (at' t i) j := by
  rw [pay_a, funext (tile_a m c t i), tile_ga]
  rfl

theorem tile_other (t : Fin cfg0.N) (i : Fin 512) (j : Fin 1024) :
    (k0_pay2 (F := Ideal) (X0_2 m c t) (iblk m c 1 t) (iblk m c 4 t) (ix2 i j) : EReal) = other m c (at' t i) j := by
  rw [pay_y, show (fun k => gate ((iblk m c 1 t : FVec Ideal S512x1024 .f32) (ix2 i k)) ((X0_2 m c t : FVec Ideal S512x1024 .f32) (ix2 i k))) = _ from
    funext fun k => congrArg₂ gate (tile_y m c t i k) (tile_z m c t i k), tile_gs]
  rfl

/-- The kernel's result array holds the result after the run. -/
theorem value : (dats m 0 c).arrAt 5 cfg0.N = res m c := by
  refine (dats m 0 c).arrAt_eq_of_covers 5 _ (by decide +kernel) fun t hf y => ?_
  blk_simp
  rw [after0_5]
  change S512x2048.Idx at y
  have e := index_5 t
  obtain ⟨i, j, rfl⟩ : ∃ (i : Fin 512) (j : Fin 2048), y = ix2 i j := ⟨y 0, y 1, eq_ix2 y⟩
  refine Eq.trans ?_ (congrArg (res m c) (at_row t i j _ (by blk_simp [e]) (by blk_simp [e])))
  unfold outsAt0
  frame_out
  refine View.canon_eq_of_allAt _ _ _ (View.cover_of_tiled_head _ _ _ (by rfl) _) (View.allAt_cons_unit _ _ _ _ _ (fun x hx => ?_)
    (View.allAt_cons_unit _ _ _ _ _ (fun x hx => ?_) (View.allAt_nil _ _)))
  all_goals
    change S512x1024.Idx at x
    obtain ⟨k, l, rfl⟩ : ∃ (k : Fin 512) (l : Fin 1024), x = ix2 k l := ⟨x 0, x 1, eq_ix2 x⟩
    obtain rfl : i = k := Fin.ext ((hx 0).trans (Nat.zero_add _))
  · have h1 : j.val = 1024 + l.val := hx 1
    refine (tile_other m c t i l).trans ?_
    have hj : ¬ j.val < 1024 := by omega
    refine Eq.trans ?_ (dif_neg hj).symm
    exact congrArg (other m c (at' t i)) (Fin.ext (by show l.val = j.val - 1024; omega))
  · have h1 : j.val = 0 + l.val := hx 1
    refine (tile_half m c t i l).trans ?_
    have hj : j.val < 1024 := by omega
    refine Eq.trans ?_ (dif_pos hj).symm
    exact congrArg (half m c (at' t i)) (Fin.ext (by show l.val = j.val; omega))

/-- The call computes what the reference does. -/
theorem algebraic : Cert.algebraic_Kernel24Ideal_Reference24Ideal := by
  intro m g m' g' _ hagree
  refine ⟨res m, ?_, ?_⟩
  · exact (θ_run defs _ _).mono (fun r h c => ⟨(h c).1.trans (value m c), (h c).2⟩) (Value.run_blocks m g)
  · refine (θ_run Cert.Reference24Ideal.defs _ _).mono (fun r h c => ⟨(h c).1.trans ?_, (h c).2⟩)
      (Cert.Reference24Ideal.Value.run (F := Ideal) m' g')
    rw [(hagree c).1, (hagree c).2.1, (hagree c).2.2.1, (hagree c).2.2.2.1, (hagree c).2.2.2.2]
    funext y
    obtain ⟨i, j, rfl⟩ : ∃ (i : Fin 8192) (j : Fin 2048), y = ix2 i j := ⟨y 0, y 1, eq_ix2 y⟩
    unfold res half other normed rootOf meanOf gate
    pointwise []
    rfl

/-- The reference's frame -/
theorem frame_reference : Cert.quiescent_Reference24Ideal := fun m ρ _ =>
  (θ_run Cert.Reference24Ideal.defs _ _).mono (fun r h => ⟨fun c => (h c).2, Idealize.ShloMosaic.sem_eq_zero_of_no_sems (by decide) r.2⟩)
    (Cert.Reference24Ideal.Value.run (F := Ideal) m ρ)

end Cert.Prod24
end
-- ==== Proof.Prod25.lean ====
module

public import proofs.«01_k».proof.Defs
public import proofs.«01_k».proof.Proof.HostAt
public import proofs.«01_k».proof.Proof.Gen.Kernel25Ideal.Frame
public import proofs.«01_k».proof.Proof.Gen.Reference25Ideal.Run
public import Idealize.ShloMosaic.Lib.Pointwise
public import Idealize.ShloMosaic.Lib.Routing.OpsPair
public import Idealize.ShloMosaic.Lib.Pipeline.ValueKit.Geometry
public import Idealize.ShloMosaic.Lib.Pipeline.ValueKit.Acc
public import Idealize.ShloMosaic.Lib.Pipeline.Value

/-!
# The gradient of the table of biases

The kernel multiplies the biases' gradient, a head a row, by the matrix that has a one where a query and a key of
the band pick an entry of the table; the reference adds each element of the gradient to the entry it was picked from.
-/

@[expose] public section

set_option maxRecDepth 16384

noncomputable section
namespace Cert.Prod25

open Idealize.ShloMosaic Idealize.ShloMosaic.TcCoe Idealize.SL.Sem Cert.Kernel25Ideal Cert.Kernel25Ideal.Gen

/-- The entry of the table that query `a` of a chunk picks for key `j` of its band -/
def entry (a j : ℕ) : ℕ := min 319 (a + 575 - j)

/-- The gradient of the table: an entry's is the sum over what was picked from it. -/
def out (d : FVec Ideal S16x576x64 .f32) : FVec Ideal S16x320 .f32 := fun y =>
  ∑ j : Fin 576, ∑ a : Fin 64, if entry a.val j.val = (y 1).val then d (ix3 (y 0) j a) else 0

/-! ## The reference: a sum over what lands at an entry -/

/-- The dimension numbers of the sum into columns that an index names -/
abbrev colDims (H N R C : Nat)
    (wf : ScatterDims.WF ⟨2, ![H, N]⟩ ⟨3, ![R, C, 1]⟩ ⟨3, ![H, R, C]⟩ [0] [1] [1] 2) :
    ScatterDims ⟨2, ![H, N]⟩ ⟨3, ![R, C, 1]⟩ ⟨3, ![H, R, C]⟩ where
  updateWindowDims := [0]
  insertedWindowDims := [1]
  scatterDimsToOperandDims := [1]
  indexVectorDim := 2
  wf := wf

/-- An update lands in its own row, in the column that its index names. -/
theorem lands {H N R C : Nat} (wf : ScatterDims.WF ⟨2, ![H, N]⟩ ⟨3, ![R, C, 1]⟩ ⟨3, ![H, R, C]⟩ [0] [1] [1] 2)
    (g : IVec ⟨3, ![R, C, 1]⟩ 32) (h : Fin H) (a : Fin R) (j : Fin C) (k : ℕ) (hk : (g (ix3 a j 0)).toInt = k) (r : Fin H) (n : Fin N) :
    (colDims H N R C wf).resultIdx? (ix3 h a j) g = some (ix2 r n) ↔ h = r ∧ k = n.val := by
  have hm : (1 : Fin 2) ∈ (colDims H N R C wf).scatterDimsToOperandDims := List.mem_singleton.2 rfl
  have hw1 : (colDims H N R C wf).window (ix3 h a j) 1 = 0 := by
    unfold ScatterDims.window
    rw [dif_neg fun h => (of_decide_eq_true (List.mem_filter.1 h).2) (List.mem_singleton.2 rfl)]
  have hw0 : (colDims H N R C wf).window (ix3 h a j) 0 = h.val := by
    have hs : (colDims H N R C wf).sKept = [0] := rfl
    unfold ScatterDims.window
    rw [dif_pos (by rw [hs]; exact List.mem_singleton.2 rfl)]
    rfl
  have hs0 : (colDims H N R C wf).start (ix3 h a j) g 0 = 0 := by
    unfold ScatterDims.start
    rw [dif_neg fun h => absurd (List.mem_singleton.1 h) (by decide : (0 : Fin 2) ≠ 1)]
  have hs1 : (colDims H N R C wf).start (ix3 h a j) g 1 = k := by
    unfold ScatterDims.start
    rw [dif_pos hm]
    have hsi : (colDims H N R C wf).siIdx (ix3 h a j) ⟨List.idxOf (1 : Fin 2) (colDims H N R C wf).scatterDimsToOperandDims,
        List.idxOf_lt_length_iff.2 hm⟩ = ix3 a j 0 := by
      funext b; refine Fin.ext ?_
      match b with
      | ⟨0, _⟩ => rfl
      | ⟨1, _⟩ => rfl
      | ⟨2, _⟩ => rfl
    rw [hsi, hk]
  refine (Routing.resultIdx?_ix2 (R := H) (C := N) (colDims H N R C wf) (ix3 h a j) g r n).trans ?_
  rw [hs0, hw0, hs1, hw1, Fin.ext_iff]
  omega

/-- So a sum into columns is, at an entry, the sum over the indices that name its column. -/
theorem scatter_col {H N R C : Nat} (wf : ScatterDims.WF ⟨2, ![H, N]⟩ ⟨3, ![R, C, 1]⟩ ⟨3, ![H, R, C]⟩ [0] [1] [1] 2)
    (x : (⟨2, ![H, N]⟩ : Shape).Idx → EReal) (g : IVec ⟨3, ![R, C, 1]⟩ 32) (u : (⟨3, ![H, R, C]⟩ : Shape).Idx → EReal)
    (k : ℕ → ℕ → ℕ) (hk : ∀ (a : Fin R) (j : Fin C), (g (ix3 a j 0)).toInt = k a.val j.val) (r : Fin H) (n : Fin N) :
    Ideal.hostScatterAdd (colDims H N R C wf) x g u (ix2 r n)
      = x (ix2 r n) + ∑ j : Fin C, ∑ a : Fin R, if k a.val j.val = n.val then u (ix3 r a j) else 0 := by
  unfold Ideal.hostScatterAdd
  congr 1
  rw [Finset.sum_filter, sum_idx3]
  have hl : ∀ (h : Fin H) (a : Fin R) (j : Fin C),
      (if (colDims H N R C wf).resultIdx? (ix3 h a j) g = some (ix2 r n) then u (ix3 h a j) else 0)
        = if h = r then (if k a.val j.val = n.val then u (ix3 r a j) else 0) else 0 := fun h a j => by
    by_cases hr : h = r
    · subst hr
      rw [if_pos rfl]
      exact if_congr ((lands wf g h a j _ (hk a j) h n).trans (and_iff_right rfl)) rfl rfl
    · rw [if_neg hr, if_neg fun e => hr ((lands wf g h a j _ (hk a j) r n).1 e).1]
  simp only [hl]
  rw [Finset.sum_eq_single r (fun h _ hr => by simp only [if_neg hr, Finset.sum_const_zero]) (fun h => absurd (Finset.mem_univ _) h)]
  simp only [if_pos]
  exact Finset.sum_comm

/-! ## The kernel -/

/-- What one step adds to the accumulator -/
def part (a : FVec Ideal S16x4608 .f32) (b : FVec Ideal S4608x320 .f32) (y : S16x320.Idx) : EReal :=
  ∑ k : Fin 4608, a (ix2 (y 0) k) * b (ix2 k (y 1))

theorem zero (y : S16x320.Idx) : (k0_pay1 (F := Ideal) y : EReal) = 0 := by
  rw [eq_ix2 y]
  pointwise [k0_pay1]

theorem step (x : FVec Ideal S16x320 .f32) (a : FVec Ideal S16x4608 .f32) (b : FVec Ideal S4608x320 .f32) (y : S16x320.Idx) :
    (k0_pay2 (F := Ideal) x a b y : EReal) = x y + part a b y := by
  rw [eq_ix2 y]
  unfold part
  pointwise [k0_pay2]

theorem index_0 : ∀ t : Fin cfg0.N, win0_0.index t = ![0, t.val % 8] := by decide +kernel
theorem index_1 : ∀ t : Fin cfg0.N, win0_1.index t = ![t.val % 8, 0] := by decide +kernel
theorem index_2 : ∀ t : Fin cfg0.N, win0_2.index t = ![0, 0] := by decide +kernel

/-- The product with the matrix of what picks what, over the positions of a head's row -/
theorem regroup (a : FVec Ideal S16x36864 .f32) (b : FVec Ideal S36864x320 .f32) (d : FVec Ideal S16x576x64 .f32)
    (ha : ∀ (h : Fin 16) (k : Fin 36864), a (ix2 h k) = d (ix3 h ⟨k.val / 64, by omega⟩ ⟨k.val % 64, by omega⟩))
    (hb : ∀ (k : Fin 36864) (n : Fin 320), (b (ix2 k n) : EReal) = if entry (k.val % 64) (k.val / 64) = n.val then 1 else 0) (h : Fin 16) (n : Fin 320) :
    (∑ k : Fin 36864, (a (ix2 h k) : EReal) * b (ix2 k n)) = out d (ix2 h n) := by
  refine (Fin.sum_mul_add_congr (S := 576) (n := 64)
    (F := fun j a => if entry a.val j.val = n.val then (d (ix3 h j a) : EReal) else 0) fun j i hl => ?_).symm
  have hj : (j.val * 64 + i.val) / 64 = j.val := by have := i.isLt; omega
  have hi : (j.val * 64 + i.val) % 64 = i.val := by have := i.isLt; omega
  rw [ha, hb]
  simp only [hj, hi, Fin.eta, mul_ite, mul_one, mul_zero]

variable (m : (ℓ : Loc nD τ sig) → Buf (Elt Ideal) ℓ) (c : Dev nD)

/-- The gradient, a head a row -/
theorem flat (h : Fin 16) (k : Fin 36864) :
    (V m c main_v20 : FVec Ideal S16x36864 .f32) (ix2 h k)
      = (m ((c.tc : Thread nD τ).loc main_arg0) : FVec Ideal S16x576x64 .f32) (ix3 h ⟨k.val / 64, by omega⟩ ⟨k.val % 64, by omega⟩) := by
  have e : (V m c main_v20 : FVec Ideal S16x36864 .f32) = shapeCast S16x36864 (m ((c.tc : Thread nD τ).loc main_arg0) : FVec Ideal S16x576x64 .f32) shapeCasts_S16x576x64_S16x36864 := by
    unfold V
    simp only [hostOps0, hostOps0_1, hostOps0_2, List.flatten_cons, List.flatten_nil, List.cons_append, List.nil_append]
    after_results_simp <;> rfl
  rw [e]
  pointwise []

/-- The matrix of what picks what -/
theorem picks : (show FVec Ideal S36864x320 .f32 from V m c main_v19)
    = uitofp .f32 (cmpi .eq (broadcastInDim S36864x320 ![0, 1] bcast_S36864x1_S36864x320_0_1 (shapeCast S36864x1 (transpose S576x64 [1, 0] Cert.Host.idx0 transposes_S64x576_S576x64_1_0) shapeCasts_S576x64_S36864x1))
        (broadcastInDim S36864x320 ![0, 1] bcast_S1x320_S36864x320_0_1 (broadcastInDim S1x320 ![1] bcast_S320_S1x320_1 (iotaInDim S320 32 0)))) := by
  unfold V
  simp only [hostOps0, hostOps0_1, hostOps0_2, StableHlo.TRef.binary, StableHlo.TRef.unary, StableHlo.TRef.toBuf, StableHlo.TRef.ofBuf, cast_eq,
    List.flatten_cons, List.flatten_nil, List.cons_append, List.nil_append]
  after_results_simp <;> rfl

/-- A word as wide as a truth value, as a float -/
theorem truth (p : Prop) [Decidable p] : (FloatOps.uitofp (F := Ideal) FTy.f32 (BitVec.ofBool (decide p)) : EReal) = if p then 1 else 0 := by
  by_cases h : p
  · rw [if_pos h, decide_eq_true h]
    exact (congrArg (fun x : ℝ => (x : EReal)) Nat.cast_one)
  · rw [if_neg h, decide_eq_false h]
    exact (congrArg (fun x : ℝ => (x : EReal)) Nat.cast_zero)

/-- Two words are equal when the numbers are. -/
theorem same (x : BitVec 32) (k n : ℕ) (hx : x.toInt = k) (hn : n < 320) :
    IntOp.cmpi CmpIPredicate.eq x (BitVec.ofNat 32 n) = BitVec.ofBool (decide (k = n)) := by
  show BitVec.ofBool (x == BitVec.ofNat 32 n) = _
  refine congrArg BitVec.ofBool ?_
  rw [Bool.beq_eq_decide_eq, decide_eq_decide, ← BitVec.toInt_inj, hx, Cert.Host.word_toInt n (by omega)]
  exact Int.natCast_inj

theorem onehot (k : Fin 36864) (n : Fin 320) :
    ((show FVec Ideal S36864x320 .f32 from V m c main_v19) (ix2 k n) : EReal) = if entry (k.val % 64) (k.val / 64) = n.val then 1 else 0 := by
  rw [picks]
  have hi := Cert.Host.idx0_toInt ⟨k.val % 64, by omega⟩ ⟨k.val / 64, by omega⟩
  pointwise []
  exact (congrArg (FloatOps.uitofp (F := Ideal) FTy.f32) (same _ _ _ hi n.isLt)).trans (truth _)

theorem point_lt (t : Fin cfg0.N) (s : Fin 8) : 8 * (t.val / 8) + s.val < cfg0.N := by
  have h := lt_of_lt_of_eq t.isLt (show cfg0.N = 8 from N_0)
  exact lt_of_lt_of_eq (by omega) (show cfg0.N = 8 from N_0).symm

/-- What the accumulator holds after the last step -/
theorem scratch (t : Fin cfg0.N) (h : t.val % 8 = 7) (y : S16x320.Idx) :
    ((outsAt0 m c t.val t.isLt).2 y : EReal)
      = ∑ s : Fin 8, part (iblk m c 0 ⟨8 * (t.val / 8) + s.val, point_lt t s⟩)
          (iblk m c 1 ⟨8 * (t.val / 8) + s.val, point_lt t s⟩) y := by
  have e := Pipeline.eq_sum_fin_of_reset_step_apply_of_flush (M := EReal) (fun n h => (outsAt0 m c n h).2) 8 (fun _ => 0)
    (fun t y => part (iblk m c 0 t) (iblk m c 1 t) y)
    (fun t h y => by
      rw [outsAt0_A m c t h (by omega)]
      frame_out
      rw [step, zero])
    (fun t h y => by
      by_cases h7 : t.val % 8 = 7
      · rw [outsAt0_C m c t h h7]
        frame_out
        rw [step, (Memref.isWhole_whole _).read_unread]
      · rw [outsAt0_B m c t h h7]
        frame_out
        rw [step, (Memref.isWhole_whole _).read_unread]) t h y
  rw [zero_add] at e
  exact e

/-- The last step writes it back. -/
theorem written (t : Fin cfg0.N) (h : t.val % 8 = 7) (y : S16x320.Idx) :
    ((outsAt0 m c t.val t.isLt).1 y : EReal) = (outsAt0 m c t.val t.isLt).2 y := by
  rw [outsAt0_C m c t (by omega) h]
  frame_out

/-- The result of the argument that the memory holds -/
abbrev res : FVec Ideal S16x320 .f32 := out (m ((c.tc : Thread nD τ).loc main_arg0))

/-- is what the kernel's result array holds after the run. -/
theorem value : (dats m 0 c).arrAt 2 cfg0.N = res m c := by
  refine (dats m 0 c).arrAt_eq_of_covers 2 _ (by decide +kernel) fun t hf y => ?_
  have h7 : t.val % 8 = 7 := (flush0_2 t).mp hf
  have h8 := lt_of_lt_of_eq t.isLt (show cfg0.N = 8 from N_0)
  blk_simp
  rw [after0_2]
  change S16x320.Idx at y
  refine (written m c t h7 y).trans ((scratch m c t h7 y).trans ?_)
  obtain ⟨h, n, rfl⟩ : ∃ (h : Fin 16) (n : Fin 320), y = ix2 h n := ⟨y 0, y 1, eq_ix2 y⟩
  have e2 := index_2 t
  unfold part
  refine (Fin.sum_mul_add_congr (L := 36864) (f := fun k => (show EReal from V m c main_v20 (ix2 h k)) * (show EReal from V m c main_v19 (ix2 k n))) (fun s k hl => by
    refine congrArg₂ (· * ·) ?_ ?_
    all_goals
      have e0 := index_0 ⟨8 * (t.val / 8) + s.val, point_lt t s⟩
      have e1 := index_1 ⟨8 * (t.val / 8) + s.val, point_lt t s⟩
      have es : (8 * (t.val / 8) + s.val) % 8 = s.val := by have := s.isLt; omega
      blk_simp [iblk]
      refine congrArg _ ?_
      blk_ext [e0, e1, es])).trans ?_
  have ey : (win0_2.blk t).view.emb (ix2 h n) = ix2 h n := by
    blk_ext [e2]
  refine Eq.trans ?_ (congrArg (res m c) ey).symm
  exact regroup (V m c main_v20) (V m c main_v19) (m ((c.tc : Thread nD τ).loc main_arg0)) (flat m c) (onehot m c) h n

/-- The run -/
theorem run (ρ : Dev nD → PrngReg) : θ_run defs (onTc (τ := τ) (main (F := Ideal))) ⟨m, fun _ => 0, ρ⟩ fun r => ∀ c : Dev nD,
      r.2.mem ((c.tc : Thread nD τ).loc main_v21) = res m c
      ∧ r.2.mem ((c.tc : Thread nD τ).loc main_arg0) = m ((c.tc : Thread nD τ).loc main_arg0) :=
  (θ_run defs _ _).mono (fun r h c => ⟨((h c).1 2).trans (value m c),
      ((h c).2 main_arg0 (by decide)).trans (V_main_arg0 m c)⟩)
    (run_main m ρ)

/-- The call computes what the reference does. -/
theorem algebraic : Cert.algebraic_Kernel25Ideal_Reference25Ideal := by
  intro m g m' g' _ hagree
  refine ⟨res m, ?_, ?_⟩
  · exact run m g
  · refine (θ_run Cert.Reference25Ideal.defs _ _).mono (fun r h c => ⟨(h c).1.trans ?_, (h c).2⟩) (Cert.Reference25Ideal.Value.run (F := Ideal) m' g')
    rw [hagree c]
    funext y
    obtain ⟨h, n, rfl⟩ : ∃ (h : Fin 16) (n : Fin 320), y = ix2 h n := ⟨y 0, y 1, eq_ix2 y⟩
    refine (scatter_col (H := 16) (N := 320) (R := 64) (C := 576) _ _ _ _ entry (fun a j => ?_) h n).trans ?_
    · pointwise []
      exact Cert.Host.idx_toInt a j
    unfold res out
    pointwise []

/-- The reference's frame -/
theorem frame_reference : Cert.quiescent_Reference25Ideal := fun m ρ _ =>
  (θ_run Cert.Reference25Ideal.defs _ _).mono (fun r h => ⟨fun c => (h c).2, Idealize.ShloMosaic.sem_eq_zero_of_no_sems (by decide) r.2⟩)
    (Cert.Reference25Ideal.Value.run (F := Ideal) m ρ)

end Cert.Prod25
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KFrame
public import proofs.«01_k».proof.Proof.KRun
public import proofs.«01_k».proof.Proof.RValue
public import proofs.«01_k».proof.Proof.Pre
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference4DownIdeal
public import proofs.«01_k».proof.Proof.Gen.Reference4DownIdeal.Run
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Prod13
public import proofs.«01_k».proof.Proof.Prod14
public import proofs.«01_k».proof.Proof.Prod15
public import proofs.«01_k».proof.Proof.Prod16
public import proofs.«01_k».proof.Proof.Prod17
public import proofs.«01_k».proof.Proof.Prod18
public import proofs.«01_k».proof.Proof.Prod19
public import proofs.«01_k».proof.Proof.Prod20
public import proofs.«01_k».proof.Proof.Prod21
public import proofs.«01_k».proof.Proof.Prod22
public import proofs.«01_k».proof.Proof.Prod23
public import proofs.«01_k».proof.Proof.Prod24
public import proofs.«01_k».proof.Proof.Prod25
public import Idealize.ShloMosaic.Adequacy
public import Idealize.ShloMosaic.Init

@[expose] public section

noncomputable section

namespace Cert.Proof

open Idealize.ShloMosaic Idealize.SL.Sem Cert.Att

/-- The frame of the kernel's idealization, of any arguments -/
theorem frame_kernelIdeal : Cert.quiescent_KernelIdeal := fun m ρ _ => Cert.Bwd.frame_ideal m ρ

/-- and so of finite ones. -/
theorem frame_kernelIdeal_finite : Cert.quiescent_KernelIdeal_pre_finite := fun m ρ _ => Cert.Bwd.frame_ideal m ρ

/-- The reference's frame: a straight-line host program that declares no semaphore. -/
theorem frame_referenceIdeal : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

theorem frame_referenceIdeal_finite : Cert.quiescent_ReferenceIdeal_pre_finite := fun m ρ _ => frame_referenceIdeal m ρ trivial

/-- The kernel's and the reference's results are the same arrays: the gradients that `Cert.Att.Arrs` writes down, of the
    real numbers that the arguments hold. -/
theorem algebraic : Cert.algebraic_KernelIdeal_ReferenceIdeal_pre_finite := by
  intro m g m' g' hpre hagree
  obtain ⟨A, I⟩ : ∃ A : Dev Cert.KernelIdeal.nD → Arrs, ∀ c, Cert.Bwd.InsAt m c (A c) :=
    ⟨fun c => Cert.Finite.arrs _ _ _, fun c => Cert.Finite.ins _ _ _ (hpre c)⟩
  refine ⟨fun c y => ((Arrs.dq (A c) (y 0).val (y 1).val : ℝ) : EReal), fun c y => ((Arrs.dk (A c) (y 0).val (y 1).val : ℝ) : EReal),
    fun c y => ((Arrs.dv (A c) (y 0).val (y 1).val : ℝ) : EReal), fun c y => ((Arrs.db (A c) (y 0).val (y 1).val (y 2).val : ℝ) : EReal), ?_, ?_⟩
  · exact Cert.Bwd.run_values m g A I
  · refine (θ_run Cert.ReferenceIdeal.defs _ _).mono (fun r h c => ?_) (Cert.ReferenceIdeal.Value.run (F := Ideal) m' g')
    have I' := I c
    unfold Cert.Bwd.InsAt at I'
    rw [← (hagree c).1, ← (hagree c).2.1, ← (hagree c).2.2] at I'
    exact ⟨(h c).1.trans (Cert.Plain.result_q _ I'), (h c).2.1.trans (Cert.Plain.result_k _ I'), (h c).2.2.1.trans (Cert.Plain.result_v _ I'),
      (h c).2.2.2.1.trans (Cert.Plain.result_b _ I'), (h c).2.2.2.2⟩

theorem claim : Cert.Claim := ⟨
  Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Reference4DownIdeal.Gen.facts,
  Cert.Kernel5.Gen.facts, Cert.Kernel5Ideal.Gen.facts, Cert.Reference5Ideal.Gen.facts, Cert.Kernel6.Gen.facts, Cert.Kernel6Ideal.Gen.facts,
  Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts, Cert.Kernel9.Gen.facts, Cert.Kernel9Ideal.Gen.facts,
  Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts, Cert.Kernel12.Gen.facts,
  Cert.Kernel12Ideal.Gen.facts, Cert.Reference12Ideal.Gen.facts, Cert.Kernel13.Gen.facts, Cert.Kernel13Ideal.Gen.facts,
  Cert.Reference13Ideal.Gen.facts, Cert.Kernel14.Gen.facts, Cert.Kernel14Ideal.Gen.facts, Cert.Reference14Ideal.Gen.facts,
  Cert.Kernel15.Gen.facts, Cert.Kernel15Ideal.Gen.facts, Cert.Reference15Ideal.Gen.facts, Cert.Kernel16.Gen.facts,
  Cert.Kernel16Ideal.Gen.facts, Cert.Reference16Ideal.Gen.facts, Cert.Kernel17.Gen.facts, Cert.Kernel17Ideal.Gen.facts,
  Cert.Reference17Ideal.Gen.facts, Cert.Kernel18.Gen.facts, Cert.Kernel18Ideal.Gen.facts, Cert.Reference18Ideal.Gen.facts,
  Cert.Kernel19.Gen.facts, Cert.Kernel19Ideal.Gen.facts, Cert.Reference19Ideal.Gen.facts, Cert.Kernel20.Gen.facts,
  Cert.Kernel20Ideal.Gen.facts, Cert.Reference20Ideal.Gen.facts, Cert.Kernel21.Gen.facts, Cert.Kernel21Ideal.Gen.facts,
  Cert.Reference21Ideal.Gen.facts, Cert.Kernel22.Gen.facts, Cert.Kernel22Ideal.Gen.facts, Cert.Reference22Ideal.Gen.facts,
  Cert.Kernel23.Gen.facts, Cert.Kernel23Ideal.Gen.facts, Cert.Reference23Ideal.Gen.facts, Cert.Kernel24.Gen.facts,
  Cert.Kernel24Ideal.Gen.facts, Cert.Reference24Ideal.Gen.facts, Cert.Kernel25.Gen.facts, Cert.Kernel25Ideal.Gen.facts,
  Cert.Reference25Ideal.Gen.facts, Cert.Finite.facts, Cert.Prod2.facts, Cert.Pre_finite21.Gen.facts, frame_kernel, frame_kernelIdeal,
  frame_kernelIdeal_finite, frame_referenceIdeal, frame_referenceIdeal_finite, fun m ρ _ => Cert.Kernel2.Gen.frame m ρ,
  fun m ρ _ => Cert.Kernel2Ideal.Gen.frame m ρ, fun m ρ _ => Cert.Kernel2Ideal.Gen.frame m ρ, Cert.Prod2.frame_reference,
  fun m ρ _ => Cert.Prod2.frame_reference m ρ trivial, fun m ρ _ => Cert.Kernel3.Gen.frame m ρ,
  fun m ρ _ => Cert.Kernel3Ideal.Gen.frame m ρ, Cert.Prod3.frame_reference, fun m ρ _ => Cert.Kernel4.Gen.frame m ρ,
  fun m ρ _ => Cert.Kernel4Ideal.Gen.frame m ρ, Cert.Prod4.frame_reference, Cert.Prod4.frame_reference_down,
  fun m ρ _ => Cert.Kernel5.Gen.frame m ρ, fun m ρ _ => Cert.Kernel5Ideal.Gen.frame m ρ, Cert.Prod5.frame_reference,
  fun m ρ _ => Cert.Kernel6.Gen.frame m ρ, fun m ρ _ => Cert.Kernel6Ideal.Gen.frame m ρ, Cert.Prod6.frame_reference,
  fun m ρ _ => Cert.Kernel7.Gen.frame m ρ, fun m ρ _ => Cert.Kernel7Ideal.Gen.frame m ρ, Cert.Prod7.frame_reference,
  fun m ρ _ => Cert.Kernel8.Gen.frame m ρ, fun m ρ _ => Cert.Kernel8Ideal.Gen.frame m ρ, Cert.Prod8.frame_reference,
  fun m ρ _ => Cert.Kernel9.Gen.frame m ρ, fun m ρ _ => Cert.Kernel9Ideal.Gen.frame m ρ, Cert.Prod9.frame_reference,
  fun m ρ _ => Cert.Kernel10.Gen.frame m ρ, fun m ρ _ => Cert.Kernel10Ideal.Gen.frame m ρ, Cert.Prod10.frame_reference,
  fun m ρ _ => Cert.Kernel11.Gen.frame m ρ, fun m ρ _ => Cert.Kernel11Ideal.Gen.frame m ρ, Cert.Prod11.frame_reference,
  fun m ρ _ => Cert.Kernel12.Gen.frame m ρ, fun m ρ _ => Cert.Kernel12Ideal.Gen.frame m ρ, Cert.Prod12.frame_reference,
  fun m ρ _ => Cert.Kernel13.Gen.frame m ρ, fun m ρ _ => Cert.Kernel13Ideal.Gen.frame m ρ, Cert.Prod13.frame_reference,
  fun m ρ _ => Cert.Kernel14.Gen.frame m ρ, fun m ρ _ => Cert.Kernel14Ideal.Gen.frame m ρ, Cert.Prod14.frame_reference,
  fun m ρ _ => Cert.Kernel15.Gen.frame m ρ, fun m ρ _ => Cert.Kernel15Ideal.Gen.frame m ρ, Cert.Prod15.frame_reference,
  fun m ρ _ => Cert.Kernel16.Gen.frame m ρ, fun m ρ _ => Cert.Kernel16Ideal.Gen.frame m ρ, Cert.Prod16.frame_reference,
  fun m ρ _ => Cert.Kernel17.Gen.frame m ρ, fun m ρ _ => Cert.Kernel17Ideal.Gen.frame m ρ, Cert.Prod17.frame_reference,
  fun m ρ _ => Cert.Kernel18.Gen.frame m ρ, fun m ρ _ => Cert.Kernel18Ideal.Gen.frame m ρ, Cert.Prod18.frame_reference,
  fun m ρ _ => Cert.Kernel19.Gen.frame m ρ, fun m ρ _ => Cert.Kernel19Ideal.Gen.frame m ρ, Cert.Prod19.frame_reference,
  fun m ρ _ => Cert.Kernel20.Gen.frame m ρ, fun m ρ _ => Cert.Kernel20Ideal.Gen.frame m ρ, Cert.Prod20.frame_reference,
  fun m ρ _ => Cert.Kernel21.Gen.frame m ρ, fun m ρ _ => Cert.Kernel21Ideal.Gen.frame m ρ, fun m ρ _ => Cert.Kernel21Ideal.Gen.frame m ρ,
  Cert.Prod21.frame_reference, fun m ρ _ => Cert.Prod21.frame_reference m ρ trivial, fun m ρ _ => Cert.Kernel22.Gen.frame m ρ,
  fun m ρ _ => Cert.Kernel22Ideal.Gen.frame m ρ, Cert.Prod22.frame_reference, fun m ρ _ => Cert.Kernel23.Gen.frame m ρ,
  fun m ρ _ => Cert.Kernel23Ideal.Gen.frame m ρ, Cert.Prod23.frame_reference, fun m ρ _ => Cert.Kernel24.Gen.frame m ρ,
  fun m ρ _ => Cert.Kernel24Ideal.Gen.frame m ρ, Cert.Prod24.frame_reference, fun m ρ _ => Cert.Kernel25.Gen.frame m ρ,
  fun m ρ _ => Cert.Kernel25Ideal.Gen.frame m ρ, Cert.Prod25.frame_reference, trivial, algebraic, trivial, Cert.Prod2.algebraic, trivial,
  Cert.Prod3.algebraic, trivial, Cert.Prod4.algebraic, Cert.Prod4.algebraic_down, trivial, Cert.Prod5.algebraic, trivial,
  Cert.Prod6.algebraic, trivial, Cert.Prod7.algebraic, trivial, Cert.Prod8.algebraic, trivial, Cert.Prod9.algebraic, trivial,
  Cert.Prod10.algebraic, trivial, Cert.Prod11.algebraic, trivial, Cert.Prod12.algebraic, trivial, Cert.Prod13.algebraic, trivial,
  Cert.Prod14.algebraic, trivial, Cert.Prod15.algebraic, trivial, Cert.Prod16.algebraic, trivial, Cert.Prod17.algebraic, trivial,
  Cert.Prod18.algebraic, trivial, Cert.Prod19.algebraic, trivial, Cert.Prod20.algebraic, trivial, Cert.Prod21.algebraic, trivial,
  Cert.Prod22.algebraic, trivial, Cert.Prod23.algebraic, trivial, Cert.Prod24.algebraic, trivial, Cert.Prod25.algebraic⟩

end Cert.Proof

end
